-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_finite_out [hPre_finite_out : Cert.Pre_finite_out.Facts] (m : (ℓ : Loc Cert.OutIdeal.nD Cert.OutIdeal.τ Cert.OutIdeal.sig) → Buf (Elt Ideal) ℓ) : Prop :=
  ∀ c : Dev Cert.OutIdeal.nD,
    (Cert.Pre_finite_out.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9)) (m ((c.tc : Thread Cert.OutIdeal.nD Cert.OutIdeal.τ).loc Cert.OutIdeal.main_arg10)) (m ((c.tc : Thread Cert.OutIdeal.nD Cert.OutIdeal.τ).loc Cert.OutIdeal.main_arg11)) (m ((c.tc : Thread Cert.OutIdeal.nD Cert.OutIdeal.τ).loc Cert.OutIdeal.main_arg12))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_finite_out [hPre_finite_out : Cert.Pre_finite_out.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_finite_out.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9)) (m ((c.tc : Thread Cert.OutRefIdeal.nD Cert.OutRefIdeal.τ).loc Cert.OutRefIdeal.main_arg10)) (m ((c.tc : Thread Cert.OutRefIdeal.nD Cert.OutRefIdeal.τ).loc Cert.OutRefIdeal.main_arg11)) (m ((c.tc : Thread Cert.OutRefIdeal.nD Cert.OutRefIdeal.τ).loc Cert.OutRefIdeal.main_arg12))) = (fun _ => 1#1)

def Pre_Exp [hPre_valid : Cert.Pre_valid.Facts] (m : (ℓ : Loc Cert.Exp.nD Cert.Exp.τ Cert.Exp.sig) → Buf (Elt Bits) ℓ) : Prop :=
  ∀ c : Dev Cert.Exp.nD,
    (Cert.Pre_valid.fn (F := Bits) (m ((c.tc : Thread Cert.Exp.nD Cert.Exp.τ).loc Cert.Exp.main_arg0)) (m ((c.tc : Thread Cert.Exp.nD Cert.Exp.τ).loc Cert.Exp.main_arg1)) (m ((c.tc : Thread Cert.Exp.nD Cert.Exp.τ).loc Cert.Exp.main_arg2)) (m ((c.tc : Thread Cert.Exp.nD Cert.Exp.τ).loc Cert.Exp.main_arg3)) (m ((c.tc : Thread Cert.Exp.nD Cert.Exp.τ).loc Cert.Exp.main_arg4)) (m ((c.tc : Thread Cert.Exp.nD Cert.Exp.τ).loc Cert.Exp.main_arg5))) = (fun _ => 1#1)

def Pre_ExpIdeal [hPre_valid : Cert.Pre_valid.Facts] (m : (ℓ : Loc Cert.ExpIdeal.nD Cert.ExpIdeal.τ Cert.ExpIdeal.sig) → Buf (Elt Ideal) ℓ) : Prop :=
  ∀ c : Dev Cert.ExpIdeal.nD,
    (Cert.Pre_valid.fn (F := Ideal) (m ((c.tc : Thread Cert.ExpIdeal.nD Cert.ExpIdeal.τ).loc Cert.ExpIdeal.main_arg0)) (m ((c.tc : Thread Cert.ExpIdeal.nD Cert.ExpIdeal.τ).loc Cert.ExpIdeal.main_arg1)) (m ((c.tc : Thread Cert.ExpIdeal.nD Cert.ExpIdeal.τ).loc Cert.ExpIdeal.main_arg2)) (m ((c.tc : Thread Cert.ExpIdeal.nD Cert.ExpIdeal.τ).loc Cert.ExpIdeal.main_arg3)) (m ((c.tc : Thread Cert.ExpIdeal.nD Cert.ExpIdeal.τ).loc Cert.ExpIdeal.main_arg4)) (m ((c.tc : Thread Cert.ExpIdeal.nD Cert.ExpIdeal.τ).loc Cert.ExpIdeal.main_arg5))) = (fun _ => 1#1)

def Pre_ExpRefIdeal (m : (ℓ : Loc Cert.ExpRefIdeal.nD Cert.ExpRefIdeal.τ Cert.ExpRefIdeal.sig) → Buf (Elt Ideal) ℓ) : Prop :=
  True

def Pre_ExpRefIdeal_valid [hPre_valid : Cert.Pre_valid.Facts] (m : (ℓ : Loc Cert.ExpRefIdeal.nD Cert.ExpRefIdeal.τ Cert.ExpRefIdeal.sig) → Buf (Elt Ideal) ℓ) : Prop :=
  ∀ c : Dev Cert.ExpRefIdeal.nD,
    (Cert.Pre_valid.fn (F := Ideal) (m ((c.tc : Thread Cert.ExpRefIdeal.nD Cert.ExpRefIdeal.τ).loc Cert.ExpRefIdeal.main_arg0)) (m ((c.tc : Thread Cert.ExpRefIdeal.nD Cert.ExpRefIdeal.τ).loc Cert.ExpRefIdeal.main_arg1)) (m ((c.tc : Thread Cert.ExpRefIdeal.nD Cert.ExpRefIdeal.τ).loc Cert.ExpRefIdeal.main_arg2)) (m ((c.tc : Thread Cert.ExpRefIdeal.nD Cert.ExpRefIdeal.τ).loc Cert.ExpRefIdeal.main_arg3)) (m ((c.tc : Thread Cert.ExpRefIdeal.nD Cert.ExpRefIdeal.τ).loc Cert.ExpRefIdeal.main_arg4)) (m ((c.tc : Thread Cert.ExpRefIdeal.nD Cert.ExpRefIdeal.τ).loc Cert.ExpRefIdeal.main_arg5))) = (fun _ => 1#1)

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_finite_mod [hPre_finite_mod : Cert.Pre_finite_mod.Facts] (m : (ℓ : Loc Cert.ModIdeal.nD Cert.ModIdeal.τ Cert.ModIdeal.sig) → Buf (Elt Ideal) ℓ) : Prop :=
  ∀ c : Dev Cert.ModIdeal.nD,
    (Cert.Pre_finite_mod.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3))) = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_finite_mod [hPre_finite_mod : Cert.Pre_finite_mod.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_finite_mod.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3))) = (fun _ => 1#1)

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_Comb [hPre_in_rows : Cert.Pre_in_rows.Facts] (m : (ℓ : Loc Cert.Comb.nD Cert.Comb.τ Cert.Comb.sig) → Buf (Elt Bits) ℓ) : Prop :=
  ∀ c : Dev Cert.Comb.nD,
    (Cert.Pre_in_rows.fn (F := Bits) (m ((c.tc : Thread Cert.Comb.nD Cert.Comb.τ).loc Cert.Comb.main_arg0)) (m ((c.tc : Thread Cert.Comb.nD Cert.Comb.τ).loc Cert.Comb.main_arg1)) (m ((c.tc : Thread Cert.Comb.nD Cert.Comb.τ).loc Cert.Comb.main_arg2)) (m ((c.tc : Thread Cert.Comb.nD Cert.Comb.τ).loc Cert.Comb.main_arg3)) (m ((c.tc : Thread Cert.Comb.nD Cert.Comb.τ).loc Cert.Comb.main_arg4))) = (fun _ => 1#1)

def Pre_CombIdeal [hPre_in_rows : Cert.Pre_in_rows.Facts] (m : (ℓ : Loc Cert.CombIdeal.nD Cert.CombIdeal.τ Cert.CombIdeal.sig) → Buf (Elt Ideal) ℓ) : Prop :=
  ∀ c : Dev Cert.CombIdeal.nD,
    (Cert.Pre_in_rows.fn (F := Ideal) (m ((c.tc : Thread Cert.CombIdeal.nD Cert.CombIdeal.τ).loc Cert.CombIdeal.main_arg0)) (m ((c.tc : Thread Cert.CombIdeal.nD Cert.CombIdeal.τ).loc Cert.CombIdeal.main_arg1)) (m ((c.tc : Thread Cert.CombIdeal.nD Cert.CombIdeal.τ).loc Cert.CombIdeal.main_arg2)) (m ((c.tc : Thread Cert.CombIdeal.nD Cert.CombIdeal.τ).loc Cert.CombIdeal.main_arg3)) (m ((c.tc : Thread Cert.CombIdeal.nD Cert.CombIdeal.τ).loc Cert.CombIdeal.main_arg4))) = (fun _ => 1#1)

def Pre_CombRefIdeal (m : (ℓ : Loc Cert.CombRefIdeal.nD Cert.CombRefIdeal.τ Cert.CombRefIdeal.sig) → Buf (Elt Ideal) ℓ) : Prop :=
  True

def Pre_CombRefIdeal_in_rows [hPre_in_rows : Cert.Pre_in_rows.Facts] (m : (ℓ : Loc Cert.CombRefIdeal.nD Cert.CombRefIdeal.τ Cert.CombRefIdeal.sig) → Buf (Elt Ideal) ℓ) : Prop :=
  ∀ c : Dev Cert.CombRefIdeal.nD,
    (Cert.Pre_in_rows.fn (F := Ideal) (m ((c.tc : Thread Cert.CombRefIdeal.nD Cert.CombRefIdeal.τ).loc Cert.CombRefIdeal.main_arg0)) (m ((c.tc : Thread Cert.CombRefIdeal.nD Cert.CombRefIdeal.τ).loc Cert.CombRefIdeal.main_arg1)) (m ((c.tc : Thread Cert.CombRefIdeal.nD Cert.CombRefIdeal.τ).loc Cert.CombRefIdeal.main_arg2)) (m ((c.tc : Thread Cert.CombRefIdeal.nD Cert.CombRefIdeal.τ).loc Cert.CombRefIdeal.main_arg3)) (m ((c.tc : Thread Cert.CombRefIdeal.nD Cert.CombRefIdeal.τ).loc Cert.CombRefIdeal.main_arg4))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10)
      ∧ r.2.mem ((c.tc : Thread Cert.Out.nD Cert.Out.τ).loc Cert.Out.main_arg11) = m ((c.tc : Thread Cert.Out.nD Cert.Out.τ).loc Cert.Out.main_arg11)
      ∧ r.2.mem ((c.tc : Thread Cert.Out.nD Cert.Out.τ).loc Cert.Out.main_arg12) = m ((c.tc : Thread Cert.Out.nD Cert.Out.τ).loc Cert.Out.main_arg12))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ r.2.sem = fun _ => 0)

def quiescent_OutIdeal_pre_finite_out [hOutIdeal : Cert.OutIdeal.Facts] [hPre_finite_out : Cert.Pre_finite_out.Facts] : Prop :=
  ∀ (m : (ℓ : Loc Cert.OutIdeal.nD Cert.OutIdeal.τ Cert.OutIdeal.sig) → Buf (Elt Ideal) ℓ) (g : Dev Cert.OutIdeal.nD → PrngReg), Pre_OutIdeal_finite_out m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12))
      ∧ r.2.sem = fun _ => 0)

def quiescent_OutRefIdeal_pre_finite_out [hOutRefIdeal : Cert.OutRefIdeal.Facts] [hPre_finite_out : Cert.Pre_finite_out.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_finite_out m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12))
      ∧ r.2.sem = fun _ => 0)

def quiescent_Exp [hExp : Cert.Exp.Facts] [hPre_valid : Cert.Pre_valid.Facts] : Prop :=
  ∀ (m : (ℓ : Loc Cert.Exp.nD Cert.Exp.τ Cert.Exp.sig) → Buf (Elt Bits) ℓ) (g : Dev Cert.Exp.nD → PrngReg), Pre_Exp m →
    θ_run (Cert.Exp.defs (F := Bits)) (onTc (τ := Cert.Exp.τ) (Cert.Exp.main (F := Bits))) ⟨m, fun _ => 0, g⟩ (fun r => (∀ c : Dev Cert.Exp.nD,
      r.2.mem ((c.tc : Thread Cert.Exp.nD Cert.Exp.τ).loc Cert.Exp.main_arg0) = m ((c.tc : Thread Cert.Exp.nD Cert.Exp.τ).loc Cert.Exp.main_arg0)
      ∧ r.2.mem ((c.tc : Thread Cert.Exp.nD Cert.Exp.τ).loc Cert.Exp.main_arg1) = m ((c.tc : Thread Cert.Exp.nD Cert.Exp.τ).loc Cert.Exp.main_arg1)
      ∧ r.2.mem ((c.tc : Thread Cert.Exp.nD Cert.Exp.τ).loc Cert.Exp.main_arg2) = m ((c.tc : Thread Cert.Exp.nD Cert.Exp.τ).loc Cert.Exp.main_arg2)
      ∧ r.2.mem ((c.tc : Thread Cert.Exp.nD Cert.Exp.τ).loc Cert.Exp.main_arg3) = m ((c.tc : Thread Cert.Exp.nD Cert.Exp.τ).loc Cert.Exp.main_arg3)
      ∧ r.2.mem ((c.tc : Thread Cert.Exp.nD Cert.Exp.τ).loc Cert.Exp.main_arg4) = m ((c.tc : Thread Cert.Exp.nD Cert.Exp.τ).loc Cert.Exp.main_arg4)
      ∧ r.2.mem ((c.tc : Thread Cert.Exp.nD Cert.Exp.τ).loc Cert.Exp.main_arg5) = m ((c.tc : Thread Cert.Exp.nD Cert.Exp.τ).loc Cert.Exp.main_arg5))
      ∧ r.2.sem = fun _ => 0)

def quiescent_ExpIdeal [hExpIdeal : Cert.ExpIdeal.Facts] [hPre_valid : Cert.Pre_valid.Facts] : Prop :=
  ∀ (m : (ℓ : Loc Cert.ExpIdeal.nD Cert.ExpIdeal.τ Cert.ExpIdeal.sig) → Buf (Elt Ideal) ℓ) (g : Dev Cert.ExpIdeal.nD → PrngReg), Pre_ExpIdeal m →
    θ_run (Cert.ExpIdeal.defs (F := Ideal)) (onTc (τ := Cert.ExpIdeal.τ) (Cert.ExpIdeal.main (F := Ideal))) ⟨m, fun _ => 0, g⟩ (fun r => (∀ c : Dev Cert.ExpIdeal.nD,
      r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
      ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
      ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
      ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
      ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
      ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5))
      ∧ r.2.sem = fun _ => 0)

def quiescent_ExpRefIdeal [hExpRefIdeal : Cert.ExpRefIdeal.Facts] : Prop :=
  ∀ (m : (ℓ : Loc Cert.ExpRefIdeal.nD Cert.ExpRefIdeal.τ Cert.ExpRefIdeal.sig) → Buf (Elt Ideal) ℓ) (g : Dev Cert.ExpRefIdeal.nD → PrngReg), Pre_ExpRefIdeal m →
    θ_run (Cert.ExpRefIdeal.defs (F := Ideal)) (onTc (τ := Cert.ExpRefIdeal.τ) (Cert.ExpRefIdeal.main (F := Ideal))) ⟨m, fun _ => 0, g⟩ (fun r => (∀ c : Dev Cert.ExpRefIdeal.nD,
      r.2.mem ((c.tc : Thread Cert.ExpRefIdeal.nD Cert.ExpRefIdeal.τ).loc Cert.ExpRefIdeal.main_arg0) = m ((c.tc : Thread Cert.ExpRefIdeal.nD Cert.ExpRefIdeal.τ).loc Cert.ExpRefIdeal.main_arg0)
      ∧ r.2.mem ((c.tc : Thread Cert.ExpRefIdeal.nD Cert.ExpRefIdeal.τ).loc Cert.ExpRefIdeal.main_arg1) = m ((c.tc : Thread Cert.ExpRefIdeal.nD Cert.ExpRefIdeal.τ).loc Cert.ExpRefIdeal.main_arg1)
      ∧ r.2.mem ((c.tc : Thread Cert.ExpRefIdeal.nD Cert.ExpRefIdeal.τ).loc Cert.ExpRefIdeal.main_arg2) = m ((c.tc : Thread Cert.ExpRefIdeal.nD Cert.ExpRefIdeal.τ).loc Cert.ExpRefIdeal.main_arg2)
      ∧ r.2.mem ((c.tc : Thread Cert.ExpRefIdeal.nD Cert.ExpRefIdeal.τ).loc Cert.ExpRefIdeal.main_arg3) = m ((c.tc : Thread Cert.ExpRefIdeal.nD Cert.ExpRefIdeal.τ).loc Cert.ExpRefIdeal.main_arg3)
      ∧ r.2.mem ((c.tc : Thread Cert.ExpRefIdeal.nD Cert.ExpRefIdeal.τ).loc Cert.ExpRefIdeal.main_arg4) = m ((c.tc : Thread Cert.ExpRefIdeal.nD Cert.ExpRefIdeal.τ).loc Cert.ExpRefIdeal.main_arg4)
      ∧ r.2.mem ((c.tc : Thread Cert.ExpRefIdeal.nD Cert.ExpRefIdeal.τ).loc Cert.ExpRefIdeal.main_arg5) = m ((c.tc : Thread Cert.ExpRefIdeal.nD Cert.ExpRefIdeal.τ).loc Cert.ExpRefIdeal.main_arg5))
      ∧ r.2.sem = fun _ => 0)

def quiescent_ExpRefIdeal_pre_valid [hExpRefIdeal : Cert.ExpRefIdeal.Facts] [hPre_valid : Cert.Pre_valid.Facts] : Prop :=
  ∀ (m : (ℓ : Loc Cert.ExpRefIdeal.nD Cert.ExpRefIdeal.τ Cert.ExpRefIdeal.sig) → Buf (Elt Ideal) ℓ) (g : Dev Cert.ExpRefIdeal.nD → PrngReg), Pre_ExpRefIdeal_valid m →
    θ_run (Cert.ExpRefIdeal.defs (F := Ideal)) (onTc (τ := Cert.ExpRefIdeal.τ) (Cert.ExpRefIdeal.main (F := Ideal))) ⟨m, fun _ => 0, g⟩ (fun r => (∀ c : Dev Cert.ExpRefIdeal.nD,
      r.2.mem ((c.tc : Thread Cert.ExpRefIdeal.nD Cert.ExpRefIdeal.τ).loc Cert.ExpRefIdeal.main_arg0) = m ((c.tc : Thread Cert.ExpRefIdeal.nD Cert.ExpRefIdeal.τ).loc Cert.ExpRefIdeal.main_arg0)
      ∧ r.2.mem ((c.tc : Thread Cert.ExpRefIdeal.nD Cert.ExpRefIdeal.τ).loc Cert.ExpRefIdeal.main_arg1) = m ((c.tc : Thread Cert.ExpRefIdeal.nD Cert.ExpRefIdeal.τ).loc Cert.ExpRefIdeal.main_arg1)
      ∧ r.2.mem ((c.tc : Thread Cert.ExpRefIdeal.nD Cert.ExpRefIdeal.τ).loc Cert.ExpRefIdeal.main_arg2) = m ((c.tc : Thread Cert.ExpRefIdeal.nD Cert.ExpRefIdeal.τ).loc Cert.ExpRefIdeal.main_arg2)
      ∧ r.2.mem ((c.tc : Thread Cert.ExpRefIdeal.nD Cert.ExpRefIdeal.τ).loc Cert.ExpRefIdeal.main_arg3) = m ((c.tc : Thread Cert.ExpRefIdeal.nD Cert.ExpRefIdeal.τ).loc Cert.ExpRefIdeal.main_arg3)
      ∧ r.2.mem ((c.tc : Thread Cert.ExpRefIdeal.nD Cert.ExpRefIdeal.τ).loc Cert.ExpRefIdeal.main_arg4) = m ((c.tc : Thread Cert.ExpRefIdeal.nD Cert.ExpRefIdeal.τ).loc Cert.ExpRefIdeal.main_arg4)
      ∧ r.2.mem ((c.tc : Thread Cert.ExpRefIdeal.nD Cert.ExpRefIdeal.τ).loc Cert.ExpRefIdeal.main_arg5) = m ((c.tc : Thread Cert.ExpRefIdeal.nD Cert.ExpRefIdeal.τ).loc Cert.ExpRefIdeal.main_arg5))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModIdeal_pre_finite_mod [hModIdeal : Cert.ModIdeal.Facts] [hPre_finite_mod : Cert.Pre_finite_mod.Facts] : Prop :=
  ∀ (m : (ℓ : Loc Cert.ModIdeal.nD Cert.ModIdeal.τ Cert.ModIdeal.sig) → Buf (Elt Ideal) ℓ) (g : Dev Cert.ModIdeal.nD → PrngReg), Pre_ModIdeal_finite_mod m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_ModRefIdeal_pre_finite_mod [hModRefIdeal : Cert.ModRefIdeal.Facts] [hPre_finite_mod : Cert.Pre_finite_mod.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_finite_mod m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_Comb [hComb : Cert.Comb.Facts] [hPre_in_rows : Cert.Pre_in_rows.Facts] : Prop :=
  ∀ (m : (ℓ : Loc Cert.Comb.nD Cert.Comb.τ Cert.Comb.sig) → Buf (Elt Bits) ℓ) (g : Dev Cert.Comb.nD → PrngReg), Pre_Comb m →
    θ_run (Cert.Comb.defs (F := Bits)) (onTc (τ := Cert.Comb.τ) (Cert.Comb.main (F := Bits))) ⟨m, fun _ => 0, g⟩ (fun r => (∀ c : Dev Cert.Comb.nD,
      r.2.mem ((c.tc : Thread Cert.Comb.nD Cert.Comb.τ).loc Cert.Comb.main_arg0) = m ((c.tc : Thread Cert.Comb.nD Cert.Comb.τ).loc Cert.Comb.main_arg0)
      ∧ r.2.mem ((c.tc : Thread Cert.Comb.nD Cert.Comb.τ).loc Cert.Comb.main_arg1) = m ((c.tc : Thread Cert.Comb.nD Cert.Comb.τ).loc Cert.Comb.main_arg1)
      ∧ r.2.mem ((c.tc : Thread Cert.Comb.nD Cert.Comb.τ).loc Cert.Comb.main_arg2) = m ((c.tc : Thread Cert.Comb.nD Cert.Comb.τ).loc Cert.Comb.main_arg2)
      ∧ r.2.mem ((c.tc : Thread Cert.Comb.nD Cert.Comb.τ).loc Cert.Comb.main_arg3) = m ((c.tc : Thread Cert.Comb.nD Cert.Comb.τ).loc Cert.Comb.main_arg3)
      ∧ r.2.mem ((c.tc : Thread Cert.Comb.nD Cert.Comb.τ).loc Cert.Comb.main_arg4) = m ((c.tc : Thread Cert.Comb.nD Cert.Comb.τ).loc Cert.Comb.main_arg4))
      ∧ r.2.sem = fun _ => 0)

def quiescent_CombIdeal [hCombIdeal : Cert.CombIdeal.Facts] [hPre_in_rows : Cert.Pre_in_rows.Facts] : Prop :=
  ∀ (m : (ℓ : Loc Cert.CombIdeal.nD Cert.CombIdeal.τ Cert.CombIdeal.sig) → Buf (Elt Ideal) ℓ) (g : Dev Cert.CombIdeal.nD → PrngReg), Pre_CombIdeal m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
      ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
      ∧ r.2.mem ((c.tc : Thread Cert.CombIdeal.nD Cert.CombIdeal.τ).loc Cert.CombIdeal.main_arg4) = m ((c.tc : Thread Cert.CombIdeal.nD Cert.CombIdeal.τ).loc Cert.CombIdeal.main_arg4))
      ∧ r.2.sem = fun _ => 0)

def quiescent_CombRefIdeal [hCombRefIdeal : Cert.CombRefIdeal.Facts] : Prop :=
  ∀ (m : (ℓ : Loc Cert.CombRefIdeal.nD Cert.CombRefIdeal.τ Cert.CombRefIdeal.sig) → Buf (Elt Ideal) ℓ) (g : Dev Cert.CombRefIdeal.nD → PrngReg), Pre_CombRefIdeal m →
    θ_run (Cert.CombRefIdeal.defs (F := Ideal)) (onTc (τ := Cert.CombRefIdeal.τ) (Cert.CombRefIdeal.main (F := Ideal))) ⟨m, fun _ => 0, g⟩ (fun r => (∀ c : Dev Cert.CombRefIdeal.nD,
      r.2.mem ((c.tc : Thread Cert.CombRefIdeal.nD Cert.CombRefIdeal.τ).loc Cert.CombRefIdeal.main_arg0) = m ((c.tc : Thread Cert.CombRefIdeal.nD Cert.CombRefIdeal.τ).loc Cert.CombRefIdeal.main_arg0)
      ∧ r.2.mem ((c.tc : Thread Cert.CombRefIdeal.nD Cert.CombRefIdeal.τ).loc Cert.CombRefIdeal.main_arg1) = m ((c.tc : Thread Cert.CombRefIdeal.nD Cert.CombRefIdeal.τ).loc Cert.CombRefIdeal.main_arg1)
      ∧ r.2.mem ((c.tc : Thread Cert.CombRefIdeal.nD Cert.CombRefIdeal.τ).loc Cert.CombRefIdeal.main_arg2) = m ((c.tc : Thread Cert.CombRefIdeal.nD Cert.CombRefIdeal.τ).loc Cert.CombRefIdeal.main_arg2)
      ∧ r.2.mem ((c.tc : Thread Cert.CombRefIdeal.nD Cert.CombRefIdeal.τ).loc Cert.CombRefIdeal.main_arg3) = m ((c.tc : Thread Cert.CombRefIdeal.nD Cert.CombRefIdeal.τ).loc Cert.CombRefIdeal.main_arg3)
      ∧ r.2.mem ((c.tc : Thread Cert.CombRefIdeal.nD Cert.CombRefIdeal.τ).loc Cert.CombRefIdeal.main_arg4) = m ((c.tc : Thread Cert.CombRefIdeal.nD Cert.CombRefIdeal.τ).loc Cert.CombRefIdeal.main_arg4))
      ∧ r.2.sem = fun _ => 0)

def quiescent_CombRefIdeal_pre_in_rows [hCombRefIdeal : Cert.CombRefIdeal.Facts] [hPre_in_rows : Cert.Pre_in_rows.Facts] : Prop :=
  ∀ (m : (ℓ : Loc Cert.CombRefIdeal.nD Cert.CombRefIdeal.τ Cert.CombRefIdeal.sig) → Buf (Elt Ideal) ℓ) (g : Dev Cert.CombRefIdeal.nD → PrngReg), Pre_CombRefIdeal_in_rows m →
    θ_run (Cert.CombRefIdeal.defs (F := Ideal)) (onTc (τ := Cert.CombRefIdeal.τ) (Cert.CombRefIdeal.main (F := Ideal))) ⟨m, fun _ => 0, g⟩ (fun r => (∀ c : Dev Cert.CombRefIdeal.nD,
      r.2.mem ((c.tc : Thread Cert.CombRefIdeal.nD Cert.CombRefIdeal.τ).loc Cert.CombRefIdeal.main_arg0) = m ((c.tc : Thread Cert.CombRefIdeal.nD Cert.CombRefIdeal.τ).loc Cert.CombRefIdeal.main_arg0)
      ∧ r.2.mem ((c.tc : Thread Cert.CombRefIdeal.nD Cert.CombRefIdeal.τ).loc Cert.CombRefIdeal.main_arg1) = m ((c.tc : Thread Cert.CombRefIdeal.nD Cert.CombRefIdeal.τ).loc Cert.CombRefIdeal.main_arg1)
      ∧ r.2.mem ((c.tc : Thread Cert.CombRefIdeal.nD Cert.CombRefIdeal.τ).loc Cert.CombRefIdeal.main_arg2) = m ((c.tc : Thread Cert.CombRefIdeal.nD Cert.CombRefIdeal.τ).loc Cert.CombRefIdeal.main_arg2)
      ∧ r.2.mem ((c.tc : Thread Cert.CombRefIdeal.nD Cert.CombRefIdeal.τ).loc Cert.CombRefIdeal.main_arg3) = m ((c.tc : Thread Cert.CombRefIdeal.nD Cert.CombRefIdeal.τ).loc Cert.CombRefIdeal.main_arg3)
      ∧ r.2.mem ((c.tc : Thread Cert.CombRefIdeal.nD Cert.CombRefIdeal.τ).loc Cert.CombRefIdeal.main_arg4) = m ((c.tc : Thread Cert.CombRefIdeal.nD Cert.CombRefIdeal.τ).loc Cert.CombRefIdeal.main_arg4))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v34) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v39_0)) (v1 : (c : Dev Cert.ProjIdeal.nD) → Buf (Elt Ideal) ((c.tc : Thread Cert.ProjIdeal.nD Cert.ProjIdeal.τ).loc Cert.ProjIdeal.main_v39_1)) (v2 : (c : Dev Cert.ProjIdeal.nD) → Buf (Elt Ideal) ((c.tc : Thread Cert.ProjIdeal.nD Cert.ProjIdeal.τ).loc Cert.ProjIdeal.main_v39_2)) (v3 : (c : Dev Cert.ProjIdeal.nD) → Buf (Elt Ideal) ((c.tc : Thread Cert.ProjIdeal.nD Cert.ProjIdeal.τ).loc Cert.ProjIdeal.main_v39_3)) (v4 : (c : Dev Cert.ProjIdeal.nD) → Buf (Elt Ideal) ((c.tc : Thread Cert.ProjIdeal.nD Cert.ProjIdeal.τ).loc Cert.ProjIdeal.main_v39_4)) (v5 : (c : Dev Cert.ProjIdeal.nD) → Buf (Elt Ideal) ((c.tc : Thread Cert.ProjIdeal.nD Cert.ProjIdeal.τ).loc Cert.ProjIdeal.main_v39_5)) (v6 : (c : Dev Cert.ProjIdeal.nD) → Buf (Elt Ideal) ((c.tc : Thread Cert.ProjIdeal.nD Cert.ProjIdeal.τ).loc Cert.ProjIdeal.main_v39_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v39_0) = v0 c
          ∧ r.2.mem ((c.tc : Thread Cert.ProjIdeal.nD Cert.ProjIdeal.τ).loc Cert.ProjIdeal.main_v39_1) = v1 c
          ∧ r.2.mem ((c.tc : Thread Cert.ProjIdeal.nD Cert.ProjIdeal.τ).loc Cert.ProjIdeal.main_v39_2) = v2 c
          ∧ r.2.mem ((c.tc : Thread Cert.ProjIdeal.nD Cert.ProjIdeal.τ).loc Cert.ProjIdeal.main_v39_3) = v3 c
          ∧ r.2.mem ((c.tc : Thread Cert.ProjIdeal.nD Cert.ProjIdeal.τ).loc Cert.ProjIdeal.main_v39_4) = v4 c
          ∧ r.2.mem ((c.tc : Thread Cert.ProjIdeal.nD Cert.ProjIdeal.τ).loc Cert.ProjIdeal.main_v39_5) = v5 c
          ∧ r.2.mem ((c.tc : Thread Cert.ProjIdeal.nD Cert.ProjIdeal.τ).loc Cert.ProjIdeal.main_v39_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v99) = v0 c
          ∧ r.2.mem ((c.tc : Thread Cert.ProjRefIdeal.nD Cert.ProjRefIdeal.τ).loc Cert.ProjRefIdeal.main_v101) = v1 c
          ∧ r.2.mem ((c.tc : Thread Cert.ProjRefIdeal.nD Cert.ProjRefIdeal.τ).loc Cert.ProjRefIdeal.main_v103) = v2 c
          ∧ r.2.mem ((c.tc : Thread Cert.ProjRefIdeal.nD Cert.ProjRefIdeal.τ).loc Cert.ProjRefIdeal.main_v105) = v3 c
          ∧ r.2.mem ((c.tc : Thread Cert.ProjRefIdeal.nD Cert.ProjRefIdeal.τ).loc Cert.ProjRefIdeal.main_v107) = v4 c
          ∧ r.2.mem ((c.tc : Thread Cert.ProjRefIdeal.nD Cert.ProjRefIdeal.τ).loc Cert.ProjRefIdeal.main_v109) = v5 c
          ∧ r.2.mem ((c.tc : Thread Cert.ProjRefIdeal.nD Cert.ProjRefIdeal.τ).loc Cert.ProjRefIdeal.main_v110) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def preserves_Out_OutIdeal : Prop :=
  True

def algebraic_OutIdeal_OutRefIdeal_pre_finite_out [hOutIdeal : Cert.OutIdeal.Facts] [hOutRefIdeal : Cert.OutRefIdeal.Facts] [hPre_finite_out : Cert.Pre_finite_out.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_finite_out m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)
      ∧ m' ((c.tc : Thread Cert.OutRefIdeal.nD Cert.OutRefIdeal.τ).loc Cert.OutRefIdeal.main_arg11) = m ((c.tc : Thread Cert.OutIdeal.nD Cert.OutIdeal.τ).loc Cert.OutIdeal.main_arg11)
      ∧ m' ((c.tc : Thread Cert.OutRefIdeal.nD Cert.OutRefIdeal.τ).loc Cert.OutRefIdeal.main_arg12) = m ((c.tc : Thread Cert.OutIdeal.nD Cert.OutIdeal.τ).loc Cert.OutIdeal.main_arg12)) →
    ∃ (v0 : (c : Dev Cert.OutIdeal.nD) → Buf (Elt Ideal) ((c.tc : Thread Cert.OutIdeal.nD Cert.OutIdeal.τ).loc Cert.OutIdeal.main_v14_0)) (v1 : (c : Dev Cert.OutIdeal.nD) → Buf (Elt Ideal) ((c.tc : Thread Cert.OutIdeal.nD Cert.OutIdeal.τ).loc Cert.OutIdeal.main_v14_1)) (v2 : (c : Dev Cert.OutIdeal.nD) → Buf (Elt Ideal) ((c.tc : Thread Cert.OutIdeal.nD Cert.OutIdeal.τ).loc Cert.OutIdeal.main_v14_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v14_0) = v0 c
          ∧ r.2.mem ((c.tc : Thread Cert.OutIdeal.nD Cert.OutIdeal.τ).loc Cert.OutIdeal.main_v14_1) = v1 c
          ∧ r.2.mem ((c.tc : Thread Cert.OutIdeal.nD Cert.OutIdeal.τ).loc Cert.OutIdeal.main_v14_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
          ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
          ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v33) = v0 c
          ∧ r.2.mem ((c.tc : Thread Cert.OutRefIdeal.nD Cert.OutRefIdeal.τ).loc Cert.OutRefIdeal.main_v35) = v1 c
          ∧ r.2.mem ((c.tc : Thread Cert.OutRefIdeal.nD Cert.OutRefIdeal.τ).loc Cert.OutRefIdeal.main_v37) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10)
          ∧ r.2.mem ((c.tc : Thread Cert.OutRefIdeal.nD Cert.OutRefIdeal.τ).loc Cert.OutRefIdeal.main_arg11) = m' ((c.tc : Thread Cert.OutRefIdeal.nD Cert.OutRefIdeal.τ).loc Cert.OutRefIdeal.main_arg11)
          ∧ r.2.mem ((c.tc : Thread Cert.OutRefIdeal.nD Cert.OutRefIdeal.τ).loc Cert.OutRefIdeal.main_arg12) = m' ((c.tc : Thread Cert.OutRefIdeal.nD Cert.OutRefIdeal.τ).loc Cert.OutRefIdeal.main_arg12))

def preserves_Exp_ExpIdeal : Prop :=
  True

def algebraic_ExpIdeal_ExpRefIdeal_on_rows_used [hExpIdeal : Cert.ExpIdeal.Facts] [hExpRefIdeal : Cert.ExpRefIdeal.Facts] [hPre_valid : Cert.Pre_valid.Facts] [hOn_rows_used : Cert.On_rows_used.Facts] : Prop :=
  ∀ (m : (ℓ : Loc Cert.ExpIdeal.nD Cert.ExpIdeal.τ Cert.ExpIdeal.sig) → Buf (Elt Ideal) ℓ) (g : Dev Cert.ExpIdeal.nD → PrngReg)
    (m' : (ℓ : Loc Cert.ExpRefIdeal.nD Cert.ExpRefIdeal.τ Cert.ExpRefIdeal.sig) → Buf (Elt Ideal) ℓ) (g' : Dev Cert.ExpRefIdeal.nD → PrngReg), Pre_ExpIdeal m →
    (∀ c : Dev Cert.ExpIdeal.nD,
      m' ((c.tc : Thread Cert.ExpRefIdeal.nD Cert.ExpRefIdeal.τ).loc Cert.ExpRefIdeal.main_arg0) = m ((c.tc : Thread Cert.ExpIdeal.nD Cert.ExpIdeal.τ).loc Cert.ExpIdeal.main_arg0)
      ∧ m' ((c.tc : Thread Cert.ExpRefIdeal.nD Cert.ExpRefIdeal.τ).loc Cert.ExpRefIdeal.main_arg1) = m ((c.tc : Thread Cert.ExpIdeal.nD Cert.ExpIdeal.τ).loc Cert.ExpIdeal.main_arg1)
      ∧ m' ((c.tc : Thread Cert.ExpRefIdeal.nD Cert.ExpRefIdeal.τ).loc Cert.ExpRefIdeal.main_arg2) = m ((c.tc : Thread Cert.ExpIdeal.nD Cert.ExpIdeal.τ).loc Cert.ExpIdeal.main_arg2)
      ∧ m' ((c.tc : Thread Cert.ExpRefIdeal.nD Cert.ExpRefIdeal.τ).loc Cert.ExpRefIdeal.main_arg3) = m ((c.tc : Thread Cert.ExpIdeal.nD Cert.ExpIdeal.τ).loc Cert.ExpIdeal.main_arg3)
      ∧ m' ((c.tc : Thread Cert.ExpRefIdeal.nD Cert.ExpRefIdeal.τ).loc Cert.ExpRefIdeal.main_arg4) = m ((c.tc : Thread Cert.ExpIdeal.nD Cert.ExpIdeal.τ).loc Cert.ExpIdeal.main_arg4)
      ∧ m' ((c.tc : Thread Cert.ExpRefIdeal.nD Cert.ExpRefIdeal.τ).loc Cert.ExpRefIdeal.main_arg5) = m ((c.tc : Thread Cert.ExpIdeal.nD Cert.ExpIdeal.τ).loc Cert.ExpIdeal.main_arg5)) →
    ∃ (v0 : (c : Dev Cert.ExpIdeal.nD) → Buf (Elt Ideal) ((c.tc : Thread Cert.ExpIdeal.nD Cert.ExpIdeal.τ).loc Cert.ExpIdeal.main_v0)),
      θ_run (Cert.ExpIdeal.defs (F := Ideal)) (onTc (τ := Cert.ExpIdeal.τ) (Cert.ExpIdeal.main (F := Ideal))) ⟨m, fun _ => 0, g⟩ (fun r => ∀ c : Dev Cert.ExpIdeal.nD,
          (∀ i : (⟨3, ![163840, 1, 1024]⟩ : Shape).Idx, (Cert.On_rows_used.fn (F := Ideal) (m ((c.tc : Thread Cert.ExpIdeal.nD Cert.ExpIdeal.τ).loc Cert.ExpIdeal.main_arg0)) (m ((c.tc : Thread Cert.ExpIdeal.nD Cert.ExpIdeal.τ).loc Cert.ExpIdeal.main_arg1)) (m ((c.tc : Thread Cert.ExpIdeal.nD Cert.ExpIdeal.τ).loc Cert.ExpIdeal.main_arg2)) (m ((c.tc : Thread Cert.ExpIdeal.nD Cert.ExpIdeal.τ).loc Cert.ExpIdeal.main_arg3)) (m ((c.tc : Thread Cert.ExpIdeal.nD Cert.ExpIdeal.τ).loc Cert.ExpIdeal.main_arg4)) (m ((c.tc : Thread Cert.ExpIdeal.nD Cert.ExpIdeal.τ).loc Cert.ExpIdeal.main_arg5))) i = 1#1 → r.2.mem ((c.tc : Thread Cert.ExpIdeal.nD Cert.ExpIdeal.τ).loc Cert.ExpIdeal.main_v0) i = v0 c i)
          ∧ r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
          ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
          ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
          ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
          ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
          ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5))
      ∧ θ_run (Cert.ExpRefIdeal.defs (F := Ideal)) (onTc (τ := Cert.ExpRefIdeal.τ) (Cert.ExpRefIdeal.main (F := Ideal))) ⟨m', fun _ => 0, g'⟩ (fun r => ∀ c : Dev Cert.ExpRefIdeal.nD,
          (∀ i : (⟨3, ![163840, 1, 1024]⟩ : Shape).Idx, (Cert.On_rows_used.fn (F := Ideal) (m ((c.tc : Thread Cert.ExpIdeal.nD Cert.ExpIdeal.τ).loc Cert.ExpIdeal.main_arg0)) (m ((c.tc : Thread Cert.ExpIdeal.nD Cert.ExpIdeal.τ).loc Cert.ExpIdeal.main_arg1)) (m ((c.tc : Thread Cert.ExpIdeal.nD Cert.ExpIdeal.τ).loc Cert.ExpIdeal.main_arg2)) (m ((c.tc : Thread Cert.ExpIdeal.nD Cert.ExpIdeal.τ).loc Cert.ExpIdeal.main_arg3)) (m ((c.tc : Thread Cert.ExpIdeal.nD Cert.ExpIdeal.τ).loc Cert.ExpIdeal.main_arg4)) (m ((c.tc : Thread Cert.ExpIdeal.nD Cert.ExpIdeal.τ).loc Cert.ExpIdeal.main_arg5))) i = 1#1 → r.2.mem ((c.tc : Thread Cert.ExpRefIdeal.nD Cert.ExpRefIdeal.τ).loc Cert.ExpRefIdeal.main_v29) i = v0 c i)
          ∧ r.2.mem ((c.tc : Thread Cert.ExpRefIdeal.nD Cert.ExpRefIdeal.τ).loc Cert.ExpRefIdeal.main_arg0) = m' ((c.tc : Thread Cert.ExpRefIdeal.nD Cert.ExpRefIdeal.τ).loc Cert.ExpRefIdeal.main_arg0)
          ∧ r.2.mem ((c.tc : Thread Cert.ExpRefIdeal.nD Cert.ExpRefIdeal.τ).loc Cert.ExpRefIdeal.main_arg1) = m' ((c.tc : Thread Cert.ExpRefIdeal.nD Cert.ExpRefIdeal.τ).loc Cert.ExpRefIdeal.main_arg1)
          ∧ r.2.mem ((c.tc : Thread Cert.ExpRefIdeal.nD Cert.ExpRefIdeal.τ).loc Cert.ExpRefIdeal.main_arg2) = m' ((c.tc : Thread Cert.ExpRefIdeal.nD Cert.ExpRefIdeal.τ).loc Cert.ExpRefIdeal.main_arg2)
          ∧ r.2.mem ((c.tc : Thread Cert.ExpRefIdeal.nD Cert.ExpRefIdeal.τ).loc Cert.ExpRefIdeal.main_arg3) = m' ((c.tc : Thread Cert.ExpRefIdeal.nD Cert.ExpRefIdeal.τ).loc Cert.ExpRefIdeal.main_arg3)
          ∧ r.2.mem ((c.tc : Thread Cert.ExpRefIdeal.nD Cert.ExpRefIdeal.τ).loc Cert.ExpRefIdeal.main_arg4) = m' ((c.tc : Thread Cert.ExpRefIdeal.nD Cert.ExpRefIdeal.τ).loc Cert.ExpRefIdeal.main_arg4)
          ∧ r.2.mem ((c.tc : Thread Cert.ExpRefIdeal.nD Cert.ExpRefIdeal.τ).loc Cert.ExpRefIdeal.main_arg5) = m' ((c.tc : Thread Cert.ExpRefIdeal.nD Cert.ExpRefIdeal.τ).loc Cert.ExpRefIdeal.main_arg5))

def preserves_Ctx_CtxIdeal : Prop :=
  True

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)
      ∧ m' ((c.tc : Thread Cert.CtxRefIdeal.nD Cert.CtxRefIdeal.τ).loc Cert.CtxRefIdeal.main_arg5) = m ((c.tc : Thread Cert.CtxIdeal.nD Cert.CtxIdeal.τ).loc Cert.CtxIdeal.main_arg5)) →
    ∃ (v0 : (c : Dev Cert.CtxIdeal.nD) → Buf (Elt Ideal) ((c.tc : Thread Cert.CtxIdeal.nD Cert.CtxIdeal.τ).loc Cert.CtxIdeal.main_v19_0)) (v1 : (c : Dev Cert.CtxIdeal.nD) → Buf (Elt Ideal) ((c.tc : Thread Cert.CtxIdeal.nD Cert.CtxIdeal.τ).loc Cert.CtxIdeal.main_v19_1)) (v2 : (c : Dev Cert.CtxIdeal.nD) → Buf (Elt Ideal) ((c.tc : Thread Cert.CtxIdeal.nD Cert.CtxIdeal.τ).loc Cert.CtxIdeal.main_v19_2)) (v3 : (c : Dev Cert.CtxIdeal.nD) → Buf (Elt Ideal) ((c.tc : Thread Cert.CtxIdeal.nD Cert.CtxIdeal.τ).loc Cert.CtxIdeal.main_v19_3)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v19_0) = v0 c
          ∧ r.2.mem ((c.tc : Thread Cert.CtxIdeal.nD Cert.CtxIdeal.τ).loc Cert.CtxIdeal.main_v19_1) = v1 c
          ∧ r.2.mem ((c.tc : Thread Cert.CtxIdeal.nD Cert.CtxIdeal.τ).loc Cert.CtxIdeal.main_v19_2) = v2 c
          ∧ r.2.mem ((c.tc : Thread Cert.CtxIdeal.nD Cert.CtxIdeal.τ).loc Cert.CtxIdeal.main_v19_3) = v3 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v45) = v0 c
          ∧ r.2.mem ((c.tc : Thread Cert.CtxRefIdeal.nD Cert.CtxRefIdeal.τ).loc Cert.CtxRefIdeal.main_v47) = v1 c
          ∧ r.2.mem ((c.tc : Thread Cert.CtxRefIdeal.nD Cert.CtxRefIdeal.τ).loc Cert.CtxRefIdeal.main_v49) = v2 c
          ∧ r.2.mem ((c.tc : Thread Cert.CtxRefIdeal.nD Cert.CtxRefIdeal.τ).loc Cert.CtxRefIdeal.main_v51) = v3 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5))

def preserves_Mod_ModIdeal : Prop :=
  True

def algebraic_ModIdeal_ModRefIdeal_on_rows_conditioned_pre_finite_mod [hModIdeal : Cert.ModIdeal.Facts] [hModRefIdeal : Cert.ModRefIdeal.Facts] [hPre_finite_mod : Cert.Pre_finite_mod.Facts] [hOn_rows_conditioned : Cert.On_rows_conditioned.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_finite_mod m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          (∀ i : (⟨2, ![16, 6144]⟩ : Shape).Idx, (Cert.On_rows_conditioned.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3))) i = 1#1 → r.2.mem ((c.tc : Thread Cert.ModIdeal.nD Cert.ModIdeal.τ).loc Cert.ModIdeal.main_v4) i = v0 c i)
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          (∀ i : (⟨2, ![16, 6144]⟩ : Shape).Idx, (Cert.On_rows_conditioned.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3))) i = 1#1 → r.2.mem ((c.tc : Thread Cert.ModRefIdeal.nD Cert.ModRefIdeal.τ).loc Cert.ModRefIdeal.main_v10) i = v0 c i)
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Route_RouteIdeal : Prop :=
  True

def preserves_Comb_CombIdeal : Prop :=
  True

def algebraic_CombIdeal_CombRefIdeal [hCombIdeal : Cert.CombIdeal.Facts] [hCombRefIdeal : Cert.CombRefIdeal.Facts] [hPre_in_rows : Cert.Pre_in_rows.Facts] : Prop :=
  ∀ (m : (ℓ : Loc Cert.CombIdeal.nD Cert.CombIdeal.τ Cert.CombIdeal.sig) → Buf (Elt Ideal) ℓ) (g : Dev Cert.CombIdeal.nD → PrngReg)
    (m' : (ℓ : Loc Cert.CombRefIdeal.nD Cert.CombRefIdeal.τ Cert.CombRefIdeal.sig) → Buf (Elt Ideal) ℓ) (g' : Dev Cert.CombRefIdeal.nD → PrngReg), Pre_CombIdeal m →
    (∀ c : Dev Cert.CombIdeal.nD,
      m' ((c.tc : Thread Cert.CombRefIdeal.nD Cert.CombRefIdeal.τ).loc Cert.CombRefIdeal.main_arg0) = m ((c.tc : Thread Cert.CombIdeal.nD Cert.CombIdeal.τ).loc Cert.CombIdeal.main_arg0)
      ∧ m' ((c.tc : Thread Cert.CombRefIdeal.nD Cert.CombRefIdeal.τ).loc Cert.CombRefIdeal.main_arg1) = m ((c.tc : Thread Cert.CombIdeal.nD Cert.CombIdeal.τ).loc Cert.CombIdeal.main_arg1)
      ∧ m' ((c.tc : Thread Cert.CombRefIdeal.nD Cert.CombRefIdeal.τ).loc Cert.CombRefIdeal.main_arg2) = m ((c.tc : Thread Cert.CombIdeal.nD Cert.CombIdeal.τ).loc Cert.CombIdeal.main_arg2)
      ∧ m' ((c.tc : Thread Cert.CombRefIdeal.nD Cert.CombRefIdeal.τ).loc Cert.CombRefIdeal.main_arg3) = m ((c.tc : Thread Cert.CombIdeal.nD Cert.CombIdeal.τ).loc Cert.CombIdeal.main_arg3)
      ∧ m' ((c.tc : Thread Cert.CombRefIdeal.nD Cert.CombRefIdeal.τ).loc Cert.CombRefIdeal.main_arg4) = m ((c.tc : Thread Cert.CombIdeal.nD Cert.CombIdeal.τ).loc Cert.CombIdeal.main_arg4)) →
    ∃ (v0 : (c : Dev Cert.CombIdeal.nD) → Buf (Elt Ideal) ((c.tc : Thread Cert.CombIdeal.nD Cert.CombIdeal.τ).loc Cert.CombIdeal.main_v0)),
      θ_run (Cert.CombIdeal.defs (F := Ideal)) (onTc (τ := Cert.CombIdeal.τ) (Cert.CombIdeal.main (F := Ideal))) ⟨m, fun _ => 0, g⟩ (fun r => ∀ c : Dev Cert.CombIdeal.nD,
          r.2.mem ((c.tc : Thread Cert.CombIdeal.nD Cert.CombIdeal.τ).loc Cert.CombIdeal.main_v0) = v0 c
          ∧ r.2.mem ((c.tc : Thread Cert.CombIdeal.nD Cert.CombIdeal.τ).loc Cert.CombIdeal.main_arg0) = m ((c.tc : Thread Cert.CombIdeal.nD Cert.CombIdeal.τ).loc Cert.CombIdeal.main_arg0)
          ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
          ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
          ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
          ∧ r.2.mem ((c.tc : Thread Cert.CombIdeal.nD Cert.CombIdeal.τ).loc Cert.CombIdeal.main_arg4) = m ((c.tc : Thread Cert.CombIdeal.nD Cert.CombIdeal.τ).loc Cert.CombIdeal.main_arg4))
      ∧ θ_run (Cert.CombRefIdeal.defs (F := Ideal)) (onTc (τ := Cert.CombRefIdeal.τ) (Cert.CombRefIdeal.main (F := Ideal))) ⟨m', fun _ => 0, g'⟩ (fun r => ∀ c : Dev Cert.CombRefIdeal.nD,
          r.2.mem ((c.tc : Thread Cert.CombRefIdeal.nD Cert.CombRefIdeal.τ).loc Cert.CombRefIdeal.main_v18) = v0 c
          ∧ r.2.mem ((c.tc : Thread Cert.CombRefIdeal.nD Cert.CombRefIdeal.τ).loc Cert.CombRefIdeal.main_arg0) = m' ((c.tc : Thread Cert.CombRefIdeal.nD Cert.CombRefIdeal.τ).loc Cert.CombRefIdeal.main_arg0)
          ∧ r.2.mem ((c.tc : Thread Cert.CombRefIdeal.nD Cert.CombRefIdeal.τ).loc Cert.CombRefIdeal.main_arg1) = m' ((c.tc : Thread Cert.CombRefIdeal.nD Cert.CombRefIdeal.τ).loc Cert.CombRefIdeal.main_arg1)
          ∧ r.2.mem ((c.tc : Thread Cert.CombRefIdeal.nD Cert.CombRefIdeal.τ).loc Cert.CombRefIdeal.main_arg2) = m' ((c.tc : Thread Cert.CombRefIdeal.nD Cert.CombRefIdeal.τ).loc Cert.CombRefIdeal.main_arg2)
          ∧ r.2.mem ((c.tc : Thread Cert.CombRefIdeal.nD Cert.CombRefIdeal.τ).loc Cert.CombRefIdeal.main_arg3) = m' ((c.tc : Thread Cert.CombRefIdeal.nD Cert.CombRefIdeal.τ).loc Cert.CombRefIdeal.main_arg3)
          ∧ r.2.mem ((c.tc : Thread Cert.CombRefIdeal.nD Cert.CombRefIdeal.τ).loc Cert.CombRefIdeal.main_arg4) = m' ((c.tc : Thread Cert.CombRefIdeal.nD Cert.CombRefIdeal.τ).loc Cert.CombRefIdeal.main_arg4))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hExp : Cert.Exp.Facts) (hExpIdeal : Cert.ExpIdeal.Facts) (hExpRefIdeal : Cert.ExpRefIdeal.Facts) (hCtx : Cert.Ctx.Facts) (hCtxIdeal : Cert.CtxIdeal.Facts) (hCtxRefIdeal : Cert.CtxRefIdeal.Facts) (hMod : Cert.Mod.Facts) (hModIdeal : Cert.ModIdeal.Facts) (hModRefIdeal : Cert.ModRefIdeal.Facts) (hRoute : Cert.Route.Facts) (hRouteIdeal : Cert.RouteIdeal.Facts) (hComb : Cert.Comb.Facts) (hCombIdeal : Cert.CombIdeal.Facts) (hCombRefIdeal : Cert.CombRefIdeal.Facts) (hPre_finite : Cert.Pre_finite.Facts) (hPre_finite_out : Cert.Pre_finite_out.Facts) (hPre_valid : Cert.Pre_valid.Facts) (hPre_finite_mod : Cert.Pre_finite_mod.Facts) (hPre_in_rows : Cert.Pre_in_rows.Facts) (hOn_rows_used : Cert.On_rows_used.Facts) (hOn_rows_conditioned : Cert.On_rows_conditioned.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutIdeal_pre_finite_out (hOutIdeal := hOutIdeal) (hPre_finite_out := hPre_finite_out)
    ∧ quiescent_OutRefIdeal (hOutRefIdeal := hOutRefIdeal)
    ∧ quiescent_OutRefIdeal_pre_finite_out (hOutRefIdeal := hOutRefIdeal) (hPre_finite_out := hPre_finite_out)
    ∧ quiescent_Exp (hExp := hExp) (hPre_valid := hPre_valid)
    ∧ quiescent_ExpIdeal (hExpIdeal := hExpIdeal) (hPre_valid := hPre_valid)
    ∧ quiescent_ExpRefIdeal (hExpRefIdeal := hExpRefIdeal)
    ∧ quiescent_ExpRefIdeal_pre_valid (hExpRefIdeal := hExpRefIdeal) (hPre_valid := hPre_valid)
    ∧ quiescent_Ctx (hCtx := hCtx)
    ∧ quiescent_CtxIdeal (hCtxIdeal := hCtxIdeal)
    ∧ quiescent_CtxRefIdeal (hCtxRefIdeal := hCtxRefIdeal)
    ∧ quiescent_Mod (hMod := hMod)
    ∧ quiescent_ModIdeal (hModIdeal := hModIdeal)
    ∧ quiescent_ModIdeal_pre_finite_mod (hModIdeal := hModIdeal) (hPre_finite_mod := hPre_finite_mod)
    ∧ quiescent_ModRefIdeal (hModRefIdeal := hModRefIdeal)
    ∧ quiescent_ModRefIdeal_pre_finite_mod (hModRefIdeal := hModRefIdeal) (hPre_finite_mod := hPre_finite_mod)
    ∧ quiescent_Route (hRoute := hRoute)
    ∧ quiescent_RouteIdeal (hRouteIdeal := hRouteIdeal)
    ∧ quiescent_Comb (hComb := hComb) (hPre_in_rows := hPre_in_rows)
    ∧ quiescent_CombIdeal (hCombIdeal := hCombIdeal) (hPre_in_rows := hPre_in_rows)
    ∧ quiescent_CombRefIdeal (hCombRefIdeal := hCombRefIdeal)
    ∧ quiescent_CombRefIdeal_pre_in_rows (hCombRefIdeal := hCombRefIdeal) (hPre_in_rows := hPre_in_rows)
    ∧ preserves_Attn_AttnIdeal
    ∧ algebraic_AttnIdeal_AttnRefIdeal_pre_finite (hAttnIdeal := hAttnIdeal) (hAttnRefIdeal := hAttnRefIdeal) (hPre_finite := hPre_finite)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal_pre_finite_out (hOutIdeal := hOutIdeal) (hOutRefIdeal := hOutRefIdeal) (hPre_finite_out := hPre_finite_out)
    ∧ preserves_Exp_ExpIdeal
    ∧ algebraic_ExpIdeal_ExpRefIdeal_on_rows_used (hExpIdeal := hExpIdeal) (hExpRefIdeal := hExpRefIdeal) (hPre_valid := hPre_valid) (hOn_rows_used := hOn_rows_used)
    ∧ preserves_Ctx_CtxIdeal
    ∧ algebraic_CtxIdeal_CtxRefIdeal (hCtxIdeal := hCtxIdeal) (hCtxRefIdeal := hCtxRefIdeal)
    ∧ preserves_Mod_ModIdeal
    ∧ algebraic_ModIdeal_ModRefIdeal_on_rows_conditioned_pre_finite_mod (hModIdeal := hModIdeal) (hModRefIdeal := hModRefIdeal) (hPre_finite_mod := hPre_finite_mod) (hOn_rows_conditioned := hOn_rows_conditioned)
    ∧ preserves_Route_RouteIdeal
    ∧ preserves_Comb_CombIdeal
    ∧ algebraic_CombIdeal_CombRefIdeal (hCombIdeal := hCombIdeal) (hCombRefIdeal := hCombRefIdeal) (hPre_in_rows := hPre_in_rows)
-- ==== On_rows_conditioned.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S16x6144 : Shape := ⟨2, ![16, 6144]⟩
abbrev S_ : Shape := ⟨0, ![]⟩

class Facts : Prop where
  bcast_S_S16x6144 : S_.BroadcastsInDim S16x6144 (![] : Fin 0 → Fin S16x6144.rank)

variable [Facts]

def fn {F : FTy → Type} [FloatOps F] (main_arg0 : FVec F S8x1024 .f32) (main_arg1 : FVec F S1024 .f32) (main_arg2 : FVec F S1024x6144 .f32) (main_arg3 : FVec F S6144 .f32) : IVec S16x6144 1 :=
  let main_v0 : IVec S16x6144 32 := iotaInDim S16x6144 32 0
  let main_c : IVec S_ 32 := constantI S_ 32 9#32
  let main_v1 : IVec S16x6144 32 := broadcastInDim S16x6144 ![] bcast_S_S16x6144 main_c
  let main_v2 : IVec S16x6144 1 := cmpi .slt main_v0 main_v1
  main_v2
-- ==== On_rows_used.lean ====
abbrev S163840x1x1024 : Shape := ⟨3, ![163840, 1, 1024]⟩
abbrev S256x1024x256 : Shape := ⟨3, ![256, 1024, 256]⟩
abbrev S256x256x1024 : Shape := ⟨3, ![256, 256, 1024]⟩
abbrev S1280 : Shape := ⟨1, ![1280]⟩
abbrev S1 : Shape := ⟨1, ![1]⟩
abbrev S1280x128x1024 : Shape := ⟨3, ![1280, 128, 1024]⟩
abbrev S_ : Shape := ⟨0, ![]⟩

class Facts : Prop where
  shapeCasts_S1_S_ : S1.ShapeCasts S_
  bcast_S_S1280x128x1024 : S_.BroadcastsInDim S1280x128x1024 (![] : Fin 0 → Fin S1280x128x1024.rank)
  shapeCasts_S1280x128x1024_S163840x1x1024 : S1280x128x1024.ShapeCasts S163840x1x1024

variable [Facts]

def fn {F : FTy → Type} [FloatOps F] (main_arg0 : FVec F S163840x1x1024 .f32) (main_arg1 : FVec F S256x1024x256 .f32) (main_arg2 : FVec F S256x1024x256 .f32) (main_arg3 : FVec F S256x256x1024 .f32) (main_arg4 : IVec S1280 32) (main_arg5 : IVec S1 32) : IVec S163840x1x1024 1 :=
  let main_v0 : IVec S1280x128x1024 32 := iotaInDim S1280x128x1024 32 0
  let main_v1 : IVec S_ 32 := shapeCast S_ main_arg5 shapeCasts_S1_S_
  let main_v2 : IVec S1280x128x1024 32 := broadcastInDim S1280x128x1024 ![] bcast_S_S1280x128x1024 main_v1
  let main_v3 : IVec S1280x128x1024 1 := cmpi .slt main_v0 main_v2
  let main_v4 : IVec S163840x1x1024 1 := shapeCast S163840x1x1024 main_v3 shapeCasts_S1280x128x1024_S163840x1x1024
  main_v4
-- ==== Pre_finite.lean ====
abbrev S8x2048x512 : Shape := ⟨3, ![8, 2048, 512]⟩
abbrev S8x2048x128 : Shape := ⟨3, ![8, 2048, 128]⟩
abbrev S8x256x128 : Shape := ⟨3, ![8, 256, 128]⟩
abbrev S_ : Shape := ⟨0, ![]⟩

class Facts : Prop where
  bitsLt_bf16_f32 : FTy.bits .bf16 < FTy.bits .f32
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_
  bcast_S_S8x256x128 : S_.BroadcastsInDim S8x256x128 (![] : Fin 0 → Fin S8x256x128.rank)
  reducesTo_S8x256x128_S_d0_1_2 : S8x256x128.ReducesTo [0, 1, 2] S_

variable [Facts]

def fn {F : FTy → Type} [FloatOps F] (main_arg0 : FVec F S8x2048x512 .bf16) (main_arg1 : FVec F S8x2048x128 .bf16) (main_arg2 : FVec F S8x2048x128 .bf16) (main_arg3 : FVec F S8x256x128 .bf16) (main_arg4 : FVec F S8x256x128 .bf16) : IVec S_ 1 :=
  let main_v0 : FVec F S8x2048x512 .f32 := (extf .f32 · bitsLt_bf16_f32) main_arg0
  let main_v1 : FVec F S8x2048x128 .f32 := (extf .f32 · bitsLt_bf16_f32) main_arg1
  let main_v2 : FVec F S8x256x128 .f32 := (extf .f32 · bitsLt_bf16_f32) main_arg3
  let main_v3 : FVec F S8x2048x512 .f32 := Host.absf main_v0
  let main_cst : FVec F S_ .f32 := constant S_ .f32 0x7F800000#32
  let main_v4 : FVec F S8x2048x512 .f32 := broadcastInDim S8x2048x512 ![] bcast_S_S8x2048x512 main_cst
  let main_v5 : IVec S8x2048x512 1 := cmpf .olt main_v3 main_v4
  let main_c : IVec S_ 1 := constantI S_ 1 1#1
  let main_v6 : IVec S_ 1 := (fun x v => Host.reduce IntOp.andi x v reducesTo_S8x2048x512_S_d0_1_2 h_S_) main_v5 main_c
  let main_v7 : FVec F S8x2048x128 .f32 := Host.absf main_v1
  let main_cst_0 : FVec F S_ .f32 := constant S_ .f32 0x7F800000#32
  let main_v8 : FVec F S8x2048x128 .f32 := broadcastInDim S8x2048x128 ![] bcast_S_S8x2048x128 main_cst_0
  let main_v9 : IVec S8x2048x128 1 := cmpf .olt main_v7 main_v8
  let main_c_1 : IVec S_ 1 := constantI S_ 1 1#1
  let main_v10 : IVec S_ 1 := (fun x v => Host.reduce IntOp.andi x v reducesTo_S8x2048x128_S_d0_1_2 h_S_) main_v9 main_c_1
  let main_v11 : IVec S_ 1 := andi main_v6 main_v10
  let main_v12 : FVec F S8x256x128 .f32 := Host.absf main_v2
  let main_cst_2 : FVec F S_ .f32 := constant S_ .f32 0x7F800000#32
  let main_v13 : FVec F S8x256x128 .f32 := broadcastInDim S8x256x128 ![] bcast_S_S8x256x128 main_cst_2
  let main_v14 : IVec S8x256x128 1 := cmpf .olt main_v12 main_v13
  let main_c_3 : IVec S_ 1 := constantI S_ 1 1#1
  let main_v15 : IVec S_ 1 := (fun x v => Host.reduce IntOp.andi x v reducesTo_S8x256x128_S_d0_1_2 h_S_) main_v14 main_c_3
  let main_v16 : IVec S_ 1 := andi main_v11 main_v15
  main_v16
-- ==== Pre_finite_mod.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S8x1024 .f32) (main_arg1 : FVec F S1024 .f32) (main_arg2 : FVec F S1024x6144 .f32) (main_arg3 : FVec F S6144 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6144 .f32 := Host.absf main_arg2
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_c_3 : IVec S_ 1 := constantI S_ 1 1#1
  let main_v12 : IVec S_ 1 := (fun x v => Host.reduce IntOp.andi x v reducesTo_S1024x6144_S_d0_1 h_S_) main_v11 main_c_3
  let main_v13 : IVec S_ 1 := andi main_v8 main_v12
  main_v13
-- ==== Pre_finite_out.lean ====
abbrev S8x2048x512 : Shape := ⟨3, ![8, 2048, 512]⟩
abbrev S8x2048x1024 : Shape := ⟨3, ![8, 2048, 1024]⟩
abbrev S1024x1024 : Shape := ⟨2, ![1024, 1024]⟩
abbrev S8x1x1024 : Shape := ⟨3, ![8, 1, 1024]⟩
abbrev S1024 : Shape := ⟨1, ![1024]⟩
abbrev S1024x256 : Shape := ⟨2, ![1024, 256]⟩
abbrev S256x1024 : Shape := ⟨2, ![256, 1024]⟩
abbrev S_ : Shape := ⟨0, ![]⟩

class Facts : Prop where
  bitsLt_bf16_f32 : FTy.bits .bf16 < FTy.bits .f32
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S8x1x1024 : S_.BroadcastsInDim S8x1x1024 (![] : Fin 0 → Fin S8x1x1024.rank)
  reducesTo_S8x1x1024_S_d0_1_2 : S8x1x1024.ReducesTo [0, 1, 2] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_

variable [Facts]

def fn_part2 {F : FTy → Type} [FloatOps F] (main_arg7 : FVec F S1024 .f32) (main_arg12 : FVec F S1024x256 .f32) (main_v30 : IVec S_ 1) (main_v33 : IVec S8x1x1024 1) (main_c_11 : IVec S_ 1) : IVec S_ 1 :=
  let main_v34 : IVec S_ 1 := (fun x v => Host.reduce IntOp.andi x v reducesTo_S8x1x1024_S_d0_1_2 h_S_) main_v33 main_c_11
  let main_v35 : IVec S_ 1 := andi main_v30 main_v34
  let main_v36 : FVec F S1024 .f32 := Host.absf main_arg7
  let main_cst_12 : FVec F S_ .f32 := constant S_ .f32 0x7F800000#32
  let main_v37 : FVec F S1024 .f32 := broadcastInDim S1024 ![] bcast_S_S1024 main_cst_12
  let main_v38 : IVec S1024 1 := cmpf .olt main_v36 main_v37
  let main_c_13 : IVec S_ 1 := constantI S_ 1 1#1
  let main_v39 : IVec S_ 1 := (fun x v => Host.reduce IntOp.andi x v reducesTo_S1024_S_d0 h_S_) main_v38 main_c_13
  let main_v40 : IVec S_ 1 := andi main_v35 main_v39
  let main_v41 : FVec F S1024x256 .f32 := Host.absf main_arg12
  let main_cst_14 : FVec F S_ .f32 := constant S_ .f32 0x7F800000#32
  let main_v42 : FVec F S1024x256 .f32 := broadcastInDim S1024x256 ![] bcast_S_S1024x256 main_cst_14
  let main_v43 : IVec S1024x256 1 := cmpf .olt main_v41 main_v42
  let main_c_15 : IVec S_ 1 := constantI S_ 1 1#1
  let main_v44 : IVec S_ 1 := (fun x v => Host.reduce IntOp.andi x v reducesTo_S1024x256_S_d0_1 h_S_) main_v43 main_c_15
  let main_v45 : IVec S_ 1 := andi main_v40 main_v44
  main_v45

def fn_part1 {F : FTy → Type} [FloatOps F] (main_arg4 : FVec F S8x1x1024 .f32) (main_arg5 : FVec F S8x1x1024 .f32) (main_arg6 : FVec F S8x1x1024 .f32) (main_arg7 : FVec F S1024 .f32) (main_arg12 : FVec F S1024x256 .f32) (main_v15 : IVec S_ 1) (main_v16 : FVec F S1024x1024 .f32) (main_cst_4 : FVec F S_ .f32) : IVec S_ 1 :=
  let main_v17 : FVec F S1024x1024 .f32 := broadcastInDim S1024x1024 ![] bcast_S_S1024x1024 main_cst_4
  let main_v18 : IVec S1024x1024 1 := cmpf .olt main_v16 main_v17
  let main_c_5 : IVec S_ 1 := constantI S_ 1 1#1
  let main_v19 : IVec S_ 1 := (fun x v => Host.reduce IntOp.andi x v reducesTo_S1024x1024_S_d0_1 h_S_) main_v18 main_c_5
  let main_v20 : IVec S_ 1 := andi main_v15 main_v19
  let main_v21 : FVec F S8x1x1024 .f32 := Host.absf main_arg4
  let main_cst_6 : FVec F S_ .f32 := constant S_ .f32 0x7F800000#32
  let main_v22 : FVec F S8x1x1024 .f32 := broadcastInDim S8x1x1024 ![] bcast_S_S8x1x1024 main_cst_6
  let main_v23 : IVec S8x1x1024 1 := cmpf .olt main_v21 main_v22
  let main_c_7 : IVec S_ 1 := constantI S_ 1 1#1
  let main_v24 : IVec S_ 1 := (fun x v => Host.reduce IntOp.andi x v reducesTo_S8x1x1024_S_d0_1_2 h_S_) main_v23 main_c_7
  let main_v25 : IVec S_ 1 := andi main_v20 main_v24
  let main_v26 : FVec F S8x1x1024 .f32 := Host.absf main_arg5
  let main_cst_8 : FVec F S_ .f32 := constant S_ .f32 0x7F800000#32
  let main_v27 : FVec F S8x1x1024 .f32 := broadcastInDim S8x1x1024 ![] bcast_S_S8x1x1024 main_cst_8
  let main_v28 : IVec S8x1x1024 1 := cmpf .olt main_v26 main_v27
  let main_c_9 : IVec S_ 1 := constantI S_ 1 1#1
  let main_v29 : IVec S_ 1 := (fun x v => Host.reduce IntOp.andi x v reducesTo_S8x1x1024_S_d0_1_2 h_S_) main_v28 main_c_9
  let main_v30 : IVec S_ 1 := andi main_v25 main_v29
  let main_v31 : FVec F S8x1x1024 .f32 := Host.absf main_arg6
  let main_cst_10 : FVec F S_ .f32 := constant S_ .f32 0x7F800000#32
  let main_v32 : FVec F S8x1x1024 .f32 := broadcastInDim S8x1x1024 ![] bcast_S_S8x1x1024 main_cst_10
  let main_v33 : IVec S8x1x1024 1 := cmpf .olt main_v31 main_v32
  let main_c_11 : IVec S_ 1 := constantI S_ 1 1#1
  fn_part2 (F := F) main_arg7 main_arg12 main_v30 main_v33 main_c_11

def fn {F : FTy → Type} [FloatOps F] (main_arg0 : FVec F S8x2048x512 .bf16) (main_arg1 : FVec F S8x2048x512 .bf16) (main_arg2 : FVec F S8x2048x1024 .f32) (main_arg3 : FVec F S1024x1024 .f32) (main_arg4 : FVec F S8x1x1024 .f32) (main_arg5 : FVec F S8x1x1024 .f32) (main_arg6 : FVec F S8x1x1024 .f32) (main_arg7 : FVec F S1024 .f32) (main_arg8 : FVec F S8x1x1024 .f32) (main_arg9 : FVec F S1024x256 .f32) (main_arg10 : FVec F S1024x256 .f32) (main_arg11 : FVec F S256x1024 .f32) (main_arg12 : FVec F S1024x256 .f32) : IVec S_ 1 :=
  let main_v0 : FVec F S8x2048x512 .f32 := (extf .f32 · bitsLt_bf16_f32) main_arg0
  let main_v1 : FVec F S8x2048x512 .f32 := Host.absf main_v0
  let main_cst : FVec F S_ .f32 := constant S_ .f32 0x7F800000#32
  let main_v2 : FVec F S8x2048x512 .f32 := broadcastInDim S8x2048x512 ![] bcast_S_S8x2048x512 main_cst
  let main_v3 : IVec S8x2048x512 1 := cmpf .olt main_v1 main_v2
  let main_c : IVec S_ 1 := constantI S_ 1 1#1
  let main_v4 : IVec S_ 1 := (fun x v => Host.reduce IntOp.andi x v reducesTo_S8x2048x512_S_d0_1_2 h_S_) main_v3 main_c
  let main_v5 : FVec F S8x2048x512 .f32 := (extf .f32 · bitsLt_bf16_f32) main_arg1
  let main_v6 : FVec F S8x2048x512 .f32 := Host.absf main_v5
  let main_cst_0 : FVec F S_ .f32 := constant S_ .f32 0x7F800000#32
  let main_v7 : FVec F S8x2048x512 .f32 := broadcastInDim S8x2048x512 ![] bcast_S_S8x2048x512 main_cst_0
  let main_v8 : IVec S8x2048x512 1 := cmpf .olt main_v6 main_v7
  let main_c_1 : IVec S_ 1 := constantI S_ 1 1#1
  let main_v9 : IVec S_ 1 := (fun x v => Host.reduce IntOp.andi x v reducesTo_S8x2048x512_S_d0_1_2 h_S_) main_v8 main_c_1
  let main_v10 : IVec S_ 1 := andi main_v4 main_v9
  let main_v11 : FVec F S8x2048x1024 .f32 := Host.absf main_arg2
  let main_cst_2 : FVec F S_ .f32 := constant S_ .f32 0x7F800000#32
  let main_v12 : FVec F S8x2048x1024 .f32 := broadcastInDim S8x2048x1024 ![] bcast_S_S8x2048x1024 main_cst_2
  let main_v13 : IVec S8x2048x1024 1 := cmpf .olt main_v11 main_v12
  let main_c_3 : IVec S_ 1 := constantI S_ 1 1#1
  let main_v14 : IVec S_ 1 := (fun x v => Host.reduce IntOp.andi x v reducesTo_S8x2048x1024_S_d0_1_2 h_S_) main_v13 main_c_3
  let main_v15 : IVec S_ 1 := andi main_v10 main_v14
  let main_v16 : FVec F S1024x1024 .f32 := Host.absf main_arg3
  let main_cst_4 : FVec F S_ .f32 := constant S_ .f32 0x7F800000#32
  fn_part1 (F := F) main_arg4 main_arg5 main_arg6 main_arg7 main_arg12 main_v15 main_v16 main_cst_4
-- ==== Pre_in_rows.lean ====
abbrev S163840x1x1024 : Shape := ⟨3, ![163840, 1, 1024]⟩
abbrev S131072 : Shape := ⟨1, ![131072]⟩
abbrev S8x2048x1024 : Shape := ⟨3, ![8, 2048, 1024]⟩
abbrev S8x1x1024 : Shape := ⟨3, ![8, 1, 1024]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel

variable [Facts]

def fn {F : FTy → Type} [FloatOps F] (main_arg0 : FVec F S163840x1x1024 .f32) (main_arg1 : IVec S131072 32) (main_arg2 : FVec F S131072 .f32) (main_arg3 : FVec F S8x2048x1024 .f32) (main_arg4 : FVec F S8x1x1024 .f32) : IVec S_ 1 :=
  let main_c : IVec S_ 32 := constantI S_ 32 0#32
  let main_v0 : IVec S131072 32 := broadcastInDim S131072 ![] bcast_S_S131072 main_c
  let main_v1 : IVec S131072 1 := cmpi .sge main_arg1 main_v0
  let main_c_0 : IVec S_ 32 := constantI S_ 32 163840#32
  let main_v2 : IVec S131072 32 := broadcastInDim S131072 ![] bcast_S_S131072 main_c_0
  let main_v3 : IVec S131072 1 := cmpi .slt main_arg1 main_v2
  let main_v4 : IVec S131072 1 := andi main_v1 main_v3
  let main_c_1 : IVec S_ 1 := constantI S_ 1 1#1
  let main_v5 : IVec S_ 1 := (fun x v => Host.reduce IntOp.andi x v reducesTo_S131072_S_d0 h_S_) main_v4 main_c_1
  main_v5
-- ==== Pre_valid.lean ====
abbrev S163840x1x1024 : Shape := ⟨3, ![163840, 1, 1024]⟩
abbrev S256x1024x256 : Shape := ⟨3, ![256, 1024, 256]⟩
abbrev S256x256x1024 : Shape := ⟨3, ![256, 256, 1024]⟩
abbrev S1280 : Shape := ⟨1, ![1280]⟩
abbrev S1 : Shape := ⟨1, ![1]⟩
abbrev S_ : Shape := ⟨0, ![]⟩

class Facts : Prop where
  bcast_S_S1280 : S_.BroadcastsInDim S1280 (![] : Fin 0 → Fin S1280.rank)
  reducesTo_S1280_S_d0 : S1280.ReducesTo [0] S_
  h_S_ : 0 < S_.numel
  shapeCasts_S1_S_ : S1.ShapeCasts S_

variable [Facts]

def fn {F : FTy → Type} [FloatOps F] (main_arg0 : FVec F S163840x1x1024 .f32) (main_arg1 : FVec F S256x1024x256 .f32) (main_arg2 : FVec F S256x1024x256 .f32) (main_arg3 : FVec F S256x256x1024 .f32) (main_arg4 : IVec S1280 32) (main_arg5 : IVec S1 32) : IVec S_ 1 :=
  let main_c : IVec S_ 32 := constantI S_ 32 0#32
  let main_v0 : IVec S1280 32 := broadcastInDim S1280 ![] bcast_S_S1280 main_c
  let main_v1 : IVec S1280 1 := cmpi .sge main_arg4 main_v0
  let main_c_0 : IVec S_ 32 := constantI S_ 32 256#32
  let main_v2 : IVec S1280 32 := broadcastInDim S1280 ![] bcast_S_S1280 main_c_0
  let main_v3 : IVec S1280 1 := cmpi .slt main_arg4 main_v2
  let main_v4 : IVec S1280 1 := andi main_v1 main_v3
  let main_c_1 : IVec S_ 1 := constantI S_ 1 1#1
  let main_v5 : IVec S_ 1 := (fun x v => Host.reduce IntOp.andi x v reducesTo_S1280_S_d0 h_S_) main_v4 main_c_1
  let main_v6 : IVec S_ 32 := shapeCast S_ main_arg5 shapeCasts_S1_S_
  let main_c_2 : IVec S_ 32 := constantI S_ 32 1#32
  let main_v7 : IVec S_ 1 := cmpi .sge main_v6 main_c_2
  let main_v8 : IVec S_ 1 := andi main_v5 main_v7
  main_v8
-- ==== Attn.lean ====
abbrev S8x2048x512 : Shape := ⟨3, ![8, 2048, 512]⟩
abbrev S8x2048x128 : Shape := ⟨3, ![8, 2048, 128]⟩
abbrev S8x256x128 : Shape := ⟨3, ![8, 256, 128]⟩
abbrev S8x2304x128 : Shape := ⟨3, ![8, 2304, 128]⟩
abbrev S1x128x512 : Shape := ⟨3, ![1, 128, 512]⟩
abbrev S1x2304x128 : Shape := ⟨3, ![1, 2304, 128]⟩
abbrev S2304x128 : Shape := ⟨2, ![2304, 128]⟩
abbrev S1x128 : Shape := ⟨2, ![1, 128]⟩
abbrev S1x128x128 : Shape := ⟨3, ![1, 128, 128]⟩
abbrev S128x128 : Shape := ⟨2, ![128, 128]⟩
abbrev S512x128 : Shape := ⟨2, ![512, 128]⟩
abbrev S512x2304 : Shape := ⟨2, ![512, 2304]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x512, .bf16⟩
  | .hbm, ⟨1, _⟩ => ⟨S8x2048x128, .bf16⟩
  | .hbm, ⟨2, _⟩ => ⟨S8x2048x128, .bf16⟩
  | .hbm, ⟨3, _⟩ => ⟨S8x256x128, .bf16⟩
  | .hbm, ⟨4, _⟩ => ⟨S8x256x128, .bf16⟩
  | .hbm, ⟨5, _⟩ => ⟨S8x2304x128, .bf16⟩
  | .hbm, ⟨6, _⟩ => ⟨S8x2304x128, .bf16⟩
  | .hbm, ⟨7, _⟩ => ⟨S8x2048x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x128x512, .bf16⟩
  | .local _ .vmem, ⟨7, _⟩ => ⟨S1x128x512, .bf16⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnRefIdeal.lean ====
abbrev S8x2048x512 : Shape := ⟨3, ![8, 2048, 512]⟩
abbrev S8x2048x128 : Shape := ⟨3, ![8, 2048, 128]⟩
abbrev S8x256x128 : Shape := ⟨3, ![8, 256, 128]⟩
abbrev S8x2048x4x2x64 : Shape := ⟨5, ![8, 2048, 4, 2, 64]⟩
abbrev S8x2048x2x64 : Shape := ⟨4, ![8, 2048, 2, 64]⟩
abbrev S8x256x2x64 : Shape := ⟨4, ![8, 256, 2, 64]⟩
abbrev S8x2x2048x2048x4 : Shape := ⟨5, ![8, 2, 2048, 2048, 4]⟩
abbrev S8x2x4x2048x2048 : Shape := ⟨5, ![8, 2, 4, 2048, 2048]⟩
abbrev S8x2x256x2048x4 : Shape := ⟨5, ![8, 2, 256, 2048, 4]⟩
abbrev S8x2x4x2048x256 : Shape := ⟨5, ![8, 2, 4, 2048, 256]⟩
abbrev S8x2x4x2048x2304 : Shape := ⟨5, ![8, 2, 4, 2048, 2304]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x128, .bf16⟩
  | .hbm, ⟨2, _⟩ => ⟨S8x2048x128, .bf16⟩
  | .hbm, ⟨3, _⟩ => ⟨S8x256x128, .bf16⟩
  | .hbm, ⟨4, _⟩ => ⟨S8x256x128, .bf16⟩
  | .hbm, ⟨5, _⟩ => ⟨S8x2048x512, .f32⟩
  | .hbm, ⟨6, _⟩ => ⟨S8x2048x4x2x64, .f32⟩
  | .hbm, ⟨7, _⟩ => ⟨S8x2048x128, .f32⟩
  | .hbm, ⟨8, _⟩ => ⟨S8x2048x2x64, .f32⟩
  | .hbm, ⟨9, _⟩ => ⟨S8x2048x128, .f32⟩
  | .hbm, ⟨10, _⟩ => ⟨S8x2048x2x64, .f32⟩
  | .hbm, ⟨11, _⟩ => ⟨S8x256x128, .f32⟩
  | .hbm, ⟨12, _⟩ => ⟨S8x256x2x64, .f32⟩
  | .hbm, ⟨13, _⟩ => ⟨S8x256x128, .f32⟩
  | .hbm, ⟨14, _⟩ => ⟨S8x256x2x64, .f32⟩
  | .hbm, ⟨15, _⟩ => ⟨S8x2x2048x2048x4, .f32⟩
  | .hbm, ⟨16, _⟩ => ⟨S8x2x4x2048x2048, .f32⟩
  | .hbm, ⟨17, _⟩ => ⟨S8x2x256x2048x4, .f32⟩
  | .hbm, ⟨18, _⟩ => ⟨S8x2x4x2048x256, .f32⟩
  | .hbm, ⟨19, _⟩ => ⟨S8x2x4x2048x2304, .f32⟩
  | .hbm, ⟨20, _⟩ => ⟨S_, .f32⟩
  | .hbm, ⟨21, _⟩ => ⟨S8x2x4x2048, .f32⟩
  | .hbm, ⟨22, _⟩ => ⟨S_, .f32⟩
  | .hbm, ⟨23, _⟩ => ⟨S8x2x4x2048, .f32⟩
  | .hbm, ⟨24, _⟩ => ⟨S8x2x4x2048, .f32⟩
  | .hbm, ⟨25, _⟩ => ⟨S8x2x4x2048x1, .f32⟩
  | .hbm, ⟨26, _⟩ => ⟨S8x2x4x2048x2304, .f32⟩
  | .hbm, ⟨27, _⟩ => ⟨S8x2x4x2048x2304, .f32⟩
  | .hbm, ⟨28, _⟩ => ⟨S8x2x4x2048x2304, .f32⟩
  | .hbm, ⟨29, _⟩ => ⟨S_, .f32⟩
  | .hbm, ⟨30, _⟩ => ⟨S8x2x4x2048, .f32⟩
  | .hbm, ⟨31, _⟩ => ⟨S8x2x4x2048x1, .f32⟩
  | .hbm, ⟨32, _⟩ => ⟨S8x2x4x2048x2304, .f32⟩
  | .hbm, ⟨33, _⟩ => ⟨S8x2x4x2048x2304, .f32⟩
  | .hbm, ⟨34, _⟩ => ⟨S8x2x4x2048x2048, .f32⟩
  | .hbm, ⟨35, _⟩ => ⟨S8x2x64x4x2048, .f32⟩
  | .hbm, ⟨36, _⟩ => ⟨S8x2048x4x2x64, .f32⟩
  | .hbm, ⟨37, _⟩ => ⟨S8x2x4x2048x256, .f32⟩
  | .hbm, ⟨38, _⟩ => ⟨S8x2x64x4x2048, .f32⟩
  | .hbm, ⟨39, _⟩ => ⟨S8x2048x4x2x64, .f32⟩
  | .hbm, ⟨40, _⟩ => ⟨S8x2048x4x2x64, .f32⟩
  | .hbm, ⟨41, _⟩ => ⟨S8x2048x512, .f32⟩
  | .hbm, ⟨42, _⟩ => ⟨S8x2048x512, .bf16⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Proj.lean ====
abbrev S8x2048x1024 : Shape := ⟨3, ![8, 2048, 1024]⟩
abbrev S8x1x1024 : Shape := ⟨3, ![8, 1, 1024]⟩
abbrev S1024 : Shape := ⟨1, ![1024]⟩
abbrev S1024x2816 : Shape := ⟨2, ![1024, 2816]⟩
abbrev S64 : Shape := ⟨1, ![64]⟩
abbrev S2048x32 : Shape := ⟨2, ![2048, 32]⟩
abbrev S2 : Shape := ⟨1, ![2]⟩
abbrev S1x1x1024 : Shape := ⟨3, ![1, 1, 1024]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x64 : Shape := ⟨2, ![1, 64]⟩
abbrev S2x64 : Shape := ⟨2, ![2, 64]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2 : Shape := ⟨2, ![1, 2]⟩
abbrev S32x2 : Shape := ⟨2, ![32, 2]⟩
abbrev S8x2048x128 : Shape := ⟨3, ![8, 2048, 128]⟩
abbrev S8x2048x512 : Shape := ⟨3, ![8, 2048, 512]⟩
abbrev S1x512x1024 : Shape := ⟨3, ![1, 512, 1024]⟩
abbrev S512x128 : Shape := ⟨2, ![512, 128]⟩
abbrev S1x512x128 : Shape := ⟨3, ![1, 512, 128]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S512x2816 : Shape := ⟨2, ![512, 2816]⟩
abbrev S512x512 : Shape := ⟨2, ![512, 512]⟩

abbrev nBuf : Space → Nat
  | .hbm => 78
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2816, .f32⟩
  | .hbm, ⟨5, _⟩ => ⟨S64, .f32⟩
  | .hbm, ⟨6, _⟩ => ⟨S64, .f32⟩
  | .hbm, ⟨7, _⟩ => ⟨S2048x32, .f32⟩
  | .hbm, ⟨8, _⟩ => ⟨S2048x32, .f32⟩
  | .hbm, ⟨9, _⟩ => ⟨S2, .f32⟩
  | .hbm, ⟨10, _⟩ => ⟨S1x1x1024, .f32⟩
  | .hbm, ⟨11, _⟩ => ⟨S_, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S128, .i32⟩
  | .hbm, ⟨17, _⟩ => ⟨S_, .i32⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .i32⟩
  | .hbm, ⟨35, _⟩ => ⟨S128x1, .i32⟩
  | .hbm, ⟨36, _⟩ => ⟨S1x128, .i32⟩
  | .hbm, ⟨37, _⟩ => ⟨S128x128, .i32⟩
  | .hbm, ⟨38, _⟩ => ⟨S128x128, .i32⟩
  | .hbm, ⟨39, _⟩ => ⟨S128x128, .i1⟩
  | .hbm, ⟨40, _⟩ => ⟨S_, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .bf16⟩
  | .hbm, ⟨46, _⟩ => ⟨S1x64, .f32⟩
  | .hbm, ⟨47, _⟩ => ⟨S2x64, .f32⟩
  | .hbm, ⟨48, _⟩ => ⟨S128, .f32⟩
  | .hbm, ⟨49, _⟩ => ⟨S1x128, .f32⟩
  | .hbm, ⟨50, _⟩ => ⟨S1x64, .f32⟩
  | .hbm, ⟨51, _⟩ => ⟨S2x64, .f32⟩
  | .hbm, ⟨52, _⟩ => ⟨S128, .f32⟩
  | .hbm, ⟨53, _⟩ => ⟨S1x128, .f32⟩
  | .hbm, ⟨54, _⟩ => ⟨S2048x32x2, .f32⟩
  | .hbm, ⟨55, _⟩ => ⟨S2048x64, .f32⟩
  | .hbm, ⟨56, _⟩ => ⟨S1x2048x1x64, .f32⟩
  | .hbm, ⟨57, _⟩ => ⟨S1x2048x2x64, .f32⟩
  | .hbm, ⟨58, _⟩ => ⟨S2048x128, .f32⟩
  | .hbm, ⟨59, _⟩ => ⟨S2048x32x2, .f32⟩
  | .hbm, ⟨60, _⟩ => ⟨S2048x64, .f32⟩
  | .hbm, ⟨61, _⟩ => ⟨S1x2, .f32⟩
  | .hbm, ⟨62, _⟩ => ⟨S32x2, .f32⟩
  | .hbm, ⟨63, _⟩ => ⟨S64, .f32⟩
  | .hbm, ⟨64, _⟩ => ⟨S1x64, .f32⟩
  | .hbm, ⟨65, _⟩ => ⟨S2048x64, .f32⟩
  | .hbm, ⟨66, _⟩ => ⟨S2048x64, .f32⟩
  | .hbm, ⟨67, _⟩ => ⟨S1x2048x1x64, .f32⟩
  | .hbm, ⟨68, _⟩ => ⟨S1x2048x2x64, .f32⟩
  | .hbm, ⟨69, _⟩ => ⟨S2048x128, .f32⟩
  | .hbm, ⟨70, _⟩ => ⟨S1024x2816, .bf16⟩
  | .hbm, ⟨71, _⟩ => ⟨S8x2048x128, .bf16⟩
  | .hbm, ⟨72, _⟩ => ⟨S8x2048x128, .bf16⟩
  | .hbm, ⟨73, _⟩ => ⟨S8x2048x512, .bf16⟩
  | .hbm, ⟨74, _⟩ => ⟨S8x2048x512, .bf16⟩
  | .hbm, ⟨75, _⟩ => ⟨S8x2048x512, .bf16⟩
  | .hbm, ⟨76, _⟩ => ⟨S8x2048x512, .bf16⟩
  | .hbm, ⟨77, _⟩ => ⟨S8x2048x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2816, .bf16⟩
  | .local _ .vmem, ⟨7, _⟩ => ⟨S128x128, .bf16⟩
  | .local _ .vmem, ⟨8, _⟩ => ⟨S1x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x128, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x128, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .f32⟩
  | .local _ .vmem, ⟨27, _⟩ => ⟨S1x512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39_0 : Ref sig .tc := ⟨.hbm, 71, rfl⟩
abbrev main_v39_1 : Ref sig .tc := ⟨.hbm, 72, rfl⟩
abbrev main_v39_2 : Ref sig .tc := ⟨.hbm, 73, rfl⟩
abbrev main_v39_3 : Ref sig .tc := ⟨.hbm, 74, rfl⟩
abbrev main_v39_4 : Ref sig .tc := ⟨.hbm, 75, rfl⟩
abbrev main_v39_5 : Ref sig .tc := ⟨.hbm, 76, rfl⟩
abbrev main_v39_6 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ProjRefIdeal.lean ====
abbrev S8x2048x1024 : Shape := ⟨3, ![8, 2048, 1024]⟩
abbrev S8x1x1024 : Shape := ⟨3, ![8, 1, 1024]⟩
abbrev S1024 : Shape := ⟨1, ![1024]⟩
abbrev S1024x2816 : Shape := ⟨2, ![1024, 2816]⟩
abbrev S64 : Shape := ⟨1, ![64]⟩
abbrev S2048x32 : Shape := ⟨2, ![2048, 32]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S8x2048x512 : Shape := ⟨3, ![8, 2048, 512]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x8x32 : Shape := ⟨4, ![8, 2048, 8, 32]⟩
abbrev S1x2048x1x32 : Shape := ⟨4, ![1, 2048, 1, 32]⟩
abbrev S8x2048x8x32x1 : Shape := ⟨5, ![8, 2048, 8, 32, 1]⟩
abbrev S8x2048x8x32x2 : Shape := ⟨5, ![8, 2048, 8, 32, 2]⟩
abbrev S8x2048x128 : Shape := ⟨3, ![8, 2048, 128]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S8x2048x2x32 : Shape := ⟨4, ![8, 2048, 2, 32]⟩
abbrev S8x2048x2x32x1 : Shape := ⟨5, ![8, 2048, 2, 32, 1]⟩
abbrev S8x2048x2x32x2 : Shape := ⟨5, ![8, 2048, 2, 32, 2]⟩

abbrev nBuf : Space → Nat
  | .hbm => 132
  | .vmem => 0
  | .smem => 0
  | _ => 0

abbrev hbmTy0_0 (i : Nat) : BufTy := match i % 128 with
  | 0 => ⟨S8x2048x1024, .f32⟩
  | 1 => ⟨S8x1x1024, .f32⟩
  | 2 => ⟨S8x1x1024, .f32⟩
  | 3 => ⟨S1024, .f32⟩
  | 4 => ⟨S1024x2816, .f32⟩
  | 5 => ⟨S64, .f32⟩
  | 6 => ⟨S64, .f32⟩
  | 7 => ⟨S2048x32, .f32⟩
  | 8 => ⟨S2048x32, .f32⟩
  | 9 => ⟨S8x2048x1024, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x1024, .f32⟩
  | 21 => ⟨S8x2048x1024, .f32⟩
  | 22 => ⟨S1x1x1024, .f32⟩
  | 23 => ⟨S8x2048x1024, .f32⟩
  | 24 => ⟨S8x2048x1024, .f32⟩
  | 25 => ⟨S_, .f32⟩
  | 26 => ⟨S8x1x1024, .f32⟩
  | 27 => ⟨S8x1x1024, .f32⟩
  | 28 => ⟨S8x2048x1024, .f32⟩
  | 29 => ⟨S8x2048x1024, .f32⟩
  | 30 => ⟨S8x2048x1024, .f32⟩
  | 31 => ⟨S8x2048x1024, .f32⟩
  | 32 => ⟨S8x2048x2816, .f32⟩
  | 33 => ⟨S8x2048x512, .f32⟩
  | 34 => ⟨S8x2048x8x64, .f32⟩
  | 35 => ⟨S8x2048x8x64, .f32⟩
  | 36 => ⟨S_, .f32⟩
  | 37 => ⟨S8x2048x8, .f32⟩
  | 38 => ⟨S8x2048x8x1, .f32⟩
  | 39 => ⟨S_, .f32⟩
  | 40 => ⟨S8x2048x8x1, .f32⟩
  | 41 => ⟨S8x2048x8x1, .f32⟩
  | 42 => ⟨S_, .f32⟩
  | 43 => ⟨S8x2048x8x1, .f32⟩
  | 44 => ⟨S8x2048x8x1, .f32⟩
  | 45 => ⟨S8x2048x8x1, .f32⟩
  | 46 => ⟨S8x2048x8x64, .f32⟩
  | 47 => ⟨S8x2048x8x64, .f32⟩
  | 48 => ⟨S1x1x1x64, .f32⟩
  | 49 => ⟨S8x2048x8x64, .f32⟩
  | 50 => ⟨S8x2048x8x64, .f32⟩
  | 51 => ⟨S8x2048x8x32, .f32⟩
  | 52 => ⟨S8x2048x8x32, .f32⟩
  | 53 => ⟨S1x2048x1x32, .f32⟩
  | 54 => ⟨S1x2048x1x32, .f32⟩
  | 55 => ⟨S8x2048x8x32, .f32⟩
  | 56 => ⟨S8x2048x8x32, .f32⟩
  | 57 => ⟨S8x2048x8x32, .f32⟩
  | 58 => ⟨S8x2048x8x32, .f32⟩
  | 59 => ⟨S8x2048x8x32, .f32⟩
  | 60 => ⟨S8x2048x8x32, .f32⟩
  | 61 => ⟨S8x2048x8x32, .f32⟩
  | 62 => ⟨S8x2048x8x32, .f32⟩
  | 63 => ⟨S8x2048x8x32, .f32⟩
  | 64 => ⟨S8x2048x8x32, .f32⟩
  | 65 => ⟨S8x2048x8x32x1, .f32⟩
  | 66 => ⟨S8x2048x8x32x1, .f32⟩
  | 67 => ⟨S8x2048x8x32x2, .f32⟩
  | 68 => ⟨S8x2048x8x64, .f32⟩
  | 69 => ⟨S_, .f32⟩
  | 70 => ⟨S8x2048x8x64, .f32⟩
  | 71 => ⟨S8x2048x8x64, .f32⟩
  | 72 => ⟨S8x2048x128, .f32⟩
  | 73 => ⟨S8x2048x2x64, .f32⟩
  | 74 => ⟨S8x2048x2x64, .f32⟩
  | 75 => ⟨S_, .f32⟩
  | 76 => ⟨S8x2048x2, .f32⟩
  | 77 => ⟨S8x2048x2x1, .f32⟩
  | 78 => ⟨S_, .f32⟩
  | 79 => ⟨S8x2048x2x1, .f32⟩
  | 80 => ⟨S8x2048x2x1, .f32⟩
  | 81 => ⟨S_, .f32⟩
  | 82 => ⟨S8x2048x2x1, .f32⟩
  | 83 => ⟨S8x2048x2x1, .f32⟩
  | 84 => ⟨S8x2048x2x1, .f32⟩
  | 85 => ⟨S8x2048x2x64, .f32⟩
  | 86 => ⟨S8x2048x2x64, .f32⟩
  | 87 => ⟨S1x1x1x64, .f32⟩
  | 88 => ⟨S8x2048x2x64, .f32⟩
  | 89 => ⟨S8x2048x2x64, .f32⟩
  | 90 => ⟨S8x2048x2x32, .f32⟩
  | 91 => ⟨S8x2048x2x32, .f32⟩
  | 92 => ⟨S1x2048x1x32, .f32⟩
  | 93 => ⟨S1x2048x1x32, .f32⟩
  | 94 => ⟨S8x2048x2x32, .f32⟩
  | 95 => ⟨S8x2048x2x32, .f32⟩
  | 96 => ⟨S8x2048x2x32, .f32⟩
  | 97 => ⟨S8x2048x2x32, .f32⟩
  | 98 => ⟨S8x2048x2x32, .f32⟩
  | 99 => ⟨S8x2048x2x32, .f32⟩
  | 100 => ⟨S8x2048x2x32, .f32⟩
  | 101 => ⟨S8x2048x2x32, .f32⟩
  | 102 => ⟨S8x2048x2x32, .f32⟩
  | 103 => ⟨S8x2048x2x32, .f32⟩
  | 104 => ⟨S8x2048x2x32x1, .f32⟩
  | 105 => ⟨S8x2048x2x32x1, .f32⟩
  | 106 => ⟨S8x2048x2x32x2, .f32⟩
  | 107 => ⟨S8x2048x2x64, .f32⟩
  | 108 => ⟨S8x2048x128, .f32⟩
  | 109 => ⟨S8x2048x2x64, .f32⟩
  | 110 => ⟨S8x2048x512, .f32⟩
  | 111 => ⟨S8x2048x8x64, .f32⟩
  | 112 => ⟨S8x2048x512, .f32⟩
  | 113 => ⟨S8x2048x8x64, .f32⟩
  | 114 => ⟨S_, .f32⟩
  | 115 => ⟨S8x2048x8x64, .f32⟩
  | 116 => ⟨S8x2048x8x64, .f32⟩
  | 117 => ⟨S8x2048x512, .f32⟩
  | 118 => ⟨S8x2048x8x64, .f32⟩
  | 119 => ⟨S8x2048x128, .f32⟩
  | 120 => ⟨S8x2048x128, .bf16⟩
  | 121 => ⟨S8x2048x128, .f32⟩
  | 122 => ⟨S8x2048x128, .bf16⟩
  | 123 => ⟨S8x2048x512, .f32⟩
  | 124 => ⟨S8x2048x512, .bf16⟩
  | 125 => ⟨S8x2048x512, .f32⟩
  | 126 => ⟨S8x2048x512, .bf16⟩
  | 127 => ⟨S8x2048x512, .f32⟩
  | _ => ⟨S8x2048x1024, .f32⟩

abbrev hbmTy0_1 (i : Nat) : BufTy := match i % 128 with
  | 0 => ⟨S8x2048x512, .bf16⟩
  | 1 => ⟨S8x2048x512, .f32⟩
  | 2 => ⟨S8x2048x512, .bf16⟩
  | 3 => ⟨S8x2048x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_10 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩

abbrev nD : Nat := 1
abbrev τ : Topo := Topo.v7x

variable {F : FTy → Type} [FloatOps F]
-- ==== Out.lean ====
abbrev S8x2048x512 : Shape := ⟨3, ![8, 2048, 512]⟩
abbrev S8x2048x1024 : Shape := ⟨3, ![8, 2048, 1024]⟩
abbrev S1024x1024 : Shape := ⟨2, ![1024, 1024]⟩
abbrev S8x1x1024 : Shape := ⟨3, ![8, 1, 1024]⟩
abbrev S1024 : Shape := ⟨1, ![1024]⟩
abbrev S1024x256 : Shape := ⟨2, ![1024, 256]⟩
abbrev S256x1024 : Shape := ⟨2, ![256, 1024]⟩
abbrev S1x1x1024 : Shape := ⟨3, ![1, 1, 1024]⟩
abbrev S_ : Shape := ⟨0, ![]⟩
abbrev S1024x512 : Shape := ⟨2, ![1024, 512]⟩
abbrev S16384x1x1024 : Shape := ⟨3, ![16384, 1, 1024]⟩
abbrev S256x16384 : Shape := ⟨2, ![256, 16384]⟩
abbrev S1x512x512 : Shape := ⟨3, ![1, 512, 512]⟩
abbrev S1x512x1024 : Shape := ⟨3, ![1, 512, 1024]⟩
abbrev S512x1x1024 : Shape := ⟨3, ![512, 1, 1024]⟩
abbrev S256x512 : Shape := ⟨2, ![256, 512]⟩
abbrev S512x512 : Shape := ⟨2, ![512, 512]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x256 : Shape := ⟨2, ![512, 256]⟩

abbrev nBuf : Space → Nat
  | .hbm => 31
  | .vmem => 25
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .f32⟩
  | .hbm, ⟨3, _⟩ => ⟨S1024x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1024, .f32⟩
  | .hbm, ⟨8, _⟩ => ⟨S8x1x1024, .f32⟩
  | .hbm, ⟨9, _⟩ => ⟨S1024x256, .f32⟩
  | .hbm, ⟨10, _⟩ => ⟨S1024x256, .f32⟩
  | .hbm, ⟨11, _⟩ => ⟨S256x1024, .f32⟩
  | .hbm, ⟨12, _⟩ => ⟨S1024x256, .f32⟩
  | .hbm, ⟨13, _⟩ => ⟨S1x1x1024, .f32⟩
  | .hbm, ⟨14, _⟩ => ⟨S_, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S1024x512, .f32⟩
  | .hbm, ⟨20, _⟩ => ⟨S1024x512, .bf16⟩
  | .hbm, ⟨21, _⟩ => ⟨S256x1024, .bf16⟩
  | .hbm, ⟨22, _⟩ => ⟨S256x1024, .f32⟩
  | .hbm, ⟨23, _⟩ => ⟨S256x1024, .bf16⟩
  | .hbm, ⟨24, _⟩ => ⟨S256x1024, .f32⟩
  | .hbm, ⟨25, _⟩ => ⟨S256x1024, .f32⟩
  | .hbm, ⟨26, _⟩ => ⟨S256x1024, .bf16⟩
  | .hbm, ⟨27, _⟩ => ⟨S1024x1024, .bf16⟩
  | .hbm, ⟨28, _⟩ => ⟨S8x2048x1024, .f32⟩
  | .hbm, ⟨29, _⟩ => ⟨S16384x1x1024, .f32⟩
  | .hbm, ⟨30, _⟩ => ⟨S256x16384, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1024x512, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S1x512x1024, .f32⟩
  | .local _ .vmem, ⟨20, _⟩ => ⟨S1x512x1024, .f32⟩
  | .local _ .vmem, ⟨21, _⟩ => ⟨S512x1x1024, .f32⟩
  | .local _ .vmem, ⟨22, _⟩ => ⟨S512x1x1024, .f32⟩
  | .local _ .vmem, ⟨23, _⟩ => ⟨S256x512, .f32⟩
  | .local _ .vmem, ⟨24, _⟩ => ⟨S256x512, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== OutRefIdeal.lean ====
abbrev S8x2048x512 : Shape := ⟨3, ![8, 2048, 512]⟩
abbrev S8x2048x1024 : Shape := ⟨3, ![8, 2048, 1024]⟩
abbrev S1024x1024 : Shape := ⟨2, ![1024, 1024]⟩
abbrev S8x1x1024 : Shape := ⟨3, ![8, 1, 1024]⟩
abbrev S1024 : Shape := ⟨1, ![1024]⟩
abbrev S1024x256 : Shape := ⟨2, ![1024, 256]⟩
abbrev S256x1024 : Shape := ⟨2, ![256, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x256 : Shape := ⟨3, ![8, 2048, 256]⟩
abbrev S16384x1024 : Shape := ⟨2, ![16384, 1024]⟩
abbrev S16384x1x1024 : Shape := ⟨3, ![16384, 1, 1024]⟩
abbrev S16384x256 : Shape := ⟨2, ![16384, 256]⟩
abbrev S256x16384 : Shape := ⟨2, ![256, 16384]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .f32⟩
  | .hbm, ⟨3, _⟩ => ⟨S1024x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1024, .f32⟩
  | .hbm, ⟨8, _⟩ => ⟨S8x1x1024, .f32⟩
  | .hbm, ⟨9, _⟩ => ⟨S1024x256, .f32⟩
  | .hbm, ⟨10, _⟩ => ⟨S1024x256, .f32⟩
  | .hbm, ⟨11, _⟩ => ⟨S256x1024, .f32⟩
  | .hbm, ⟨12, _⟩ => ⟨S1024x256, .f32⟩
  | .hbm, ⟨13, _⟩ => ⟨S8x2048x512, .f32⟩
  | .hbm, ⟨14, _⟩ => ⟨S8x2048x512, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x256, .f32⟩
  | .hbm, ⟨44, _⟩ => ⟨S8x2048x256, .f32⟩
  | .hbm, ⟨45, _⟩ => ⟨S8x2048x256, .f32⟩
  | .hbm, ⟨46, _⟩ => ⟨S_, .f32⟩
  | .hbm, ⟨47, _⟩ => ⟨S8x2048x256, .f32⟩
  | .hbm, ⟨48, _⟩ => ⟨S8x2048x256, .f32⟩
  | .hbm, ⟨49, _⟩ => ⟨S_, .f32⟩
  | .hbm, ⟨50, _⟩ => ⟨S8x2048x256, .f32⟩
  | .hbm, ⟨51, _⟩ => ⟨S8x2048x256, .f32⟩
  | .hbm, ⟨52, _⟩ => ⟨S8x2048x256, .f32⟩
  | .hbm, ⟨53, _⟩ => ⟨S8x2048x256, .f32⟩
  | .hbm, ⟨54, _⟩ => ⟨S8x2048x256, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S16384x1024, .f32⟩
  | .hbm, ⟨60, _⟩ => ⟨S16384x1x1024, .f32⟩
  | .hbm, ⟨61, _⟩ => ⟨S16384x256, .f32⟩
  | .hbm, ⟨62, _⟩ => ⟨S256x16384, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]
-- ==== Exp.lean ====
abbrev S163840x1x1024 : Shape := ⟨3, ![163840, 1, 1024]⟩
abbrev S256x1024x256 : Shape := ⟨3, ![256, 1024, 256]⟩
abbrev S256x256x1024 : Shape := ⟨3, ![256, 256, 1024]⟩
abbrev S1280 : Shape := ⟨1, ![1280]⟩
abbrev S1 : Shape := ⟨1, ![1]⟩
abbrev S128x1x1024 : Shape := ⟨3, ![128, 1, 1024]⟩
abbrev S1x1024x256 : Shape := ⟨3, ![1, 1024, 256]⟩
abbrev S1x256x1024 : Shape := ⟨3, ![1, 256, 1024]⟩
abbrev S128x1024 : Shape := ⟨2, ![128, 1024]⟩
abbrev S1024x256 : Shape := ⟨2, ![1024, 256]⟩
abbrev S128x256 : Shape := ⟨2, ![128, 256]⟩
abbrev S256x1024 : Shape := ⟨2, ![256, 1024]⟩

abbrev nBuf : Space → Nat
  | .hbm => 5
  | .vmem => 10
  | .smem => 2
  | _ => 0

abbrev bufTy : (tb : Table) → Fin (tcTables nBuf tb) → BufTy
  | .hbm, ⟨0, _⟩ => ⟨S163840x1x1024, .f32⟩
  | .hbm, ⟨1, _⟩ => ⟨S256x1024x256, .f32⟩
  | .hbm, ⟨2, _⟩ => ⟨S256x1024x256, .f32⟩
  | .hbm, ⟨3, _⟩ => ⟨S256x256x1024, .f32⟩
  | .hbm, ⟨4, _⟩ => ⟨S163840x1x1024, .f32⟩
  | .local _ .vmem, ⟨0, _⟩ => ⟨S128x1x1024, .f32⟩
  | .local _ .vmem, ⟨1, _⟩ => ⟨S128x1x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S128x1x1024, .f32⟩
  | .local _ .vmem, ⟨9, _⟩ => ⟨S128x1x1024, .f32⟩
  | .local _ .smem, ⟨0, _⟩ => ⟨S1280, .i32⟩
  | .local _ .smem, ⟨1, _⟩ => ⟨S1, .i32⟩
  | _, _ => ⟨S163840x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![1280], ![false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S1280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S1280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S1280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S128x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpRefIdeal.lean ====
abbrev S163840x1x1024 : Shape := ⟨3, ![163840, 1, 1024]⟩
abbrev S256x1024x256 : Shape := ⟨3, ![256, 1024, 256]⟩
abbrev S256x256x1024 : Shape := ⟨3, ![256, 256, 1024]⟩
abbrev S1280 : Shape := ⟨1, ![1280]⟩
abbrev S1 : Shape := ⟨1, ![1]⟩
abbrev S163840x1024 : Shape := ⟨2, ![163840, 1024]⟩
abbrev S1280x128 : Shape := ⟨2, ![1280, 128]⟩
abbrev S163840 : Shape := ⟨1, ![163840]⟩
abbrev S_ : Shape := ⟨0, ![]⟩
abbrev S163840x1 : Shape := ⟨2, ![163840, 1]⟩
abbrev S163840x1024x256 : Shape := ⟨3, ![163840, 1024, 256]⟩
abbrev S163840x256 : Shape := ⟨2, ![163840, 256]⟩
abbrev S163840x256x1024 : Shape := ⟨3, ![163840, 256, 1024]⟩

abbrev nBuf : Space → Nat
  | .hbm => 50
  | .vmem => 0
  | .smem => 0
  | _ => 0

abbrev bufTy : (tb : Table) → Fin (tcTables nBuf tb) → BufTy
  | .hbm, ⟨0, _⟩ => ⟨S163840x1x1024, .f32⟩
  | .hbm, ⟨1, _⟩ => ⟨S256x1024x256, .f32⟩
  | .hbm, ⟨2, _⟩ => ⟨S256x1024x256, .f32⟩
  | .hbm, ⟨3, _⟩ => ⟨S256x256x1024, .f32⟩
  | .hbm, ⟨4, _⟩ => ⟨S1280, .i32⟩
  | .hbm, ⟨5, _⟩ => ⟨S1, .i32⟩
  | .hbm, ⟨6, _⟩ => ⟨S163840x1024, .f32⟩
  | .hbm, ⟨7, _⟩ => ⟨S1280x128, .i32⟩
  | .hbm, ⟨8, _⟩ => ⟨S163840, .i32⟩
  | .hbm, ⟨9, _⟩ => ⟨S_, .i32⟩
  | .hbm, ⟨10, _⟩ => ⟨S163840, .i32⟩
  | .hbm, ⟨11, _⟩ => ⟨S163840, .i1⟩
  | .hbm, ⟨12, _⟩ => ⟨S_, .i32⟩
  | .hbm, ⟨13, _⟩ => ⟨S163840, .i32⟩
  | .hbm, ⟨14, _⟩ => ⟨S163840, .i32⟩
  | .hbm, ⟨15, _⟩ => ⟨S163840, .i32⟩
  | .hbm, ⟨16, _⟩ => ⟨S163840x1, .i32⟩
  | .hbm, ⟨17, _⟩ => ⟨S163840x1024x256, .f32⟩
  | .hbm, ⟨18, _⟩ => ⟨S163840x256, .f32⟩
  | .hbm, ⟨19, _⟩ => ⟨S_, .i32⟩
  | .hbm, ⟨20, _⟩ => ⟨S163840, .i32⟩
  | .hbm, ⟨21, _⟩ => ⟨S163840, .i1⟩
  | .hbm, ⟨22, _⟩ => ⟨S_, .i32⟩
  | .hbm, ⟨23, _⟩ => ⟨S163840, .i32⟩
  | .hbm, ⟨24, _⟩ => ⟨S163840, .i32⟩
  | .hbm, ⟨25, _⟩ => ⟨S163840, .i32⟩
  | .hbm, ⟨26, _⟩ => ⟨S163840x1, .i32⟩
  | .hbm, ⟨27, _⟩ => ⟨S163840x1024x256, .f32⟩
  | .hbm, ⟨28, _⟩ => ⟨S163840x256, .f32⟩
  | .hbm, ⟨29, _⟩ => ⟨S163840x256, .f32⟩
  | .hbm, ⟨30, _⟩ => ⟨S163840x256, .f32⟩
  | .hbm, ⟨31, _⟩ => ⟨S_, .f32⟩
  | .hbm, ⟨32, _⟩ => ⟨S163840x256, .f32⟩
  | .hbm, ⟨33, _⟩ => ⟨S163840x256, .f32⟩
  | .hbm, ⟨34, _⟩ => ⟨S_, .f32⟩
  | .hbm, ⟨35, _⟩ => ⟨S163840x256, .f32⟩
  | .hbm, ⟨36, _⟩ => ⟨S163840x256, .f32⟩
  | .hbm, ⟨37, _⟩ => ⟨S163840x256, .f32⟩
  | .hbm, ⟨38, _⟩ => ⟨S163840x256, .f32⟩
  | .hbm, ⟨39, _⟩ => ⟨S_, .i32⟩
  | .hbm, ⟨40, _⟩ => ⟨S163840, .i32⟩
  | .hbm, ⟨41, _⟩ => ⟨S163840, .i1⟩
  | .hbm, ⟨42, _⟩ => ⟨S_, .i32⟩
  | .hbm, ⟨43, _⟩ => ⟨S163840, .i32⟩
  | .hbm, ⟨44, _⟩ => ⟨S163840, .i32⟩
  | .hbm, ⟨45, _⟩ => ⟨S163840, .i32⟩
  | .hbm, ⟨46, _⟩ => ⟨S163840x1, .i32⟩
  | .hbm, ⟨47, _⟩ => ⟨S163840x256x1024, .f32⟩
  | .hbm, ⟨48, _⟩ => ⟨S163840x1024, .f32⟩
  | .hbm, ⟨49, _⟩ => ⟨S163840x1x1024, .f32⟩
  | _, _ => ⟨S163840x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Ctx.lean ====
abbrev S8x256x1024 : Shape := ⟨3, ![8, 256, 1024]⟩
abbrev S1x1x1024 : Shape := ⟨3, ![1, 1, 1024]⟩
abbrev S1024 : Shape := ⟨1, ![1024]⟩
abbrev S1024x2816 : Shape := ⟨2, ![1024, 2816]⟩
abbrev S64 : Shape := ⟨1, ![64]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x64 : Shape := ⟨2, ![1, 64]⟩
abbrev S2x64 : Shape := ⟨2, ![2, 64]⟩
abbrev S1024x1280 : Shape := ⟨2, ![1024, 1280]⟩
abbrev S8x256x128 : Shape := ⟨3, ![8, 256, 128]⟩
abbrev S8x256x512 : Shape := ⟨3, ![8, 256, 512]⟩
abbrev S1x256x1024 : Shape := ⟨3, ![1, 256, 1024]⟩
abbrev S1x256x128 : Shape := ⟨3, ![1, 256, 128]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x1280 : Shape := ⟨2, ![256, 1280]⟩
abbrev S256x128 : Shape := ⟨2, ![256, 128]⟩
abbrev S256x512 : Shape := ⟨2, ![256, 512]⟩

abbrev nBuf : Space → Nat
  | .hbm => 51
  | .vmem => 15
  | .smem => 0
  | _ => 0

abbrev bufTy : (tb : Table) → Fin (tcTables nBuf tb) → BufTy
  | .hbm, ⟨0, _⟩ => ⟨S8x256x1024, .f32⟩
  | .hbm, ⟨1, _⟩ => ⟨S1x1x1024, .f32⟩
  | .hbm, ⟨2, _⟩ => ⟨S1x1x1024, .f32⟩
  | .hbm, ⟨3, _⟩ => ⟨S1024, .f32⟩
  | .hbm, ⟨4, _⟩ => ⟨S1024x2816, .f32⟩
  | .hbm, ⟨5, _⟩ => ⟨S64, .f32⟩
  | .hbm, ⟨6, _⟩ => ⟨S1x1x1024, .f32⟩
  | .hbm, ⟨7, _⟩ => ⟨S_, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S128, .i32⟩
  | .hbm, ⟨12, _⟩ => ⟨S_, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S128, .i1⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S1x128, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S_, .f32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S128x128, .bf16⟩
  | .hbm, ⟨41, _⟩ => ⟨S1x64, .f32⟩
  | .hbm, ⟨42, _⟩ => ⟨S2x64, .f32⟩
  | .hbm, ⟨43, _⟩ => ⟨S128, .f32⟩
  | .hbm, ⟨44, _⟩ => ⟨S1x128, .f32⟩
  | .hbm, ⟨45, _⟩ => ⟨S1024x2816, .bf16⟩
  | .hbm, ⟨46, _⟩ => ⟨S1024x1280, .bf16⟩
  | .hbm, ⟨47, _⟩ => ⟨S8x256x128, .bf16⟩
  | .hbm, ⟨48, _⟩ => ⟨S8x256x128, .bf16⟩
  | .hbm, ⟨49, _⟩ => ⟨S8x256x512, .bf16⟩
  | .hbm, ⟨50, _⟩ => ⟨S8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x1280, .bf16⟩
  | .local _ .vmem, ⟨5, _⟩ => ⟨S128x128, .bf16⟩
  | .local _ .vmem, ⟨6, _⟩ => ⟨S1x128, .f32⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_cst_1 : Ref sig .tc := ⟨.hbm, 36, rfl⟩
abbrev main_call1_v0 : Ref sig .tc := ⟨.hbm, 37, rfl⟩
abbrev main_call1_v1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19_0 : Ref sig .tc := ⟨.hbm, 47, rfl⟩
abbrev main_v19_1 : Ref sig .tc := ⟨.hbm, 48, rfl⟩
abbrev main_v19_2 : Ref sig .tc := ⟨.hbm, 49, rfl⟩
abbrev main_v19_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== CtxRefIdeal.lean ====
abbrev S8x256x1024 : Shape := ⟨3, ![8, 256, 1024]⟩
abbrev S1x1x1024 : Shape := ⟨3, ![1, 1, 1024]⟩
abbrev S1024 : Shape := ⟨1, ![1024]⟩
abbrev S1024x2816 : Shape := ⟨2, ![1024, 2816]⟩
abbrev S64 : Shape := ⟨1, ![64]⟩
abbrev S_ : Shape := ⟨0, ![]⟩
abbrev S8x256 : Shape := ⟨2, ![8, 256]⟩
abbrev S8x256x1 : Shape := ⟨3, ![8, 256, 1]⟩
abbrev S1024x1280 : Shape := ⟨2, ![1024, 1280]⟩
abbrev S8x256x1280 : Shape := ⟨3, ![8, 256, 1280]⟩
abbrev S8x256x128 : Shape := ⟨3, ![8, 256, 128]⟩
abbrev S8x256x2x64 : Shape := ⟨4, ![8, 256, 2, 64]⟩
abbrev S8x256x2 : Shape := ⟨3, ![8, 256, 2]⟩
abbrev S8x256x2x1 : Shape := ⟨4, ![8, 256, 2, 1]⟩
abbrev S1x1x1x64 : Shape := ⟨4, ![1, 1, 1, 64]⟩
abbrev S8x256x512 : Shape := ⟨3, ![8, 256, 512]⟩
abbrev S8x256x8x64 : Shape := ⟨4, ![8, 256, 8, 64]⟩

abbrev nBuf : Space → Nat
  | .hbm => 66
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1x1024, .f32⟩
  | .hbm, ⟨2, _⟩ => ⟨S1x1x1024, .f32⟩
  | .hbm, ⟨3, _⟩ => ⟨S1024, .f32⟩
  | .hbm, ⟨4, _⟩ => ⟨S1024x2816, .f32⟩
  | .hbm, ⟨5, _⟩ => ⟨S64, .f32⟩
  | .hbm, ⟨6, _⟩ => ⟨S8x256x1024, .f32⟩
  | .hbm, ⟨7, _⟩ => ⟨S_, .f32⟩
  | .hbm, ⟨8, _⟩ => ⟨S8x256, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S8x256x1, .f32⟩
  | .hbm, ⟨17, _⟩ => ⟨S8x256x1024, .f32⟩
  | .hbm, ⟨18, _⟩ => ⟨S8x256x1024, .f32⟩
  | .hbm, ⟨19, _⟩ => ⟨S1x1x1024, .f32⟩
  | .hbm, ⟨20, _⟩ => ⟨S8x256x1024, .f32⟩
  | .hbm, ⟨21, _⟩ => ⟨S8x256x1024, .f32⟩
  | .hbm, ⟨22, _⟩ => ⟨S_, .f32⟩
  | .hbm, ⟨23, _⟩ => ⟨S1x1x1024, .f32⟩
  | .hbm, ⟨24, _⟩ => ⟨S1x1x1024, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S8x256x1024, .f32⟩
  | .hbm, ⟨29, _⟩ => ⟨S1024x1280, .f32⟩
  | .hbm, ⟨30, _⟩ => ⟨S8x256x1280, .f32⟩
  | .hbm, ⟨31, _⟩ => ⟨S8x256x128, .f32⟩
  | .hbm, ⟨32, _⟩ => ⟨S8x256x2x64, .f32⟩
  | .hbm, ⟨33, _⟩ => ⟨S8x256x2x64, .f32⟩
  | .hbm, ⟨34, _⟩ => ⟨S_, .f32⟩
  | .hbm, ⟨35, _⟩ => ⟨S8x256x2, .f32⟩
  | .hbm, ⟨36, _⟩ => ⟨S8x256x2x1, .f32⟩
  | .hbm, ⟨37, _⟩ => ⟨S_, .f32⟩
  | .hbm, ⟨38, _⟩ => ⟨S8x256x2x1, .f32⟩
  | .hbm, ⟨39, _⟩ => ⟨S8x256x2x1, .f32⟩
  | .hbm, ⟨40, _⟩ => ⟨S_, .f32⟩
  | .hbm, ⟨41, _⟩ => ⟨S8x256x2x1, .f32⟩
  | .hbm, ⟨42, _⟩ => ⟨S8x256x2x1, .f32⟩
  | .hbm, ⟨43, _⟩ => ⟨S8x256x2x1, .f32⟩
  | .hbm, ⟨44, _⟩ => ⟨S8x256x2x64, .f32⟩
  | .hbm, ⟨45, _⟩ => ⟨S8x256x2x64, .f32⟩
  | .hbm, ⟨46, _⟩ => ⟨S1x1x1x64, .f32⟩
  | .hbm, ⟨47, _⟩ => ⟨S8x256x2x64, .f32⟩
  | .hbm, ⟨48, _⟩ => ⟨S8x256x2x64, .f32⟩
  | .hbm, ⟨49, _⟩ => ⟨S8x256x128, .f32⟩
  | .hbm, ⟨50, _⟩ => ⟨S8x256x2x64, .f32⟩
  | .hbm, ⟨51, _⟩ => ⟨S8x256x512, .f32⟩
  | .hbm, ⟨52, _⟩ => ⟨S8x256x8x64, .f32⟩
  | .hbm, ⟨53, _⟩ => ⟨S_, .f32⟩
  | .hbm, ⟨54, _⟩ => ⟨S8x256x8x64, .f32⟩
  | .hbm, ⟨55, _⟩ => ⟨S8x256x8x64, .f32⟩
  | .hbm, ⟨56, _⟩ => ⟨S8x256x512, .f32⟩
  | .hbm, ⟨57, _⟩ => ⟨S8x256x8x64, .f32⟩
  | .hbm, ⟨58, _⟩ => ⟨S8x256x128, .f32⟩
  | .hbm, ⟨59, _⟩ => ⟨S8x256x128, .bf16⟩
  | .hbm, ⟨60, _⟩ => ⟨S8x256x128, .f32⟩
  | .hbm, ⟨61, _⟩ => ⟨S8x256x128, .bf16⟩
  | .hbm, ⟨62, _⟩ => ⟨S8x256x512, .f32⟩
  | .hbm, ⟨63, _⟩ => ⟨S8x256x512, .bf16⟩
  | .hbm, ⟨64, _⟩ => ⟨S8x256x512, .f32⟩
  | .hbm, ⟨65, _⟩ => ⟨S8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Mod.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x6144 : Shape := ⟨2, ![1, 6144]⟩
abbrev S16x6144 : Shape := ⟨2, ![16, 6144]⟩
abbrev S1024x1536 : Shape := ⟨2, ![1024, 1536]⟩
abbrev S1x1536 : Shape := ⟨2, ![1, 1536]⟩
abbrev S16x1536 : Shape := ⟨2, ![16, 1536]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S1x6144, .f32⟩
  | .hbm, ⟨9, _⟩ => ⟨S16x6144, .f32⟩
  | .local _ .vmem, ⟨0, _⟩ => ⟨S16x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S16x1536, .f32⟩
  | .local _ .vmem, ⟨6, _⟩ => ⟨S16x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩
abbrev S9x6144 : Shape := ⟨2, ![9, 6144]⟩
abbrev S16x6144 : Shape := ⟨2, ![16, 6144]⟩

abbrev nBuf : Space → Nat
  | .hbm => 33
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x6144, .f32⟩
  | .hbm, ⟨14, _⟩ => ⟨S1x6144, .f32⟩
  | .hbm, ⟨15, _⟩ => ⟨S8x6144, .f32⟩
  | .hbm, ⟨16, _⟩ => ⟨S8x6144, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S6144, .f32⟩
  | .hbm, ⟨27, _⟩ => ⟨S6144, .f32⟩
  | .hbm, ⟨28, _⟩ => ⟨S1x6144, .f32⟩
  | .hbm, ⟨29, _⟩ => ⟨S9x6144, .f32⟩
  | .hbm, ⟨30, _⟩ => ⟨S_, .i32⟩
  | .hbm, ⟨31, _⟩ => ⟨S_, .f32⟩
  | .hbm, ⟨32, _⟩ => ⟨S16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_call2_v0 : Ref sig .tc := ⟨.hbm, 31, rfl⟩
abbrev main_v10 : Ref sig .tc := ⟨.hbm, 32, rfl⟩

abbrev nD : Nat := 1
abbrev τ : Topo := Topo.v7x

variable {F : FTy → Type} [FloatOps F]
-- ==== Route.lean ====
abbrev S256x16384 : Shape := ⟨2, ![256, 16384]⟩
abbrev S256x1 : Shape := ⟨2, ![256, 1]⟩
abbrev S512x512 : Shape := ⟨2, ![512, 512]⟩
abbrev S8x16384 : Shape := ⟨2, ![8, 16384]⟩
abbrev S256x512 : Shape := ⟨2, ![256, 512]⟩
abbrev S8x512 : Shape := ⟨2, ![8, 512]⟩
abbrev S8x1 : Shape := ⟨2, ![8, 1]⟩
abbrev S512 : Shape := ⟨1, ![512]⟩
abbrev S1x512 : Shape := ⟨2, ![1, 512]⟩

abbrev nBuf : Space → Nat
  | .hbm => 7
  | .vmem => 12
  | .smem => 0
  | _ => 0

abbrev bufTy : (tb : Table) → Fin (tcTables nBuf tb) → BufTy
  | .hbm, ⟨0, _⟩ => ⟨S256x16384, .f32⟩
  | .hbm, ⟨1, _⟩ => ⟨S256x1, .f32⟩
  | .hbm, ⟨2, _⟩ => ⟨S512x512, .bf16⟩
  | .hbm, ⟨3, _⟩ => ⟨S8x16384, .i32⟩
  | .hbm, ⟨4, _⟩ => ⟨S8x16384, .f32⟩
  | .hbm, ⟨5, _⟩ => ⟨S8x16384, .i32⟩
  | .hbm, ⟨6, _⟩ => ⟨S256x1, .f32⟩
  | .local _ .vmem, ⟨0, _⟩ => ⟨S256x512, .f32⟩
  | .local _ .vmem, ⟨1, _⟩ => ⟨S256x512, .f32⟩
  | .local _ .vmem, ⟨2, _⟩ => ⟨S256x1, .f32⟩
  | .local _ .vmem, ⟨3, _⟩ => ⟨S512x512, .bf16⟩
  | .local _ .vmem, ⟨4, _⟩ => ⟨S8x512, .i32⟩
  | .local _ .vmem, ⟨5, _⟩ => ⟨S8x512, .i32⟩
  | .local _ .vmem, ⟨6, _⟩ => ⟨S8x512, .f32⟩
  | .local _ .vmem, ⟨7, _⟩ => ⟨S8x512, .f32⟩
  | .local _ .vmem, ⟨8, _⟩ => ⟨S8x512, .i32⟩
  | .local _ .vmem, ⟨9, _⟩ => ⟨S8x512, .i32⟩
  | .local _ .vmem, ⟨10, _⟩ => ⟨S256x1, .f32⟩
  | .local _ .vmem, ⟨11, _⟩ => ⟨S256x1, .f32⟩
  | _, _ => ⟨S256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Comb.lean ====
abbrev S163840x1x1024 : Shape := ⟨3, ![163840, 1, 1024]⟩
abbrev S131072 : Shape := ⟨1, ![131072]⟩
abbrev S8x2048x1024 : Shape := ⟨3, ![8, 2048, 1024]⟩
abbrev S8x1x1024 : Shape := ⟨3, ![8, 1, 1024]⟩
abbrev S1024 : Shape := ⟨1, ![1024]⟩
abbrev S1x128x1024 : Shape := ⟨3, ![1, 128, 1024]⟩
abbrev S1x1x1024 : Shape := ⟨3, ![1, 1, 1024]⟩
abbrev S1024x1x1024 : Shape := ⟨3, ![1024, 1, 1024]⟩
abbrev S128x1x1024 : Shape := ⟨3, ![128, 1, 1024]⟩
abbrev S128x1024 : Shape := ⟨2, ![128, 1024]⟩
abbrev S1 : Shape := ⟨1, ![1]⟩
abbrev S_ : Shape := ⟨0, ![]⟩
abbrev S1x1024 : Shape := ⟨2, ![1, 1024]⟩

abbrev nBuf : Space → Nat
  | .hbm => 6
  | .vmem => 9
  | .smem => 4
  | _ => 0

abbrev bufTy : (tb : Table) → Fin (tcTables nBuf tb) → BufTy
  | .hbm, ⟨0, _⟩ => ⟨S163840x1x1024, .f32⟩
  | .hbm, ⟨1, _⟩ => ⟨S131072, .i32⟩
  | .hbm, ⟨2, _⟩ => ⟨S131072, .f32⟩
  | .hbm, ⟨3, _⟩ => ⟨S8x2048x1024, .f32⟩
  | .hbm, ⟨4, _⟩ => ⟨S8x1x1024, .f32⟩
  | .hbm, ⟨5, _⟩ => ⟨S8x2048x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x128x1024, .f32⟩
  | .local _ .vmem, ⟨5, _⟩ => ⟨S1x128x1024, .f32⟩
  | .local _ .vmem, ⟨6, _⟩ => ⟨S1024x1x1024, .f32⟩
  | .local _ .vmem, ⟨7, _⟩ => ⟨S128x1x1024, .f32⟩
  | .local _ .vmem, ⟨8, _⟩ => ⟨S128x1024, .f32⟩
  | .local _ .smem, ⟨0, _⟩ => ⟨S1024, .i32⟩
  | .local _ .smem, ⟨1, _⟩ => ⟨S1024, .i32⟩
  | .local _ .smem, ⟨2, _⟩ => ⟨S1024, .f32⟩
  | .local _ .smem, ⟨3, _⟩ => ⟨S1024, .f32⟩
  | _, _ => ⟨S163840x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c1024_i32 : BitVec 32 := 1024#32
  let v0 : BitVec 32 := Scalar.addi c0_i32 c1024_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg12 : BitVec 32 := Scf.iv c0_i32 c1_i32 k0_t1
  let v21 : Index := Scalar.indexCast arg12
  ![v21.toNat]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let c0_i32_24 : BitVec 32 := 0#32
  let c0_i32_25 : BitVec 32 := 0#32
  ![arg12.toNat, 0, 0]
def k0_off3 (v22 : BitVec 32) : Fin 3 → Nat :=
  let c0_i32_26 : BitVec 32 := 0#32
  let c0_i32_27 : BitVec 32 := 0#32
  ![v22.toNat, 0, 0]

def k0_chk1 (v22 : BitVec 32) : Prop :=
  (∀ a, (k0_off3 v22) a + S1x1x1024.size a ≤ S163840x1x1024.size a)
theorem k0_off3_inb : ∀ (v22 : BitVec 32) (k0_hw1 : k0_chk1 v22), ∀ a, (k0_off3 v22) a + S1x1x1024.size a ≤ S163840x1x1024.size a := fun v22 k0_hw1 => k0_hw1

@[reducible] def k0_t2_loop : Scf.Loop 32 :=
  let c0_i32_5 : BitVec 32 := 0#32
  let c128_i32 : BitVec 32 := 128#32
  let v4 : BitVec 32 := Scalar.addi c0_i32_5 c128_i32
  let c1_i32_6 : BitVec 32 := 1#32
  ⟨c0_i32_5, v4, c1_i32_6⟩
def k0_off4 (k0_t2 : Fin k0_t2_loop.trips) : Fin 1 → Nat :=
  let c0_i32_5 : BitVec 32 := 0#32
  let c1_i32_6 : BitVec 32 := 1#32
  let arg12 : BitVec 32 := Scf.iv c0_i32_5 c1_i32_6 k0_t2
  let c8_i32 : BitVec 32 := 8#32
  let v21 : BitVec 32 := Scalar.muli arg12 c8_i32
  let v22 : Index := Scalar.indexCast v21
  ![v22.toNat]
def k0_off5 (k0_t2 : Fin k0_t2_loop.trips) : Fin 3 → Nat :=
  let c0_i32_5 : BitVec 32 := 0#32
  let c1_i32_6 : BitVec 32 := 1#32
  let arg12 : BitVec 32 := Scf.iv c0_i32_5 c1_i32_6 k0_t2
  let c8_i32_23 : BitVec 32 := 8#32
  let v24 : BitVec 32 := Scalar.muli arg12 c8_i32_23
  let v25 : Index := Scalar.indexCast v24
  let c0_24 : Index := 0#32
  let c0_25 : Index := 0#32
  ![v25.toNat, 0, 0]
def k0_off6 (k0_t2 : Fin k0_t2_loop.trips) (c1_i32_27 : BitVec 32) : Fin 1 → Nat :=
  let c0_i32_5 : BitVec 32 := 0#32
  let c1_i32_6 : BitVec 32 := 1#32
  let arg12 : BitVec 32 := Scf.iv c0_i32_5 c1_i32_6 k0_t2
  let c8_i32_26 : BitVec 32 := 8#32
  let v30 : BitVec 32 := Scalar.muli arg12 c8_i32_26
  let v31 : BitVec 32 := Scalar.addi v30 c1_i32_27
  let v32 : Index := Scalar.indexCast v31
  ![v32.toNat]
def k0_off7 (k0_t2 : Fin k0_t2_loop.trips) (c1_i32_29 : BitVec 32) : Fin 3 → Nat :=
  let c0_i32_5 : BitVec 32 := 0#32
  let c1_i32_6 : BitVec 32 := 1#32
  let arg12 : BitVec 32 := Scf.iv c0_i32_5 c1_i32_6 k0_t2
  let c8_i32_28 : BitVec 32 := 8#32
  let v34 : BitVec 32 := Scalar.muli arg12 c8_i32_28
  let v35 : BitVec 32 := Scalar.addi v34 c1_i32_29
  let v36 : Index := Scalar.indexCast v35
  let c0_30 : Index := 0#32
  let c0_31 : Index := 0#32
  ![v36.toNat, 0, 0]
def k0_off8 (k0_t2 : Fin k0_t2_loop.trips) : Fin 3 → Nat :=
  let c0_i32_5 : BitVec 32 := 0#32
  let c1_i32_6 : BitVec 32 := 1#32
  let arg12 : BitVec 32 := Scf.iv c0_i32_5 c1_i32_6 k0_t2
  let v114 : Index := Scalar.indexCast arg12
  let c0_62 : Index := 0#32
  let c0_63 : Index := 0#32
  ![v114.toNat, 0, 0]
def cc0_transform_0 (i : grid0.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

def cc0_transform_1 (i : grid0.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .smem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CombRefIdeal.lean ====
abbrev S163840x1x1024 : Shape := ⟨3, ![163840, 1, 1024]⟩
abbrev S131072 : Shape := ⟨1, ![131072]⟩
abbrev S8x2048x1024 : Shape := ⟨3, ![8, 2048, 1024]⟩
abbrev S8x1x1024 : Shape := ⟨3, ![8, 1, 1024]⟩
abbrev S_ : Shape := ⟨0, ![]⟩
abbrev S131072x1 : Shape := ⟨2, ![131072, 1]⟩
abbrev S131072x2 : Shape := ⟨2, ![131072, 2]⟩
abbrev S131072x1024 : Shape := ⟨2, ![131072, 1024]⟩
abbrev S8x2048x8x1024 : Shape := ⟨4, ![8, 2048, 8, 1024]⟩
abbrev S8x2048x8x1 : Shape := ⟨4, ![8, 2048, 8, 1]⟩

abbrev nBuf : Space → Nat
  | .hbm => 28
  | .vmem => 0
  | .smem => 0
  | _ => 0

abbrev bufTy : (tb : Table) → Fin (tcTables nBuf tb) → BufTy
  | .hbm, ⟨0, _⟩ => ⟨S163840x1x1024, .f32⟩
  | .hbm, ⟨1, _⟩ => ⟨S131072, .i32⟩
  | .hbm, ⟨2, _⟩ => ⟨S131072, .f32⟩
  | .hbm, ⟨3, _⟩ => ⟨S8x2048x1024, .f32⟩
  | .hbm, ⟨4, _⟩ => ⟨S8x1x1024, .f32⟩
  | .hbm, ⟨5, _⟩ => ⟨S_, .i32⟩
  | .hbm, ⟨6, _⟩ => ⟨S131072, .i32⟩
  | .hbm, ⟨7, _⟩ => ⟨S131072, .i1⟩
  | .hbm, ⟨8, _⟩ => ⟨S_, .i32⟩
  | .hbm, ⟨9, _⟩ => ⟨S131072, .i32⟩
  | .hbm, ⟨10, _⟩ => ⟨S131072, .i32⟩
  | .hbm, ⟨11, _⟩ => ⟨S131072, .i32⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072x1, .i32⟩
  | .hbm, ⟨16, _⟩ => ⟨S131072x1, .i32⟩
  | .hbm, ⟨17, _⟩ => ⟨S131072x2, .i32⟩
  | .hbm, ⟨18, _⟩ => ⟨S131072x1024, .f32⟩
  | .hbm, ⟨19, _⟩ => ⟨S8x2048x8x1024, .f32⟩
  | .hbm, ⟨20, _⟩ => ⟨S8x2048x8x1, .f32⟩
  | .hbm, ⟨21, _⟩ => ⟨S8x2048x8x1024, .f32⟩
  | .hbm, ⟨22, _⟩ => ⟨S8x2048x8x1024, .f32⟩
  | .hbm, ⟨23, _⟩ => ⟨S_, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | _, _ => ⟨S163840x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proof.Softmax.lean ====
/-
  The softmax row behind the attention claim, over the extended reals: the weights `exp (s k − max s)`, their total, and
  the fact that joins the two programs — a mixture of values by the weights, divided once by the total, is the mixture
  by the divided weights. Scores are finite here; the values may be any extended reals.
-/
module

public import Idealize.ShloMosaic.PureOps.Ideal.Laws

@[expose] public section

noncomputable section

namespace Cert.Softmax

open Idealize.ShloMosaic
open scoped BigOperators

variable {n : Nat}

/-- The largest score of a row, from below everything. -/
def top (s : Fin n → EReal) : EReal := (Finset.univ : Finset (Fin n)).fold max ⊥ s

/-- The unnormalised weight of a key. -/
def weight (s : Fin n → EReal) (k : Fin n) : EReal := Ideal.exp (s k - top s)

/-- The total of the weights. -/
def total (s : Fin n → EReal) : EReal := ∑ k, weight s k

/-- The mixture of values by the weights, divided once by the total. -/
def attend (s v : Fin n → EReal) : EReal := Ideal.div (∑ k, weight s k * v k) (total s)

/-- A fold of `max` over finite elements is `⊥` or finite, and finite when there is an element. -/
theorem fold_max_coe (f : Fin n → ℝ) (S : Finset (Fin n)) :
    (S = ∅ ∧ S.fold max ⊥ (fun k => (f k : EReal)) = ⊥) ∨ ∃ r : ℝ, S.fold max ⊥ (fun k => (f k : EReal)) = r := by
  induction S using Finset.cons_induction with
  | empty => exact .inl ⟨rfl, rfl⟩
  | cons a S ha ih =>
    right
    rw [Finset.fold_cons]
    rcases ih with ⟨_, h⟩ | ⟨r, h⟩
    · exact ⟨f a, by rw [h]; simp⟩
    · exact ⟨max (f a) r, by rw [h]; exact (EReal.coe_strictMono.monotone.map_max).symm⟩

/-- Finite scores have a finite largest one. -/
theorem top_coe [NeZero n] (f : Fin n → ℝ) : ∃ r : ℝ, top (fun k => (f k : EReal)) = r := by
  rcases fold_max_coe f Finset.univ with ⟨h, _⟩ | h
  · exact absurd h (Finset.univ_nonempty (α := Fin n)).ne_empty
  · exact h

/-- A finite factor that is not negative passes through a sum of extended reals. -/
theorem sum_mul_coe {ι : Type} (S : Finset ι) (g : ι → EReal) {c : ℝ} (hc : 0 ≤ c) :
    (∑ k ∈ S, g k) * (c : EReal) = ∑ k ∈ S, g k * (c : EReal) := by
  induction S using Finset.cons_induction with
  | empty => simp
  | cons a S ha ih =>
    rw [Finset.sum_cons, Finset.sum_cons, ← ih]
    exact EReal.right_distrib_of_nonneg_of_ne_top (EReal.coe_nonneg.mpr hc) (EReal.coe_ne_top c) _ _

/-- A sum of finite numbers, taken among the reals or among the extended reals. -/
theorem coe_sum {ι : Type} (S : Finset ι) (f : ι → ℝ) : ((∑ k ∈ S, f k : ℝ) : EReal) = ∑ k ∈ S, (f k : EReal) :=
  map_sum (⟨⟨fun r : ℝ => (r : EReal), EReal.coe_zero⟩, EReal.coe_add⟩ : ℝ →+ EReal) f S

/-- The total of the weights of finite scores is finite and above zero. -/
theorem total_coe [NeZero n] {s : Fin n → EReal} (hs : ∀ k, ∃ r : ℝ, s k = r) : ∃ d : ℝ, 0 < d ∧ total s = d := by
  choose f hf using hs
  obtain rfl : s = fun k => (f k : EReal) := funext hf
  obtain ⟨r, hr⟩ := top_coe f
  refine ⟨∑ k, Real.exp (f k - r), Finset.sum_pos (fun k _ => Real.exp_pos _) Finset.univ_nonempty, ?_⟩
  unfold total weight
  rw [hr, coe_sum]
  exact Finset.sum_congr rfl fun k _ => by rw [← EReal.coe_sub, Ideal.exp_coe]

/-- Dividing the mixture once is mixing by the divided weights. -/
theorem mix [NeZero n] {s : Fin n → EReal} (hs : ∀ k, ∃ r : ℝ, s k = r) (v : Fin n → EReal) :
    attend s v = ∑ k, v k * Ideal.div (weight s k) (total s) := by
  unfold attend
  obtain ⟨d, hd, ht⟩ := total_coe hs
  have hne : (d : EReal) ≠ 0 := by exact_mod_cast hd.ne'
  rw [ht]
  simp only [Ideal.div, if_neg hne]
  rw [← EReal.coe_inv, sum_mul_coe _ _ (inv_nonneg.mpr hd.le)]
  exact Finset.sum_congr rfl fun k _ => by rw [mul_comm (weight s k) (v k), mul_assoc]

/-- A finite sum of products of finite numbers is finite. -/
theorem sum_mul_finite {m : Nat} {a b : Fin m → EReal} (ha : ∀ i, ∃ r : ℝ, a i = r) (hb : ∀ i, ∃ r : ℝ, b i = r) :
    ∃ r : ℝ, ∑ i, a i * b i = r := by
  choose f hf using ha
  choose g hg using hb
  exact ⟨∑ i, f i * g i, by rw [coe_sum]; exact Finset.sum_congr rfl fun i _ => by rw [hf, hg, EReal.coe_mul]⟩

end Cert.Softmax

end
-- ==== Proof.AttnBlock.lean ====
/-
  What one grid point of the attention leaves in its output block, element by element: the body stacks the four 128-lane
  column groups of its query rows (each group is one head of each key/value head), keeps the 64 lanes of one key/value
  head by a 0/1 mask, and takes the softmax over all 2304 keys; the two halves of the lanes are then picked from the two
  key/value heads. Read at an element, that is `attend` over the head's own 64 lanes.
-/
module

public import proofs.«01_k».proof.Proof.Softmax
public import proofs.«01_k».proof.Proof.Gen.AttnIdeal.Frame
public import Idealize.ShloMosaic.Lib.Pointwise
public import Idealize.ShloMosaic.Lib.Pipeline.ValueKit.Tiles

@[expose] public section

set_option maxRecDepth 16384

noncomputable section

namespace Cert.AttnIdeal.Block

open Cert.AttnIdeal Cert.AttnIdeal.Gen Idealize.ShloMosaic Cert.Softmax
open scoped BigOperators

/-- Lane `i` of half `g` of the 128 lanes. -/
abbrev lane (g : Fin 2) (i : Fin 64) : Fin 128 := ⟨64 * g.val + i.val, by omega⟩

/-- The mask of the low 64 lanes, as a condition. -/
theorem low_eq (x : Fin 128) : IntOp.cmpi .slt (BitVec.ofNat 32 x.val) 64#32 = if x.val < 64 then 1#1 else 0#1 := by
  revert x; decide +kernel

/-- The stacked query rows: row `r` of four 128-row pieces. -/
def rows (a b c d : Vec Ideal S1x128x128 .bf16) (r : Fin 512) (x : Fin 128) : EReal :=
  if h : r.val < 128 then a (ix3 0 ⟨r.val, h⟩ x)
  else if h : r.val - 128 < 128 then b (ix3 0 ⟨r.val - 128, h⟩ x)
  else if h : r.val - 128 - 128 < 128 then c (ix3 0 ⟨r.val - 128 - 128, h⟩ x)
  else d (ix3 0 ⟨r.val - 128 - 128 - 128, by omega⟩ x)

/-- A sum over 128 lanes that are zero off one half is the sum over that half. -/
theorem sum_half (g : Fin 2) (f : Fin 128 → EReal) (h : ∀ x : Fin 128, x.val / 64 ≠ g.val → f x = 0) :
    ∑ x, f x = ∑ i : Fin 64, f (lane g i) := by
  rw [Fin.sum_univ_two_halves 64 64 rfl f]
  match g with
  | 0 =>
    rw [add_comm, Finset.sum_eq_zero fun i _ => h _ (by show (64 + i.val) / 64 ≠ 0; omega), zero_add]
    exact Finset.sum_congr rfl fun i _ => congrArg f (Fin.ext (by simp))
  | 1 =>
    rw [Finset.sum_eq_zero fun i _ => h _ (by show i.val / 64 ≠ 1; have := i.isLt; omega), zero_add]
    exact Finset.sum_congr rfl fun i _ => congrArg f (Fin.ext (by simp))

/-- The scores of a stacked row against every key, on the lanes of one key/value head. -/
def scores (g : Fin 2) (k : FVec Ideal S1x2304x128 .bf16) (q : Fin 128 → EReal) (j : Fin 2304) : EReal :=
  ∑ i : Fin 64, q (lane g i) * k (ix3 0 j (lane g i))

/-- A 128-lane product masked to the low lanes is the score on them … -/
theorem masked_low (q : Fin 128 → EReal) (k : Fin 128 → EReal) :
    ∑ x : Fin 128, Scalar.select (IntOp.cmpi .slt (BitVec.ofNat 32 x.val) 64#32) (q x) 0 * k x
      = ∑ i : Fin 64, q (lane 0 i) * k (lane 0 i) := by
  rw [sum_half 0]
  · refine Finset.sum_congr rfl fun i _ => ?_
    rw [low_eq, if_pos (by show 64 * 0 + i.val < 64; omega)]; rfl
  · intro x hx
    rw [low_eq, if_neg (by have : x.val / 64 ≠ 0 := hx; omega)]
    exact zero_mul _

/-- … and masked to the others, the score on those. -/
theorem masked_high (q : Fin 128 → EReal) (k : Fin 128 → EReal) :
    ∑ x : Fin 128, Scalar.select (IntOp.xori (IntOp.cmpi .slt (BitVec.ofNat 32 x.val) 64#32) 1#1) (q x) 0 * k x
      = ∑ i : Fin 64, q (lane 1 i) * k (lane 1 i) := by
  rw [sum_half 1]
  · refine Finset.sum_congr rfl fun i _ => ?_
    rw [low_eq, if_neg (by show ¬ 64 * 1 + i.val < 64; omega)]; rfl
  · intro x hx
    rw [low_eq, if_pos (by have : x.val / 64 ≠ 1 := hx; omega)]
    exact zero_mul _

theorem negInf : Ideal.ofBits .f32 0xFF800000#32 = ⊥ := by simp [Ideal.ofBits, Ideal.ieee]

/-- The first key/value head: the softmax of every stacked row on the low lanes, mixed over the values. -/
theorem low_apply (k v : FVec Ideal S1x2304x128 .bf16) (a b c d : Vec Ideal S1x128x128 .bf16) (r : Fin 512) (l : Fin 128) :
    k0_pay9 (F := Ideal) (k0_pay6 v) (k0_pay8 k a b c d) (ix2 r l)
      = attend (scores 0 k (rows a b c d r)) (fun j => v (ix3 0 j l)) := by
  have hs : ∀ j : Fin 2304, ∑ x : Fin 128, (if h : r.val < 128 then
        Scalar.select (IntOp.cmpi .slt (BitVec.ofNat 32 x.val) 64#32) (a (ix3 0 ⟨r.val, h⟩ x)) 0
      else if h : r.val - 128 < 128 then
        Scalar.select (IntOp.cmpi .slt (BitVec.ofNat 32 x.val) 64#32) (b (ix3 0 ⟨r.val - 128, h⟩ x)) 0
      else if h : r.val - 128 - 128 < 128 then
        Scalar.select (IntOp.cmpi .slt (BitVec.ofNat 32 x.val) 64#32) (c (ix3 0 ⟨r.val - 128 - 128, h⟩ x)) 0
      else Scalar.select (IntOp.cmpi .slt (BitVec.ofNat 32 x.val) 64#32) (d (ix3 0 ⟨r.val - 128 - 128 - 128, by omega⟩ x)) 0)
        * k (ix3 0 j x) = scores 0 k (rows a b c d r) j := by
    intro j
    refine Eq.trans ?_ (masked_low (rows a b c d r) fun x => k (ix3 0 j x))
    refine Finset.sum_congr rfl fun x _ => ?_
    unfold rows
    split_ifs <;> rfl
  pointwise [k0_pay9, k0_pay8, k0_pay7, k0_pay6, k0_pay5, hs]
  rw [negInf]
  rfl

/-- The second key/value head, on the other lanes. -/
theorem high_apply (k v : FVec Ideal S1x2304x128 .bf16) (a b c d : Vec Ideal S1x128x128 .bf16) (r : Fin 512) (l : Fin 128) :
    k0_pay10 (F := Ideal) (k0_pay5 k) (k0_pay6 v) k0_pay7 a b c d (ix2 r l)
      = attend (scores 1 k (rows a b c d r)) (fun j => v (ix3 0 j l)) := by
  have hs : ∀ j : Fin 2304, ∑ x : Fin 128, (if h : r.val < 128 then
        Scalar.select (IntOp.xori (IntOp.cmpi .slt (BitVec.ofNat 32 x.val) 64#32) 1#1) (a (ix3 0 ⟨r.val, h⟩ x)) 0
      else if h : r.val - 128 < 128 then
        Scalar.select (IntOp.xori (IntOp.cmpi .slt (BitVec.ofNat 32 x.val) 64#32) 1#1) (b (ix3 0 ⟨r.val - 128, h⟩ x)) 0
      else if h : r.val - 128 - 128 < 128 then
        Scalar.select (IntOp.xori (IntOp.cmpi .slt (BitVec.ofNat 32 x.val) 64#32) 1#1) (c (ix3 0 ⟨r.val - 128 - 128, h⟩ x)) 0
      else Scalar.select (IntOp.xori (IntOp.cmpi .slt (BitVec.ofNat 32 x.val) 64#32) 1#1)
        (d (ix3 0 ⟨r.val - 128 - 128 - 128, by omega⟩ x)) 0)
        * k (ix3 0 j x) = scores 1 k (rows a b c d r) j := by
    intro j
    refine Eq.trans ?_ (masked_high (rows a b c d r) fun x => k (ix3 0 j x))
    refine Finset.sum_congr rfl fun x _ => ?_
    unfold rows
    split_ifs <;> rfl
  pointwise [k0_pay10, k0_pay7, k0_pay6, k0_pay5, hs]
  rw [negInf]
  rfl

/-- What a point leaves at row `r`, column `col` of its output block: the softmax attention of row `r` on the 64 columns
    of `col`'s head, over every key, mixed over the values in column `col % 128`. -/
def cell (x0 : Vec Ideal S1x128x512 .bf16) (x1 x2 : Vec Ideal S1x2304x128 .bf16) (r : Fin 128) (col : Fin 512) : EReal :=
  attend (fun j : Fin 2304 => ∑ i : Fin 64, x0 (ix3 0 r ⟨64 * (col.val / 64) + i.val, by omega⟩)
      * x1 (ix3 0 j ⟨64 * (col.val / 64 % 2) + i.val, by omega⟩))
    (fun j => x2 (ix3 0 j ⟨col.val % 128, by omega⟩))

/-- A load of the 128 lanes of the query block that start at lane `o`. -/
theorem ld_apply (x0 : Vec Ideal S1x128x512 .bf16) (o : ℕ) (hi : ∀ a, (![0, 0, o] : Fin 3 → ℕ) a + S1x128x128.size a ≤ S1x128x512.size a)
    (r x : Fin 128) (c : Fin 512) (h : c.val = o + x.val) :
    View.ld x0 (Rect.unit (s := S1x128x512) ![0, 0, o] S1x128x128.size hi) (ix3 0 r x) = x0 (ix3 0 r c) :=
  View.ld_unit_apply_of x0 ![0, 0, o] S1x128x128.size hi (ix3 0 r x) (ix3 0 r c) fun a => by
    match a with
    | 0 => rfl
    | 1 => exact (Nat.zero_add _).symm
    | 2 => exact h

/-- The 512-lane row behind piece `p` of the stacked rows. -/
theorem rows_apply (x0 : Vec Ideal S1x128x512 .bf16) (p : Fin 4) (r x : Fin 128) :
    rows (View.ld x0 r0_1) (View.ld x0 r0_2) (View.ld x0 r0_3) (View.ld x0 r0_4) ⟨128 * p.val + r.val, by omega⟩ x
      = x0 (ix3 0 r ⟨128 * p.val + x.val, by omega⟩) := by
  have hr := r.isLt
  have e : ∀ (q : Fin 128), q.val = r.val → q = r := fun q h => Fin.ext h
  unfold rows
  match p with
  | 0 =>
    rw [dif_pos (by show 128 * 0 + r.val < 128; omega), e ⟨_, _⟩ (by show 128 * 0 + r.val = r.val; omega)]
    exact ld_apply x0 0 _ r x _ rfl
  | 1 =>
    rw [dif_neg (by show ¬ 128 * 1 + r.val < 128; omega), dif_pos (by show 128 * 1 + r.val - 128 < 128; omega),
      e ⟨_, _⟩ (by show 128 * 1 + r.val - 128 = r.val; omega)]
    exact ld_apply x0 128 _ r x _ rfl
  | 2 =>
    rw [dif_neg (by show ¬ 128 * 2 + r.val < 128; omega), dif_neg (by show ¬ 128 * 2 + r.val - 128 < 128; omega),
      dif_pos (by show 128 * 2 + r.val - 128 - 128 < 128; omega),
      e ⟨_, _⟩ (by show 128 * 2 + r.val - 128 - 128 = r.val; omega)]
    exact ld_apply x0 256 _ r x _ rfl
  | 3 =>
    rw [dif_neg (by show ¬ 128 * 3 + r.val < 128; omega), dif_neg (by show ¬ 128 * 3 + r.val - 128 < 128; omega),
      dif_neg (by show ¬ 128 * 3 + r.val - 128 - 128 < 128; omega),
      e ⟨_, _⟩ (by show 128 * 3 + r.val - 128 - 128 - 128 = r.val; omega)]
    exact ld_apply x0 384 _ r x _ rfl

theorem mask_apply (l : Fin 128) : k0_pay7 (ix2 0 l) = if l.val < 64 then 1#1 else 0#1 := by
  rw [← low_eq]; pointwise [k0_pay7]

/-- The scores of the 512-lane row behind piece `p`, on the lanes of head `2 p + g`. -/
theorem scores_apply (x0 : Vec Ideal S1x128x512 .bf16) (x1 : Vec Ideal S1x2304x128 .bf16) (p : Fin 4) (g : Fin 2)
    (r l : Fin 128) (hl : l.val / 64 = g.val) :
    scores g (View.ld x1 r0_0)
        (rows (View.ld x0 r0_1) (View.ld x0 r0_2) (View.ld x0 r0_3) (View.ld x0 r0_4) ⟨128 * p.val + r.val, by omega⟩)
      = fun j : Fin 2304 => ∑ i : Fin 64, x0 (ix3 0 r ⟨64 * ((128 * p.val + l.val) / 64) + i.val, by omega⟩)
        * x1 (ix3 0 j ⟨64 * ((128 * p.val + l.val) / 64 % 2) + i.val, by omega⟩) := by
  funext j
  unfold scores
  refine Finset.sum_congr rfl fun i _ => ?_
  rw [rows_apply]
  refine congrArg₂ (· * ·) (congrArg (fun c => x0 (ix3 0 r c)) (Fin.ext ?_)) ?_
  · show 128 * p.val + (64 * g.val + i.val) = 64 * ((128 * p.val + l.val) / 64) + i.val
    omega
  · refine View.ld_unit_apply_of x1 _ _ _ (ix3 0 j (lane g i)) (ix3 0 j ⟨_, _⟩) fun a => ?_
    match a with
    | 0 => rfl
    | 1 => exact (Nat.zero_add _).symm
    | 2 => show 64 * ((128 * p.val + l.val) / 64 % 2) + i.val = 0 + (64 * g.val + i.val); omega

/-- Piece `p` of the output block, at row `r` and lane `l`. -/
theorem piece (x0 : Vec Ideal S1x128x512 .bf16) (x1 x2 : Vec Ideal S1x2304x128 .bf16) (p : Fin 4) (r l : Fin 128) :
    Scalar.select (k0_pay7 (ix2 0 l))
        (attend (scores 0 (View.ld x1 r0_0) (rows (View.ld x0 r0_1) (View.ld x0 r0_2) (View.ld x0 r0_3) (View.ld x0 r0_4)
          ⟨128 * p.val + r.val, by omega⟩)) fun j => x2 (ix3 0 j l))
        (attend (scores 1 (View.ld x1 r0_0) (rows (View.ld x0 r0_1) (View.ld x0 r0_2) (View.ld x0 r0_3) (View.ld x0 r0_4)
          ⟨128 * p.val + r.val, by omega⟩)) fun j => x2 (ix3 0 j l))
      = cell x0 x1 x2 r ⟨128 * p.val + l.val, by omega⟩ := by
  have hv : (fun j : Fin 2304 => x2 (ix3 0 j l)) = fun j => x2 (ix3 0 j ⟨(128 * p.val + l.val) % 128, by omega⟩) := by
    funext j
    exact congrArg (fun c => x2 (ix3 0 j c)) (Fin.ext (by show l.val = (128 * p.val + l.val) % 128; omega))
  rw [mask_apply, hv]
  unfold cell
  by_cases h : l.val < 64
  · rw [if_pos h, scores_apply x0 x1 p 0 r l (by show l.val / 64 = 0; omega)]
    exact if_pos rfl
  · rw [if_neg h, scores_apply x0 x1 p 1 r l (by show l.val / 64 = 1; omega)]
    exact if_neg (by decide)

/-- The output block a point leaves, read at an element. -/
theorem out_apply (x0 : Vec Ideal S1x128x512 .bf16) (x1 x2 : Vec Ideal S1x2304x128 .bf16) (y : S1x128x512.Idx) :
    out0_3 x0 x1 x2 y = cell x0 x1 x2 (y 1) (y 2) := by
  have split : ∀ x : S1x128x128.Idx, ∃ r l : Fin 128, x = ix3 0 r l := fun x => ⟨x 1, x 2, by
    funext a
    match a with
    | 0 => exact Subsingleton.elim (α := Fin 1) _ _
    | 1 => rfl
    | 2 => rfl⟩
  unfold_out out0_3
  canon_tiles x h using cover0_3 ..
  all_goals
    obtain ⟨r, l, rfl⟩ := split x
    rw [show y 1 = r from Fin.ext h1]
  case piece0 =>
    refine Eq.trans ?_ ((piece x0 x1 x2 3 r l).trans (congrArg (cell x0 x1 x2 r) (Fin.ext h2.symm)))
    pointwise [k0_pay4, low_apply, high_apply]
  case piece1 =>
    refine Eq.trans ?_ ((piece x0 x1 x2 2 r l).trans (congrArg (cell x0 x1 x2 r) (Fin.ext h2.symm)))
    pointwise [k0_pay3, low_apply, high_apply]
  case piece2 =>
    refine Eq.trans ?_ ((piece x0 x1 x2 1 r l).trans (congrArg (cell x0 x1 x2 r) (Fin.ext h2.symm)))
    pointwise [k0_pay2, low_apply, high_apply]
  case piece3 =>
    refine Eq.trans ?_ ((piece x0 x1 x2 0 r l).trans (congrArg (cell x0 x1 x2 r) (Fin.ext ((Nat.zero_add _).trans h2.symm))))
    pointwise [k0_pay1, low_apply, high_apply]

end Cert.AttnIdeal.Block
end
-- ==== Proof.AttnKernel.lean ====
/-
  The attention kernel's result array: element `(b, r, col)` is the softmax attention of query row `r` of batch `b`, on
  the 64 columns of `col`'s head, over the 2304 keys of the batch (2048 latent, then 256 context).
-/
module

public import proofs.«01_k».proof.Proof.AttnBlock
public import proofs.«01_k».proof.Proof.Gen.AttnIdeal.Value
public import Idealize.ShloMosaic.Lib.StableHlo.ReadAt

@[expose] public section

set_option maxRecDepth 16384

noncomputable section

namespace Cert.AttnIdeal.Array

open Cert.AttnIdeal Cert.AttnIdeal.Gen Cert.AttnIdeal.Block Idealize.ShloMosaic Idealize.ShloMosaic.TcCoe Idealize.SL.Sem
open Idealize.ShloMosaic.Pipeline (Dat)
open Cert.Softmax
open scoped BigOperators

variable (m : (ℓ : Loc nD τ sig) → Buf (Elt Ideal) ℓ) (ρ : Dev nD → PrngReg)

/-- The attention of one element, over joined keys and values. -/
def joined (q : S8x2048x512.Idx → EReal) (k v : S8x2304x128.Idx → EReal) (i : S8x2048x512.Idx) : EReal :=
  attend (fun j : Fin 2304 => ∑ d : Fin 64,
      q (ix3 (i 0) (i 1) ⟨64 * ((i 2).val / 64) + d.val, by have : (i 2).val < 512 := (i 2).isLt; omega⟩)
        * k (ix3 (i 0) j ⟨64 * ((i 2).val / 64 % 2) + d.val, by omega⟩))
    (fun j => v (ix3 (i 0) j ⟨(i 2).val % 128, by omega⟩))

/-- The block indices of the four windows at point `t`: batch `t / 16`, query rows `128 (t % 16) …`; the whole of the
    keys and values of the batch. -/
theorem index_eq : ∀ t : Fin cfg0.N,
    (win0_0.index t 0 = t.val / 16 ∧ win0_0.index t 1 = t.val % 16 ∧ win0_0.index t 2 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 0)
    ∧ (win0_3.index t 0 = t.val / 16 ∧ win0_3.index t 1 = t.val % 16 ∧ win0_3.index t 2 = 0) :=
  (by decide +kernel : ∀ t : Fin grid0.N,
    (win0_0.index t 0 = t.val / 16 ∧ win0_0.index t 1 = t.val % 16 ∧ win0_0.index t 2 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 0)
    ∧ (win0_3.index t 0 = t.val / 16 ∧ win0_3.index t 1 = t.val % 16 ∧ win0_3.index t 2 = 0))

/-- The query block at point `t`, read in the array. -/
theorem iblk_q (c : Dev nD) (t : Fin cfg0.N) (z : S1x128x512.Idx) (i : S8x2048x512.Idx) (h0 : (i 0).val = t.val / 16)
    (h1 : (i 1).val = 128 * (t.val % 16) + (z 1).val) (h2 : (i 2).val = (z 2).val) :
    (iblk m c 0 t : Vec Ideal S1x128x512 .bf16) z = V m c main_arg0 i := by
  obtain ⟨⟨a0, a1, a2⟩, -⟩ := index_eq t
  have hz : (z 0).val < 1 := (z 0).isLt
  unfold iblk
  rw [View.read_apply]
  show V m c main_arg0 _ = _
  congr 1
  funext a
  apply Fin.ext
  match a with
  | ⟨0, _⟩ => show win0_0.index t 0 * 1 + 1 * (z 0).val = (i 0).val; rw [a0]; omega
  | ⟨1, _⟩ => show win0_0.index t 1 * 128 + 1 * (z 1).val = (i 1).val; rw [a1]; omega
  | ⟨2, _⟩ => show win0_0.index t 2 * 512 + 1 * (z 2).val = (i 2).val; rw [a2]; omega

/-- The key block at point `t`, read in the array. -/
theorem iblk_k (c : Dev nD) (t : Fin cfg0.N) (z : S1x2304x128.Idx) (i : S8x2304x128.Idx) (h0 : (i 0).val = t.val / 16)
    (h1 : (i 1).val = (z 1).val) (h2 : (i 2).val = (z 2).val) :
    (iblk m c 1 t : Vec Ideal S1x2304x128 .bf16) z = V m c main_v0 i := by
  obtain ⟨-, ⟨a0, a1, a2⟩, -⟩ := index_eq t
  have hz : (z 0).val < 1 := (z 0).isLt
  unfold iblk
  rw [View.read_apply]
  show V m c main_v0 _ = _
  congr 1
  funext a
  apply Fin.ext
  match a with
  | ⟨0, _⟩ => show win0_1.index t 0 * 1 + 1 * (z 0).val = (i 0).val; rw [a0]; omega
  | ⟨1, _⟩ => show win0_1.index t 1 * 2304 + 1 * (z 1).val = (i 1).val; rw [a1]; omega
  | ⟨2, _⟩ => show win0_1.index t 2 * 128 + 1 * (z 2).val = (i 2).val; rw [a2]; omega

/-- The value block at point `t`, read in the array. -/
theorem iblk_v (c : Dev nD) (t : Fin cfg0.N) (z : S1x2304x128.Idx) (i : S8x2304x128.Idx) (h0 : (i 0).val = t.val / 16)
    (h1 : (i 1).val = (z 1).val) (h2 : (i 2).val = (z 2).val) :
    (iblk m c 2 t : Vec Ideal S1x2304x128 .bf16) z = V m c main_v1 i := by
  obtain ⟨-, -, ⟨a0, a1, a2⟩, -⟩ := index_eq t
  have hz : (z 0).val < 1 := (z 0).isLt
  unfold iblk
  rw [View.read_apply]
  show V m c main_v1 _ = _
  congr 1
  funext a
  apply Fin.ext
  match a with
  | ⟨0, _⟩ => show win0_2.index t 0 * 1 + 1 * (z 0).val = (i 0).val; rw [a0]; omega
  | ⟨1, _⟩ => show win0_2.index t 1 * 2304 + 1 * (z 1).val = (i 1).val; rw [a1]; omega
  | ⟨2, _⟩ => show win0_2.index t 2 * 128 + 1 * (z 2).val = (i 2).val; rw [a2]; omega

/-- What point `t` writes back is its block of the attention. -/
theorem flushed_eq (c : Dev nD) (t : Fin cfg0.N) (_ : (cfg0.win 3).flush t = true) :
    (dats m 0 c).flushed 3 t
      = ((cfg0.win 3).blk t).view.read (Elt Ideal) (joined (V m c main_arg0) (V m c main_v0) (V m c main_v1)) := by
  rw [Value.flushed3]
  funext y
  obtain ⟨-, -, -, ⟨d0, d1, d2⟩⟩ := index_eq t
  have hy0 : (y 0).val < 1 := (y 0).isLt
  rw [View.read_apply]
  refine (out_apply _ _ _ _).trans ?_
  rw [cast_eq]
  have e0 : (((cfg0.win 3).blk t).view.emb y 0).val = t.val / 16 := by
    show win0_3.index t 0 * 1 + 1 * (y 0).val = _
    rw [d0]; omega
  have e1 : (((cfg0.win 3).blk t).view.emb y 1).val = 128 * (t.val % 16) + (y 1).val := by
    show win0_3.index t 1 * 128 + 1 * (y 1).val = _
    rw [d1]; omega
  have e2 : (((cfg0.win 3).blk t).view.emb y 2).val = (y 2).val := by
    show win0_3.index t 2 * 512 + 1 * (y 2).val = _
    rw [d2]; omega
  generalize ((cfg0.win 3).blk t).view.emb y = e at e0 e1 e2
  unfold joined cell
  refine congrArg₂ attend (funext fun j => Finset.sum_congr rfl fun d _ => congrArg₂ (· * ·) ?_ ?_) (funext fun j => ?_)
  · refine iblk_q m c t _ _ e0 e1 ?_
    show 64 * ((e 2).val / 64) + d.val = 64 * ((y 2).val / 64) + d.val
    rw [e2]
  · refine iblk_k m c t _ _ e0 rfl ?_
    show 64 * ((e 2).val / 64 % 2) + d.val = 64 * ((y 2).val / 64 % 2) + d.val
    rw [e2]
  · refine iblk_v m c t _ _ e0 rfl ?_
    show (e 2).val % 128 = (y 2).val % 128
    rw [e2]

/-- The whole result array: every element is in the block of the point of its batch and rows. -/
theorem result (c : Dev nD) :
    (dats m 0 c).arrAt 3 cfg0.N = joined (V m c main_arg0) (V m c main_v0) (V m c main_v1) :=
  (dats m 0 c).arrAt_eq_of_cover 3 _ (flushed_eq m c) fun i => by
    have h0 : (i 0 : Nat) < 8 := (i 0).isLt
    have h1 : (i 1 : Nat) < 2048 := (i 1).isLt
    have h2 : (i 2 : Nat) < 512 := (i 2).isLt
    let t : Fin cfg0.N := ⟨16 * (i 0).val + (i 1).val / 128, by show _ < 128; omega⟩
    have ht : t.val = 16 * (i 0).val + (i 1).val / 128 := rfl
    obtain ⟨-, -, -, ⟨d0, d1, d2⟩⟩ := index_eq t
    refine ⟨t, flush0_3 t, ?_⟩
    show i ∈ ((View.whole main_v2).slice (win0_3.rect t)).set
    rw [View.set_slice_whole, Rect.mem_set_unit]
    intro a
    match a with
    | ⟨0, _⟩ =>
      show win0_3.index t 0 * 1 ≤ (i 0 : Nat) ∧ (i 0 : Nat) < win0_3.index t 0 * 1 + 1
      rw [d0]; omega
    | ⟨1, _⟩ =>
      show win0_3.index t 1 * 128 ≤ (i 1 : Nat) ∧ (i 1 : Nat) < win0_3.index t 1 * 128 + 128
      rw [d1]; omega
    | ⟨2, _⟩ =>
      show win0_3.index t 2 * 512 ≤ (i 2 : Nat) ∧ (i 2 : Nat) < win0_3.index t 2 * 512 + 512
      rw [d2]; omega

/-- Latent rows, then context rows. -/
def rowsOf (a : S8x2048x128.Idx → EReal) (b : S8x256x128.Idx → EReal) (i : S8x2304x128.Idx) : EReal :=
  if h : (i 1).val < 2048 then a (ix3 (i 0) ⟨(i 1).val, h⟩ (i 2))
  else b (ix3 (i 0) ⟨(i 1).val - 2048, by have : (i 1).val < 2304 := (i 1).isLt; omega⟩ (i 2))

/-- The keys as the region finds them. -/
theorem keys_eq (c : Dev nD) :
    V m c main_v0 = rowsOf (m ((c : Thread nD τ).loc main_arg1)) (m ((c : Thread nD τ).loc main_arg3)) := by
  funext i
  obtain ⟨b, j, l, rfl⟩ : ∃ (b : Fin 8) (j : Fin 2304) (l : Fin 128), i = ix3 b j l := ⟨i 0, i 1, i 2, by
    funext a
    match a with
    | 0 => rfl
    | 1 => rfl
    | 2 => rfl⟩
  unfold V
  after_reads_at
  rfl

/-- The values as the region finds them. -/
theorem values_eq (c : Dev nD) :
    V m c main_v1 = rowsOf (m ((c : Thread nD τ).loc main_arg2)) (m ((c : Thread nD τ).loc main_arg4)) := by
  funext i
  obtain ⟨b, j, l, rfl⟩ : ∃ (b : Fin 8) (j : Fin 2304) (l : Fin 128), i = ix3 b j l := ⟨i 0, i 1, i 2, by
    funext a
    match a with
    | 0 => rfl
    | 1 => rfl
    | 2 => rfl⟩
  unfold V
  after_reads_at
  rfl

/-- The attention of one element, from the arguments. -/
def attention (q : S8x2048x512.Idx → EReal) (k v : S8x2048x128.Idx → EReal) (ck cv : S8x256x128.Idx → EReal) :
    S8x2048x512.Idx → EReal :=
  joined q (rowsOf k ck) (rowsOf v cv)

/-- The kernel's run: the result array holds the attention, the arguments are kept. -/
theorem run : θ_run defs (onTc (τ := τ) (main (F := Ideal))) ⟨m, fun _ => 0, ρ⟩ fun r => ∀ c : Dev nD,
      r.2.mem ((c : Thread nD τ).loc main_v2)
        = attention (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((result m c).trans (by
    rw [keys_eq, values_eq, V_main_arg0]; rfl)), (h c).2⟩) (Value.run_blocks m ρ)

end Cert.AttnIdeal.Array
end
-- ==== Proof.AttnReference.lean ====
/-
  The reference attention, read at an element: the scores of a query against the latent and the context keys, their
  softmax, and the two value products added.
-/
module

public import proofs.«01_k».proof.Proof.AttnKernel
public import proofs.«01_k».proof.Proof.Gen.AttnRefIdeal.Read
public import Idealize.ShloMosaic.Lib.Pointwise

@[expose] public section

set_option maxRecDepth 16384

noncomputable section

namespace Cert.AttnRefIdeal.Element

open Cert.AttnRefIdeal Cert.AttnRefIdeal.Gen Cert.AttnRefIdeal.Read Idealize.ShloMosaic
open Cert.Softmax Cert.AttnIdeal.Array
open scoped BigOperators

variable (q : FVec Ideal S8x2048x512 .bf16) (k v : FVec Ideal S8x2048x128 .bf16) (ck cv : FVec Ideal S8x256x128 .bf16)

theorem rowsOf_lo (a : S8x2048x128.Idx → EReal) (c : S8x256x128.Idx → EReal) (b : Fin 8) (l : Fin 128) (j : Fin 2304)
    (h : j.val < 2048) : rowsOf a c (ix3 b j l) = a (ix3 b ⟨j.val, h⟩ l) := dif_pos h

theorem rowsOf_hi (a : S8x2048x128.Idx → EReal) (c : S8x256x128.Idx → EReal) (b : Fin 8) (l : Fin 128) (j : Fin 2304)
    (h : ¬ j.val < 2048) : rowsOf a c (ix3 b j l) = c (ix3 b ⟨j.val - 2048, by omega⟩ l) := dif_neg h

/-- The score of a query head's row against a key. -/
def score (b : Fin 8) (kv : Fin 2) (g : Fin 4) (r : Fin 2048) (j : Fin 2304) : EReal :=
  ∑ d : Fin 64, rowsOf k ck (ix3 b j ⟨64 * kv.val + d.val, by omega⟩) * q (ix3 b r ⟨128 * g.val + 64 * kv.val + d.val, by omega⟩)

theorem score_apply (b : Fin 8) (kv : Fin 2) (g : Fin 4) (r : Fin 2048) (j : Fin 2304) :
    val_main_v14 (F := Ideal) q k ck (ix5 b kv g r j) = score q k ck b kv g r j := by
  pointwise [val_main_v14, val_main_v11, val_main_v10, val_main_v1, val_main_v0, val_main_v3, val_main_v2, val_main_v13, val_main_v12, val_main_v7, val_main_v6]
  have hk : ∀ d : Fin 64, kv.val * 64 + d.val = 64 * kv.val + d.val := fun d => by omega
  have hq : ∀ d : Fin 64, g.val * 128 + kv.val * 64 + d.val = 128 * g.val + 64 * kv.val + d.val := fun d => by omega
  unfold score
  simp only [hk, hq]
  by_cases h : j.val < 2048
  · rw [dif_pos h]
    exact Finset.sum_congr rfl fun d _ => congrArg (· * _) (rowsOf_lo k ck b _ j h).symm
  · rw [dif_neg h]
    exact Finset.sum_congr rfl fun d _ => congrArg (· * _) (rowsOf_hi k ck b _ j h).symm

theorem max_apply (b : Fin 8) (kv : Fin 2) (g : Fin 4) (r : Fin 2048) :
    val_main_v15 (F := Ideal) q k ck (ix4 b kv g r) = top (score q k ck b kv g r) := by
  pointwise [val_main_v15, val_main_cst, score_apply]
  rw [Cert.AttnIdeal.Block.negInf]
  rfl

theorem shift_apply (b : Fin 8) (kv : Fin 2) (g : Fin 4) (r : Fin 2048) :
    val_main_v17 (F := Ideal) q k ck (ix4 b kv g r) = top (score q k ck b kv g r) := by
  rw [val_main_v17_apply, val_main_v16_apply, val_main_cst_0_apply, max_apply]
  show max (Ideal.ofBits .f32 0xFF800000#32) _ = _
  rw [Cert.AttnIdeal.Block.negInf, max_eq_right bot_le]

theorem weight_apply (b : Fin 8) (kv : Fin 2) (g : Fin 4) (r : Fin 2048) (j : Fin 2304) :
    val_main_v21 (F := Ideal) q k ck (ix5 b kv g r j) = weight (score q k ck b kv g r) j := by
  have e : val_main_v19 (F := Ideal) q k ck (ix5 b kv g r j) = top (score q k ck b kv g r) := by
    rw [val_main_v19_apply, val_main_v18_apply, ← shift_apply]
    exact congrArg _ (funext fun a => by match a with | 0 => rfl | 1 => rfl | 2 => rfl | 3 => rfl)
  rw [val_main_v21_apply, val_main_v20_apply, e, score_apply]
  rfl

theorem total_apply (b : Fin 8) (kv : Fin 2) (g : Fin 4) (r : Fin 2048) :
    val_main_v22 (F := Ideal) q k ck (ix4 b kv g r) = total (score q k ck b kv g r) := by
  pointwise [val_main_v22, val_main_cst_1, weight_apply]
  try rfl

theorem prob_apply (b : Fin 8) (kv : Fin 2) (g : Fin 4) (r : Fin 2048) (j : Fin 2304) :
    val_main_v25 (F := Ideal) q k ck (ix5 b kv g r j)
      = Ideal.div (weight (score q k ck b kv g r) j) (total (score q k ck b kv g r)) := by
  pointwise [val_main_v25, val_main_v24, val_main_v23, weight_apply, total_apply]

/-- The reference's result is the kernel's attention, where every score is finite. -/
theorem out_apply (hq : ∀ i, ∃ x : ℝ, q i = x) (hk : ∀ i, ∃ x : ℝ, k i = x) (hck : ∀ i, ∃ x : ℝ, ck i = x)
    (b : Fin 8) (r : Fin 2048) (c : Fin 512) :
    val_main_v34 (F := Ideal) q k v ck cv (ix3 b r c) = attention q k v ck cv (ix3 b r c) := by
  have hs : ∀ j, ∃ x : ℝ, score q k ck b ⟨c.val / 64 % 2, by omega⟩ ⟨c.val / 128, by omega⟩ r j = x := fun j =>
    sum_mul_finite (fun d => by
      by_cases h : j.val < 2048
      · rw [rowsOf_lo k ck b _ j h]; exact hk _
      · rw [rowsOf_hi k ck b _ j h]; exact hck _) fun d => hq _
  pointwise [val_main_v34, val_main_v33, val_main_v32, val_main_v31, val_main_v30, val_main_v29, val_main_v28, val_main_v27, val_main_v26, val_main_v5, val_main_v4, val_main_v9, val_main_v8, prob_apply]
  have hc : c.val / 64 % 2 * 64 + c.val % 64 = c.val % 128 := by omega
  simp only [hc]
  unfold attention joined
  have e : (fun j : Fin 2304 => ∑ d : Fin 64, q (ix3 b r ⟨64 * (c.val / 64) + d.val, by omega⟩)
      * rowsOf k ck (ix3 b j ⟨64 * (c.val / 64 % 2) + d.val, by omega⟩))
      = score q k ck b ⟨c.val / 64 % 2, by omega⟩ ⟨c.val / 128, by omega⟩ r := by
    funext j
    unfold score
    refine Finset.sum_congr rfl fun d _ => (mul_comm _ _).trans (congrArg (_ * ·) (congrArg (fun x => q (ix3 b r x)) (Fin.ext ?_)))
    show 64 * (c.val / 64) + d.val = 128 * (c.val / 128) + 64 * (c.val / 64 % 2) + d.val
    omega
  refine Eq.trans ?_ (congrArg (attend · _) e.symm)
  rw [mix hs, Fin.sum_univ_two_halves 2048 256 rfl]
  refine congrArg₂ (· + ·) (Finset.sum_congr rfl fun j _ => congrArg (· * _) ?_)
    (Finset.sum_congr rfl fun j _ => congrArg (· * _) ?_)
  · exact (rowsOf_lo v cv b _ ⟨j.val, by omega⟩ j.isLt).symm
  · refine Eq.trans ?_ (rowsOf_hi v cv b _ ⟨2048 + j.val, by omega⟩ (by show ¬ 2048 + j.val < 2048; omega)).symm
    exact congrArg (fun x => cv (ix3 b x _)) (Fin.ext (Nat.add_sub_cancel_left 2048 j.val).symm)

/-- The whole result. -/
theorem result (hq : ∀ i, ∃ x : ℝ, q i = x) (hk : ∀ i, ∃ x : ℝ, k i = x) (hck : ∀ i, ∃ x : ℝ, ck i = x) :
    val_main_v34 (F := Ideal) q k v ck cv = attention q k v ck cv := by
  funext i
  obtain ⟨b, r, c, rfl⟩ : ∃ (b : Fin 8) (r : Fin 2048) (c : Fin 512), i = ix3 b r c := ⟨i 0, i 1, i 2, by
    funext a
    match a with
    | 0 => rfl
    | 1 => rfl
    | 2 => rfl⟩
  exact out_apply q k v ck cv hq hk hck b r c

end Cert.AttnRefIdeal.Element
end
-- ==== Proof.AttnFinite.lean ====
/-
  What the precondition `finite` gives: every query and key is a real number.
-/
module

public import proofs.«01_k».proof.Pre_finite
public import proofs.«01_k».proof.Proof.Gen.Pre_finite
public import Idealize.ShloMosaic.Lib.Pointwise

@[expose] public section

noncomputable section

namespace Cert.Finite

open Idealize.ShloMosaic

theorem and_one {a b : BitVec 1} (h : IntOp.andi a b = 1#1) : a = 1#1 ∧ b = 1#1 := by
  revert a b; decide

/-- A conjunction folded over a list is true only when every member is. -/
theorem fold_and {α : Type} (p : α → BitVec 1) (l : List α) (a : BitVec 1)
    (h : l.foldl (fun r n => IntOp.andi r (p n)) a = 1#1) : a = 1#1 ∧ ∀ n ∈ l, p n = 1#1 := by
  induction l generalizing a with
  | nil => exact ⟨h, by simp⟩
  | cons x xs ih =>
    obtain ⟨h1, h2⟩ := ih _ h
    obtain ⟨h3, h4⟩ := and_one h1
    refine ⟨h3, fun n hn => ?_⟩
    rcases List.mem_cons.mp hn with rfl | hn
    · exact h4
    · exact h2 n hn

/-- A reduction by `and` to one truth value is true only when every element is. -/
theorem reduce_and {s t u : Shape} {axes : List (Fin s.rank)} (x : s.Idx → BitVec 1) (init : u.Idx → BitVec 1)
    (h : s.ReducesTo axes t) (hu : 0 < u.numel) (j : t.Idx) (ht : ∀ j' : t.Idx, j' = j)
    (e : Host.reduce IntOp.andi x init h hu j = 1#1) (i : s.Idx) : x i = 1#1 := by
  have := (fold_and _ _ _ e).2 (s.rowMajor i) (List.mem_filter.mpr ⟨List.mem_finRange _, by simp [ht]⟩)
  simpa using this

/-- A value whose magnitude is below +∞ is a real number. -/
theorem real_of_lt {x : EReal} (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hx : max x (-x) < ⊤ := by
    by_contra hn
    simp [Ideal.cmp, hn] at h
  induction x using EReal.rec with
  | bot => simp at hx
  | top => simp at hx
  | coe r => exact ⟨r, rfl⟩

/-- The precondition, unpacked. -/
theorem finite_of_pre (q : FVec Ideal Pre_finite.S8x2048x512 .bf16) (k v : FVec Ideal Pre_finite.S8x2048x128 .bf16)
    (ck cv : FVec Ideal Pre_finite.S8x256x128 .bf16) (h : Pre_finite.fn (F := Ideal) q k v ck cv = fun _ => 1#1) :
    (∀ i, ∃ r : ℝ, q i = r) ∧ (∀ i, ∃ r : ℝ, k i = r) ∧ (∀ i, ∃ r : ℝ, ck i = r) := by
  have e := congrFun h (fun a => a.elim0)
  have one : ∀ j : Pre_finite.S_.Idx, j = fun a => a.elim0 := fun j => funext fun a => a.elim0
  unfold Pre_finite.fn at e
  obtain ⟨e1, e3⟩ := and_one e
  obtain ⟨e1, e2⟩ := and_one e1
  exact ⟨fun i => real_of_lt (reduce_and _ _ _ _ _ one e1 i), fun i => real_of_lt (reduce_and _ _ _ _ _ one e2 i),
    fun i => real_of_lt (reduce_and _ _ _ _ _ one e3 i)⟩

end Cert.Finite
end
-- ==== Proof.Projection.lean ====
/-
  The input projection of one row, on plain functions: the modulated RMS norm of the row and its product with the weights,
  the RMS norm of a 64-lane head, the rotation of its lane pairs. Heads are taken two at a time, in groups of 128 lanes. The
  kernel's form of each (a product with a block matrix for the mean of a head, rolled lanes for the pair's other lane) is set
  beside the plain one.
-/
module

public import Idealize.ShloMosaic.Lib.Pointwise
public import Idealize.ShloMosaic.Lib.Pipeline.ValueKit.Tiles

@[expose] public section

noncomputable section

namespace Cert.Projection

open Idealize.ShloMosaic
open scoped BigOperators

/-- The norms' epsilon. -/
abbrev eps : EReal := Ideal.ofBits FTy.f32 897988541#32

/-- A row over the root of its mean square (`len` its length). -/
def unit {n : ℕ} (len : EReal) (v : Fin n → EReal) (d : Fin n) : EReal :=
  v d * Ideal.rsqrt (Ideal.div (∑ e, v e * v e) len + eps)

/-- The normed row, scaled and shifted. -/
def modulated (x scale shift : Fin 1024 → EReal) (d : Fin 1024) : EReal :=
  unit (Ideal.ofBits FTy.f32 1149239296#32) x d * scale d + shift d

/-- The row's product with a column of weights. -/
def product {n : ℕ} (h w : Fin n → EReal) : EReal := ∑ d, h d * w d

/-- Lane `i` of the 64 lanes that lane `l` is in. -/
abbrev mate (l : Fin 128) (i : Fin 64) : Fin 128 := ⟨64 * (l.val / 64) + i.val, by omega⟩

/-- The RMS norm of each 64-lane head of a group, with the heads' weights. -/
def headNorm (v : Fin 128 → EReal) (w : Fin 64 → EReal) (l : Fin 128) : EReal :=
  v l * Ideal.rsqrt (Ideal.div (∑ i : Fin 64, v (mate l i) * v (mate l i)) (Ideal.ofBits FTy.f32 1115684864#32) + eps)
    * w ⟨l.val % 64, by omega⟩

/-- The number of the pair of lanes, in its head. -/
abbrev pair (l : Fin 128) : Fin 32 := ⟨l.val % 64 / 2, by omega⟩

/-- The rotation of the lane pairs. -/
def rotated (v : Fin 128 → EReal) (cos sin : Fin 32 → EReal) (l : Fin 128) : EReal :=
  if h : l.val % 2 = 0 then v l * cos (pair l) - v ⟨l.val + 1, by omega⟩ * sin (pair l)
  else v ⟨l.val - 1, by omega⟩ * sin (pair l) + v l * cos (pair l)

/-- A head's norm as the kernel takes it: the mean square by a product with a 128 × 128 matrix. -/
def headNormK (v : Fin 128 → EReal) (bd : Fin 128 → Fin 128 → EReal) (w : Fin 128 → EReal) (l : Fin 128) : EReal :=
  v l * Ideal.rsqrt (∑ x, v x * v x * bd x l + eps) * w l

/-- The rotation as the kernel takes it: the pair's other lane by rolls of the group. -/
def rotatedK (v cos sin : Fin 128 → EReal) (l : Fin 128) : EReal :=
  v l * cos l + (if l.val % 2 = 0 then v ⟨(l.val + 128 - 127) % 128, by omega⟩ else v ⟨(l.val + 128 - 1) % 128, by omega⟩)
    * sin l

/-- The block matrix that averages the 64 lanes of a head. -/
def blockMean (x l : Fin 128) : EReal :=
  if x.val / 64 = l.val / 64 then Ideal.ofBits FTy.f32 1015021568#32 else 0

theorem ofBits_64 : Ideal.ofBits FTy.f32 1115684864#32 = ((64 : ℝ) : EReal) := by
  simp [Ideal.ofBits, Ideal.ieee]
  norm_cast
  norm_num

theorem ofBits_inv64 : Ideal.ofBits FTy.f32 1015021568#32 = ((1 / 64 : ℝ) : EReal) := by
  simp [Ideal.ofBits, Ideal.ieee]
  norm_cast
  norm_num

theorem div_64 (x : EReal) : Ideal.div x (Ideal.ofBits FTy.f32 1115684864#32) = x * Ideal.ofBits FTy.f32 1015021568#32 := by
  rw [ofBits_64, ofBits_inv64]
  unfold Ideal.div
  rw [if_neg (by exact_mod_cast (by norm_num : (64 : ℝ) ≠ 0))]
  congr 1
  rw [← EReal.coe_inv]
  norm_num

theorem mul_self_nonneg (x : EReal) : 0 ≤ x * x := by
  rcases le_total 0 x with h | h
  · exact mul_nonneg h h
  · have : 0 ≤ (-x) * (-x) := mul_nonneg (by simpa using h) (by simpa using h)
    simpa using this

/-- A sum of non-negative terms times a factor is the sum of the products. -/
theorem sum_mul {ι : Type} (s : Finset ι) (f : ι → EReal) (c : EReal) (h : ∀ i, 0 ≤ f i) :
    ∑ i ∈ s, f i * c = (∑ i ∈ s, f i) * c := by
  classical
  induction s using Finset.induction_on with
  | empty => simp
  | insert a s ha ih =>
    rw [Finset.sum_insert ha, Finset.sum_insert ha, ih,
      EReal.right_distrib_of_nonneg (h a) (Finset.sum_nonneg fun i _ => h i)]

/-- The block matrix takes the mean square of the head. -/
theorem mean_eq (v : Fin 128 → EReal) (l : Fin 128) :
    ∑ x, v x * v x * blockMean x l
      = Ideal.div (∑ i : Fin 64, v (mate l i) * v (mate l i)) (Ideal.ofBits FTy.f32 1115684864#32) := by
  rw [div_64, ← sum_mul _ _ _ fun i => mul_self_nonneg _, Fin.sum_univ_two_halves 64 64 rfl]
  have hl := l.isLt
  by_cases h : l.val < 64
  · rw [add_comm, Finset.sum_eq_zero fun i _ => ?_, zero_add]
    · refine Finset.sum_congr rfl fun i _ => ?_
      have e : mate l i = ⟨i.val, by omega⟩ := Fin.ext (by show 64 * (l.val / 64) + i.val = i.val; omega)
      rw [e]
      unfold blockMean
      rw [if_pos (by show i.val / 64 = l.val / 64; omega)]
    · unfold blockMean
      rw [if_neg (by show ¬ (64 + i.val) / 64 = l.val / 64; omega), mul_zero]
  · rw [Finset.sum_eq_zero fun i _ => ?_, zero_add]
    · refine Finset.sum_congr rfl fun i _ => ?_
      have e : mate l i = ⟨64 + i.val, by omega⟩ := Fin.ext (by show 64 * (l.val / 64) + i.val = 64 + i.val; omega)
      rw [e]
      unfold blockMean
      rw [if_pos (by show (64 + i.val) / 64 = l.val / 64; omega)]
    · unfold blockMean
      rw [if_neg (by show ¬ i.val / 64 = l.val / 64; have := i.isLt; omega), mul_zero]

/-- The kernel's norm of a head is the plain one, on the block matrix and the repeated weights. -/
theorem headNormK_eq (v : Fin 128 → EReal) (w : Fin 64 → EReal) :
    headNormK v blockMean (fun l => w ⟨l.val % 64, by omega⟩) = headNorm v w := by
  funext l
  unfold headNormK headNorm
  rw [mean_eq]

/-- The signed sine table of the kernel, lane by lane. -/
def signed (sin : Fin 32 → EReal) (l : Fin 128) : EReal :=
  sin (pair l) * if l.val % 2 = 0 then -1 else 1

/-- The kernel's rotation is the plain one, on the repeated cosines and the signed sines. -/
theorem rotatedK_eq (v : Fin 128 → EReal) (cos sin : Fin 32 → EReal) :
    rotatedK v (fun l => cos (pair l)) (signed sin) = rotated v cos sin := by
  funext l
  have hl := l.isLt
  unfold rotatedK rotated signed
  by_cases h : l.val % 2 = 0
  · rw [if_pos h, if_pos h, dif_pos h, sub_eq_add_neg]
    have e : (⟨(l.val + 128 - 127) % 128, by omega⟩ : Fin 128) = ⟨l.val + 1, by omega⟩ :=
      Fin.ext (by show (l.val + 128 - 127) % 128 = l.val + 1; omega)
    rw [e, mul_neg, mul_one, mul_neg]
  · rw [if_neg h, if_neg h, dif_neg h, add_comm]
    have e : (⟨(l.val + 128 - 1) % 128, by omega⟩ : Fin 128) = ⟨l.val - 1, by omega⟩ :=
      Fin.ext (by show (l.val + 128 - 1) % 128 = l.val - 1; omega)
    rw [e, mul_one]

end Cert.Projection
end
-- ==== Proof.ProjBlock.lean ====
/-
  What one grid point of the input projection leaves in its seven output blocks, element by element: row `r` of the block
  is the projection of row `r` of its input block (Proof/Projection.lean).
-/
module

public import proofs.«01_k».proof.Proof.Projection
public import proofs.«01_k».proof.Proof.Gen.ProjIdeal.Frame

@[expose] public section

set_option maxRecDepth 16384

noncomputable section

namespace Cert.ProjIdeal.Block

open Cert.ProjIdeal Cert.ProjIdeal.Gen Idealize.ShloMosaic Cert.Projection
open scoped BigOperators

/-- The projected row `r` of a block, at a column. -/
def zrow (x0 : Vec Ideal S1x512x1024 .f32) (x1 x2 : Vec Ideal S1x1x1024 .f32) (x3 : Vec Ideal S1024x2816 .bf16) (r : Fin 512)
    (c : Fin 2816) : EReal :=
  product (modulated (fun d => x0 (ix3 0 r d)) (fun d => x1 (ix3 0 0 d)) (fun d => x2 (ix3 0 0 d))) (fun d => x3 (ix2 d c))

theorem z_apply (x0 : Vec Ideal S1x512x1024 .f32) (x1 x2 : Vec Ideal S1x1x1024 .f32) (x3 : Vec Ideal S1024x2816 .bf16)
    (r : Fin 512) (c : Fin 2816) : k0_pay4 (F := Ideal) x0 x1 x2 x3 (ix2 r c) = zrow x0 x1 x2 x3 r c := by
  pointwise [k0_pay4]
  rfl

/-- Loads of the whole blocks are the blocks. -/
theorem zrow_ld (x0 : Vec Ideal S1x512x1024 .f32) (x1 x2 : Vec Ideal S1x1x1024 .f32) (x3 : Vec Ideal S1024x2816 .bf16)
    (r : Fin 512) (c : Fin 2816) :
    zrow (View.ld x0 r0_0) (View.ld x1 r0_1) (View.ld x2 r0_1) (View.ld x3 r0_2) r c = zrow x0 x1 x2 x3 r c := by
  have e0 : ∀ d : Fin 1024, View.ld x0 r0_0 (ix3 0 r d) = x0 (ix3 0 r d) := fun d => by pointwise []
  have e1 : ∀ d : Fin 1024, View.ld x1 r0_1 (ix3 0 0 d) = x1 (ix3 0 0 d) := fun d => by pointwise []
  have e2 : ∀ d : Fin 1024, View.ld x2 r0_1 (ix3 0 0 d) = x2 (ix3 0 0 d) := fun d => by pointwise []
  have e3 : ∀ d : Fin 1024, View.ld x3 r0_2 (ix2 d c) = x3 (ix2 d c) := fun d => by pointwise []
  unfold zrow
  simp only [e0, e1, e2, e3]

/-- Lane `l` is even, as the kernel tests it. -/
theorem even_eq (l : Fin 128) :
    IntOp.cmpi CmpIPredicate.eq
      (Scalar.select
        (IntOp.andi
          (IntOp.xori
            (IntOp.cmpi CmpIPredicate.slt
              (IntOp.remsi ArithUnit.vector (BitVec.ofNat 32 l.val)
                (Scalar.select (Scalar.cmpi CmpIPredicate.eq 2#32 0#32) 1#32 2#32)) 0#32)
            (Scalar.cmpi CmpIPredicate.slt (Scalar.select (Scalar.cmpi CmpIPredicate.eq 2#32 0#32) 1#32 2#32) 0#32))
          (IntOp.cmpi CmpIPredicate.ne
            (IntOp.remsi ArithUnit.vector (BitVec.ofNat 32 l.val)
              (Scalar.select (Scalar.cmpi CmpIPredicate.eq 2#32 0#32) 1#32 2#32)) 0#32))
        (IntOp.addi
          (IntOp.remsi ArithUnit.vector (BitVec.ofNat 32 l.val)
            (Scalar.select (Scalar.cmpi CmpIPredicate.eq 2#32 0#32) 1#32 2#32))
          (Scalar.select (Scalar.cmpi CmpIPredicate.eq 2#32 0#32) 1#32 2#32))
        (IntOp.remsi ArithUnit.vector (BitVec.ofNat 32 l.val)
          (Scalar.select (Scalar.cmpi CmpIPredicate.eq 2#32 0#32) 1#32 2#32))) 0#32
      = if l.val % 2 = 0 then 1#1 else 0#1 := by
  revert l; decide +kernel

theorem select_if {α : Type} (p : Prop) [Decidable p] (a b : α) :
    Scalar.select (if p then 1#1 else 0#1) a b = if p then a else b := by
  by_cases h : p
  · rw [if_pos h, if_pos h]; exact if_pos rfl
  · rw [if_neg h, if_neg h]; exact if_neg (by decide)

/-- The `n` columns of the projected row from column `off` on. -/
def lanes {n : ℕ} (x0 : Vec Ideal S1x512x1024 .f32) (x1 x2 : Vec Ideal S1x1x1024 .f32) (x3 : Vec Ideal S1024x2816 .bf16)
    (off : ℕ) (ho : off + n ≤ 2816) (r : Fin 512) (l : Fin n) : EReal := zrow x0 x1 x2 x3 r ⟨off + l.val, by omega⟩

/-- The normed and rotated lanes. -/
def heads (x0 : Vec Ideal S1x512x1024 .f32) (x1 x2 : Vec Ideal S1x1x1024 .f32) (x3 : Vec Ideal S1024x2816 .bf16)
    (x4 : Vec Ideal S128x128 .bf16) (w : Vec Ideal S1x128 .f32) (x7 x8 : Vec Ideal S512x128 .f32)
    (off : ℕ) (ho : off + 128 ≤ 2816) (r : Fin 512) (l : Fin 128) : EReal :=
  rotatedK (headNormK (lanes x0 x1 x2 x3 off ho r) (fun a b => x4 (ix2 a b)) (fun a => w (ix2 0 a)))
    (fun a => x7 (ix2 r a)) (fun a => x8 (ix2 r a)) l

theorem split128 (x : S1x512x128.Idx) : ∃ (r : Fin 512) (l : Fin 128), x = ix3 0 r l := ⟨x 1, x 2, by
  funext a
  match a with
  | 0 => exact Subsingleton.elim (α := Fin 1) _ _
  | 1 => rfl
  | 2 => rfl⟩

theorem split512 (x : S1x512x512.Idx) : ∃ (r : Fin 512) (l : Fin 512), x = ix3 0 r l := ⟨x 1, x 2, by
  funext a
  match a with
  | 0 => exact Subsingleton.elim (α := Fin 1) _ _
  | 1 => rfl
  | 2 => rfl⟩

variable (x0 : Vec Ideal S1x512x1024 .f32) (x1 x2 : Vec Ideal S1x1x1024 .f32) (x3 : Vec Ideal S1024x2816 .bf16)
  (x4 : Vec Ideal S128x128 .bf16) (x5 x6 : Vec Ideal S1x128 .f32) (x7 x8 : Vec Ideal S512x128 .f32)

/-- The attention keys' block. -/
theorem out9_apply (y : S1x512x128.Idx) :
    out0_9 x0 x1 x2 x3 x4 x5 x6 x7 x8 y = heads x0 x1 x2 x3 x4 x5 x7 x8 0 (by omega) (y 1) (y 2) := by
  unfold_out out0_9
  canon_tiles x h using cover0_9 ..
  obtain ⟨r, l, rfl⟩ := split128 x
  rw [show y 1 = r from Fin.ext h1, show y 2 = l from Fin.ext h2]
  pointwise [k0_pay7, k0_pay6, k0_pay5, z_apply, zrow_ld, even_eq, select_if]
  unfold heads rotatedK headNormK lanes
  simp only [Nat.zero_add]

/-- The attention values' block. -/
theorem out10_apply (y : S1x512x128.Idx) :
    out0_10 x0 x1 x2 x3 x4 x5 x6 x7 x8 y = lanes (n := 128) x0 x1 x2 x3 128 (by omega) (y 1) (y 2) := by
  unfold_out out0_10
  canon_tiles x h using cover0_10 ..
  obtain ⟨r, l, rfl⟩ := split128 x
  rw [show y 1 = r from Fin.ext h1, show y 2 = l from Fin.ext h2]
  pointwise [k0_pay8, z_apply, zrow_ld]
  rfl

/-- The retention keys' block. -/
theorem out11_apply (y : S1x512x512.Idx) :
    out0_11 x0 x1 x2 x3 x4 x5 x6 x7 x8 y
      = lanes (n := 512) x0 x1 x2 x3 256 (by omega) (y 1) (y 2)
        * Ideal.ofBits FTy.f32 0x3E000000#32 := by
  unfold_out out0_11
  canon_tiles x h using cover0_11 ..
  obtain ⟨r, l, rfl⟩ := split512 x
  rw [show y 1 = r from Fin.ext h1, show y 2 = l from Fin.ext h2]
  pointwise [k0_pay9, z_apply, zrow_ld]
  rfl

/-- The retention values' block. -/
theorem out12_apply (y : S1x512x512.Idx) :
    out0_12 x0 x1 x2 x3 x4 x5 x6 x7 x8 y
      = lanes (n := 512) x0 x1 x2 x3 768 (by omega) (y 1) (y 2) := by
  unfold_out out0_12
  canon_tiles x h using cover0_12 ..
  obtain ⟨r, l, rfl⟩ := split512 x
  rw [show y 1 = r from Fin.ext h1, show y 2 = l from Fin.ext h2]
  pointwise [k0_pay10, z_apply, zrow_ld]
  rfl

/-- The retention queries' block. -/
theorem out14_apply (y : S1x512x512.Idx) :
    out0_14 x0 x1 x2 x3 x4 x5 x6 x7 x8 y
      = lanes (n := 512) x0 x1 x2 x3 1792 (by omega) (y 1) (y 2) := by
  unfold_out out0_14
  canon_tiles x h using cover0_14 ..
  obtain ⟨r, l, rfl⟩ := split512 x
  rw [show y 1 = r from Fin.ext h1, show y 2 = l from Fin.ext h2]
  pointwise [k0_pay2, z_apply, zrow_ld]
  rfl

/-- The retention gate's block. -/
theorem out15_apply (y : S1x512x512.Idx) :
    out0_15 x0 x1 x2 x3 x4 x5 x6 x7 x8 y
      = lanes (n := 512) x0 x1 x2 x3 2304 (by omega) (y 1) (y 2) := by
  unfold_out out0_15
  canon_tiles x h using cover0_15 ..
  obtain ⟨r, l, rfl⟩ := split512 x
  rw [show y 1 = r from Fin.ext h1, show y 2 = l from Fin.ext h2]
  pointwise [k0_pay3, z_apply, zrow_ld]
  rfl

/-- The attention queries' block: column `col` is lane `col % 128` of group `col / 128`, scaled by 1/8. -/
def queries (r col : Fin 512) : EReal :=
  heads x0 x1 x2 x3 x4 x6 x7 x8 (1280 + 128 * (col.val / 128)) (by omega) r ⟨col.val % 128, by omega⟩
    * Ideal.ofBits FTy.f32 0x3E000000#32

/-- A column of group `p`. -/
theorem queries_apply (r : Fin 512) (p : Fin 4) (l : Fin 128) (col : Fin 512) (hc : col.val = 128 * p.val + l.val)
    (off : ℕ) (ho : off + 128 ≤ 2816) (e : off = 1280 + 128 * p.val) :
    heads x0 x1 x2 x3 x4 x6 x7 x8 off ho r l * Ideal.ofBits FTy.f32 0x3E000000#32
      = queries x0 x1 x2 x3 x4 x6 x7 x8 r col := by
  subst e
  unfold queries
  have e1 : 128 * (col.val / 128) = 128 * p.val := by omega
  have e2 : (⟨col.val % 128, by omega⟩ : Fin 128) = l := Fin.ext (by show col.val % 128 = l.val; omega)
  simp only [e1, e2]

theorem out13_apply (y : S1x512x512.Idx) :
    out0_13 x0 x1 x2 x3 x4 x5 x6 x7 x8 y = queries x0 x1 x2 x3 x4 x6 x7 x8 (y 1) (y 2) := by
  unfold_out out0_13
  canon_tiles x h using cover0_13 ..
  all_goals
    obtain ⟨r, l, rfl⟩ := split128 x
    rw [show y 1 = r from Fin.ext h1]
  case piece0 =>
    refine Eq.trans ?_ (queries_apply x0 x1 x2 x3 x4 x6 x7 x8 r 3 l _ h2 1664 (by omega) rfl)
    pointwise [k0_pay1, k0_pay25, k0_pay26, k0_pay27, k0_pay24, z_apply, zrow_ld, even_eq, select_if]
    unfold heads rotatedK headNormK lanes
    rfl
  case piece1 =>
    refine Eq.trans ?_ (queries_apply x0 x1 x2 x3 x4 x6 x7 x8 r 2 l _ h2 1536 (by omega) rfl)
    pointwise [k0_pay23, k0_pay22, k0_pay21, k0_pay20, z_apply, zrow_ld, even_eq, select_if]
    unfold heads rotatedK headNormK lanes
    rfl
  case piece2 =>
    refine Eq.trans ?_ (queries_apply x0 x1 x2 x3 x4 x6 x7 x8 r 1 l _ h2 1408 (by omega) rfl)
    pointwise [k0_pay19, k0_pay18, k0_pay17, z_apply, zrow_ld, even_eq, select_if]
    unfold heads rotatedK headNormK lanes
    rfl
  case piece3 =>
    refine Eq.trans ?_ (queries_apply x0 x1 x2 x3 x4 x6 x7 x8 r 0 l _ (h2.trans (Nat.zero_add _).symm) 1280 (by omega) rfl)
    pointwise [k0_pay16, k0_pay15, k0_pay14, k0_pay13, k0_pay12, k0_pay11, z_apply, zrow_ld, even_eq, select_if]
    unfold heads rotatedK headNormK lanes
    rfl

end Cert.ProjIdeal.Block
end
-- ==== Proof.ProjKernel.lean ====
/-
  The input projection's seven result arrays: row `l` of batch `b` of each is the projection of that row of the input
  (Proof/Projection.lean), on the columns of the result.
-/
module

public import proofs.«01_k».proof.Proof.ProjBlock
public import proofs.«01_k».proof.Proof.Gen.ProjIdeal.Value
public import Idealize.ShloMosaic.Lib.StableHlo.ReadAt

@[expose] public section

set_option maxRecDepth 16384

noncomputable section

namespace Cert.ProjIdeal.Array

open Cert.ProjIdeal Cert.ProjIdeal.Gen Cert.ProjIdeal.Block Idealize.ShloMosaic Idealize.ShloMosaic.TcCoe Idealize.SL.Sem
open Idealize.ShloMosaic.Pipeline (Dat)
open Cert.Projection
open scoped BigOperators

variable (m : (ℓ : Loc nD τ sig) → Buf (Elt Ideal) ℓ) (ρ : Dev nD → PrngReg)

/-- The block indices of the input windows at point `t`: batch `t / 4`, rows `512 (t % 4) …`. -/
theorem in_index : ∀ t : Fin cfg0.N,
    (win0_0.index t 0 = t.val / 4 ∧ win0_0.index t 1 = t.val % 4 ∧ win0_0.index t 2 = 0)
    ∧ (win0_1.index t 0 = t.val / 4 ∧ win0_1.index t 1 = 0 ∧ win0_1.index t 2 = 0)
    ∧ (win0_2.index t 0 = t.val / 4 ∧ win0_2.index t 1 = 0 ∧ win0_2.index t 2 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = t.val % 4 ∧ win0_7.index t 1 = 0)
    ∧ (win0_8.index t 0 = t.val % 4 ∧ win0_8.index t 1 = 0) :=
  (by decide +kernel : ∀ t : Fin grid0.N,
    (win0_0.index t 0 = t.val / 4 ∧ win0_0.index t 1 = t.val % 4 ∧ win0_0.index t 2 = 0)
    ∧ (win0_1.index t 0 = t.val / 4 ∧ win0_1.index t 1 = 0 ∧ win0_1.index t 2 = 0)
    ∧ (win0_2.index t 0 = t.val / 4 ∧ win0_2.index t 1 = 0 ∧ win0_2.index t 2 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = t.val % 4 ∧ win0_7.index t 1 = 0)
    ∧ (win0_8.index t 0 = t.val % 4 ∧ win0_8.index t 1 = 0))

/-- The block indices of the output windows at point `t`. -/
theorem out_index : ∀ t : Fin cfg0.N,
    (win0_9.index t 0 = t.val / 4 ∧ win0_9.index t 1 = t.val % 4 ∧ win0_9.index t 2 = 0)
    ∧ (win0_10.index t 0 = t.val / 4 ∧ win0_10.index t 1 = t.val % 4 ∧ win0_10.index t 2 = 0)
    ∧ (win0_11.index t 0 = t.val / 4 ∧ win0_11.index t 1 = t.val % 4 ∧ win0_11.index t 2 = 0)
    ∧ (win0_12.index t 0 = t.val / 4 ∧ win0_12.index t 1 = t.val % 4 ∧ win0_12.index t 2 = 0)
    ∧ (win0_13.index t 0 = t.val / 4 ∧ win0_13.index t 1 = t.val % 4 ∧ win0_13.index t 2 = 0)
    ∧ (win0_14.index t 0 = t.val / 4 ∧ win0_14.index t 1 = t.val % 4 ∧ win0_14.index t 2 = 0)
    ∧ (win0_15.index t 0 = t.val / 4 ∧ win0_15.index t 1 = t.val % 4 ∧ win0_15.index t 2 = 0) :=
  (by decide +kernel : ∀ t : Fin grid0.N,
    (win0_9.index t 0 = t.val / 4 ∧ win0_9.index t 1 = t.val % 4 ∧ win0_9.index t 2 = 0)
    ∧ (win0_10.index t 0 = t.val / 4 ∧ win0_10.index t 1 = t.val % 4 ∧ win0_10.index t 2 = 0)
    ∧ (win0_11.index t 0 = t.val / 4 ∧ win0_11.index t 1 = t.val % 4 ∧ win0_11.index t 2 = 0)
    ∧ (win0_12.index t 0 = t.val / 4 ∧ win0_12.index t 1 = t.val % 4 ∧ win0_12.index t 2 = 0)
    ∧ (win0_13.index t 0 = t.val / 4 ∧ win0_13.index t 1 = t.val % 4 ∧ win0_13.index t 2 = 0)
    ∧ (win0_14.index t 0 = t.val / 4 ∧ win0_14.index t 1 = t.val % 4 ∧ win0_14.index t 2 = 0)
    ∧ (win0_15.index t 0 = t.val / 4 ∧ win0_15.index t 1 = t.val % 4 ∧ win0_15.index t 2 = 0))

theorem iblk_x (c : Dev nD) (t : Fin cfg0.N) (z : S1x512x1024.Idx) (i : S8x2048x1024.Idx)
    (h0 : (i 0).val = t.val / 4) (h1 : (i 1).val = 512 * (t.val % 4) + (z 1).val) (h2 : (i 2).val = (z 2).val) :
    (iblk m c 0 t : Vec Ideal S1x512x1024 .f32) z = V m c main_arg0 i := by
  obtain ⟨⟨a0, a1, a2⟩, -⟩ := in_index t
  have hz : (z 0).val < 1 := (z 0).isLt
  unfold iblk
  rw [View.read_apply]
  show V m c main_arg0 _ = _
  congr 1
  funext a
  apply Fin.ext
  match a with
  | ⟨0, _⟩ => show win0_0.index t 0 * 1 + 1 * (z 0).val = (i 0).val; rw [a0]; omega
  | ⟨1, _⟩ => show win0_0.index t 1 * 512 + 1 * (z 1).val = (i 1).val; rw [a1]; omega
  | ⟨2, _⟩ => show win0_0.index t 2 * 1024 + 1 * (z 2).val = (i 2).val; rw [a2]; omega

theorem iblk_scale (c : Dev nD) (t : Fin cfg0.N) (z : S1x1x1024.Idx) (i : S8x1x1024.Idx)
    (h0 : (i 0).val = t.val / 4) (h1 : (i 1).val = (z 1).val) (h2 : (i 2).val = (z 2).val) :
    (iblk m c 1 t : Vec Ideal S1x1x1024 .f32) z = V m c main_v4 i := by
  obtain ⟨-, ⟨a0, a1, a2⟩, -⟩ := in_index t
  have hz : (z 0).val < 1 := (z 0).isLt
  have hz1 : (z 1).val < 1 := (z 1).isLt
  unfold iblk
  rw [View.read_apply]
  show V m c main_v4 _ = _
  congr 1
  funext a
  apply Fin.ext
  match a with
  | ⟨0, _⟩ => show win0_1.index t 0 * 1 + 1 * (z 0).val = (i 0).val; rw [a0]; omega
  | ⟨1, _⟩ => show win0_1.index t 1 * 1 + 1 * (z 1).val = (i 1).val; rw [a1]; omega
  | ⟨2, _⟩ => show win0_1.index t 2 * 1024 + 1 * (z 2).val = (i 2).val; rw [a2]; omega

theorem iblk_shift (c : Dev nD) (t : Fin cfg0.N) (z : S1x1x1024.Idx) (i : S8x1x1024.Idx)
    (h0 : (i 0).val = t.val / 4) (h1 : (i 1).val = (z 1).val) (h2 : (i 2).val = (z 2).val) :
    (iblk m c 2 t : Vec Ideal S1x1x1024 .f32) z = V m c main_arg1 i := by
  obtain ⟨-, -, ⟨a0, a1, a2⟩, -⟩ := in_index t
  have hz : (z 0).val < 1 := (z 0).isLt
  have hz1 : (z 1).val < 1 := (z 1).isLt
  unfold iblk
  rw [View.read_apply]
  show V m c main_arg1 _ = _
  congr 1
  funext a
  apply Fin.ext
  match a with
  | ⟨0, _⟩ => show win0_2.index t 0 * 1 + 1 * (z 0).val = (i 0).val; rw [a0]; omega
  | ⟨1, _⟩ => show win0_2.index t 1 * 1 + 1 * (z 1).val = (i 1).val; rw [a1]; omega
  | ⟨2, _⟩ => show win0_2.index t 2 * 1024 + 1 * (z 2).val = (i 2).val; rw [a2]; omega

theorem iblk_w (c : Dev nD) (t : Fin cfg0.N) (z : S1024x2816.Idx) (i : S1024x2816.Idx)
    (h0 : (i 0).val = (z 0).val) (h1 : (i 1).val = (z 1).val) :
    (iblk m c 3 t : Vec Ideal S1024x2816 .bf16) z = V m c main_v38 i := by
  obtain ⟨-, -, -, ⟨a0, a1⟩, -⟩ := in_index t
  unfold iblk
  rw [View.read_apply]
  show V m c main_v38 _ = _
  congr 1
  funext a
  apply Fin.ext
  match a with
  | ⟨0, _⟩ => show win0_3.index t 0 * 1024 + 1 * (z 0).val = (i 0).val; rw [a0]; omega
  | ⟨1, _⟩ => show win0_3.index t 1 * 2816 + 1 * (z 1).val = (i 1).val; rw [a1]; omega

theorem iblk_bd (c : Dev nD) (t : Fin cfg0.N) (z : S128x128.Idx) (i : S128x128.Idx)
    (h0 : (i 0).val = (z 0).val) (h1 : (i 1).val = (z 1).val) :
    (iblk m c 4 t : Vec Ideal S128x128 .bf16) z = V m c main_v13 i := by
  obtain ⟨-, -, -, -, ⟨a0, a1⟩, -⟩ := in_index t
  unfold iblk
  rw [View.read_apply]
  show V m c main_v13 _ = _
  congr 1
  funext a
  apply Fin.ext
  match a with
  | ⟨0, _⟩ => show win0_4.index t 0 * 128 + 1 * (z 0).val = (i 0).val; rw [a0]; omega
  | ⟨1, _⟩ => show win0_4.index t 1 * 128 + 1 * (z 1).val = (i 1).val; rw [a1]; omega

theorem iblk_kw (c : Dev nD) (t : Fin cfg0.N) (z : S1x128.Idx) (i : S1x128.Idx)
    (h0 : (i 0).val = (z 0).val) (h1 : (i 1).val = (z 1).val) :
    (iblk m c 5 t : Vec Ideal S1x128 .f32) z = V m c main_v17 i := by
  obtain ⟨-, -, -, -, -, ⟨a0, a1⟩, -⟩ := in_index t
  have hz : (z 0).val < 1 := (z 0).isLt
  unfold iblk
  rw [View.read_apply]
  show V m c main_v17 _ = _
  congr 1
  funext a
  apply Fin.ext
  match a with
  | ⟨0, _⟩ => show win0_5.index t 0 * 1 + 1 * (z 0).val = (i 0).val; rw [a0]; omega
  | ⟨1, _⟩ => show win0_5.index t 1 * 128 + 1 * (z 1).val = (i 1).val; rw [a1]; omega

theorem iblk_qw (c : Dev nD) (t : Fin cfg0.N) (z : S1x128.Idx) (i : S1x128.Idx)
    (h0 : (i 0).val = (z 0).val) (h1 : (i 1).val = (z 1).val) :
    (iblk m c 6 t : Vec Ideal S1x128 .f32) z = V m c main_v21 i := by
  obtain ⟨-, -, -, -, -, -, ⟨a0, a1⟩, -⟩ := in_index t
  have hz : (z 0).val < 1 := (z 0).isLt
  unfold iblk
  rw [View.read_apply]
  show V m c main_v21 _ = _
  congr 1
  funext a
  apply Fin.ext
  match a with
  | ⟨0, _⟩ => show win0_6.index t 0 * 1 + 1 * (z 0).val = (i 0).val; rw [a0]; omega
  | ⟨1, _⟩ => show win0_6.index t 1 * 128 + 1 * (z 1).val = (i 1).val; rw [a1]; omega

theorem iblk_cos (c : Dev nD) (t : Fin cfg0.N) (z : S512x128.Idx) (i : S2048x128.Idx)
    (h0 : (i 0).val = 512 * (t.val % 4) + (z 0).val) (h1 : (i 1).val = (z 1).val) :
    (iblk m c 7 t : Vec Ideal S512x128 .f32) z = V m c main_v26 i := by
  obtain ⟨-, -, -, -, -, -, -, ⟨a0, a1⟩, -⟩ := in_index t
  unfold iblk
  rw [View.read_apply]
  show V m c main_v26 _ = _
  congr 1
  funext a
  apply Fin.ext
  match a with
  | ⟨0, _⟩ => show win0_7.index t 0 * 512 + 1 * (z 0).val = (i 0).val; rw [a0]; omega
  | ⟨1, _⟩ => show win0_7.index t 1 * 128 + 1 * (z 1).val = (i 1).val; rw [a1]; omega

theorem iblk_sin (c : Dev nD) (t : Fin cfg0.N) (z : S512x128.Idx) (i : S2048x128.Idx)
    (h0 : (i 0).val = 512 * (t.val % 4) + (z 0).val) (h1 : (i 1).val = (z 1).val) :
    (iblk m c 8 t : Vec Ideal S512x128 .f32) z = V m c main_v37 i := by
  obtain ⟨-, -, -, -, -, -, -, -, ⟨a0, a1⟩⟩ := in_index t
  unfold iblk
  rw [View.read_apply]
  show V m c main_v37 _ = _
  congr 1
  funext a
  apply Fin.ext
  match a with
  | ⟨0, _⟩ => show win0_8.index t 0 * 512 + 1 * (z 0).val = (i 0).val; rw [a0]; omega
  | ⟨1, _⟩ => show win0_8.index t 1 * 128 + 1 * (z 1).val = (i 1).val; rw [a1]; omega

/-- The projected row `l` of batch `b`, at a column, over the call's arrays. -/
def row (x : S8x2048x1024.Idx → EReal) (sc sh : S8x1x1024.Idx → EReal) (w : S1024x2816.Idx → EReal) (b : Fin 8) (l : Fin 2048)
    (c : Fin 2816) : EReal :=
  product (modulated (fun d => x (ix3 b l d)) (fun d => sc (ix3 b 0 d)) (fun d => sh (ix3 b 0 d))) (fun d => w (ix2 d c))

/-- The same row by the block of its point. -/
theorem zrow_blk (c : Dev nD) (t : Fin cfg0.N) (r : Fin 512) (b : Fin 8) (l : Fin 2048) (hb : b.val = t.val / 4)
    (hl : l.val = 512 * (t.val % 4) + r.val) (k : Fin 2816) :
    zrow (iblk m c 0 t) (iblk m c 1 t) (iblk m c 2 t) (iblk m c 3 t) r k
      = row (V m c main_arg0) (V m c main_v4) (V m c main_arg1) (V m c main_v38) b l k := by
  have e0 : ∀ d : Fin 1024, (iblk m c 0 t : Vec Ideal S1x512x1024 .f32) (ix3 0 r d) = V m c main_arg0 (ix3 b l d) :=
    fun d => iblk_x m c t _ _ hb hl rfl
  have e1 : ∀ d : Fin 1024, (iblk m c 1 t : Vec Ideal S1x1x1024 .f32) (ix3 0 0 d) = V m c main_v4 (ix3 b 0 d) :=
    fun d => iblk_scale m c t _ _ hb rfl rfl
  have e2 : ∀ d : Fin 1024, (iblk m c 2 t : Vec Ideal S1x1x1024 .f32) (ix3 0 0 d) = V m c main_arg1 (ix3 b 0 d) :=
    fun d => iblk_shift m c t _ _ hb rfl rfl
  have e3 : ∀ d : Fin 1024, (iblk m c 3 t : Vec Ideal S1024x2816 .bf16) (ix2 d k) = V m c main_v38 (ix2 d k) :=
    fun d => iblk_w m c t _ _ rfl rfl
  unfold zrow row
  simp only [e0, e1, e2, e3]

/-- `n` columns of the row, from `off` on. -/
def cols {n : ℕ} (x : S8x2048x1024.Idx → EReal) (sc sh : S8x1x1024.Idx → EReal) (w : S1024x2816.Idx → EReal)
    (off : ℕ) (ho : off + n ≤ 2816) (b : Fin 8) (l : Fin 2048) (k : Fin n) : EReal := row x sc sh w b l ⟨off + k.val, by omega⟩

theorem lanes_blk {n : ℕ} (c : Dev nD) (t : Fin cfg0.N) (r : Fin 512) (b : Fin 8) (l : Fin 2048) (hb : b.val = t.val / 4)
    (hl : l.val = 512 * (t.val % 4) + r.val) (off : ℕ) (ho : off + n ≤ 2816) :
    lanes (n := n) (iblk m c 0 t) (iblk m c 1 t) (iblk m c 2 t) (iblk m c 3 t) off ho r
      = cols (V m c main_arg0) (V m c main_v4) (V m c main_arg1) (V m c main_v38) off ho b l :=
  funext fun _ => zrow_blk m c t r b l hb hl _

/-- A group of two heads of the row, normed and rotated as the kernel does. -/
def group (x : S8x2048x1024.Idx → EReal) (sc sh : S8x1x1024.Idx → EReal) (w : S1024x2816.Idx → EReal)
    (bd : S128x128.Idx → EReal) (hw : S1x128.Idx → EReal) (cs sn : S2048x128.Idx → EReal) (off : ℕ) (ho : off + 128 ≤ 2816)
    (b : Fin 8) (l : Fin 2048) : Fin 128 → EReal :=
  rotatedK (headNormK (cols x sc sh w off ho b l) (fun i j => bd (ix2 i j)) (fun i => hw (ix2 0 i)))
    (fun i => cs (ix2 l i)) (fun i => sn (ix2 l i))

theorem heads_k (c : Dev nD) (t : Fin cfg0.N) (r : Fin 512) (b : Fin 8) (l : Fin 2048) (hb : b.val = t.val / 4)
    (hl : l.val = 512 * (t.val % 4) + r.val) (off : ℕ) (ho : off + 128 ≤ 2816) (k : Fin 128) :
    heads (iblk m c 0 t) (iblk m c 1 t) (iblk m c 2 t) (iblk m c 3 t) (iblk m c 4 t) (iblk m c 5 t) (iblk m c 7 t)
        (iblk m c 8 t) off ho r k
      = group (V m c main_arg0) (V m c main_v4) (V m c main_arg1) (V m c main_v38) (V m c main_v13) (V m c main_v17)
          (V m c main_v26) (V m c main_v37) off ho b l k := by
  have e4 : ∀ i j : Fin 128, (iblk m c 4 t : Vec Ideal S128x128 .bf16) (ix2 i j) = V m c main_v13 (ix2 i j) :=
    fun i j => iblk_bd m c t _ _ rfl rfl
  have e5 : ∀ i : Fin 128, (iblk m c 5 t : Vec Ideal S1x128 .f32) (ix2 0 i) = V m c main_v17 (ix2 0 i) :=
    fun i => iblk_kw m c t _ _ rfl rfl
  have e7 : ∀ i : Fin 128, (iblk m c 7 t : Vec Ideal S512x128 .f32) (ix2 r i) = V m c main_v26 (ix2 l i) :=
    fun i => iblk_cos m c t _ _ hl rfl
  have e8 : ∀ i : Fin 128, (iblk m c 8 t : Vec Ideal S512x128 .f32) (ix2 r i) = V m c main_v37 (ix2 l i) :=
    fun i => iblk_sin m c t _ _ hl rfl
  unfold heads group
  rw [lanes_blk m c t r b l hb hl]
  simp only [e4, e5, e7, e8]

theorem heads_q (c : Dev nD) (t : Fin cfg0.N) (r : Fin 512) (b : Fin 8) (l : Fin 2048) (hb : b.val = t.val / 4)
    (hl : l.val = 512 * (t.val % 4) + r.val) (off : ℕ) (ho : off + 128 ≤ 2816) (k : Fin 128) :
    heads (iblk m c 0 t) (iblk m c 1 t) (iblk m c 2 t) (iblk m c 3 t) (iblk m c 4 t) (iblk m c 6 t) (iblk m c 7 t)
        (iblk m c 8 t) off ho r k
      = group (V m c main_arg0) (V m c main_v4) (V m c main_arg1) (V m c main_v38) (V m c main_v13) (V m c main_v21)
          (V m c main_v26) (V m c main_v37) off ho b l k := by
  have e4 : ∀ i j : Fin 128, (iblk m c 4 t : Vec Ideal S128x128 .bf16) (ix2 i j) = V m c main_v13 (ix2 i j) :=
    fun i j => iblk_bd m c t _ _ rfl rfl
  have e5 : ∀ i : Fin 128, (iblk m c 6 t : Vec Ideal S1x128 .f32) (ix2 0 i) = V m c main_v21 (ix2 0 i) :=
    fun i => iblk_qw m c t _ _ rfl rfl
  have e7 : ∀ i : Fin 128, (iblk m c 7 t : Vec Ideal S512x128 .f32) (ix2 r i) = V m c main_v26 (ix2 l i) :=
    fun i => iblk_cos m c t _ _ hl rfl
  have e8 : ∀ i : Fin 128, (iblk m c 8 t : Vec Ideal S512x128 .f32) (ix2 r i) = V m c main_v37 (ix2 l i) :=
    fun i => iblk_sin m c t _ _ hl rfl
  unfold heads group
  rw [lanes_blk m c t r b l hb hl]
  simp only [e4, e5, e7, e8]

def keys (x : S8x2048x1024.Idx → EReal) (sc sh : S8x1x1024.Idx → EReal) (w : S1024x2816.Idx → EReal)
    (bd : S128x128.Idx → EReal) (hw : S1x128.Idx → EReal) (cs sn : S2048x128.Idx → EReal)
    (i : S8x2048x128.Idx) : EReal :=
  group x sc sh w bd hw cs sn 0 (by omega) (i 0) (i 1) (i 2)

theorem flushed_keys (c : Dev nD) (t : Fin cfg0.N) (_ : (cfg0.win 9).flush t = true) :
    (dats m 0 c).flushed 9 t = ((cfg0.win 9).blk t).view.read (Elt Ideal)
      (keys (V m c main_arg0) (V m c main_v4) (V m c main_arg1) (V m c main_v38)
        (V m c main_v13) (V m c main_v17) (V m c main_v26) (V m c main_v37)) := by
  rw [Value.flushed9]
  funext y
  obtain ⟨⟨d0, d1, d2⟩, -⟩ := out_index t
  have hy0 : (y 0).val < 1 := (y 0).isLt
  rw [View.read_apply]
  refine (out9_apply _ _ _ _ _ _ _ _ _ y).trans ?_
  rw [cast_eq]
  have e0 : (((cfg0.win 9).blk t).view.emb y 0).val = t.val / 4 := by
    show win0_9.index t 0 * 1 + 1 * (y 0).val = _
    rw [d0]; omega
  have e1 : (((cfg0.win 9).blk t).view.emb y 1).val = 512 * (t.val % 4) + (y 1).val := by
    show win0_9.index t 1 * 512 + 1 * (y 1).val = _
    rw [d1]; omega
  have e2 : ((cfg0.win 9).blk t).view.emb y 2 = y 2 := Fin.ext (by
    show win0_9.index t 2 * 128 + 1 * (y 2).val = _
    rw [d2]; omega)
  generalize ((cfg0.win 9).blk t).view.emb y = e at e0 e1 e2
  obtain ⟨b, l, k, rfl⟩ : ∃ (b : Fin 8) (l : Fin 2048) (k : Fin 128), e = ix3 b l k := ⟨e 0, e 1, e 2, by
    funext a
    match a with
    | 0 => rfl
    | 1 => rfl
    | 2 => rfl⟩
  obtain rfl : k = y 2 := e2
  exact heads_k m c t _ _ _ e0 e1 0 _ _

theorem result_keys (c : Dev nD) :
    (dats m 0 c).arrAt 9 cfg0.N = keys (V m c main_arg0) (V m c main_v4) (V m c main_arg1) (V m c main_v38)
        (V m c main_v13) (V m c main_v17) (V m c main_v26) (V m c main_v37) :=
  (dats m 0 c).arrAt_eq_of_cover 9 _ (flushed_keys m c) fun i => by
    have h0 : (i 0 : Nat) < 8 := (i 0).isLt
    have h1 : (i 1 : Nat) < 2048 := (i 1).isLt
    have h2 : (i 2 : Nat) < 128 := (i 2).isLt
    let t : Fin cfg0.N := ⟨4 * (i 0).val + (i 1).val / 512, by show _ < 32; omega⟩
    have ht : t.val = 4 * (i 0).val + (i 1).val / 512 := rfl
    obtain ⟨⟨d0, d1, d2⟩, -⟩ := out_index t
    refine ⟨t, flush0_9 t, ?_⟩
    show i ∈ ((View.whole main_v39_0).slice (win0_9.rect t)).set
    rw [View.set_slice_whole, Rect.mem_set_unit]
    intro a
    match a with
    | ⟨0, _⟩ =>
      show win0_9.index t 0 * 1 ≤ (i 0 : Nat) ∧ (i 0 : Nat) < win0_9.index t 0 * 1 + 1
      rw [d0]; omega
    | ⟨1, _⟩ =>
      show win0_9.index t 1 * 512 ≤ (i 1 : Nat) ∧ (i 1 : Nat) < win0_9.index t 1 * 512 + 512
      rw [d1]; omega
    | ⟨2, _⟩ =>
      show win0_9.index t 2 * 128 ≤ (i 2 : Nat) ∧ (i 2 : Nat) < win0_9.index t 2 * 128 + 128
      rw [d2]; omega

def values (x : S8x2048x1024.Idx → EReal) (sc sh : S8x1x1024.Idx → EReal) (w : S1024x2816.Idx → EReal)
    (i : S8x2048x128.Idx) : EReal :=
  cols (n := 128) x sc sh w 128 (by omega) (i 0) (i 1) (i 2)

theorem flushed_values (c : Dev nD) (t : Fin cfg0.N) (_ : (cfg0.win 10).flush t = true) :
    (dats m 0 c).flushed 10 t = ((cfg0.win 10).blk t).view.read (Elt Ideal)
      (values (V m c main_arg0) (V m c main_v4) (V m c main_arg1) (V m c main_v38)) := by
  rw [Value.flushed10]
  funext y
  obtain ⟨-, ⟨d0, d1, d2⟩, -⟩ := out_index t
  have hy0 : (y 0).val < 1 := (y 0).isLt
  rw [View.read_apply]
  refine (out10_apply _ _ _ _ _ _ _ _ _ y).trans ?_
  rw [cast_eq]
  have e0 : (((cfg0.win 10).blk t).view.emb y 0).val = t.val / 4 := by
    show win0_10.index t 0 * 1 + 1 * (y 0).val = _
    rw [d0]; omega
  have e1 : (((cfg0.win 10).blk t).view.emb y 1).val = 512 * (t.val % 4) + (y 1).val := by
    show win0_10.index t 1 * 512 + 1 * (y 1).val = _
    rw [d1]; omega
  have e2 : ((cfg0.win 10).blk t).view.emb y 2 = y 2 := Fin.ext (by
    show win0_10.index t 2 * 128 + 1 * (y 2).val = _
    rw [d2]; omega)
  generalize ((cfg0.win 10).blk t).view.emb y = e at e0 e1 e2
  obtain ⟨b, l, k, rfl⟩ : ∃ (b : Fin 8) (l : Fin 2048) (k : Fin 128), e = ix3 b l k := ⟨e 0, e 1, e 2, by
    funext a
    match a with
    | 0 => rfl
    | 1 => rfl
    | 2 => rfl⟩
  obtain rfl : k = y 2 := e2
  exact congrFun (lanes_blk m c t _ _ _ e0 e1 _ _) _

theorem result_values (c : Dev nD) :
    (dats m 0 c).arrAt 10 cfg0.N = values (V m c main_arg0) (V m c main_v4) (V m c main_arg1) (V m c main_v38) :=
  (dats m 0 c).arrAt_eq_of_cover 10 _ (flushed_values m c) fun i => by
    have h0 : (i 0 : Nat) < 8 := (i 0).isLt
    have h1 : (i 1 : Nat) < 2048 := (i 1).isLt
    have h2 : (i 2 : Nat) < 128 := (i 2).isLt
    let t : Fin cfg0.N := ⟨4 * (i 0).val + (i 1).val / 512, by show _ < 32; omega⟩
    have ht : t.val = 4 * (i 0).val + (i 1).val / 512 := rfl
    obtain ⟨-, ⟨d0, d1, d2⟩, -⟩ := out_index t
    refine ⟨t, flush0_10 t, ?_⟩
    show i ∈ ((View.whole main_v39_1).slice (win0_10.rect t)).set
    rw [View.set_slice_whole, Rect.mem_set_unit]
    intro a
    match a with
    | ⟨0, _⟩ =>
      show win0_10.index t 0 * 1 ≤ (i 0 : Nat) ∧ (i 0 : Nat) < win0_10.index t 0 * 1 + 1
      rw [d0]; omega
    | ⟨1, _⟩ =>
      show win0_10.index t 1 * 512 ≤ (i 1 : Nat) ∧ (i 1 : Nat) < win0_10.index t 1 * 512 + 512
      rw [d1]; omega
    | ⟨2, _⟩ =>
      show win0_10.index t 2 * 128 ≤ (i 2 : Nat) ∧ (i 2 : Nat) < win0_10.index t 2 * 128 + 128
      rw [d2]; omega

def retKeys (x : S8x2048x1024.Idx → EReal) (sc sh : S8x1x1024.Idx → EReal) (w : S1024x2816.Idx → EReal)
    (i : S8x2048x512.Idx) : EReal :=
  cols (n := 512) x sc sh w 256 (by omega) (i 0) (i 1) (i 2) * Ideal.ofBits FTy.f32 0x3E000000#32

theorem flushed_retKeys (c : Dev nD) (t : Fin cfg0.N) (_ : (cfg0.win 11).flush t = true) :
    (dats m 0 c).flushed 11 t = ((cfg0.win 11).blk t).view.read (Elt Ideal)
      (retKeys (V m c main_arg0) (V m c main_v4) (V m c main_arg1) (V m c main_v38)) := by
  rw [Value.flushed11]
  funext y
  obtain ⟨-, -, ⟨d0, d1, d2⟩, -⟩ := out_index t
  have hy0 : (y 0).val < 1 := (y 0).isLt
  rw [View.read_apply]
  refine (out11_apply _ _ _ _ _ _ _ _ _ y).trans ?_
  rw [cast_eq]
  have e0 : (((cfg0.win 11).blk t).view.emb y 0).val = t.val / 4 := by
    show win0_11.index t 0 * 1 + 1 * (y 0).val = _
    rw [d0]; omega
  have e1 : (((cfg0.win 11).blk t).view.emb y 1).val = 512 * (t.val % 4) + (y 1).val := by
    show win0_11.index t 1 * 512 + 1 * (y 1).val = _
    rw [d1]; omega
  have e2 : ((cfg0.win 11).blk t).view.emb y 2 = y 2 := Fin.ext (by
    show win0_11.index t 2 * 512 + 1 * (y 2).val = _
    rw [d2]; omega)
  generalize ((cfg0.win 11).blk t).view.emb y = e at e0 e1 e2
  obtain ⟨b, l, k, rfl⟩ : ∃ (b : Fin 8) (l : Fin 2048) (k : Fin 512), e = ix3 b l k := ⟨e 0, e 1, e 2, by
    funext a
    match a with
    | 0 => rfl
    | 1 => rfl
    | 2 => rfl⟩
  obtain rfl : k = y 2 := e2
  exact congrArg (· * _) (congrFun (lanes_blk m c t _ _ _ e0 e1 _ _) _)

theorem result_retKeys (c : Dev nD) :
    (dats m 0 c).arrAt 11 cfg0.N = retKeys (V m c main_arg0) (V m c main_v4) (V m c main_arg1) (V m c main_v38) :=
  (dats m 0 c).arrAt_eq_of_cover 11 _ (flushed_retKeys m c) fun i => by
    have h0 : (i 0 : Nat) < 8 := (i 0).isLt
    have h1 : (i 1 : Nat) < 2048 := (i 1).isLt
    have h2 : (i 2 : Nat) < 512 := (i 2).isLt
    let t : Fin cfg0.N := ⟨4 * (i 0).val + (i 1).val / 512, by show _ < 32; omega⟩
    have ht : t.val = 4 * (i 0).val + (i 1).val / 512 := rfl
    obtain ⟨-, -, ⟨d0, d1, d2⟩, -⟩ := out_index t
    refine ⟨t, flush0_11 t, ?_⟩
    show i ∈ ((View.whole main_v39_2).slice (win0_11.rect t)).set
    rw [View.set_slice_whole, Rect.mem_set_unit]
    intro a
    match a with
    | ⟨0, _⟩ =>
      show win0_11.index t 0 * 1 ≤ (i 0 : Nat) ∧ (i 0 : Nat) < win0_11.index t 0 * 1 + 1
      rw [d0]; omega
    | ⟨1, _⟩ =>
      show win0_11.index t 1 * 512 ≤ (i 1 : Nat) ∧ (i 1 : Nat) < win0_11.index t 1 * 512 + 512
      rw [d1]; omega
    | ⟨2, _⟩ =>
      show win0_11.index t 2 * 512 ≤ (i 2 : Nat) ∧ (i 2 : Nat) < win0_11.index t 2 * 512 + 512
      rw [d2]; omega

def retValues (x : S8x2048x1024.Idx → EReal) (sc sh : S8x1x1024.Idx → EReal) (w : S1024x2816.Idx → EReal)
    (i : S8x2048x512.Idx) : EReal :=
  cols (n := 512) x sc sh w 768 (by omega) (i 0) (i 1) (i 2)

theorem flushed_retValues (c : Dev nD) (t : Fin cfg0.N) (_ : (cfg0.win 12).flush t = true) :
    (dats m 0 c).flushed 12 t = ((cfg0.win 12).blk t).view.read (Elt Ideal)
      (retValues (V m c main_arg0) (V m c main_v4) (V m c main_arg1) (V m c main_v38)) := by
  rw [Value.flushed12]
  funext y
  obtain ⟨-, -, -, ⟨d0, d1, d2⟩, -⟩ := out_index t
  have hy0 : (y 0).val < 1 := (y 0).isLt
  rw [View.read_apply]
  refine (out12_apply _ _ _ _ _ _ _ _ _ y).trans ?_
  rw [cast_eq]
  have e0 : (((cfg0.win 12).blk t).view.emb y 0).val = t.val / 4 := by
    show win0_12.index t 0 * 1 + 1 * (y 0).val = _
    rw [d0]; omega
  have e1 : (((cfg0.win 12).blk t).view.emb y 1).val = 512 * (t.val % 4) + (y 1).val := by
    show win0_12.index t 1 * 512 + 1 * (y 1).val = _
    rw [d1]; omega
  have e2 : ((cfg0.win 12).blk t).view.emb y 2 = y 2 := Fin.ext (by
    show win0_12.index t 2 * 512 + 1 * (y 2).val = _
    rw [d2]; omega)
  generalize ((cfg0.win 12).blk t).view.emb y = e at e0 e1 e2
  obtain ⟨b, l, k, rfl⟩ : ∃ (b : Fin 8) (l : Fin 2048) (k : Fin 512), e = ix3 b l k := ⟨e 0, e 1, e 2, by
    funext a
    match a with
    | 0 => rfl
    | 1 => rfl
    | 2 => rfl⟩
  obtain rfl : k = y 2 := e2
  exact congrFun (lanes_blk m c t _ _ _ e0 e1 _ _) _

theorem result_retValues (c : Dev nD) :
    (dats m 0 c).arrAt 12 cfg0.N = retValues (V m c main_arg0) (V m c main_v4) (V m c main_arg1) (V m c main_v38) :=
  (dats m 0 c).arrAt_eq_of_cover 12 _ (flushed_retValues m c) fun i => by
    have h0 : (i 0 : Nat) < 8 := (i 0).isLt
    have h1 : (i 1 : Nat) < 2048 := (i 1).isLt
    have h2 : (i 2 : Nat) < 512 := (i 2).isLt
    let t : Fin cfg0.N := ⟨4 * (i 0).val + (i 1).val / 512, by show _ < 32; omega⟩
    have ht : t.val = 4 * (i 0).val + (i 1).val / 512 := rfl
    obtain ⟨-, -, -, ⟨d0, d1, d2⟩, -⟩ := out_index t
    refine ⟨t, flush0_12 t, ?_⟩
    show i ∈ ((View.whole main_v39_3).slice (win0_12.rect t)).set
    rw [View.set_slice_whole, Rect.mem_set_unit]
    intro a
    match a with
    | ⟨0, _⟩ =>
      show win0_12.index t 0 * 1 ≤ (i 0 : Nat) ∧ (i 0 : Nat) < win0_12.index t 0 * 1 + 1
      rw [d0]; omega
    | ⟨1, _⟩ =>
      show win0_12.index t 1 * 512 ≤ (i 1 : Nat) ∧ (i 1 : Nat) < win0_12.index t 1 * 512 + 512
      rw [d1]; omega
    | ⟨2, _⟩ =>
      show win0_12.index t 2 * 512 ≤ (i 2 : Nat) ∧ (i 2 : Nat) < win0_12.index t 2 * 512 + 512
      rw [d2]; omega

def queries (x : S8x2048x1024.Idx → EReal) (sc sh : S8x1x1024.Idx → EReal) (w : S1024x2816.Idx → EReal)
    (bd : S128x128.Idx → EReal) (hw : S1x128.Idx → EReal) (cs sn : S2048x128.Idx → EReal)
    (i : S8x2048x512.Idx) : EReal :=
  group x sc sh w bd hw cs sn (1280 + 128 * ((i 2).val / 128)) (by have : (i 2).val < 512 := (i 2).isLt; omega)
    (i 0) (i 1) ⟨(i 2).val % 128, by omega⟩ * Ideal.ofBits FTy.f32 0x3E000000#32

theorem flushed_queries (c : Dev nD) (t : Fin cfg0.N) (_ : (cfg0.win 13).flush t = true) :
    (dats m 0 c).flushed 13 t = ((cfg0.win 13).blk t).view.read (Elt Ideal)
      (queries (V m c main_arg0) (V m c main_v4) (V m c main_arg1) (V m c main_v38)
        (V m c main_v13) (V m c main_v21) (V m c main_v26) (V m c main_v37)) := by
  rw [Value.flushed13]
  funext y
  obtain ⟨-, -, -, -, ⟨d0, d1, d2⟩, -⟩ := out_index t
  have hy0 : (y 0).val < 1 := (y 0).isLt
  rw [View.read_apply]
  refine (out13_apply _ _ _ _ _ _ _ _ _ y).trans ?_
  rw [cast_eq]
  have e0 : (((cfg0.win 13).blk t).view.emb y 0).val = t.val / 4 := by
    show win0_13.index t 0 * 1 + 1 * (y 0).val = _
    rw [d0]; omega
  have e1 : (((cfg0.win 13).blk t).view.emb y 1).val = 512 * (t.val % 4) + (y 1).val := by
    show win0_13.index t 1 * 512 + 1 * (y 1).val = _
    rw [d1]; omega
  have e2 : ((cfg0.win 13).blk t).view.emb y 2 = y 2 := Fin.ext (by
    show win0_13.index t 2 * 512 + 1 * (y 2).val = _
    rw [d2]; omega)
  generalize ((cfg0.win 13).blk t).view.emb y = e at e0 e1 e2
  obtain ⟨b, l, k, rfl⟩ : ∃ (b : Fin 8) (l : Fin 2048) (k : Fin 512), e = ix3 b l k := ⟨e 0, e 1, e 2, by
    funext a
    match a with
    | 0 => rfl
    | 1 => rfl
    | 2 => rfl⟩
  obtain rfl : k = y 2 := e2
  exact congrArg (· * _) (heads_q m c t _ _ _ e0 e1 _ _ _)

theorem result_queries (c : Dev nD) :
    (dats m 0 c).arrAt 13 cfg0.N = queries (V m c main_arg0) (V m c main_v4) (V m c main_arg1) (V m c main_v38)
        (V m c main_v13) (V m c main_v21) (V m c main_v26) (V m c main_v37) :=
  (dats m 0 c).arrAt_eq_of_cover 13 _ (flushed_queries m c) fun i => by
    have h0 : (i 0 : Nat) < 8 := (i 0).isLt
    have h1 : (i 1 : Nat) < 2048 := (i 1).isLt
    have h2 : (i 2 : Nat) < 512 := (i 2).isLt
    let t : Fin cfg0.N := ⟨4 * (i 0).val + (i 1).val / 512, by show _ < 32; omega⟩
    have ht : t.val = 4 * (i 0).val + (i 1).val / 512 := rfl
    obtain ⟨-, -, -, -, ⟨d0, d1, d2⟩, -⟩ := out_index t
    refine ⟨t, flush0_13 t, ?_⟩
    show i ∈ ((View.whole main_v39_4).slice (win0_13.rect t)).set
    rw [View.set_slice_whole, Rect.mem_set_unit]
    intro a
    match a with
    | ⟨0, _⟩ =>
      show win0_13.index t 0 * 1 ≤ (i 0 : Nat) ∧ (i 0 : Nat) < win0_13.index t 0 * 1 + 1
      rw [d0]; omega
    | ⟨1, _⟩ =>
      show win0_13.index t 1 * 512 ≤ (i 1 : Nat) ∧ (i 1 : Nat) < win0_13.index t 1 * 512 + 512
      rw [d1]; omega
    | ⟨2, _⟩ =>
      show win0_13.index t 2 * 512 ≤ (i 2 : Nat) ∧ (i 2 : Nat) < win0_13.index t 2 * 512 + 512
      rw [d2]; omega

def retQueries (x : S8x2048x1024.Idx → EReal) (sc sh : S8x1x1024.Idx → EReal) (w : S1024x2816.Idx → EReal)
    (i : S8x2048x512.Idx) : EReal :=
  cols (n := 512) x sc sh w 1792 (by omega) (i 0) (i 1) (i 2)

theorem flushed_retQueries (c : Dev nD) (t : Fin cfg0.N) (_ : (cfg0.win 14).flush t = true) :
    (dats m 0 c).flushed 14 t = ((cfg0.win 14).blk t).view.read (Elt Ideal)
      (retQueries (V m c main_arg0) (V m c main_v4) (V m c main_arg1) (V m c main_v38)) := by
  rw [Value.flushed14]
  funext y
  obtain ⟨-, -, -, -, -, ⟨d0, d1, d2⟩, -⟩ := out_index t
  have hy0 : (y 0).val < 1 := (y 0).isLt
  rw [View.read_apply]
  refine (out14_apply _ _ _ _ _ _ _ _ _ y).trans ?_
  rw [cast_eq]
  have e0 : (((cfg0.win 14).blk t).view.emb y 0).val = t.val / 4 := by
    show win0_14.index t 0 * 1 + 1 * (y 0).val = _
    rw [d0]; omega
  have e1 : (((cfg0.win 14).blk t).view.emb y 1).val = 512 * (t.val % 4) + (y 1).val := by
    show win0_14.index t 1 * 512 + 1 * (y 1).val = _
    rw [d1]; omega
  have e2 : ((cfg0.win 14).blk t).view.emb y 2 = y 2 := Fin.ext (by
    show win0_14.index t 2 * 512 + 1 * (y 2).val = _
    rw [d2]; omega)
  generalize ((cfg0.win 14).blk t).view.emb y = e at e0 e1 e2
  obtain ⟨b, l, k, rfl⟩ : ∃ (b : Fin 8) (l : Fin 2048) (k : Fin 512), e = ix3 b l k := ⟨e 0, e 1, e 2, by
    funext a
    match a with
    | 0 => rfl
    | 1 => rfl
    | 2 => rfl⟩
  obtain rfl : k = y 2 := e2
  exact congrFun (lanes_blk m c t _ _ _ e0 e1 _ _) _

theorem result_retQueries (c : Dev nD) :
    (dats m 0 c).arrAt 14 cfg0.N = retQueries (V m c main_arg0) (V m c main_v4) (V m c main_arg1) (V m c main_v38) :=
  (dats m 0 c).arrAt_eq_of_cover 14 _ (flushed_retQueries m c) fun i => by
    have h0 : (i 0 : Nat) < 8 := (i 0).isLt
    have h1 : (i 1 : Nat) < 2048 := (i 1).isLt
    have h2 : (i 2 : Nat) < 512 := (i 2).isLt
    let t : Fin cfg0.N := ⟨4 * (i 0).val + (i 1).val / 512, by show _ < 32; omega⟩
    have ht : t.val = 4 * (i 0).val + (i 1).val / 512 := rfl
    obtain ⟨-, -, -, -, -, ⟨d0, d1, d2⟩, -⟩ := out_index t
    refine ⟨t, flush0_14 t, ?_⟩
    show i ∈ ((View.whole main_v39_5).slice (win0_14.rect t)).set
    rw [View.set_slice_whole, Rect.mem_set_unit]
    intro a
    match a with
    | ⟨0, _⟩ =>
      show win0_14.index t 0 * 1 ≤ (i 0 : Nat) ∧ (i 0 : Nat) < win0_14.index t 0 * 1 + 1
      rw [d0]; omega
    | ⟨1, _⟩ =>
      show win0_14.index t 1 * 512 ≤ (i 1 : Nat) ∧ (i 1 : Nat) < win0_14.index t 1 * 512 + 512
      rw [d1]; omega
    | ⟨2, _⟩ =>
      show win0_14.index t 2 * 512 ≤ (i 2 : Nat) ∧ (i 2 : Nat) < win0_14.index t 2 * 512 + 512
      rw [d2]; omega

def gate (x : S8x2048x1024.Idx → EReal) (sc sh : S8x1x1024.Idx → EReal) (w : S1024x2816.Idx → EReal)
    (i : S8x2048x512.Idx) : EReal :=
  cols (n := 512) x sc sh w 2304 (by omega) (i 0) (i 1) (i 2)

theorem flushed_gate (c : Dev nD) (t : Fin cfg0.N) (_ : (cfg0.win 15).flush t = true) :
    (dats m 0 c).flushed 15 t = ((cfg0.win 15).blk t).view.read (Elt Ideal)
      (gate (V m c main_arg0) (V m c main_v4) (V m c main_arg1) (V m c main_v38)) := by
  rw [Value.flushed15]
  funext y
  obtain ⟨-, -, -, -, -, -, ⟨d0, d1, d2⟩⟩ := out_index t
  have hy0 : (y 0).val < 1 := (y 0).isLt
  rw [View.read_apply]
  refine (out15_apply _ _ _ _ _ _ _ _ _ y).trans ?_
  rw [cast_eq]
  have e0 : (((cfg0.win 15).blk t).view.emb y 0).val = t.val / 4 := by
    show win0_15.index t 0 * 1 + 1 * (y 0).val = _
    rw [d0]; omega
  have e1 : (((cfg0.win 15).blk t).view.emb y 1).val = 512 * (t.val % 4) + (y 1).val := by
    show win0_15.index t 1 * 512 + 1 * (y 1).val = _
    rw [d1]; omega
  have e2 : ((cfg0.win 15).blk t).view.emb y 2 = y 2 := Fin.ext (by
    show win0_15.index t 2 * 512 + 1 * (y 2).val = _
    rw [d2]; omega)
  generalize ((cfg0.win 15).blk t).view.emb y = e at e0 e1 e2
  obtain ⟨b, l, k, rfl⟩ : ∃ (b : Fin 8) (l : Fin 2048) (k : Fin 512), e = ix3 b l k := ⟨e 0, e 1, e 2, by
    funext a
    match a with
    | 0 => rfl
    | 1 => rfl
    | 2 => rfl⟩
  obtain rfl : k = y 2 := e2
  exact congrFun (lanes_blk m c t _ _ _ e0 e1 _ _) _

theorem result_gate (c : Dev nD) :
    (dats m 0 c).arrAt 15 cfg0.N = gate (V m c main_arg0) (V m c main_v4) (V m c main_arg1) (V m c main_v38) :=
  (dats m 0 c).arrAt_eq_of_cover 15 _ (flushed_gate m c) fun i => by
    have h0 : (i 0 : Nat) < 8 := (i 0).isLt
    have h1 : (i 1 : Nat) < 2048 := (i 1).isLt
    have h2 : (i 2 : Nat) < 512 := (i 2).isLt
    let t : Fin cfg0.N := ⟨4 * (i 0).val + (i 1).val / 512, by show _ < 32; omega⟩
    have ht : t.val = 4 * (i 0).val + (i 1).val / 512 := rfl
    obtain ⟨-, -, -, -, -, -, ⟨d0, d1, d2⟩⟩ := out_index t
    refine ⟨t, flush0_15 t, ?_⟩
    show i ∈ ((View.whole main_v39_6).slice (win0_15.rect t)).set
    rw [View.set_slice_whole, Rect.mem_set_unit]
    intro a
    match a with
    | ⟨0, _⟩ =>
      show win0_15.index t 0 * 1 ≤ (i 0 : Nat) ∧ (i 0 : Nat) < win0_15.index t 0 * 1 + 1
      rw [d0]; omega
    | ⟨1, _⟩ =>
      show win0_15.index t 1 * 512 ≤ (i 1 : Nat) ∧ (i 1 : Nat) < win0_15.index t 1 * 512 + 512
      rw [d1]; omega
    | ⟨2, _⟩ =>
      show win0_15.index t 2 * 512 ≤ (i 2 : Nat) ∧ (i 2 : Nat) < win0_15.index t 2 * 512 + 512
      rw [d2]; omega

end Cert.ProjIdeal.Array
end
-- ==== Proof.ProjHost.lean ====
/-
  The arrays that the host prepares for the projection call, from the arguments: the scale with the norm's weights, the block
  matrix that averages the 64 lanes of a head, the heads' weights, cosines and signed sines repeated over the 128 lanes.
-/
module

public import proofs.«01_k».proof.Proof.Projection
public import proofs.«01_k».proof.Proof.Gen.ProjIdeal.Frame
public import Idealize.ShloMosaic.Lib.StableHlo.ReadAt

@[expose] public section

set_option maxRecDepth 16384

noncomputable section

namespace Cert.ProjIdeal.Host

open Cert.ProjIdeal Cert.ProjIdeal.Gen Idealize.ShloMosaic Idealize.ShloMosaic.TcCoe Idealize.SL.Sem
open Cert.Projection

/-- The scale of a row: the norm's weights times one plus the modulation. -/
def scaled (nw : S1024.Idx → EReal) (sc : S8x1x1024.Idx → EReal) (b : Fin 8) (d : Fin 1024) : EReal :=
  nw (ix1 d) * (1 + sc (ix3 b 0 d))

/-- The head of a lane, as the host computes it. -/
def headOf (i : Fin 128) : BitVec 32 :=
  Scalar.select
    (IntOp.andi
      (IntOp.cmpi CmpIPredicate.ne (if BitVec.ofNat 32 i.val = 0 then (0#32 : BitVec 32) else if (BitVec.ofNat 32 i.val).msb = true then -1#32 else 1#32)
        (if (64#32 : BitVec 32) = 0 then (0#32 : BitVec 32) else if BitVec.msb (64#32) = true then -1#32 else 1#32))
      (IntOp.cmpi CmpIPredicate.ne (IntOp.remsi ArithUnit.host (BitVec.ofNat 32 i.val) 64#32) 0#32))
    (IntOp.subi (IntOp.divsi ArithUnit.host (BitVec.ofNat 32 i.val) 64#32) 1#32)
    (IntOp.divsi ArithUnit.host (BitVec.ofNat 32 i.val) 64#32)

theorem headOf_eq : ∀ i : Fin 128, headOf i = BitVec.ofNat 32 (i.val / 64) := by decide +kernel

theorem sameHead (i j : Fin 128) :
    IntOp.cmpi CmpIPredicate.eq (headOf i) (headOf j) = if i.val / 64 = j.val / 64 then 1#1 else 0#1 := by
  rw [headOf_eq, headOf_eq]
  have h : ∀ a b : Fin 2, IntOp.cmpi CmpIPredicate.eq (BitVec.ofNat 32 a.val) (BitVec.ofNat 32 b.val)
      = if a.val = b.val then 1#1 else 0#1 := by decide
  exact h ⟨i.val / 64, by omega⟩ ⟨j.val / 64, by omega⟩

theorem sign_eq (k : Fin 2) :
    Ideal.ofBits FTy.f32 (lit0 (S2.rowMajor (ix1 k))) = if k.val = 0 then -1 else 1 := by
  match k with
  | 0 =>
    rw [show lit0 (S2.rowMajor (ix1 0)) = 0xBF800000#32 from by decide +kernel, if_pos (by decide)]
    simp [Ideal.ofBits, Ideal.ieee]
    norm_cast
    norm_num
  | 1 =>
    rw [show lit0 (S2.rowMajor (ix1 1)) = 0x3F800000#32 from by decide +kernel, if_neg (by decide)]
    simp [Ideal.ofBits, Ideal.ieee]
    norm_cast
    norm_num

theorem times_sign (a : EReal) (i : Fin 128) :
    a * Ideal.ofBits FTy.f32 (lit0 (S2.rowMajor (ix1 ⟨i.val % 64 % 2, by omega⟩))) = a * if i.val % 2 = 0 then -1 else 1 := by
  rw [sign_eq]
  show a * (if i.val % 64 % 2 = 0 then (-1 : EReal) else 1) = _
  rw [show i.val % 64 % 2 = i.val % 2 by omega]

variable (m : (ℓ : Loc nD τ sig) → Buf (Elt Ideal) ℓ) (c : Dev nD)

theorem scale (b : Fin 8) (d : Fin 1024) :
    V m c main_v4 (ix3 b 0 d)
      = scaled (m ((c : Thread nD τ).loc main_arg3)) (m ((c : Thread nD τ).loc main_arg2)) b d := by
  unfold V
  after_reads_at
  rfl

theorem w (d : Fin 1024) (k : Fin 2816) :
    V m c main_v38 (ix2 d k) = m ((c : Thread nD τ).loc main_arg4) (ix2 d k) := by
  unfold V
  after_reads_at

theorem bd (i j : Fin 128) : V m c main_v13 (ix2 i j) = blockMean i j := by
  unfold V
  after_reads_at
  refine Eq.trans (b := Scalar.select (IntOp.cmpi CmpIPredicate.eq (headOf i) (headOf j))
    (Ideal.ofBits FTy.f32 1015021568#32) 0) rfl ?_
  rw [sameHead]
  unfold blockMean
  by_cases h : i.val / 64 = j.val / 64
  · rw [if_pos h, if_pos h]; exact if_pos rfl
  · rw [if_neg h, if_neg h]; exact if_neg (by decide)

theorem kw (i : Fin 128) : V m c main_v17 (ix2 0 i) = m ((c : Thread nD τ).loc main_arg5) (ix1 ⟨i.val % 64, by omega⟩) := by
  unfold V
  after_reads_at

theorem qw (i : Fin 128) : V m c main_v21 (ix2 0 i) = m ((c : Thread nD τ).loc main_arg6) (ix1 ⟨i.val % 64, by omega⟩) := by
  unfold V
  after_reads_at

theorem cos (l : Fin 2048) (i : Fin 128) : V m c main_v26 (ix2 l i) = m ((c : Thread nD τ).loc main_arg7) (ix2 l (pair i)) := by
  unfold V
  after_reads_at

theorem sin (l : Fin 2048) (i : Fin 128) :
    V m c main_v37 (ix2 l i) = signed (fun p => m ((c : Thread nD τ).loc main_arg8) (ix2 l p)) i := by
  unfold V
  after_reads_at
  unfold signed
  exact times_sign _ i

/-! The same arrays whole. -/

/-- The scales of the rows of each batch. -/
def scaleOf (nw : S1024.Idx → EReal) (sc : S8x1x1024.Idx → EReal) (i : S8x1x1024.Idx) : EReal := scaled nw sc (i 0) (i 2)

/-- The matrix that averages a head. -/
def means (i : S128x128.Idx) : EReal := blockMean (i 0) (i 1)

/-- A head's weights over a group. -/
def tiled (hw : S64.Idx → EReal) (i : S1x128.Idx) : EReal := hw (ix1 ⟨(i 1).val % 64, by omega⟩)

/-- The cosines over a group. -/
def cosines (cs : S2048x32.Idx → EReal) (i : S2048x128.Idx) : EReal := cs (ix2 (i 0) (pair (i 1)))

/-- The signed sines over a group. -/
def sines (sn : S2048x32.Idx → EReal) (i : S2048x128.Idx) : EReal := signed (fun p => sn (ix2 (i 0) p)) (i 1)

theorem ix2_eq {a b : ℕ} (i : (⟨2, ![a, b]⟩ : Shape).Idx) : i = ix2 (i 0) (i 1) := by
  funext d
  match d with
  | 0 => rfl
  | 1 => rfl

theorem scale_whole : V m c main_v4
    = scaleOf (m ((c : Thread nD τ).loc main_arg3)) (m ((c : Thread nD τ).loc main_arg2)) := by
  funext i
  obtain ⟨b, d, rfl⟩ : ∃ (b : Fin 8) (d : Fin 1024), i = ix3 b 0 d := ⟨i 0, i 2, by
    funext a
    match a with
    | 0 => rfl
    | 1 => exact Subsingleton.elim (α := Fin 1) _ _
    | 2 => rfl⟩
  exact scale m c b d

theorem w_whole : V m c main_v38 = m ((c : Thread nD τ).loc main_arg4) := by
  funext i
  rw [ix2_eq i]
  exact w m c _ _

theorem means_whole : V m c main_v13 = means := by
  funext i
  rw [ix2_eq i]
  exact bd m c _ _

theorem kw_whole : V m c main_v17 = tiled (m ((c : Thread nD τ).loc main_arg5)) := by
  funext i
  obtain ⟨l, rfl⟩ : ∃ l : Fin 128, i = ix2 0 l := ⟨i 1, by
    funext a
    match a with
    | 0 => exact Subsingleton.elim (α := Fin 1) _ _
    | 1 => rfl⟩
  exact kw m c l

theorem qw_whole : V m c main_v21 = tiled (m ((c : Thread nD τ).loc main_arg6)) := by
  funext i
  obtain ⟨l, rfl⟩ : ∃ l : Fin 128, i = ix2 0 l := ⟨i 1, by
    funext a
    match a with
    | 0 => exact Subsingleton.elim (α := Fin 1) _ _
    | 1 => rfl⟩
  exact qw m c l

theorem cos_whole : V m c main_v26 = cosines (m ((c : Thread nD τ).loc main_arg7)) := by
  funext i
  rw [ix2_eq i]
  exact cos m c _ _

theorem sin_whole : V m c main_v37 = sines (m ((c : Thread nD τ).loc main_arg8)) := by
  funext i
  rw [ix2_eq i]
  exact sin m c _ _

end Cert.ProjIdeal.Host
end
-- ==== Proof.ProjRun.lean ====
/-
  The projection kernel's run: its seven result arrays as functions of the arguments.
-/
module

public import proofs.«01_k».proof.Proof.ProjKernel
public import proofs.«01_k».proof.Proof.ProjHost

@[expose] public section

set_option maxRecDepth 16384

noncomputable section

namespace Cert.ProjIdeal.Array

open Cert.ProjIdeal Cert.ProjIdeal.Gen Idealize.ShloMosaic Idealize.ShloMosaic.TcCoe Idealize.SL.Sem
open Cert.ProjIdeal.Host

section
variable (m : (ℓ : Loc nD τ sig) → Buf (Elt Ideal) ℓ) (c : Dev nD)

theorem result_keys' : (dats m 0 c).arrAt 9 cfg0.N
        = keys (m ((c : Thread nD τ).loc main_arg0)) (scaleOf (m ((c : Thread nD τ).loc main_arg3)) (m ((c : Thread nD τ).loc main_arg2)))
            (m ((c : Thread nD τ).loc main_arg1)) (m ((c : Thread nD τ).loc main_arg4))
            means (tiled (m ((c : Thread nD τ).loc main_arg5))) (cosines (m ((c : Thread nD τ).loc main_arg7)))
            (sines (m ((c : Thread nD τ).loc main_arg8))) := by
  rw [result_keys, V_main_arg0, V_main_arg1, scale_whole, w_whole, means_whole, kw_whole, cos_whole, sin_whole]

theorem result_values' : (dats m 0 c).arrAt 10 cfg0.N
        = values (m ((c : Thread nD τ).loc main_arg0)) (scaleOf (m ((c : Thread nD τ).loc main_arg3)) (m ((c : Thread nD τ).loc main_arg2)))
            (m ((c : Thread nD τ).loc main_arg1)) (m ((c : Thread nD τ).loc main_arg4)) := by
  rw [result_values, V_main_arg0, V_main_arg1, scale_whole, w_whole]

theorem result_retKeys' : (dats m 0 c).arrAt 11 cfg0.N
        = retKeys (m ((c : Thread nD τ).loc main_arg0)) (scaleOf (m ((c : Thread nD τ).loc main_arg3)) (m ((c : Thread nD τ).loc main_arg2)))
            (m ((c : Thread nD τ).loc main_arg1)) (m ((c : Thread nD τ).loc main_arg4)) := by
  rw [result_retKeys, V_main_arg0, V_main_arg1, scale_whole, w_whole]

theorem result_retValues' : (dats m 0 c).arrAt 12 cfg0.N
        = retValues (m ((c : Thread nD τ).loc main_arg0)) (scaleOf (m ((c : Thread nD τ).loc main_arg3)) (m ((c : Thread nD τ).loc main_arg2)))
            (m ((c : Thread nD τ).loc main_arg1)) (m ((c : Thread nD τ).loc main_arg4)) := by
  rw [result_retValues, V_main_arg0, V_main_arg1, scale_whole, w_whole]

theorem result_queries' : (dats m 0 c).arrAt 13 cfg0.N
        = queries (m ((c : Thread nD τ).loc main_arg0)) (scaleOf (m ((c : Thread nD τ).loc main_arg3)) (m ((c : Thread nD τ).loc main_arg2)))
            (m ((c : Thread nD τ).loc main_arg1)) (m ((c : Thread nD τ).loc main_arg4))
            means (tiled (m ((c : Thread nD τ).loc main_arg6))) (cosines (m ((c : Thread nD τ).loc main_arg7)))
            (sines (m ((c : Thread nD τ).loc main_arg8))) := by
  rw [result_queries, V_main_arg0, V_main_arg1, scale_whole, w_whole, means_whole, qw_whole, cos_whole, sin_whole]

theorem result_retQueries' : (dats m 0 c).arrAt 14 cfg0.N
        = retQueries (m ((c : Thread nD τ).loc main_arg0)) (scaleOf (m ((c : Thread nD τ).loc main_arg3)) (m ((c : Thread nD τ).loc main_arg2)))
            (m ((c : Thread nD τ).loc main_arg1)) (m ((c : Thread nD τ).loc main_arg4)) := by
  rw [result_retQueries, V_main_arg0, V_main_arg1, scale_whole, w_whole]

theorem result_gate' : (dats m 0 c).arrAt 15 cfg0.N
        = gate (m ((c : Thread nD τ).loc main_arg0)) (scaleOf (m ((c : Thread nD τ).loc main_arg3)) (m ((c : Thread nD τ).loc main_arg2)))
            (m ((c : Thread nD τ).loc main_arg1)) (m ((c : Thread nD τ).loc main_arg4)) := by
  rw [result_gate, V_main_arg0, V_main_arg1, scale_whole, w_whole]

end

/-- The kernel's run: the results are the projections, the arguments are kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v39_0)
        = keys (m ((c : Thread nD τ).loc main_arg0)) (scaleOf (m ((c : Thread nD τ).loc main_arg3)) (m ((c : Thread nD τ).loc main_arg2)))
            (m ((c : Thread nD τ).loc main_arg1)) (m ((c : Thread nD τ).loc main_arg4))
            means (tiled (m ((c : Thread nD τ).loc main_arg5))) (cosines (m ((c : Thread nD τ).loc main_arg7)))
            (sines (m ((c : Thread nD τ).loc main_arg8)))
      ∧ r.2.mem ((c : Thread nD τ).loc main_v39_1)
        = values (m ((c : Thread nD τ).loc main_arg0)) (scaleOf (m ((c : Thread nD τ).loc main_arg3)) (m ((c : Thread nD τ).loc main_arg2)))
            (m ((c : Thread nD τ).loc main_arg1)) (m ((c : Thread nD τ).loc main_arg4))
      ∧ r.2.mem ((c : Thread nD τ).loc main_v39_2)
        = retKeys (m ((c : Thread nD τ).loc main_arg0)) (scaleOf (m ((c : Thread nD τ).loc main_arg3)) (m ((c : Thread nD τ).loc main_arg2)))
            (m ((c : Thread nD τ).loc main_arg1)) (m ((c : Thread nD τ).loc main_arg4))
      ∧ r.2.mem ((c : Thread nD τ).loc main_v39_3)
        = retValues (m ((c : Thread nD τ).loc main_arg0)) (scaleOf (m ((c : Thread nD τ).loc main_arg3)) (m ((c : Thread nD τ).loc main_arg2)))
            (m ((c : Thread nD τ).loc main_arg1)) (m ((c : Thread nD τ).loc main_arg4))
      ∧ r.2.mem ((c : Thread nD τ).loc main_v39_4)
        = queries (m ((c : Thread nD τ).loc main_arg0)) (scaleOf (m ((c : Thread nD τ).loc main_arg3)) (m ((c : Thread nD τ).loc main_arg2)))
            (m ((c : Thread nD τ).loc main_arg1)) (m ((c : Thread nD τ).loc main_arg4))
            means (tiled (m ((c : Thread nD τ).loc main_arg6))) (cosines (m ((c : Thread nD τ).loc main_arg7)))
            (sines (m ((c : Thread nD τ).loc main_arg8)))
      ∧ r.2.mem ((c : Thread nD τ).loc main_v39_5)
        = retQueries (m ((c : Thread nD τ).loc main_arg0)) (scaleOf (m ((c : Thread nD τ).loc main_arg3)) (m ((c : Thread nD τ).loc main_arg2)))
            (m ((c : Thread nD τ).loc main_arg1)) (m ((c : Thread nD τ).loc main_arg4))
      ∧ r.2.mem ((c : Thread nD τ).loc main_v39_6)
        = gate (m ((c : Thread nD τ).loc main_arg0)) (scaleOf (m ((c : Thread nD τ).loc main_arg3)) (m ((c : Thread nD τ).loc main_arg2)))
            (m ((c : Thread nD τ).loc main_arg1)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h c).1.trans (result_keys' m c)), (((h c).2).1.trans (result_values' m c)), ((((h c).2).2).1.trans (result_retKeys' m c)), (((((h c).2).2).2).1.trans (result_retValues' m c)), ((((((h c).2).2).2).2).1.trans (result_queries' m c)), (((((((h c).2).2).2).2).2).1.trans (result_retQueries' m c)), ((((((((h c).2).2).2).2).2).2).1.trans (result_gate' m c)),
    (((((((h c).2).2).2).2).2).2).2⟩) (Value.run_blocks m ρ)

end Cert.ProjIdeal.Array
end
-- ==== Proof.ProjReference.lean ====
/-
  The reference projection, read at an element: the modulated norm of a row times the weights, the norm and the rotation of
  each head.
-/
module

public import proofs.«01_k».proof.Proof.ProjKernel
public import proofs.«01_k».proof.Proof.ProjHost
public import proofs.«01_k».proof.Proof.Gen.ProjRefIdeal.Read
public import Idealize.ShloMosaic.Lib.Pointwise

@[expose] public section

set_option maxRecDepth 16384

noncomputable section

namespace Cert.ProjRefIdeal.Element

open Cert.ProjRefIdeal Cert.ProjRefIdeal.Gen Cert.ProjRefIdeal.Read Idealize.ShloMosaic
open Cert.Projection Cert.ProjIdeal.Host
open scoped BigOperators

/-- The RMS norm of one head. -/
def head (u w : Fin 64 → EReal) (e : Fin 64) : EReal :=
  u e * Ideal.rsqrt (Ideal.div (∑ i : Fin 64, u i * u i) (Ideal.ofBits FTy.f32 1115684864#32) + eps) * w e

/-- The rotation of one head's lane pairs. -/
def turn (u : Fin 64 → EReal) (cos sin : Fin 32 → EReal) (e : Fin 64) : EReal :=
  if h : e.val % 2 = 0 then u e * cos ⟨e.val / 2, by omega⟩ - u ⟨e.val + 1, by omega⟩ * sin ⟨e.val / 2, by omega⟩
  else u ⟨e.val - 1, by omega⟩ * sin ⟨e.val / 2, by omega⟩ + u e * cos ⟨e.val / 2, by omega⟩

theorem headNorm_head (v : Fin 128 → EReal) (w : Fin 64 → EReal) (l : Fin 128) :
    headNorm v w l = head (fun i => v (mate l i)) w ⟨l.val % 64, by omega⟩ := by
  unfold headNorm head
  have e : mate l ⟨l.val % 64, by omega⟩ = l := Fin.ext (by show 64 * (l.val / 64) + l.val % 64 = l.val; omega)
  simp only [e]

theorem headNorm_mate (v : Fin 128 → EReal) (w : Fin 64 → EReal) (l : Fin 128) (i : Fin 64) :
    headNorm v w (mate l i) = head (fun i => v (mate l i)) w i := by
  rw [headNorm_head]
  have hi := i.isLt
  have e : (⟨(mate l i).val % 64, by omega⟩ : Fin 64) = i := Fin.ext (by show (64 * (l.val / 64) + i.val) % 64 = i.val; omega)
  have f : ∀ j, mate (mate l i) j = mate l j := fun j =>
    Fin.ext (by show 64 * ((64 * (l.val / 64) + i.val) / 64) + j.val = 64 * (l.val / 64) + j.val; omega)
  simp only [e, f]

/-- The kernel's rotated norms of a group are the heads', one by one. -/
theorem rotated_turn (v : Fin 128 → EReal) (cos sin : Fin 32 → EReal) (l : Fin 128) :
    rotated v cos sin l = turn (fun i => v (mate l i)) cos sin ⟨l.val % 64, by omega⟩ := by
  have hl := l.isLt
  have e : mate l ⟨l.val % 64, by omega⟩ = l := Fin.ext (by show 64 * (l.val / 64) + l.val % 64 = l.val; omega)
  unfold rotated turn
  by_cases h : l.val % 2 = 0
  · rw [dif_pos h, dif_pos (by show l.val % 64 % 2 = 0; omega)]
    simp only [e]
    have e' : mate l ⟨l.val % 64 + 1, by omega⟩ = ⟨l.val + 1, by omega⟩ :=
      Fin.ext (by show 64 * (l.val / 64) + (l.val % 64 + 1) = l.val + 1; omega)
    simp only [e']
  · rw [dif_neg h, dif_neg (by show ¬ l.val % 64 % 2 = 0; omega)]
    simp only [e]
    have e' : mate l ⟨l.val % 64 - 1, by omega⟩ = ⟨l.val - 1, by omega⟩ :=
      Fin.ext (by show 64 * (l.val / 64) + (l.val % 64 - 1) = l.val - 1; omega)
    simp only [e']

theorem turn_pairs (u : Fin 64 → EReal) (cos sin : Fin 32 → EReal) (e : Fin 64) :
    (if _ : e.val % 2 < 1 then u ⟨2 * (e.val / 2), by omega⟩ * cos ⟨e.val / 2, by omega⟩
        - u ⟨1 + 2 * (e.val / 2), by omega⟩ * sin ⟨e.val / 2, by omega⟩
      else u ⟨2 * (e.val / 2), by omega⟩ * sin ⟨e.val / 2, by omega⟩
        + u ⟨1 + 2 * (e.val / 2), by omega⟩ * cos ⟨e.val / 2, by omega⟩) = turn u cos sin e := by
  unfold turn
  by_cases h : e.val % 2 = 0
  · rw [dif_pos (by omega), dif_pos h]
    have h1 : (⟨2 * (e.val / 2), by omega⟩ : Fin 64) = e := Fin.ext (by show 2 * (e.val / 2) = e.val; omega)
    have h2 : (⟨1 + 2 * (e.val / 2), by omega⟩ : Fin 64) = ⟨e.val + 1, by omega⟩ :=
      Fin.ext (by show 1 + 2 * (e.val / 2) = e.val + 1; omega)
    rw [h1, h2]
  · rw [dif_neg (by omega), dif_neg h]
    have h1 : (⟨2 * (e.val / 2), by omega⟩ : Fin 64) = ⟨e.val - 1, by omega⟩ :=
      Fin.ext (by show 2 * (e.val / 2) = e.val - 1; omega)
    have h2 : (⟨1 + 2 * (e.val / 2), by omega⟩ : Fin 64) = e := Fin.ext (by show 1 + 2 * (e.val / 2) = e.val; omega)
    rw [h1, h2]

variable (x : FVec Ideal S8x2048x1024 .f32) (sh sc : FVec Ideal S8x1x1024 .f32) (nw : FVec Ideal S1024 .f32)
  (w : FVec Ideal S1024x2816 .f32) (kw qw : FVec Ideal S64 .f32) (cs sn : FVec Ideal S2048x32 .f32)

theorem root_apply (b : Fin 8) (l : Fin 2048) :
    val_main_v7 (F := Ideal) x (ix3 b l 0)
      = Ideal.rsqrt (Ideal.div (∑ e, x (ix3 b l e) * x (ix3 b l e)) (Ideal.ofBits FTy.f32 1149239296#32) + eps) := by
  pointwise [val_main_v7, val_main_v6, val_main_v5, val_main_v4, val_main_v3, val_main_v2, val_main_v1, val_main_v0, val_main_cst, val_main_cst_0, val_main_cst_1]

theorem modulated_apply (b : Fin 8) (l : Fin 2048) (d : Fin 1024) :
    val_main_v18 (F := Ideal) x sh sc nw (ix3 b l d)
      = modulated (fun d => x (ix3 b l d)) (fun d => scaled nw sc b d) (fun d => sh (ix3 b 0 d)) d := by
  pointwise [val_main_v18, val_main_v17, val_main_v16, val_main_v15, val_main_v14, val_main_v13, val_main_cst_2, val_main_v12, val_main_v11, val_main_v10, val_main_v9, val_main_v8, root_apply]
  unfold modulated unit scaled
  rw [mul_assoc]

/-- An element of the projected row. -/
def col (b : Fin 8) (l : Fin 2048) (c : Fin 2816) : EReal :=
  product (modulated (fun d => x (ix3 b l d)) (fun d => scaled nw sc b d) (fun d => sh (ix3 b 0 d))) (fun d => w (ix2 d c))

theorem col_apply (b : Fin 8) (l : Fin 2048) (c : Fin 2816) :
    val_main_v19 (F := Ideal) x sh sc nw w (ix3 b l c) = col x sh sc nw w b l c := by
  pointwise [val_main_v19, modulated_apply]
  rfl

/-- A head of the row: 64 columns from `off + 64 h`. -/
def lane (off : ℕ) (b : Fin 8) (l : Fin 2048) (h : ℕ) (ho : off + (h * 64 + 64) ≤ 2816) (e : Fin 64) : EReal :=
  col x sh sc nw w b l ⟨off + (h * 64 + e.val), by omega⟩

theorem qroot_apply (b : Fin 8) (l : Fin 2048) (h : Fin 8) :
    val_main_v29 (F := Ideal) x sh sc nw w (ix4 b l h 0)
      = Ideal.rsqrt (Ideal.div (∑ i : Fin 64, lane x sh sc nw w 1280 b l h (by omega) i * lane x sh sc nw w 1280 b l h (by omega) i)
          (Ideal.ofBits FTy.f32 1115684864#32) + eps) := by
  pointwise [val_main_v29, val_main_v28, val_main_v27, val_main_v26, val_main_v25, val_main_v24, val_main_v23, val_main_v22, val_main_v21, val_main_v20, val_main_cst_3, val_main_cst_4, val_main_cst_5, col_apply]
  rfl

theorem qnorm_apply (b : Fin 8) (l : Fin 2048) (h : Fin 8) (e : Fin 64) :
    val_main_v34 (F := Ideal) x sh sc nw w qw (ix4 b l h e)
      = head (lane x sh sc nw w 1280 b l h (by omega)) (fun i => qw (ix1 i)) e := by
  pointwise [val_main_v34, val_main_v33, val_main_v32, val_main_v31, val_main_v30, val_main_v21, val_main_v20, col_apply, qroot_apply]
  rfl

theorem qturn_apply (b : Fin 8) (l : Fin 2048) (h : Fin 8) (e : Fin 64) :
    val_main_v52 (F := Ideal) x sh sc nw w qw cs sn (ix4 b l h e)
      = turn (head (lane x sh sc nw w 1280 b l h (by omega)) (fun i => qw (ix1 i))) (fun p => cs (ix2 l p))
          (fun p => sn (ix2 l p)) e := by
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, qnorm_apply]
  refine Eq.trans ?_ (turn_pairs _ _ _ _)
  rfl

theorem kroot_apply (b : Fin 8) (l : Fin 2048) (h : Fin 2) :
    val_main_v64 (F := Ideal) x sh sc nw w (ix4 b l h 0)
      = Ideal.rsqrt (Ideal.div (∑ i : Fin 64, lane x sh sc nw w 0 b l h (by omega) i * lane x sh sc nw w 0 b l h (by omega) i)
          (Ideal.ofBits FTy.f32 1115684864#32) + eps) := by
  pointwise [val_main_v64, val_main_v63, val_main_v62, val_main_v61, val_main_v60, val_main_v59, val_main_v58, val_main_v57, val_main_v56, val_main_v55, val_main_cst_7, val_main_cst_8, val_main_cst_9, col_apply]
  unfold lane
  simp only [Nat.zero_add]

theorem knorm_apply (b : Fin 8) (l : Fin 2048) (h : Fin 2) (e : Fin 64) :
    val_main_v69 (F := Ideal) x sh sc nw w kw (ix4 b l h e)
      = head (lane x sh sc nw w 0 b l h (by omega)) (fun i => kw (ix1 i)) e := by
  pointwise [val_main_v69, val_main_v68, val_main_v67, val_main_v66, val_main_v65, val_main_v56, val_main_v55, col_apply, kroot_apply]
  unfold head
  simp only [lane, Nat.zero_add]

theorem kturn_apply (b : Fin 8) (l : Fin 2048) (h : Fin 2) (e : Fin 64) :
    val_main_v87 (F := Ideal) x sh sc nw w kw cs sn (ix4 b l h e)
      = turn (head (lane x sh sc nw w 0 b l h (by omega)) (fun i => kw (ix1 i))) (fun p => cs (ix2 l p))
          (fun p => sn (ix2 l p)) e := by
  pointwise [val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, knorm_apply]
  refine Eq.trans ?_ (turn_pairs _ _ _ _)
  rfl

open Cert.ProjIdeal.Array in
/-- A group's rotated lane is its head's. -/
theorem group_eq (hw : FVec Ideal S64 .f32) (off : ℕ) (ho : off + 128 ≤ 2816) (b : Fin 8) (l : Fin 2048) (k : Fin 128)
    (a h : ℕ) (ha : a + (h * 64 + 64) ≤ 2816) (e : a + h * 64 = off + 64 * (k.val / 64)) :
    group x (scaleOf nw sc) sh w means (tiled hw) (cosines cs) (sines sn) off ho b l k
      = turn (head (lane x sh sc nw w a b l h ha) (fun i => hw (ix1 i))) (fun p => cs (ix2 l p)) (fun p => sn (ix2 l p))
          ⟨k.val % 64, by omega⟩ := by
  unfold group
  refine (congrFun ((congrArg (fun v => rotatedK v _ _) (headNormK_eq (cols x (scaleOf nw sc) sh w off ho b l) fun i => hw (ix1 i))).trans
    (rotatedK_eq _ (fun p => cs (ix2 l p)) fun p => sn (ix2 l p))) k).trans ?_
  rw [rotated_turn]
  refine congrArg (fun u => turn u _ _ _) (funext fun i => ?_)
  rw [headNorm_mate]
  refine congrArg (fun u => head u _ i) (funext fun j => ?_)
  exact congrArg (col x sh sc nw w b l) (Fin.ext (by
    show off + (64 * (k.val / 64) + j.val) = a + (h * 64 + j.val)
    omega))

open Cert.ProjIdeal.Array in
theorem keys_apply (b : Fin 8) (l : Fin 2048) (c : Fin 128) :
    val_main_v99 (F := Ideal) x sh sc nw w kw cs sn (ix3 b l c)
      = keys x (scaleOf nw sc) sh w means (tiled kw) (cosines cs) (sines sn) (ix3 b l c) := by
  pointwise [val_main_v99, val_main_v98, kturn_apply]
  exact (group_eq x sh sc nw w cs sn kw 0 (by omega) b l c 0 (c.val / 64) (by omega) (by omega)).symm

open Cert.ProjIdeal.Array in
theorem queries_apply (b : Fin 8) (l : Fin 2048) (c : Fin 512) :
    val_main_v107 (F := Ideal) x sh sc nw w qw cs sn (ix3 b l c)
      = queries x (scaleOf nw sc) sh w means (tiled qw) (cosines cs) (sines sn) (ix3 b l c) := by
  pointwise [val_main_v107, val_main_v106, val_main_v54, val_main_v53, val_main_cst_6, qturn_apply]
  refine congrArg (· * Ideal.ofBits FTy.f32 1040187392#32) ?_
  refine Eq.trans ?_ (group_eq x sh sc nw w cs sn qw (1280 + 128 * (c.val / 128)) (by omega) b l ⟨c.val % 128, by omega⟩ 1280
    (c.val / 64) (by omega) (by show 1280 + c.val / 64 * 64 = 1280 + 128 * (c.val / 128) + 64 * (c.val % 128 / 64); omega)).symm
  exact congrArg (turn _ _ _) (Fin.ext (by show c.val % 64 = c.val % 128 % 64; omega))

open Cert.ProjIdeal.Array in
theorem values_apply (b : Fin 8) (l : Fin 2048) (c : Fin 128) :
    val_main_v101 (F := Ideal) x sh sc nw w (ix3 b l c) = values x (scaleOf nw sc) sh w (ix3 b l c) := by
  pointwise [val_main_v101, val_main_v100, val_main_v89, val_main_v88, col_apply]
  rfl

open Cert.ProjIdeal.Array in
theorem retKeys_apply (b : Fin 8) (l : Fin 2048) (c : Fin 512) :
    val_main_v103 (F := Ideal) x sh sc nw w (ix3 b l c) = retKeys x (scaleOf nw sc) sh w (ix3 b l c) := by
  pointwise [val_main_v103, val_main_v102, val_main_v95, val_main_v94, val_main_v93, val_main_v92, val_main_cst_10, col_apply]
  rfl

open Cert.ProjIdeal.Array in
theorem retValues_apply (b : Fin 8) (l : Fin 2048) (c : Fin 512) :
    val_main_v105 (F := Ideal) x sh sc nw w (ix3 b l c) = retValues x (scaleOf nw sc) sh w (ix3 b l c) := by
  pointwise [val_main_v105, val_main_v104, val_main_v97, val_main_v96, col_apply]
  rfl

open Cert.ProjIdeal.Array in
theorem retQueries_apply (b : Fin 8) (l : Fin 2048) (c : Fin 512) :
    val_main_v109 (F := Ideal) x sh sc nw w (ix3 b l c) = retQueries x (scaleOf nw sc) sh w (ix3 b l c) := by
  pointwise [val_main_v109, val_main_v108, val_main_v91, val_main_v90, col_apply]
  rfl

open Cert.ProjIdeal.Array in
theorem gate_apply (b : Fin 8) (l : Fin 2048) (c : Fin 512) :
    val_main_v110 (F := Ideal) x sh sc nw w (ix3 b l c) = gate x (scaleOf nw sc) sh w (ix3 b l c) := by
  pointwise [val_main_v110, col_apply]
  rfl

theorem split_idx {n : ℕ} (i : (⟨3, ![8, 2048, n]⟩ : Shape).Idx) :
    ∃ (b : Fin 8) (l : Fin 2048) (c : Fin n), i = ix3 b l c := ⟨i 0, i 1, i 2, by
  funext a
  match a with
  | 0 => rfl
  | 1 => rfl
  | 2 => rfl⟩

theorem keys_whole : val_main_v99 (F := Ideal) x sh sc nw w kw cs sn
    = Cert.ProjIdeal.Array.keys x (scaleOf nw sc) sh w means (tiled kw) (cosines cs) (sines sn) := by
  funext i
  obtain ⟨b, l, c, rfl⟩ := split_idx i
  exact keys_apply x sh sc nw w kw cs sn b l c

theorem values_whole : val_main_v101 (F := Ideal) x sh sc nw w
    = Cert.ProjIdeal.Array.values x (scaleOf nw sc) sh w := by
  funext i
  obtain ⟨b, l, c, rfl⟩ := split_idx i
  exact values_apply x sh sc nw w b l c

theorem retKeys_whole : val_main_v103 (F := Ideal) x sh sc nw w
    = Cert.ProjIdeal.Array.retKeys x (scaleOf nw sc) sh w := by
  funext i
  obtain ⟨b, l, c, rfl⟩ := split_idx i
  exact retKeys_apply x sh sc nw w b l c

theorem retValues_whole : val_main_v105 (F := Ideal) x sh sc nw w
    = Cert.ProjIdeal.Array.retValues x (scaleOf nw sc) sh w := by
  funext i
  obtain ⟨b, l, c, rfl⟩ := split_idx i
  exact retValues_apply x sh sc nw w b l c

theorem queries_whole : val_main_v107 (F := Ideal) x sh sc nw w qw cs sn
    = Cert.ProjIdeal.Array.queries x (scaleOf nw sc) sh w means (tiled qw) (cosines cs) (sines sn) := by
  funext i
  obtain ⟨b, l, c, rfl⟩ := split_idx i
  exact queries_apply x sh sc nw w qw cs sn b l c

theorem retQueries_whole : val_main_v109 (F := Ideal) x sh sc nw w
    = Cert.ProjIdeal.Array.retQueries x (scaleOf nw sc) sh w := by
  funext i
  obtain ⟨b, l, c, rfl⟩ := split_idx i
  exact retQueries_apply x sh sc nw w b l c

theorem gate_whole : val_main_v110 (F := Ideal) x sh sc nw w
    = Cert.ProjIdeal.Array.gate x (scaleOf nw sc) sh w := by
  funext i
  obtain ⟨b, l, c, rfl⟩ := split_idx i
  exact gate_apply x sh sc nw w b l c

end Cert.ProjRefIdeal.Element
end
-- ==== Proof.Output.lean ====
/-
  The output projection of one row, on plain functions: the residual with the gated product of the two mixers' outputs, its
  modulated norm (Proof/Projection.lean), the shared expert, the router's scores; and that the normed row is finite where the
  arguments are.
-/
module

public import proofs.«01_k».proof.Proof.Projection
public import proofs.«01_k».proof.Proof.Softmax

@[expose] public section

noncomputable section

namespace Cert.Output

open Idealize.ShloMosaic Cert.Projection
open scoped BigOperators

/-- The row plus its gated product with the output weights: the attention's half, then the retention's. -/
def residual (x g : Fin 1024 → EReal) (a r : Fin 512 → EReal) (w : Fin 1024 → Fin 1024 → EReal) (d : Fin 1024) : EReal :=
  x d + g d * (∑ k : Fin 512, a k * w ⟨k.val, by omega⟩ d + ∑ k : Fin 512, r k * w ⟨512 + k.val, by omega⟩ d)

/-- The shared expert of a row. -/
def shared (h : Fin 1024 → EReal) (sg su : Fin 1024 → Fin 256 → EReal) (sd : Fin 256 → Fin 1024 → EReal) (d : Fin 1024) : EReal :=
  ∑ j, (∑ e, h e * sg e j) * Ideal.logistic (∑ e, h e * sg e j) * (∑ e, h e * su e j) * sd j d

/-! Finite arguments give a finite normed row. -/

/-- The value is a real number. -/
def Real' (x : EReal) : Prop := ∃ r : ℝ, x = r

theorem Real'.add {x y : EReal} : Real' x → Real' y → Real' (x + y) := by
  rintro ⟨a, rfl⟩ ⟨b, rfl⟩
  exact ⟨a + b, by rw [EReal.coe_add]⟩

theorem Real'.mul {x y : EReal} : Real' x → Real' y → Real' (x * y) := by
  rintro ⟨a, rfl⟩ ⟨b, rfl⟩
  exact ⟨a * b, by rw [EReal.coe_mul]⟩

theorem Real'.sub_self {x : EReal} : Real' x → x - x = 0 := by
  rintro ⟨a, rfl⟩
  rw [← EReal.coe_sub, _root_.sub_self, EReal.coe_zero]

theorem ofBits_1024 : Ideal.ofBits FTy.f32 1149239296#32 = ((1024 : ℝ) : EReal) := by
  simp [Ideal.ofBits, Ideal.ieee]
  norm_cast
  norm_num

theorem eps_pos : ∃ r : ℝ, 0 < r ∧ eps = r := by
  refine ⟨(eps : EReal).toReal, ?_, ?_⟩ <;> simp [eps, Ideal.ofBits, Ideal.ieee] <;> norm_cast <;> norm_num

theorem residual_real {x g : Fin 1024 → EReal} {a r : Fin 512 → EReal} {w : Fin 1024 → Fin 1024 → EReal}
    (hx : ∀ d, Real' (x d)) (hg : ∀ d, Real' (g d)) (ha : ∀ k, Real' (a k)) (hr : ∀ k, Real' (r k))
    (hw : ∀ k d, Real' (w k d)) (d : Fin 1024) : Real' (residual x g a r w d) :=
  (hx d).add ((hg d).mul (Real'.add (Softmax.sum_mul_finite ha fun k => hw _ d) (Softmax.sum_mul_finite hr fun k => hw _ d)))

theorem unit_real {v : Fin 1024 → EReal} (hv : ∀ d, Real' (v d)) (d : Fin 1024) :
    Real' (unit (Ideal.ofBits FTy.f32 1149239296#32) v d) := by
  refine (hv d).mul ?_
  choose f hf using hv
  obtain rfl : v = fun k => (f k : EReal) := funext hf
  obtain ⟨e, he, hee⟩ := eps_pos
  have h : ∑ k, (f k : EReal) * (f k : EReal) = ((∑ k, f k * f k : ℝ) : EReal) := by
    rw [Softmax.coe_sum]
    exact Finset.sum_congr rfl fun k _ => by rw [EReal.coe_mul]
  have hp : 0 < (∑ k, f k * f k) * (1 / 1024) + e :=
    add_pos_of_nonneg_of_pos (mul_nonneg (Finset.sum_nonneg fun k _ => mul_self_nonneg _) (by norm_num)) he
  show Real' (Ideal.rsqrt (Ideal.div (∑ k, (f k : EReal) * (f k : EReal)) (Ideal.ofBits FTy.f32 1149239296#32) + eps))
  rw [h, ofBits_1024, Ideal.div_coe (by norm_num), hee, ← EReal.coe_mul, ← EReal.coe_add, Ideal.rsqrt_coe,
    if_neg (not_lt.mpr hp.le), if_neg hp.ne']
  exact ⟨_, rfl⟩

theorem modulated_real {v s t : Fin 1024 → EReal} (hv : ∀ d, Real' (v d)) (hs : ∀ d, Real' (s d)) (ht : ∀ d, Real' (t d))
    (d : Fin 1024) : Real' (modulated v s t d) :=
  ((unit_real hv d).mul (hs d)).add (ht d)

end Cert.Output
end
-- ==== Proof.OutBlock.lean ====
/-
  What one grid point of the output projection leaves in its three output blocks, element by element.
-/
module

public import proofs.«01_k».proof.Proof.Output
public import proofs.«01_k».proof.Proof.Gen.OutIdeal.Frame

@[expose] public section

set_option maxRecDepth 16384

noncomputable section

namespace Cert.OutIdeal.Block

open Cert.OutIdeal Cert.OutIdeal.Gen Idealize.ShloMosaic Cert.Projection Cert.Output
open scoped BigOperators

variable (x0 x1 : Vec Ideal S1x512x512 .bf16) (x2 : Vec Ideal S1x512x1024 .f32) (x3 : Vec Ideal S1024x1024 .bf16)
  (x4 x5 x6 x7 : Vec Ideal S1x1x1024 .f32) (x8 : Vec Ideal S1024x512 .bf16) (x9 x10 x11 : Vec Ideal S256x1024 .bf16)

/-- Row `r` after the mixers. -/
def mixed (r : Fin 512) : Fin 1024 → EReal :=
  residual (fun d => x2 (ix3 0 r d)) (fun d => x4 (ix3 0 0 d)) (fun k => x0 (ix3 0 r k)) (fun k => x1 (ix3 0 r k))
    (fun k d => x3 (ix2 k d))

/-- Its modulated norm. -/
def normed (r : Fin 512) : Fin 1024 → EReal :=
  modulated (mixed x0 x1 x2 x3 x4 r) (fun d => x5 (ix3 0 0 d)) (fun d => x6 (ix3 0 0 d))

theorem mixed_apply (r : Fin 512) (d : Fin 1024) :
    k0_pay2 (F := Ideal) (View.ld x0 r0_0) (View.ld x3 r0_1) (View.ld x1 r0_0) (View.ld x3 r0_2) (View.ld x2 r0_3)
      (View.ld x4 r0_4) (ix2 r d) = mixed x0 x1 x2 x3 x4 r d := by
  pointwise [k0_pay2]
  rfl

theorem scaled_apply (r : Fin 512) (d : Fin 1024) :
    k0_pay10 (F := Ideal) x0 x1 x2 x3 x4 x5 x6 x7 x8 x9 x10 x11 (ix2 r d)
      = unit (Ideal.ofBits FTy.f32 1149239296#32) (mixed x0 x1 x2 x3 x4 r) d * x5 (ix3 0 0 d) := by
  unfold k0_pay10
  pointwise [k0_pay3, mixed_apply]
  rfl

theorem normed_apply (r : Fin 512) (d : Fin 1024) :
    k0_pay4 (F := Ideal) (k0_pay10 x0 x1 x2 x3 x4 x5 x6 x7 x8 x9 x10 x11) (View.ld x6 r0_4) (ix2 r d)
      = normed x0 x1 x2 x3 x4 x5 x6 r d := by
  pointwise [k0_pay4, scaled_apply]
  rfl

theorem split12 (x : S1x512x1024.Idx) : ∃ (r : Fin 512) (l : Fin 1024), x = ix3 0 r l := ⟨x 1, x 2, by
  funext a
  match a with
  | 0 => exact Subsingleton.elim (α := Fin 1) _ _
  | 1 => rfl
  | 2 => rfl⟩

theorem split13 (x : S512x1x1024.Idx) : ∃ (r : Fin 512) (l : Fin 1024), x = ix3 r 0 l := ⟨x 0, x 2, by
  funext a
  match a with
  | 0 => rfl
  | 1 => exact Subsingleton.elim (α := Fin 1) _ _
  | 2 => rfl⟩

theorem split14 (x : S256x512.Idx) : ∃ (e : Fin 256) (r : Fin 512), x = ix2 e r := ⟨x 0, x 1, by
  funext a
  match a with
  | 0 => rfl
  | 1 => rfl⟩

/-- Row `r` with the shared expert added. -/
def summed (r : Fin 512) (k : Fin 1024) : EReal :=
  mixed x0 x1 x2 x3 x4 r k + x7 (ix3 0 0 k) * shared (normed x0 x1 x2 x3 x4 x5 x6 r)
    (fun e j => x8 (ix2 e ⟨j.val, by omega⟩)) (fun e j => x8 (ix2 e ⟨256 + j.val, by omega⟩)) (fun j d => x9 (ix2 j d)) k

/-- The residual's block, with the shared expert added. -/
theorem out12_apply (y : S1x512x1024.Idx) :
    out0_12 x0 x1 x2 x3 x4 x5 x6 x7 x8 x9 x10 x11 y
      = summed x0 x1 x2 x3 x4 x5 x6 x7 x8 x9 (y 1) (y 2) := by
  unfold out0_12
  canon_tiles x h using cover0_12 ..
  obtain ⟨r, l, rfl⟩ := split12 x
  rw [show y 1 = r from Fin.ext h1, show y 2 = l from Fin.ext h2]
  pointwise [k0_pay6, k0_pay5, mixed_apply, normed_apply]
  rfl

/-- The normed rows' block. -/
theorem out13_apply (y : S512x1x1024.Idx) :
    out0_13 x0 x1 x2 x3 x4 x5 x6 x7 x8 x9 x10 x11 y = normed x0 x1 x2 x3 x4 x5 x6 (y 0) (y 2) := by
  unfold out0_13
  canon_tiles x h using cover0_13 ..
  obtain ⟨r, l, rfl⟩ := split13 x
  rw [show y 0 = r from Fin.ext h0, show y 2 = l from Fin.ext h2]
  pointwise [k0_pay7, normed_apply]

/-- The router's scores as the kernel adds them, from the two parts of the row and of the weights. -/
def scores (h : Fin 1024 → EReal) (hi lo : Fin 1024 → EReal) : EReal :=
  ∑ d, hi d * h d + ∑ d, hi d * (h d - h d) + ∑ d, lo d * h d

/-- The scores' block. -/
theorem out14_apply (y : S256x512.Idx) :
    out0_14 x0 x1 x2 x3 x4 x5 x6 x7 x8 x9 x10 x11 y
      = scores (normed x0 x1 x2 x3 x4 x5 x6 (y 1)) (fun d => x10 (ix2 (y 0) d)) (fun d => x11 (ix2 (y 0) d)) := by
  unfold out0_14
  canon_tiles x h using cover0_14 ..
  obtain ⟨e, r, rfl⟩ := split14 x
  rw [show y 0 = e from Fin.ext h0, show y 1 = r from Fin.ext h1]
  pointwise [k0_pay1, k0_pay8, k0_pay9, k0_pay5, normed_apply]
  rfl

end Cert.OutIdeal.Block
end
-- ==== Proof.OutKernel.lean ====
/-
  The output projection's three result arrays: row `l` of batch `b` of each, from that row of the inputs (Proof/Output.lean).
-/
module

public import proofs.«01_k».proof.Proof.OutBlock
public import proofs.«01_k».proof.Proof.Gen.OutIdeal.Value
public import Idealize.ShloMosaic.Lib.StableHlo.ReadAt

@[expose] public section

set_option maxRecDepth 16384

noncomputable section

namespace Cert.OutIdeal.Array

open Cert.OutIdeal Cert.OutIdeal.Gen Cert.OutIdeal.Block Idealize.ShloMosaic Idealize.ShloMosaic.TcCoe Idealize.SL.Sem
open Idealize.ShloMosaic.Pipeline (Dat)
open Cert.Projection Cert.Output
open scoped BigOperators

variable (m : (ℓ : Loc nD τ sig) → Buf (Elt Ideal) ℓ) (ρ : Dev nD → PrngReg)

/-- The block indices of the input windows at point `t`: batch `t / 4`, rows `512 (t % 4) …`. -/
theorem in_index : ∀ t : Fin cfg0.N,
    (win0_0.index t 0 = t.val / 4 ∧ win0_0.index t 1 = t.val % 4 ∧ win0_0.index t 2 = 0)
    ∧ (win0_1.index t 0 = t.val / 4 ∧ win0_1.index t 1 = t.val % 4 ∧ win0_1.index t 2 = 0)
    ∧ (win0_2.index t 0 = t.val / 4 ∧ win0_2.index t 1 = t.val % 4 ∧ win0_2.index t 2 = 0)
    ∧ (win0_3.index t 0 = 0 ∧ win0_3.index t 1 = 0)
    ∧ (win0_4.index t 0 = t.val / 4 ∧ win0_4.index t 1 = 0 ∧ win0_4.index t 2 = 0)
    ∧ (win0_5.index t 0 = t.val / 4 ∧ win0_5.index t 1 = 0 ∧ win0_5.index t 2 = 0)
    ∧ (win0_6.index t 0 = t.val / 4 ∧ win0_6.index t 1 = 0 ∧ win0_6.index t 2 = 0)
    ∧ (win0_7.index t 0 = t.val / 4 ∧ win0_7.index t 1 = 0 ∧ win0_7.index t 2 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0) :=
  (by decide +kernel : ∀ t : Fin grid0.N,
    (win0_0.index t 0 = t.val / 4 ∧ win0_0.index t 1 = t.val % 4 ∧ win0_0.index t 2 = 0)
    ∧ (win0_1.index t 0 = t.val / 4 ∧ win0_1.index t 1 = t.val % 4 ∧ win0_1.index t 2 = 0)
    ∧ (win0_2.index t 0 = t.val / 4 ∧ win0_2.index t 1 = t.val % 4 ∧ win0_2.index t 2 = 0)
    ∧ (win0_3.index t 0 = 0 ∧ win0_3.index t 1 = 0)
    ∧ (win0_4.index t 0 = t.val / 4 ∧ win0_4.index t 1 = 0 ∧ win0_4.index t 2 = 0)
    ∧ (win0_5.index t 0 = t.val / 4 ∧ win0_5.index t 1 = 0 ∧ win0_5.index t 2 = 0)
    ∧ (win0_6.index t 0 = t.val / 4 ∧ win0_6.index t 1 = 0 ∧ win0_6.index t 2 = 0)
    ∧ (win0_7.index t 0 = t.val / 4 ∧ win0_7.index t 1 = 0 ∧ win0_7.index t 2 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0))

/-- The block indices of the output windows at point `t`. -/
theorem out_index : ∀ t : Fin cfg0.N,
    (win0_12.index t 0 = t.val / 4 ∧ win0_12.index t 1 = t.val % 4 ∧ win0_12.index t 2 = 0)
    ∧ (win0_13.index t 0 = t.val ∧ win0_13.index t 1 = 0 ∧ win0_13.index t 2 = 0)
    ∧ (win0_14.index t 0 = 0 ∧ win0_14.index t 1 = t.val) :=
  (by decide +kernel : ∀ t : Fin grid0.N,
    (win0_12.index t 0 = t.val / 4 ∧ win0_12.index t 1 = t.val % 4 ∧ win0_12.index t 2 = 0)
    ∧ (win0_13.index t 0 = t.val ∧ win0_13.index t 1 = 0 ∧ win0_13.index t 2 = 0)
    ∧ (win0_14.index t 0 = 0 ∧ win0_14.index t 1 = t.val))

theorem iblk_attn (c : Dev nD) (t : Fin cfg0.N) (z : S1x512x512.Idx) (i : S8x2048x512.Idx)
    (h0 : (i 0).val = t.val / 4) (h1 : (i 1).val = 512 * (t.val % 4) + (z 1).val) (h2 : (i 2).val = (z 2).val) :
    (iblk m c 0 t : Vec Ideal S1x512x512 .bf16) z = V m c main_arg0 i := by
  obtain ⟨⟨a0, a1, a2⟩, -⟩ := in_index t
  have hz0 : (z 0).val < 1 := (z 0).isLt
  unfold iblk
  rw [View.read_apply]
  show V m c main_arg0 _ = _
  congr 1
  funext a
  apply Fin.ext
  match a with
  | ⟨0, _⟩ => show win0_0.index t 0 * 1 + 1 * (z 0).val = (i 0).val; rw [a0]; omega
  | ⟨1, _⟩ => show win0_0.index t 1 * 512 + 1 * (z 1).val = (i 1).val; rw [a1]; omega
  | ⟨2, _⟩ => show win0_0.index t 2 * 512 + 1 * (z 2).val = (i 2).val; rw [a2]; omega

theorem iblk_ret (c : Dev nD) (t : Fin cfg0.N) (z : S1x512x512.Idx) (i : S8x2048x512.Idx)
    (h0 : (i 0).val = t.val / 4) (h1 : (i 1).val = 512 * (t.val % 4) + (z 1).val) (h2 : (i 2).val = (z 2).val) :
    (iblk m c 1 t : Vec Ideal S1x512x512 .bf16) z = V m c main_arg1 i := by
  obtain ⟨-, ⟨a0, a1, a2⟩, -⟩ := in_index t
  have hz0 : (z 0).val < 1 := (z 0).isLt
  unfold iblk
  rw [View.read_apply]
  show V m c main_arg1 _ = _
  congr 1
  funext a
  apply Fin.ext
  match a with
  | ⟨0, _⟩ => show win0_1.index t 0 * 1 + 1 * (z 0).val = (i 0).val; rw [a0]; omega
  | ⟨1, _⟩ => show win0_1.index t 1 * 512 + 1 * (z 1).val = (i 1).val; rw [a1]; omega
  | ⟨2, _⟩ => show win0_1.index t 2 * 512 + 1 * (z 2).val = (i 2).val; rw [a2]; omega

theorem iblk_x (c : Dev nD) (t : Fin cfg0.N) (z : S1x512x1024.Idx) (i : S8x2048x1024.Idx)
    (h0 : (i 0).val = t.val / 4) (h1 : (i 1).val = 512 * (t.val % 4) + (z 1).val) (h2 : (i 2).val = (z 2).val) :
    (iblk m c 2 t : Vec Ideal S1x512x1024 .f32) z = V m c main_arg2 i := by
  obtain ⟨-, -, ⟨a0, a1, a2⟩, -⟩ := in_index t
  have hz0 : (z 0).val < 1 := (z 0).isLt
  unfold iblk
  rw [View.read_apply]
  show V m c main_arg2 _ = _
  congr 1
  funext a
  apply Fin.ext
  match a with
  | ⟨0, _⟩ => show win0_2.index t 0 * 1 + 1 * (z 0).val = (i 0).val; rw [a0]; omega
  | ⟨1, _⟩ => show win0_2.index t 1 * 512 + 1 * (z 1).val = (i 1).val; rw [a1]; omega
  | ⟨2, _⟩ => show win0_2.index t 2 * 1024 + 1 * (z 2).val = (i 2).val; rw [a2]; omega

theorem iblk_wo (c : Dev nD) (t : Fin cfg0.N) (z : S1024x1024.Idx) (i : S1024x1024.Idx)
    (h0 : (i 0).val = (z 0).val) (h1 : (i 1).val = (z 1).val) :
    (iblk m c 3 t : Vec Ideal S1024x1024 .bf16) z = V m c main_v13 i := by
  obtain ⟨-, -, -, ⟨a0, a1⟩, -⟩ := in_index t
  unfold iblk
  rw [View.read_apply]
  show V m c main_v13 _ = _
  congr 1
  funext a
  apply Fin.ext
  match a with
  | ⟨0, _⟩ => show win0_3.index t 0 * 1024 + 1 * (z 0).val = (i 0).val; rw [a0]; omega
  | ⟨1, _⟩ => show win0_3.index t 1 * 1024 + 1 * (z 1).val = (i 1).val; rw [a1]; omega

theorem iblk_gate (c : Dev nD) (t : Fin cfg0.N) (z : S1x1x1024.Idx) (i : S8x1x1024.Idx)
    (h0 : (i 0).val = t.val / 4) (h1 : (i 1).val = (z 1).val) (h2 : (i 2).val = (z 2).val) :
    (iblk m c 4 t : Vec Ideal S1x1x1024 .f32) z = V m c main_arg4 i := by
  obtain ⟨-, -, -, -, ⟨a0, a1, a2⟩, -⟩ := in_index t
  have hz0 : (z 0).val < 1 := (z 0).isLt
  have hz1 : (z 1).val < 1 := (z 1).isLt
  unfold iblk
  rw [View.read_apply]
  show V m c main_arg4 _ = _
  congr 1
  funext a
  apply Fin.ext
  match a with
  | ⟨0, _⟩ => show win0_4.index t 0 * 1 + 1 * (z 0).val = (i 0).val; rw [a0]; omega
  | ⟨1, _⟩ => show win0_4.index t 1 * 1 + 1 * (z 1).val = (i 1).val; rw [a1]; omega
  | ⟨2, _⟩ => show win0_4.index t 2 * 1024 + 1 * (z 2).val = (i 2).val; rw [a2]; omega

theorem iblk_scale (c : Dev nD) (t : Fin cfg0.N) (z : S1x1x1024.Idx) (i : S8x1x1024.Idx)
    (h0 : (i 0).val = t.val / 4) (h1 : (i 1).val = (z 1).val) (h2 : (i 2).val = (z 2).val) :
    (iblk m c 5 t : Vec Ideal S1x1x1024 .f32) z = V m c main_v4 i := by
  obtain ⟨-, -, -, -, -, ⟨a0, a1, a2⟩, -⟩ := in_index t
  have hz0 : (z 0).val < 1 := (z 0).isLt
  have hz1 : (z 1).val < 1 := (z 1).isLt
  unfold iblk
  rw [View.read_apply]
  show V m c main_v4 _ = _
  congr 1
  funext a
  apply Fin.ext
  match a with
  | ⟨0, _⟩ => show win0_5.index t 0 * 1 + 1 * (z 0).val = (i 0).val; rw [a0]; omega
  | ⟨1, _⟩ => show win0_5.index t 1 * 1 + 1 * (z 1).val = (i 1).val; rw [a1]; omega
  | ⟨2, _⟩ => show win0_5.index t 2 * 1024 + 1 * (z 2).val = (i 2).val; rw [a2]; omega

theorem iblk_shift (c : Dev nD) (t : Fin cfg0.N) (z : S1x1x1024.Idx) (i : S8x1x1024.Idx)
    (h0 : (i 0).val = t.val / 4) (h1 : (i 1).val = (z 1).val) (h2 : (i 2).val = (z 2).val) :
    (iblk m c 6 t : Vec Ideal S1x1x1024 .f32) z = V m c main_arg5 i := by
  obtain ⟨-, -, -, -, -, -, ⟨a0, a1, a2⟩, -⟩ := in_index t
  have hz0 : (z 0).val < 1 := (z 0).isLt
  have hz1 : (z 1).val < 1 := (z 1).isLt
  unfold iblk
  rw [View.read_apply]
  show V m c main_arg5 _ = _
  congr 1
  funext a
  apply Fin.ext
  match a with
  | ⟨0, _⟩ => show win0_6.index t 0 * 1 + 1 * (z 0).val = (i 0).val; rw [a0]; omega
  | ⟨1, _⟩ => show win0_6.index t 1 * 1 + 1 * (z 1).val = (i 1).val; rw [a1]; omega
  | ⟨2, _⟩ => show win0_6.index t 2 * 1024 + 1 * (z 2).val = (i 2).val; rw [a2]; omega

theorem iblk_gate2 (c : Dev nD) (t : Fin cfg0.N) (z : S1x1x1024.Idx) (i : S8x1x1024.Idx)
    (h0 : (i 0).val = t.val / 4) (h1 : (i 1).val = (z 1).val) (h2 : (i 2).val = (z 2).val) :
    (iblk m c 7 t : Vec Ideal S1x1x1024 .f32) z = V m c main_arg8 i := by
  obtain ⟨-, -, -, -, -, -, -, ⟨a0, a1, a2⟩, -⟩ := in_index t
  have hz0 : (z 0).val < 1 := (z 0).isLt
  have hz1 : (z 1).val < 1 := (z 1).isLt
  unfold iblk
  rw [View.read_apply]
  show V m c main_arg8 _ = _
  congr 1
  funext a
  apply Fin.ext
  match a with
  | ⟨0, _⟩ => show win0_7.index t 0 * 1 + 1 * (z 0).val = (i 0).val; rw [a0]; omega
  | ⟨1, _⟩ => show win0_7.index t 1 * 1 + 1 * (z 1).val = (i 1).val; rw [a1]; omega
  | ⟨2, _⟩ => show win0_7.index t 2 * 1024 + 1 * (z 2).val = (i 2).val; rw [a2]; omega

theorem iblk_sgu (c : Dev nD) (t : Fin cfg0.N) (z : S1024x512.Idx) (i : S1024x512.Idx)
    (h0 : (i 0).val = (z 0).val) (h1 : (i 1).val = (z 1).val) :
    (iblk m c 8 t : Vec Ideal S1024x512 .bf16) z = V m c main_v6 i := by
  obtain ⟨-, -, -, -, -, -, -, -, ⟨a0, a1⟩, -⟩ := in_index t
  unfold iblk
  rw [View.read_apply]
  show V m c main_v6 _ = _
  congr 1
  funext a
  apply Fin.ext
  match a with
  | ⟨0, _⟩ => show win0_8.index t 0 * 1024 + 1 * (z 0).val = (i 0).val; rw [a0]; omega
  | ⟨1, _⟩ => show win0_8.index t 1 * 512 + 1 * (z 1).val = (i 1).val; rw [a1]; omega

theorem iblk_sd (c : Dev nD) (t : Fin cfg0.N) (z : S256x1024.Idx) (i : S256x1024.Idx)
    (h0 : (i 0).val = (z 0).val) (h1 : (i 1).val = (z 1).val) :
    (iblk m c 9 t : Vec Ideal S256x1024 .bf16) z = V m c main_v7 i := by
  obtain ⟨-, -, -, -, -, -, -, -, -, ⟨a0, a1⟩, -⟩ := in_index t
  unfold iblk
  rw [View.read_apply]
  show V m c main_v7 _ = _
  congr 1
  funext a
  apply Fin.ext
  match a with
  | ⟨0, _⟩ => show win0_9.index t 0 * 256 + 1 * (z 0).val = (i 0).val; rw [a0]; omega
  | ⟨1, _⟩ => show win0_9.index t 1 * 1024 + 1 * (z 1).val = (i 1).val; rw [a1]; omega

theorem iblk_hi (c : Dev nD) (t : Fin cfg0.N) (z : S256x1024.Idx) (i : S256x1024.Idx)
    (h0 : (i 0).val = (z 0).val) (h1 : (i 1).val = (z 1).val) :
    (iblk m c 10 t : Vec Ideal S256x1024 .bf16) z = V m c main_v9 i := by
  obtain ⟨-, -, -, -, -, -, -, -, -, -, ⟨a0, a1⟩, -⟩ := in_index t
  unfold iblk
  rw [View.read_apply]
  show V m c main_v9 _ = _
  congr 1
  funext a
  apply Fin.ext
  match a with
  | ⟨0, _⟩ => show win0_10.index t 0 * 256 + 1 * (z 0).val = (i 0).val; rw [a0]; omega
  | ⟨1, _⟩ => show win0_10.index t 1 * 1024 + 1 * (z 1).val = (i 1).val; rw [a1]; omega

theorem iblk_lo (c : Dev nD) (t : Fin cfg0.N) (z : S256x1024.Idx) (i : S256x1024.Idx)
    (h0 : (i 0).val = (z 0).val) (h1 : (i 1).val = (z 1).val) :
    (iblk m c 11 t : Vec Ideal S256x1024 .bf16) z = V m c main_v12 i := by
  obtain ⟨-, -, -, -, -, -, -, -, -, -, -, ⟨a0, a1⟩⟩ := in_index t
  unfold iblk
  rw [View.read_apply]
  show V m c main_v12 _ = _
  congr 1
  funext a
  apply Fin.ext
  match a with
  | ⟨0, _⟩ => show win0_11.index t 0 * 256 + 1 * (z 0).val = (i 0).val; rw [a0]; omega
  | ⟨1, _⟩ => show win0_11.index t 1 * 1024 + 1 * (z 1).val = (i 1).val; rw [a1]; omega

section
variable (at' rt : S8x2048x512.Idx → EReal) (x : S8x2048x1024.Idx → EReal) (wo : S1024x1024.Idx → EReal)
  (g1 sc sh g2 : S8x1x1024.Idx → EReal) (sgu : S1024x512.Idx → EReal) (sd hi lo : S256x1024.Idx → EReal)

/-- Row `l` of batch `b` after the mixers. -/
def rowMixed (b : Fin 8) (l : Fin 2048) : Fin 1024 → EReal :=
  residual (fun d => x (ix3 b l d)) (fun d => g1 (ix3 b 0 d)) (fun k => at' (ix3 b l k)) (fun k => rt (ix3 b l k))
    (fun k d => wo (ix2 k d))

/-- Its modulated norm. -/
def rowNormed (b : Fin 8) (l : Fin 2048) : Fin 1024 → EReal :=
  modulated (rowMixed at' rt x wo g1 b l) (fun d => sc (ix3 b 0 d)) (fun d => sh (ix3 b 0 d))

/-- The first result. -/
def xs (i : S8x2048x1024.Idx) : EReal :=
  rowMixed at' rt x wo g1 (i 0) (i 1) (i 2) + g2 (ix3 (i 0) 0 (i 2)) * shared (rowNormed at' rt x wo g1 sc sh (i 0) (i 1))
    (fun e j => sgu (ix2 e ⟨j.val, by omega⟩)) (fun e j => sgu (ix2 e ⟨256 + j.val, by omega⟩)) (fun j d => sd (ix2 j d)) (i 2)

/-- The second result: the normed rows, all batches one after another. -/
def rows (i : S16384x1x1024.Idx) : EReal :=
  rowNormed at' rt x wo g1 sc sh ⟨(i 0).val / 2048, by have : (i 0).val < 16384 := (i 0).isLt; omega⟩
    ⟨(i 0).val % 2048, by omega⟩ (i 2)

/-- The third result: the router's scores of the rows, expert by expert. -/
def routed (i : S256x16384.Idx) : EReal :=
  scores (rowNormed at' rt x wo g1 sc sh ⟨(i 1).val / 2048, by have : (i 1).val < 16384 := (i 1).isLt; omega⟩
    ⟨(i 1).val % 2048, by omega⟩) (fun d => hi (ix2 (i 0) d)) (fun d => lo (ix2 (i 0) d))
end

theorem mixed_blk (c : Dev nD) (t : Fin cfg0.N) (r : Fin 512) (b : Fin 8) (l : Fin 2048) (hb : b.val = t.val / 4)
    (hl : l.val = 512 * (t.val % 4) + r.val) :
    mixed (iblk m c 0 t) (iblk m c 1 t) (iblk m c 2 t) (iblk m c 3 t) (iblk m c 4 t) r
      = rowMixed (V m c main_arg0) (V m c main_arg1) (V m c main_arg2) (V m c main_v13) (V m c main_arg4) b l := by
  have e0 : ∀ d : Fin 512, (iblk m c 0 t : Vec Ideal S1x512x512 .bf16) (ix3 0 r d) = V m c main_arg0 (ix3 b l d) :=
    fun d => iblk_attn m c t _ _ hb hl rfl
  have e1 : ∀ d : Fin 512, (iblk m c 1 t : Vec Ideal S1x512x512 .bf16) (ix3 0 r d) = V m c main_arg1 (ix3 b l d) :=
    fun d => iblk_ret m c t _ _ hb hl rfl
  have e2 : ∀ d : Fin 1024, (iblk m c 2 t : Vec Ideal S1x512x1024 .f32) (ix3 0 r d) = V m c main_arg2 (ix3 b l d) :=
    fun d => iblk_x m c t _ _ hb hl rfl
  have e3 : ∀ k d : Fin 1024, (iblk m c 3 t : Vec Ideal S1024x1024 .bf16) (ix2 k d) = V m c main_v13 (ix2 k d) :=
    fun k d => iblk_wo m c t _ _ rfl rfl
  have e4 : ∀ d : Fin 1024, (iblk m c 4 t : Vec Ideal S1x1x1024 .f32) (ix3 0 0 d) = V m c main_arg4 (ix3 b 0 d) :=
    fun d => iblk_gate m c t _ _ hb rfl rfl
  unfold mixed rowMixed
  simp only [e0, e1, e2, e3, e4]

theorem normed_blk (c : Dev nD) (t : Fin cfg0.N) (r : Fin 512) (b : Fin 8) (l : Fin 2048) (hb : b.val = t.val / 4)
    (hl : l.val = 512 * (t.val % 4) + r.val) :
    normed (iblk m c 0 t) (iblk m c 1 t) (iblk m c 2 t) (iblk m c 3 t) (iblk m c 4 t) (iblk m c 5 t) (iblk m c 6 t) r
      = rowNormed (V m c main_arg0) (V m c main_arg1) (V m c main_arg2) (V m c main_v13) (V m c main_arg4) (V m c main_v4)
          (V m c main_arg5) b l := by
  have e5 : ∀ d : Fin 1024, (iblk m c 5 t : Vec Ideal S1x1x1024 .f32) (ix3 0 0 d) = V m c main_v4 (ix3 b 0 d) :=
    fun d => iblk_scale m c t _ _ hb rfl rfl
  have e6 : ∀ d : Fin 1024, (iblk m c 6 t : Vec Ideal S1x1x1024 .f32) (ix3 0 0 d) = V m c main_arg5 (ix3 b 0 d) :=
    fun d => iblk_shift m c t _ _ hb rfl rfl
  unfold normed rowNormed
  rw [mixed_blk m c t r b l hb hl]
  simp only [e5, e6]

/-- An element of the first result's block. -/
theorem xs_blk (c : Dev nD) (t : Fin cfg0.N) (r : Fin 512) (b : Fin 8) (l : Fin 2048) (hb : b.val = t.val / 4)
    (hl : l.val = 512 * (t.val % 4) + r.val) (k : Fin 1024) :
    summed (iblk m c 0 t) (iblk m c 1 t) (iblk m c 2 t) (iblk m c 3 t) (iblk m c 4 t) (iblk m c 5 t) (iblk m c 6 t)
        (iblk m c 7 t) (iblk m c 8 t) (iblk m c 9 t) r k
      = xs (V m c main_arg0) (V m c main_arg1) (V m c main_arg2) (V m c main_v13) (V m c main_arg4) (V m c main_v4)
          (V m c main_arg5) (V m c main_arg8) (V m c main_v6) (V m c main_v7) (ix3 b l k) := by
  have f7 : ∀ d : Fin 1024, (iblk m c 7 t : Vec Ideal S1x1x1024 .f32) (ix3 0 0 d) = V m c main_arg8 (ix3 b 0 d) :=
    fun d => iblk_gate2 m c t _ _ hb rfl rfl
  have f8 : ∀ (d : Fin 1024) (j : Fin 512), (iblk m c 8 t : Vec Ideal S1024x512 .bf16) (ix2 d j) = V m c main_v6 (ix2 d j) :=
    fun d j => iblk_sgu m c t _ _ rfl rfl
  have f9 : ∀ (j : Fin 256) (d : Fin 1024), (iblk m c 9 t : Vec Ideal S256x1024 .bf16) (ix2 j d) = V m c main_v7 (ix2 j d) :=
    fun j d => iblk_sd m c t _ _ rfl rfl
  unfold summed
  rw [mixed_blk m c t r b l hb hl, normed_blk m c t r b l hb hl]
  simp only [f7, f8, f9]
  rfl

theorem flushed_xs (c : Dev nD) (t : Fin cfg0.N) (_ : (cfg0.win 12).flush t = true) :
    (dats m 0 c).flushed 12 t = ((cfg0.win 12).blk t).view.read (Elt Ideal)
      (xs (V m c main_arg0) (V m c main_arg1) (V m c main_arg2) (V m c main_v13) (V m c main_arg4) (V m c main_v4) (V m c main_arg5)
        (V m c main_arg8) (V m c main_v6) (V m c main_v7)) := by
  rw [Value.flushed12]
  funext y
  obtain ⟨⟨d0, d1, d2⟩, -⟩ := out_index t
  have hy0 : (y 0).val < 1 := (y 0).isLt
  have hy1 : (y 1).val < 512 := (y 1).isLt
  have hy2 : (y 2).val < 1024 := (y 2).isLt
  rw [View.read_apply]
  refine (out12_apply _ _ _ _ _ _ _ _ _ _ _ _ y).trans ?_
  rw [cast_eq]
  have e0 : (((cfg0.win 12).blk t).view.emb y 0).val = t.val / 4 := by
    show win0_12.index t 0 * 1 + 1 * (y 0).val = _
    rw [d0]; omega
  have e1 : (((cfg0.win 12).blk t).view.emb y 1).val = 512 * (t.val % 4) + (y 1).val := by
    show win0_12.index t 1 * 512 + 1 * (y 1).val = _
    rw [d1]; omega
  have e2 : ((cfg0.win 12).blk t).view.emb y 2 = y 2 := Fin.ext (by
    show win0_12.index t 2 * 1024 + 1 * (y 2).val = _
    rw [d2]; omega)
  generalize ((cfg0.win 12).blk t).view.emb y = e at e0 e1 e2
  obtain ⟨b, l, k, rfl⟩ : ∃ (b : Fin 8) (l : Fin 2048) (k : Fin 1024), e = ix3 b l k := ⟨e 0, e 1, e 2, by
    funext a
    match a with
    | 0 => rfl
    | 1 => rfl
    | 2 => rfl⟩
  obtain rfl : k = y 2 := e2
  exact xs_blk m c t (y 1) b l e0 e1 (y 2)

theorem result_xs (c : Dev nD) :
    (dats m 0 c).arrAt 12 cfg0.N = xs (V m c main_arg0) (V m c main_arg1) (V m c main_arg2) (V m c main_v13) (V m c main_arg4) (V m c main_v4) (V m c main_arg5)
        (V m c main_arg8) (V m c main_v6) (V m c main_v7) :=
  (dats m 0 c).arrAt_eq_of_cover 12 _ (flushed_xs m c) fun i => by
    have h0 : (i 0 : Nat) < 8 := (i 0).isLt
    have h1 : (i 1 : Nat) < 2048 := (i 1).isLt
    have h2 : (i 2 : Nat) < 1024 := (i 2).isLt
    let t : Fin cfg0.N := ⟨4 * (i 0).val + (i 1).val / 512, by show _ < 32; omega⟩
    have ht : t.val = 4 * (i 0).val + (i 1).val / 512 := rfl
    obtain ⟨⟨d0, d1, d2⟩, -⟩ := out_index t
    refine ⟨t, flush0_12 t, ?_⟩
    show i ∈ ((View.whole main_v14_0).slice (win0_12.rect t)).set
    rw [View.set_slice_whole, Rect.mem_set_unit]
    intro a
    match a with
    | ⟨0, _⟩ =>
      show win0_12.index t 0 * 1 ≤ (i 0 : Nat) ∧ (i 0 : Nat) < win0_12.index t 0 * 1 + 1
      rw [d0]; omega
    | ⟨1, _⟩ =>
      show win0_12.index t 1 * 512 ≤ (i 1 : Nat) ∧ (i 1 : Nat) < win0_12.index t 1 * 512 + 512
      rw [d1]; omega
    | ⟨2, _⟩ =>
      show win0_12.index t 2 * 1024 ≤ (i 2 : Nat) ∧ (i 2 : Nat) < win0_12.index t 2 * 1024 + 1024
      rw [d2]; omega

theorem flushed_rows (c : Dev nD) (t : Fin cfg0.N) (_ : (cfg0.win 13).flush t = true) :
    (dats m 0 c).flushed 13 t = ((cfg0.win 13).blk t).view.read (Elt Ideal)
      (rows (V m c main_arg0) (V m c main_arg1) (V m c main_arg2) (V m c main_v13) (V m c main_arg4) (V m c main_v4) (V m c main_arg5)) := by
  rw [Value.flushed13]
  funext y
  obtain ⟨-, ⟨d0, d1, d2⟩, -⟩ := out_index t
  have hy0 : (y 0).val < 512 := (y 0).isLt
  have hy1 : (y 1).val < 1 := (y 1).isLt
  have hy2 : (y 2).val < 1024 := (y 2).isLt
  rw [View.read_apply]
  refine (out13_apply _ _ _ _ _ _ _ _ _ _ _ _ y).trans ?_
  rw [cast_eq]
  have e0 : (((cfg0.win 13).blk t).view.emb y 0).val = 512 * t.val + (y 0).val := by
    show win0_13.index t 0 * 512 + 1 * (y 0).val = _
    rw [d0]; omega
  have e2 : ((cfg0.win 13).blk t).view.emb y 2 = y 2 := Fin.ext (by
    show win0_13.index t 2 * 1024 + 1 * (y 2).val = _
    rw [d2]; omega)
  rw [normed_blk m c t (y 0) ⟨t.val / 4, by have : t.val < 32 := t.isLt; omega⟩ ⟨512 * (t.val % 4) + (y 0).val, by omega⟩ rfl rfl]
  have q0 : t.val / 4 = (((cfg0.win 13).blk t).view.emb y 0).val / 2048 := by rw [e0]; omega
  have q1 : 512 * (t.val % 4) + (y 0).val = (((cfg0.win 13).blk t).view.emb y 0).val % 2048 := by rw [e0]; omega
  unfold rows
  simp only [q0, q1]
  exact congrArg _ e2.symm

theorem result_rows (c : Dev nD) :
    (dats m 0 c).arrAt 13 cfg0.N = rows (V m c main_arg0) (V m c main_arg1) (V m c main_arg2) (V m c main_v13) (V m c main_arg4) (V m c main_v4) (V m c main_arg5) :=
  (dats m 0 c).arrAt_eq_of_cover 13 _ (flushed_rows m c) fun i => by
    have h0 : (i 0 : Nat) < 16384 := (i 0).isLt
    have h1 : (i 1 : Nat) < 1 := (i 1).isLt
    have h2 : (i 2 : Nat) < 1024 := (i 2).isLt
    let t : Fin cfg0.N := ⟨(i 0).val / 512, by show _ < 32; omega⟩
    have ht : t.val = (i 0).val / 512 := rfl
    obtain ⟨-, ⟨d0, d1, d2⟩, -⟩ := out_index t
    refine ⟨t, flush0_13 t, ?_⟩
    show i ∈ ((View.whole main_v14_1).slice (win0_13.rect t)).set
    rw [View.set_slice_whole, Rect.mem_set_unit]
    intro a
    match a with
    | ⟨0, _⟩ =>
      show win0_13.index t 0 * 512 ≤ (i 0 : Nat) ∧ (i 0 : Nat) < win0_13.index t 0 * 512 + 512
      rw [d0]; omega
    | ⟨1, _⟩ =>
      show win0_13.index t 1 * 1 ≤ (i 1 : Nat) ∧ (i 1 : Nat) < win0_13.index t 1 * 1 + 1
      rw [d1]; omega
    | ⟨2, _⟩ =>
      show win0_13.index t 2 * 1024 ≤ (i 2 : Nat) ∧ (i 2 : Nat) < win0_13.index t 2 * 1024 + 1024
      rw [d2]; omega

theorem flushed_routed (c : Dev nD) (t : Fin cfg0.N) (_ : (cfg0.win 14).flush t = true) :
    (dats m 0 c).flushed 14 t = ((cfg0.win 14).blk t).view.read (Elt Ideal)
      (routed (V m c main_arg0) (V m c main_arg1) (V m c main_arg2) (V m c main_v13) (V m c main_arg4) (V m c main_v4) (V m c main_arg5)
        (V m c main_v9) (V m c main_v12)) := by
  rw [Value.flushed14]
  funext y
  obtain ⟨-, -, ⟨d0, d1⟩⟩ := out_index t
  have hy0 : (y 0).val < 256 := (y 0).isLt
  have hy1 : (y 1).val < 512 := (y 1).isLt
  rw [View.read_apply]
  refine (out14_apply _ _ _ _ _ _ _ _ _ _ _ _ y).trans ?_
  rw [cast_eq]
  have e0 : ((cfg0.win 14).blk t).view.emb y 0 = y 0 := Fin.ext (by
    show win0_14.index t 0 * 256 + 1 * (y 0).val = _
    rw [d0]; omega)
  have e1 : (((cfg0.win 14).blk t).view.emb y 1).val = 512 * t.val + (y 1).val := by
    show win0_14.index t 1 * 512 + 1 * (y 1).val = _
    rw [d1]; omega
  have f10 : ∀ (j : Fin 256) (d : Fin 1024), (iblk m c 10 t : Vec Ideal S256x1024 .bf16) (ix2 j d) = V m c main_v9 (ix2 j d) :=
    fun j d => iblk_hi m c t _ _ rfl rfl
  have f11 : ∀ (j : Fin 256) (d : Fin 1024), (iblk m c 11 t : Vec Ideal S256x1024 .bf16) (ix2 j d) = V m c main_v12 (ix2 j d) :=
    fun j d => iblk_lo m c t _ _ rfl rfl
  rw [normed_blk m c t (y 1) ⟨t.val / 4, by have : t.val < 32 := t.isLt; omega⟩ ⟨512 * (t.val % 4) + (y 1).val, by omega⟩ rfl rfl]
  have q0 : t.val / 4 = (((cfg0.win 14).blk t).view.emb y 1).val / 2048 := by rw [e1]; omega
  have q1 : 512 * (t.val % 4) + (y 1).val = (((cfg0.win 14).blk t).view.emb y 1).val % 2048 := by rw [e1]; omega
  unfold routed
  simp only [q0, q1, e0]
  exact congrArg₂ (scores _) (funext fun d => f10 (y 0) d) (funext fun d => f11 (y 0) d)

theorem result_routed (c : Dev nD) :
    (dats m 0 c).arrAt 14 cfg0.N = routed (V m c main_arg0) (V m c main_arg1) (V m c main_arg2) (V m c main_v13) (V m c main_arg4) (V m c main_v4) (V m c main_arg5)
        (V m c main_v9) (V m c main_v12) :=
  (dats m 0 c).arrAt_eq_of_cover 14 _ (flushed_routed m c) fun i => by
    have h0 : (i 0 : Nat) < 256 := (i 0).isLt
    have h1 : (i 1 : Nat) < 16384 := (i 1).isLt
    let t : Fin cfg0.N := ⟨(i 1).val / 512, by show _ < 32; omega⟩
    have ht : t.val = (i 1).val / 512 := rfl
    obtain ⟨-, -, ⟨d0, d1⟩⟩ := out_index t
    refine ⟨t, flush0_14 t, ?_⟩
    show i ∈ ((View.whole main_v14_2).slice (win0_14.rect t)).set
    rw [View.set_slice_whole, Rect.mem_set_unit]
    intro a
    match a with
    | ⟨0, _⟩ =>
      show win0_14.index t 0 * 256 ≤ (i 0 : Nat) ∧ (i 0 : Nat) < win0_14.index t 0 * 256 + 256
      rw [d0]; omega
    | ⟨1, _⟩ =>
      show win0_14.index t 1 * 512 ≤ (i 1 : Nat) ∧ (i 1 : Nat) < win0_14.index t 1 * 512 + 512
      rw [d1]; omega

end Cert.OutIdeal.Array
end
-- ==== Proof.OutHost.lean ====
/-
  The arrays that the host prepares for the output projection's call, from the arguments: the scale with the norm's weights,
  the shared expert's two matrices side by side, the router's weights with experts first and what their rounding loses.
-/
module

public import proofs.«01_k».proof.Proof.Projection
public import proofs.«01_k».proof.Proof.Gen.OutIdeal.Frame
public import Idealize.ShloMosaic.Lib.StableHlo.ReadAt

@[expose] public section

set_option maxRecDepth 16384

noncomputable section

namespace Cert.OutIdeal.Host

open Cert.OutIdeal Cert.OutIdeal.Gen Idealize.ShloMosaic Idealize.ShloMosaic.TcCoe Idealize.SL.Sem

/-- The scales of the rows of each batch: the norm's weights times one plus the modulation. -/
def scaleOf (nw : S1024.Idx → EReal) (sc : S8x1x1024.Idx → EReal) (i : S8x1x1024.Idx) : EReal :=
  nw (ix1 (i 2)) * (1 + sc (ix3 (i 0) 0 (i 2)))

/-- Two matrices side by side. -/
def joined (sg su : S1024x256.Idx → EReal) (i : S1024x512.Idx) : EReal :=
  if h : (i 1).val < 256 then sg (ix2 (i 0) ⟨(i 1).val, h⟩)
  else su (ix2 (i 0) ⟨(i 1).val - 256, by have : (i 1).val < 512 := (i 1).isLt; omega⟩)

theorem joined_left (sg su : S1024x256.Idx → EReal) (e : Fin 1024) (j : Fin 256) :
    joined sg su (ix2 e ⟨j.val, by omega⟩) = sg (ix2 e j) := by
  unfold joined
  rw [dif_pos (show ((ix2 e (⟨j.val, by omega⟩ : Fin 512) : S1024x512.Idx) 1).val < 256 from j.isLt)]
  rfl

theorem joined_right (sg su : S1024x256.Idx → EReal) (e : Fin 1024) (j : Fin 256) :
    joined sg su (ix2 e ⟨256 + j.val, by omega⟩) = su (ix2 e j) := by
  unfold joined
  rw [dif_neg (show ¬ ((ix2 e (⟨256 + j.val, by omega⟩ : Fin 512) : S1024x512.Idx) 1).val < 256 from
    not_lt.mpr (Nat.le_add_right 256 j.val))]
  exact congrArg (fun k => su (ix2 e k)) (Fin.ext (Nat.add_sub_cancel_left 256 j.val))

/-- The router's weights, experts first. -/
def flipped (rw : S1024x256.Idx → EReal) (i : S256x1024.Idx) : EReal := rw (ix2 (i 1) (i 0))

/-- What their rounding loses. -/
def excess (rw : S1024x256.Idx → EReal) (i : S256x1024.Idx) : EReal := rw (ix2 (i 1) (i 0)) - rw (ix2 (i 1) (i 0))

variable (m : (ℓ : Loc nD τ sig) → Buf (Elt Ideal) ℓ) (c : Dev nD)

theorem ix2_eq {a b : ℕ} (i : (⟨2, ![a, b]⟩ : Shape).Idx) : i = ix2 (i 0) (i 1) := by
  funext d
  match d with
  | 0 => rfl
  | 1 => rfl

theorem scale (b : Fin 8) (d : Fin 1024) :
    V m c main_v4 (ix3 b 0 d)
      = scaleOf (m ((c : Thread nD τ).loc main_arg7)) (m ((c : Thread nD τ).loc main_arg6)) (ix3 b 0 d) := by
  unfold V
  after_reads_at
  rfl

theorem left (e : Fin 1024) (j : Fin 256) :
    V m c main_v6 (ix2 e ⟨j.val, by omega⟩) = m ((c : Thread nD τ).loc main_arg9) (ix2 e j) := by
  unfold V
  after_reads_at
  rfl

theorem right (e : Fin 1024) (j : Fin 256) :
    V m c main_v6 (ix2 e ⟨256 + j.val, by omega⟩) = m ((c : Thread nD τ).loc main_arg10) (ix2 e j) := by
  unfold V
  after_reads_at
  rfl

theorem down (j : Fin 256) (d : Fin 1024) :
    V m c main_v7 (ix2 j d) = m ((c : Thread nD τ).loc main_arg11) (ix2 j d) := by
  unfold V
  after_reads_at

theorem hi (e : Fin 256) (d : Fin 1024) :
    V m c main_v9 (ix2 e d) = flipped (m ((c : Thread nD τ).loc main_arg12)) (ix2 e d) := by
  unfold V
  after_reads_at
  rfl

theorem lo (e : Fin 256) (d : Fin 1024) :
    V m c main_v12 (ix2 e d) = excess (m ((c : Thread nD τ).loc main_arg12)) (ix2 e d) := by
  unfold V
  after_reads_at
  rfl

theorem w (d : Fin 1024) (k : Fin 1024) :
    V m c main_v13 (ix2 d k) = m ((c : Thread nD τ).loc main_arg3) (ix2 d k) := by
  unfold V
  after_reads_at

/-! The same arrays whole. -/

theorem scale_whole : V m c main_v4
    = scaleOf (m ((c : Thread nD τ).loc main_arg7)) (m ((c : Thread nD τ).loc main_arg6)) := by
  funext i
  obtain ⟨b, d, rfl⟩ : ∃ (b : Fin 8) (d : Fin 1024), i = ix3 b 0 d := ⟨i 0, i 2, by
    funext a
    match a with
    | 0 => rfl
    | 1 => exact Subsingleton.elim (α := Fin 1) _ _
    | 2 => rfl⟩
  exact scale m c b d

theorem joined_whole : V m c main_v6
    = joined (m ((c : Thread nD τ).loc main_arg9)) (m ((c : Thread nD τ).loc main_arg10)) := by
  funext i
  rw [ix2_eq i]
  have h512 : (i 1).val < 512 := (i 1).isLt
  by_cases h : (i 1).val < 256
  · exact (left m c (i 0) ⟨(i 1).val, h⟩).trans (joined_left _ _ (i 0) ⟨(i 1).val, h⟩).symm
  · have e : (i 1 : Fin 512) = ⟨256 + ((i 1).val - 256), by omega⟩ := Fin.ext (by show (i 1).val = 256 + ((i 1).val - 256); omega)
    have key := (right m c (i 0) ⟨(i 1).val - 256, by omega⟩).trans
      (joined_right (m ((c : Thread nD τ).loc main_arg9)) _ (i 0) ⟨(i 1).val - 256, by omega⟩).symm
    exact (congrArg (fun k : Fin 512 => V m c main_v6 (ix2 (i 0) k)) e).trans
      (key.trans (congrArg (fun k : Fin 512 => joined _ _ (ix2 (i 0) k)) e).symm)

theorem down_whole : V m c main_v7 = m ((c : Thread nD τ).loc main_arg11) := by
  funext i
  rw [ix2_eq i]
  exact down m c _ _

theorem hi_whole : V m c main_v9 = flipped (m ((c : Thread nD τ).loc main_arg12)) := by
  funext i
  rw [ix2_eq i]
  exact hi m c _ _

theorem lo_whole : V m c main_v12 = excess (m ((c : Thread nD τ).loc main_arg12)) := by
  funext i
  rw [ix2_eq i]
  exact lo m c _ _

theorem w_whole : V m c main_v13 = m ((c : Thread nD τ).loc main_arg3) := by
  funext i
  rw [ix2_eq i]
  exact w m c _ _

end Cert.OutIdeal.Host
end
-- ==== Proof.OutRun.lean ====
/-
  The output projection kernel's run: its three result arrays as functions of the arguments.
-/
module

public import proofs.«01_k».proof.Proof.OutKernel
public import proofs.«01_k».proof.Proof.OutHost

@[expose] public section

set_option maxRecDepth 16384

noncomputable section

namespace Cert.OutIdeal.Array

open Cert.OutIdeal Cert.OutIdeal.Gen Idealize.ShloMosaic Idealize.ShloMosaic.TcCoe Idealize.SL.Sem
open Cert.OutIdeal.Host

section
variable (m : (ℓ : Loc nD τ sig) → Buf (Elt Ideal) ℓ) (c : Dev nD)

theorem result_xs' : (dats m 0 c).arrAt 12 cfg0.N
        = xs (m ((c : Thread nD τ).loc main_arg0)) (m ((c : Thread nD τ).loc main_arg1)) (m ((c : Thread nD τ).loc main_arg2)) (m ((c : Thread nD τ).loc main_arg3))
          (m ((c : Thread nD τ).loc main_arg4)) (scaleOf (m ((c : Thread nD τ).loc main_arg7)) (m ((c : Thread nD τ).loc main_arg6)))
          (m ((c : Thread nD τ).loc main_arg5)) (m ((c : Thread nD τ).loc main_arg8))
          (joined (m ((c : Thread nD τ).loc main_arg9)) (m ((c : Thread nD τ).loc main_arg10))) (m ((c : Thread nD τ).loc main_arg11)) := by
  rw [result_xs, V_main_arg0, V_main_arg1, V_main_arg2, V_main_arg4, V_main_arg5, V_main_arg8, w_whole, scale_whole, joined_whole, down_whole]

theorem result_rows' : (dats m 0 c).arrAt 13 cfg0.N
        = rows (m ((c : Thread nD τ).loc main_arg0)) (m ((c : Thread nD τ).loc main_arg1)) (m ((c : Thread nD τ).loc main_arg2)) (m ((c : Thread nD τ).loc main_arg3))
          (m ((c : Thread nD τ).loc main_arg4)) (scaleOf (m ((c : Thread nD τ).loc main_arg7)) (m ((c : Thread nD τ).loc main_arg6)))
          (m ((c : Thread nD τ).loc main_arg5)) := by
  rw [result_rows, V_main_arg0, V_main_arg1, V_main_arg2, V_main_arg4, V_main_arg5, w_whole, scale_whole]

theorem result_routed' : (dats m 0 c).arrAt 14 cfg0.N
        = routed (m ((c : Thread nD τ).loc main_arg0)) (m ((c : Thread nD τ).loc main_arg1)) (m ((c : Thread nD τ).loc main_arg2)) (m ((c : Thread nD τ).loc main_arg3))
          (m ((c : Thread nD τ).loc main_arg4)) (scaleOf (m ((c : Thread nD τ).loc main_arg7)) (m ((c : Thread nD τ).loc main_arg6)))
          (m ((c : Thread nD τ).loc main_arg5))
          (flipped (m ((c : Thread nD τ).loc main_arg12))) (excess (m ((c : Thread nD τ).loc main_arg12))) := by
  rw [result_routed, V_main_arg0, V_main_arg1, V_main_arg2, V_main_arg4, V_main_arg5, w_whole, scale_whole, hi_whole, lo_whole]

end

/-- The kernel's run: the results are the layer's residual with the shared expert, the normed rows and the router's scores;
    the arguments are kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v14_0)
        = xs (m ((c : Thread nD τ).loc main_arg0)) (m ((c : Thread nD τ).loc main_arg1)) (m ((c : Thread nD τ).loc main_arg2)) (m ((c : Thread nD τ).loc main_arg3))
          (m ((c : Thread nD τ).loc main_arg4)) (scaleOf (m ((c : Thread nD τ).loc main_arg7)) (m ((c : Thread nD τ).loc main_arg6)))
          (m ((c : Thread nD τ).loc main_arg5)) (m ((c : Thread nD τ).loc main_arg8))
          (joined (m ((c : Thread nD τ).loc main_arg9)) (m ((c : Thread nD τ).loc main_arg10))) (m ((c : Thread nD τ).loc main_arg11))
      ∧ r.2.mem ((c : Thread nD τ).loc main_v14_1)
        = rows (m ((c : Thread nD τ).loc main_arg0)) (m ((c : Thread nD τ).loc main_arg1)) (m ((c : Thread nD τ).loc main_arg2)) (m ((c : Thread nD τ).loc main_arg3))
          (m ((c : Thread nD τ).loc main_arg4)) (scaleOf (m ((c : Thread nD τ).loc main_arg7)) (m ((c : Thread nD τ).loc main_arg6)))
          (m ((c : Thread nD τ).loc main_arg5))
      ∧ r.2.mem ((c : Thread nD τ).loc main_v14_2)
        = routed (m ((c : Thread nD τ).loc main_arg0)) (m ((c : Thread nD τ).loc main_arg1)) (m ((c : Thread nD τ).loc main_arg2)) (m ((c : Thread nD τ).loc main_arg3))
          (m ((c : Thread nD τ).loc main_arg4)) (scaleOf (m ((c : Thread nD τ).loc main_arg7)) (m ((c : Thread nD τ).loc main_arg6)))
          (m ((c : Thread nD τ).loc main_arg5))
          (flipped (m ((c : Thread nD τ).loc main_arg12))) (excess (m ((c : Thread nD τ).loc main_arg12)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c => ⟨(h c).1.trans (result_xs' m c), (h c).2.1.trans (result_rows' m c),
    (h c).2.2.1.trans (result_routed' m c), (h c).2.2.2⟩) (Value.run_blocks m ρ)

end Cert.OutIdeal.Array
end
-- ==== Proof.OutReference.lean ====
/-
  The reference output projection, read at an element.
-/
module

public import proofs.«01_k».proof.Proof.OutRun
public import proofs.«01_k».proof.Proof.Gen.OutRefIdeal.Read
public import Idealize.ShloMosaic.Lib.Pointwise

@[expose] public section

set_option maxRecDepth 16384

noncomputable section

namespace Cert.OutRefIdeal.Element

open Cert.OutRefIdeal Cert.OutRefIdeal.Gen Cert.OutRefIdeal.Read Idealize.ShloMosaic
open Cert.Projection Cert.Output
open scoped BigOperators

variable (a r : FVec Ideal S8x2048x512 .bf16) (x : FVec Ideal S8x2048x1024 .f32) (w : FVec Ideal S1024x1024 .f32)
  (g sh sc : FVec Ideal S8x1x1024 .f32) (nw : FVec Ideal S1024 .f32) (g2 : FVec Ideal S8x1x1024 .f32)
  (sg su : FVec Ideal S1024x256 .f32) (sd : FVec Ideal S256x1024 .f32) (rw' : FVec Ideal S1024x256 .f32)

/-- The row after the mixers. -/
def rowOf (b : Fin 8) (l : Fin 2048) : Fin 1024 → EReal :=
  residual (fun d => x (ix3 b l d)) (fun d => g (ix3 b 0 d)) (fun k => a (ix3 b l k)) (fun k => r (ix3 b l k))
    (fun k d => w (ix2 k d))

theorem mixed_apply (b : Fin 8) (l : Fin 2048) (d : Fin 1024) :
    val_main_v6 (F := Ideal) a r x w g (ix3 b l d) = rowOf a r x w g b l d := by
  pointwise [val_main_v6, val_main_v5, val_main_v4, val_main_v3, val_main_v2, val_main_v1, val_main_v0]
  rfl

theorem root_apply (b : Fin 8) (l : Fin 2048) :
    val_main_v14 (F := Ideal) a r x w g (ix3 b l 0)
      = Ideal.rsqrt (Ideal.div (∑ e, rowOf a r x w g b l e * rowOf a r x w g b l e) (Ideal.ofBits FTy.f32 1149239296#32) + eps) := by
  pointwise [val_main_v14, val_main_v13, val_main_v12, val_main_v11, val_main_v10, val_main_v9, val_main_v8, val_main_v7, val_main_cst, val_main_cst_0, val_main_cst_1, mixed_apply]

/-- Its modulated norm. -/
def normOf (b : Fin 8) (l : Fin 2048) : Fin 1024 → EReal :=
  modulated (rowOf a r x w g b l) (fun d => nw (ix1 d) * (1 + sc (ix3 b 0 d))) (fun d => sh (ix3 b 0 d))

theorem norm_apply (b : Fin 8) (l : Fin 2048) (d : Fin 1024) :
    val_main_v25 (F := Ideal) a r x w g sh sc nw (ix3 b l d) = normOf a r x w g sh sc nw b l d := by
  pointwise [val_main_v25, val_main_v24, val_main_v23, val_main_v22, val_main_v21, val_main_v20, val_main_cst_2, val_main_v19, val_main_v18, val_main_v17, val_main_v16, val_main_v15, mixed_apply, root_apply]
  unfold normOf modulated unit
  rw [mul_assoc]

theorem gate_apply (b : Fin 8) (l : Fin 2048) (j : Fin 256) :
    val_main_v26 (F := Ideal) a r x w g sh sc nw sg (ix3 b l j)
      = ∑ e, normOf a r x w g sh sc nw b l e * sg (ix2 e j) := by
  pointwise [val_main_v26, norm_apply]

theorem silu_apply (b : Fin 8) (l : Fin 2048) (j : Fin 256) :
    val_main_v27 (F := Ideal) a r x w g sh sc nw sg (ix3 b l j)
      = (∑ e, normOf a r x w g sh sc nw b l e * sg (ix2 e j)) * Ideal.logistic (∑ e, normOf a r x w g sh sc nw b l e * sg (ix2 e j)) := by
  pointwise [val_main_v27, val_main_call0_v5, val_main_call0_v4, val_main_call0_v3, val_main_call0_v2, val_main_call0_v1, val_main_call0_v0, val_main_call0_cst, val_main_call0_cst_0, gate_apply]
  rfl

theorem xs_apply (b : Fin 8) (l : Fin 2048) (d : Fin 1024) :
    val_main_v33 (F := Ideal) a r x w g sh sc nw g2 sg su sd (ix3 b l d)
      = rowOf a r x w g b l d + g2 (ix3 b 0 d) * shared (normOf a r x w g sh sc nw b l) (fun e j => sg (ix2 e j))
          (fun e j => su (ix2 e j)) (fun j e => sd (ix2 j e)) d := by
  pointwise [val_main_v33, val_main_v32, val_main_v31, val_main_v30, val_main_v29, val_main_v28, silu_apply, norm_apply, mixed_apply]
  rfl

theorem rows_apply (t : Fin 16384) (d : Fin 1024) :
    val_main_v35 (F := Ideal) a r x w g sh sc nw (ix3 t 0 d)
      = normOf a r x w g sh sc nw ⟨t.val / 2048, by omega⟩ ⟨t.val % 2048, by omega⟩ d := by
  pointwise [val_main_v35, val_main_v34, norm_apply]

theorem scores_apply (j : Fin 256) (t : Fin 16384) :
    val_main_v37 (F := Ideal) a r x w g sh sc nw rw' (ix2 j t)
      = ∑ e, normOf a r x w g sh sc nw ⟨t.val / 2048, by omega⟩ ⟨t.val % 2048, by omega⟩ e * rw' (ix2 e j) := by
  pointwise [val_main_v37, val_main_v36, val_main_v34, norm_apply]

open Cert.OutIdeal.Host

/-- The two sides' rows are one another. -/
theorem norm_eq (b : Fin 8) (l : Fin 2048) :
    Cert.OutIdeal.Array.rowNormed a r x w g (scaleOf nw sc) sh b l = normOf a r x w g sh sc nw b l := rfl

theorem xs_whole : val_main_v33 (F := Ideal) a r x w g sh sc nw g2 sg su sd
    = Cert.OutIdeal.Array.xs a r x w g (scaleOf nw sc) sh g2 (joined sg su) sd := by
  funext i
  obtain ⟨b, l, d, rfl⟩ : ∃ (b : Fin 8) (l : Fin 2048) (d : Fin 1024), i = ix3 b l d := ⟨i 0, i 1, i 2, by
    funext a
    match a with
    | 0 => rfl
    | 1 => rfl
    | 2 => rfl⟩
  refine (xs_apply a r x w g sh sc nw g2 sg su sd b l d).trans ?_
  have hl : (fun (e : Fin 1024) (j : Fin 256) => sg (ix2 e j)) = fun e j => joined sg su (ix2 e ⟨j.val, by omega⟩) :=
    funext fun e => funext fun j => (joined_left sg su e j).symm
  have hr : (fun (e : Fin 1024) (j : Fin 256) => su (ix2 e j)) = fun e j => joined sg su (ix2 e ⟨256 + j.val, by omega⟩) :=
    funext fun e => funext fun j => (joined_right sg su e j).symm
  rw [hl, hr]
  rfl

theorem rows_whole : val_main_v35 (F := Ideal) a r x w g sh sc nw
    = Cert.OutIdeal.Array.rows a r x w g (scaleOf nw sc) sh := by
  funext i
  obtain ⟨t, d, rfl⟩ : ∃ (t : Fin 16384) (d : Fin 1024), i = ix3 t 0 d := ⟨i 0, i 2, by
    funext a
    match a with
    | 0 => rfl
    | 1 => exact Subsingleton.elim (α := Fin 1) _ _
    | 2 => rfl⟩
  exact rows_apply a r x w g sh sc nw t d

/-- With a real row and real weights the parts that the rounding loses are zero, and the scores are the plain product. -/
theorem scores_eq {h v : Fin 1024 → EReal} (hh : ∀ d, Real' (h d)) (hv : ∀ d, Real' (v d)) :
    Cert.OutIdeal.Block.scores h v (fun d => v d - v d) = ∑ d, h d * v d := by
  unfold Cert.OutIdeal.Block.scores
  have e1 : ∑ d, v d * (h d - h d) = 0 := Finset.sum_eq_zero fun d _ => by rw [(hh d).sub_self, mul_zero]
  have e2 : ∑ d, (v d - v d) * h d = 0 := Finset.sum_eq_zero fun d _ => by rw [(hv d).sub_self, zero_mul]
  rw [e1, e2, add_zero, add_zero]
  exact Finset.sum_congr rfl fun d _ => mul_comm _ _

theorem routed_whole (ha : ∀ i, Real' (a i)) (hr : ∀ i, Real' (r i)) (hx : ∀ i, Real' (x i)) (hw : ∀ i, Real' (w i))
    (hg : ∀ i, Real' (g i)) (hsh : ∀ i, Real' (sh i)) (hsc : ∀ i, Real' (sc i)) (hnw : ∀ i, Real' (nw i))
    (hrw : ∀ i, Real' (rw' i)) :
    val_main_v37 (F := Ideal) a r x w g sh sc nw rw'
      = Cert.OutIdeal.Array.routed a r x w g (scaleOf nw sc) sh (flipped rw') (excess rw') := by
  funext i
  obtain ⟨j, t, rfl⟩ : ∃ (j : Fin 256) (t : Fin 16384), i = ix2 j t := ⟨i 0, i 1, by
    funext a
    match a with
    | 0 => rfl
    | 1 => rfl⟩
  refine (scores_apply a r x w g sh sc nw rw' j t).trans ?_
  refine (scores_eq (fun d => ?_) (fun d => hrw (ix2 d j))).symm
  exact modulated_real (fun d => residual_real (fun d => hx _) (fun d => hg _) (fun k => ha _) (fun k => hr _)
    (fun k d => hw _) d) (fun d => (hnw _).mul (Real'.add ⟨1, by norm_cast⟩ (hsc _))) (fun d => hsh _) d

end Cert.OutRefIdeal.Element
end
-- ==== Proof.OutFinite.lean ====
/-
  What the precondition `finite_out` gives: every value that the router's scores depend on is a real number.
-/
module

public import proofs.«01_k».proof.Pre_finite_out
public import proofs.«01_k».proof.Proof.Gen.Pre_finite_out
public import proofs.«01_k».proof.Proof.AttnFinite
public import proofs.«01_k».proof.Proof.Output

@[expose] public section

noncomputable section

namespace Cert.FiniteOut

open Idealize.ShloMosaic Cert.Finite Cert.Output

/-- The precondition, unpacked. -/
theorem finite_of_pre (a r : FVec Ideal Pre_finite_out.S8x2048x512 .bf16) (x : FVec Ideal Pre_finite_out.S8x2048x1024 .f32)
    (w : FVec Ideal Pre_finite_out.S1024x1024 .f32) (g sh sc : FVec Ideal Pre_finite_out.S8x1x1024 .f32)
    (nw : FVec Ideal Pre_finite_out.S1024 .f32) (g2 : FVec Ideal Pre_finite_out.S8x1x1024 .f32)
    (sg su : FVec Ideal Pre_finite_out.S1024x256 .f32) (sd : FVec Ideal Pre_finite_out.S256x1024 .f32)
    (rw' : FVec Ideal Pre_finite_out.S1024x256 .f32)
    (h : Pre_finite_out.fn (F := Ideal) a r x w g sh sc nw g2 sg su sd rw' = fun _ => 1#1) :
    (∀ i, Real' (a i)) ∧ (∀ i, Real' (r i)) ∧ (∀ i, Real' (x i)) ∧ (∀ i, Real' (w i)) ∧ (∀ i, Real' (g i))
      ∧ (∀ i, Real' (sh i)) ∧ (∀ i, Real' (sc i)) ∧ (∀ i, Real' (nw i)) ∧ ∀ i, Real' (rw' i) := by
  have e := congrFun h (fun a => a.elim0)
  have one : ∀ j : Pre_finite_out.S_.Idx, j = fun a => a.elim0 := fun j => funext fun a => a.elim0
  unfold Pre_finite_out.fn Pre_finite_out.fn_part1 Pre_finite_out.fn_part2 at e
  obtain ⟨e, e8⟩ := and_one e
  obtain ⟨e, e7⟩ := and_one e
  obtain ⟨e, e6⟩ := and_one e
  obtain ⟨e, e5⟩ := and_one e
  obtain ⟨e, e4⟩ := and_one e
  obtain ⟨e, e3⟩ := and_one e
  obtain ⟨e, e2⟩ := and_one e
  obtain ⟨e0, e1⟩ := and_one e
  exact ⟨fun i => real_of_lt (reduce_and _ _ _ _ _ one e0 i), fun i => real_of_lt (reduce_and _ _ _ _ _ one e1 i),
    fun i => real_of_lt (reduce_and _ _ _ _ _ one e2 i), fun i => real_of_lt (reduce_and _ _ _ _ _ one e3 i),
    fun i => real_of_lt (reduce_and _ _ _ _ _ one e4 i), fun i => real_of_lt (reduce_and _ _ _ _ _ one e5 i),
    fun i => real_of_lt (reduce_and _ _ _ _ _ one e6 i), fun i => real_of_lt (reduce_and _ _ _ _ _ one e7 i),
    fun i => real_of_lt (reduce_and _ _ _ _ _ one e8 i)⟩

end Cert.FiniteOut
end
-- ==== Proof.CtxBlock.lean ====
/-
  What one grid point of the context's input projection leaves in its four output blocks: row `r` of the block is the
  projection of row `r` of its input block (Proof/Projection.lean), without a rotation.
-/
module

public import proofs.«01_k».proof.Proof.Projection
public import proofs.«01_k».proof.Proof.Gen.CtxIdeal.Frame

@[expose] public section

set_option maxRecDepth 16384

noncomputable section

namespace Cert.CtxIdeal.Block

open Cert.CtxIdeal Cert.CtxIdeal.Gen Idealize.ShloMosaic Cert.Projection
open scoped BigOperators

variable (x0 : Vec Ideal S1x256x1024 .f32) (x1 x2 : Vec Ideal S1x1x1024 .f32) (x3 : Vec Ideal S1024x1280 .bf16)
  (x4 : Vec Ideal S128x128 .bf16) (x5 : Vec Ideal S1x128 .f32)

/-- The projected row `r` of a block, at a column. -/
def zrow (r : Fin 256) (c : Fin 1280) : EReal :=
  product (modulated (fun d => x0 (ix3 0 r d)) (fun d => x1 (ix3 0 0 d)) (fun d => x2 (ix3 0 0 d))) (fun d => x3 (ix2 d c))

theorem z_apply (r : Fin 256) (c : Fin 1280) : k0_pay5 (F := Ideal) x0 x1 x2 x3 (ix2 r c) = zrow x0 x1 x2 x3 r c := by
  pointwise [k0_pay5]
  rfl

/-- Loads of the whole blocks are the blocks. -/
theorem zrow_ld (r : Fin 256) (c : Fin 1280) :
    zrow (View.ld x0 r0_0) (View.ld x1 r0_1) (View.ld x2 r0_1) (View.ld x3 r0_2) r c = zrow x0 x1 x2 x3 r c := by
  have e0 : ∀ d : Fin 1024, View.ld x0 r0_0 (ix3 0 r d) = x0 (ix3 0 r d) := fun d => by pointwise []
  have e1 : ∀ d : Fin 1024, View.ld x1 r0_1 (ix3 0 0 d) = x1 (ix3 0 0 d) := fun d => by pointwise []
  have e2 : ∀ d : Fin 1024, View.ld x2 r0_1 (ix3 0 0 d) = x2 (ix3 0 0 d) := fun d => by pointwise []
  have e3 : ∀ d : Fin 1024, View.ld x3 r0_2 (ix2 d c) = x3 (ix2 d c) := fun d => by pointwise []
  unfold zrow
  simp only [e0, e1, e2, e3]

/-- The `n` columns of the projected row from column `off` on. -/
def lanes {n : ℕ} (off : ℕ) (ho : off + n ≤ 1280) (r : Fin 256) (l : Fin n) : EReal := zrow x0 x1 x2 x3 r ⟨off + l.val, by omega⟩

theorem split {n : ℕ} (x : (⟨3, ![1, 256, n]⟩ : Shape).Idx) : ∃ (r : Fin 256) (l : Fin n), x = ix3 0 r l := ⟨x 1, x 2, by
  funext a
  match a with
  | 0 => exact Subsingleton.elim (α := Fin 1) _ _
  | 1 => rfl
  | 2 => rfl⟩

/-- The attention keys' block: the normed heads. -/
theorem keys_apply (y : S1x256x128.Idx) :
    out0_6 x0 x1 x2 x3 x4 x5 y
      = headNormK (lanes x0 x1 x2 x3 0 (by omega) (y 1)) (fun a b => x4 (ix2 a b)) (fun a => x5 (ix2 0 a)) (y 2) := by
  unfold_out out0_6
  canon_tiles x h using cover0_6 ..
  obtain ⟨r, l, rfl⟩ := split (n := 128) x
  rw [show y 1 = r from Fin.ext h1, show y 2 = l from Fin.ext h2]
  pointwise [k0_pay1, k0_pay6, k0_pay7, z_apply, zrow_ld]
  unfold headNormK lanes
  simp only [Nat.zero_add]

/-- The attention values' block. -/
theorem values_apply (y : S1x256x128.Idx) :
    out0_7 x0 x1 x2 x3 x4 x5 y = lanes (n := 128) x0 x1 x2 x3 128 (by omega) (y 1) (y 2) := by
  unfold_out out0_7
  canon_tiles x h using cover0_7 ..
  obtain ⟨r, l, rfl⟩ := split (n := 128) x
  rw [show y 1 = r from Fin.ext h1, show y 2 = l from Fin.ext h2]
  pointwise [k0_pay2, z_apply, zrow_ld]
  rfl

/-- The retention keys' block. -/
theorem retKeys_apply (y : S1x256x512.Idx) :
    out0_8 x0 x1 x2 x3 x4 x5 y
      = lanes (n := 512) x0 x1 x2 x3 256 (by omega) (y 1) (y 2) * Ideal.ofBits FTy.f32 0x3E000000#32 := by
  unfold_out out0_8
  canon_tiles x h using cover0_8 ..
  obtain ⟨r, l, rfl⟩ := split (n := 512) x
  rw [show y 1 = r from Fin.ext h1, show y 2 = l from Fin.ext h2]
  pointwise [k0_pay3, z_apply, zrow_ld]
  rfl

/-- The retention values' block. -/
theorem retValues_apply (y : S1x256x512.Idx) :
    out0_9 x0 x1 x2 x3 x4 x5 y = lanes (n := 512) x0 x1 x2 x3 768 (by omega) (y 1) (y 2) := by
  unfold_out out0_9
  canon_tiles x h using cover0_9 ..
  obtain ⟨r, l, rfl⟩ := split (n := 512) x
  rw [show y 1 = r from Fin.ext h1, show y 2 = l from Fin.ext h2]
  pointwise [k0_pay4, z_apply, zrow_ld]
  rfl

end Cert.CtxIdeal.Block
end
-- ==== Proof.CtxHost.lean ====
/-
  The arrays that the host prepares for the context's projection, from the arguments: the scale with the norm's weights, the
  first 1280 columns of the weights, the block matrix that averages the 64 lanes of a head, the heads' weights repeated.
-/
module

public import proofs.«01_k».proof.Proof.ProjHost
public import proofs.«01_k».proof.Proof.Gen.CtxIdeal.Frame
public import Idealize.ShloMosaic.Lib.StableHlo.ReadAt

@[expose] public section

set_option maxRecDepth 16384

noncomputable section

namespace Cert.CtxIdeal.Host

open Cert.CtxIdeal Cert.CtxIdeal.Gen Idealize.ShloMosaic Idealize.ShloMosaic.TcCoe Idealize.SL.Sem
open Cert.Projection
open Cert.ProjIdeal.Host (headOf sameHead)

/-- The scale of every row: the norm's weights times one plus the modulation. -/
def scaled (nw : S1024.Idx → EReal) (sc : S1x1x1024.Idx → EReal) (d : Fin 1024) : EReal := nw (ix1 d) * (1 + sc (ix3 0 0 d))

variable (m : (ℓ : Loc nD τ sig) → Buf (Elt Ideal) ℓ) (c : Dev nD)

theorem scale (d : Fin 1024) :
    V m c main_v3 (ix3 0 0 d)
      = scaled (m ((c : Thread nD τ).loc main_arg3)) (m ((c : Thread nD τ).loc main_arg2)) d := by
  unfold V
  after_reads_at
  rfl

theorem w (d : Fin 1024) (k : Fin 1280) :
    V m c main_v18 (ix2 d k) = m ((c : Thread nD τ).loc main_arg4) (ix2 d ⟨k.val, by omega⟩) := by
  unfold V
  after_reads_at

theorem bd (i j : Fin 128) : V m c main_v12 (ix2 i j) = blockMean i j := by
  unfold V
  after_reads_at
  refine Eq.trans (b := Scalar.select (IntOp.cmpi CmpIPredicate.eq (headOf i) (headOf j))
    (Ideal.ofBits FTy.f32 1015021568#32) 0) rfl ?_
  rw [sameHead]
  unfold blockMean
  by_cases h : i.val / 64 = j.val / 64
  · rw [if_pos h, if_pos h]; exact if_pos rfl
  · rw [if_neg h, if_neg h]; exact if_neg (by decide)

theorem kw (i : Fin 128) : V m c main_v16 (ix2 0 i) = m ((c : Thread nD τ).loc main_arg5) (ix1 ⟨i.val % 64, by omega⟩) := by
  unfold V
  after_reads_at

end Cert.CtxIdeal.Host
end
-- ==== Proof.CtxKernel.lean ====
/-
  The context's input projection, from the arguments: its four result arrays, row `l` of batch `b` of each the projection of
  that row of the context (Proof/Projection.lean), on the columns of the result.
-/
module

public import proofs.«01_k».proof.Proof.CtxBlock
public import proofs.«01_k».proof.Proof.CtxHost
public import proofs.«01_k».proof.Proof.Gen.CtxIdeal.Value

@[expose] public section

set_option maxRecDepth 16384

noncomputable section

namespace Cert.CtxIdeal.Array

open Cert.CtxIdeal Cert.CtxIdeal.Gen Cert.CtxIdeal.Block Idealize.ShloMosaic Idealize.ShloMosaic.TcCoe Idealize.SL.Sem
open Cert.CtxIdeal.Host (scaled)
open Idealize.ShloMosaic.Pipeline (Dat)
open Cert.Projection
open scoped BigOperators

/-! The results, from the arguments. -/

section
variable (x : S8x256x1024.Idx → EReal) (sh sc : S1x1x1024.Idx → EReal) (nw : S1024.Idx → EReal) (w : S1024x2816.Idx → EReal)
  (kw : S64.Idx → EReal)

/-- The projected row `l` of batch `b`, at a column. -/
def row (b : Fin 8) (l : Fin 256) (c : Fin 1280) : EReal :=
  product (modulated (fun d => x (ix3 b l d)) (scaled nw sc) (fun d => sh (ix3 0 0 d))) (fun d => w (ix2 d ⟨c.val, by omega⟩))

/-- `n` columns of the row, from `off` on. -/
def cols {n : ℕ} (off : ℕ) (ho : off + n ≤ 1280) (b : Fin 8) (l : Fin 256) (k : Fin n) : EReal :=
  row x sh sc nw w b l ⟨off + k.val, by omega⟩

def keys (i : S8x256x128.Idx) : EReal :=
  headNorm (cols x sh sc nw w 0 (by omega) (i 0) (i 1)) (fun e => kw (ix1 e)) (i 2)

def values (i : S8x256x128.Idx) : EReal := cols (n := 128) x sh sc nw w 128 (by omega) (i 0) (i 1) (i 2)

def retKeys (i : S8x256x512.Idx) : EReal :=
  cols (n := 512) x sh sc nw w 256 (by omega) (i 0) (i 1) (i 2) * Ideal.ofBits FTy.f32 0x3E000000#32

def retValues (i : S8x256x512.Idx) : EReal := cols (n := 512) x sh sc nw w 768 (by omega) (i 0) (i 1) (i 2)

end

variable (m : (ℓ : Loc nD τ sig) → Buf (Elt Ideal) ℓ)

/-- The block indices at point `t`: batch `t` of the context and of the results, the other arrays whole. -/
theorem index : ∀ t : Fin cfg0.N,
    (win0_0.index t 0 = t.val ∧ win0_0.index t 1 = 0 ∧ win0_0.index t 2 = 0)
    ∧ (∀ a, win0_1.index t a = 0) ∧ (∀ a, win0_2.index t a = 0) ∧ (∀ a, win0_3.index t a = 0)
    ∧ (∀ a, win0_4.index t a = 0) ∧ (∀ a, win0_5.index t a = 0)
    ∧ (win0_6.index t 0 = t.val ∧ win0_6.index t 1 = 0 ∧ win0_6.index t 2 = 0)
    ∧ (win0_7.index t 0 = t.val ∧ win0_7.index t 1 = 0 ∧ win0_7.index t 2 = 0)
    ∧ (win0_8.index t 0 = t.val ∧ win0_8.index t 1 = 0 ∧ win0_8.index t 2 = 0)
    ∧ (win0_9.index t 0 = t.val ∧ win0_9.index t 1 = 0 ∧ win0_9.index t 2 = 0) :=
  (by decide +kernel : ∀ t : Fin grid0.N,
    (win0_0.index t 0 = t.val ∧ win0_0.index t 1 = 0 ∧ win0_0.index t 2 = 0)
    ∧ (∀ a, win0_1.index t a = 0) ∧ (∀ a, win0_2.index t a = 0) ∧ (∀ a, win0_3.index t a = 0)
    ∧ (∀ a, win0_4.index t a = 0) ∧ (∀ a, win0_5.index t a = 0)
    ∧ (win0_6.index t 0 = t.val ∧ win0_6.index t 1 = 0 ∧ win0_6.index t 2 = 0)
    ∧ (win0_7.index t 0 = t.val ∧ win0_7.index t 1 = 0 ∧ win0_7.index t 2 = 0)
    ∧ (win0_8.index t 0 = t.val ∧ win0_8.index t 1 = 0 ∧ win0_8.index t 2 = 0)
    ∧ (win0_9.index t 0 = t.val ∧ win0_9.index t 1 = 0 ∧ win0_9.index t 2 = 0))

theorem block_x (c : Dev nD) (t : Fin cfg0.N) (r : Fin 256) (d : Fin 1024) (b : Fin 8) (hb : b.val = t.val) :
    (iblk m c 0 t : Vec Ideal S1x256x1024 .f32) (ix3 0 r d) = m ((c : Thread nD τ).loc main_arg0) (ix3 b r d) := by
  obtain ⟨⟨a0, a1, a2⟩, -⟩ := index t
  unfold iblk
  rw [View.read_apply]
  show V m c main_arg0 _ = _
  rw [V_main_arg0]
  congr 1
  funext a
  apply Fin.ext
  match a with
  | ⟨0, _⟩ => show win0_0.index t 0 * 1 + 1 * 0 = b.val; rw [a0]; omega
  | ⟨1, _⟩ => show win0_0.index t 1 * 256 + 1 * r.val = r.val; rw [a1]; omega
  | ⟨2, _⟩ => show win0_0.index t 2 * 1024 + 1 * d.val = d.val; rw [a2]; omega

theorem block_scale (c : Dev nD) (t : Fin cfg0.N) : (iblk m c 1 t : Vec Ideal S1x1x1024 .f32) = V m c main_v3 := by
  have e := (index t).2.1
  funext z
  unfold iblk
  rw [View.read_apply]
  show V m c main_v3 _ = _
  congr 1
  funext a
  apply Fin.ext
  match a with
  | ⟨0, _⟩ => show win0_1.index t 0 * 1 + 1 * (z 0).val = (z 0).val; rw [e 0]; omega
  | ⟨1, _⟩ => show win0_1.index t 1 * 1 + 1 * (z 1).val = (z 1).val; rw [e 1]; omega
  | ⟨2, _⟩ => show win0_1.index t 2 * 1024 + 1 * (z 2).val = (z 2).val; rw [e 2]; omega

theorem block_shift (c : Dev nD) (t : Fin cfg0.N) : (iblk m c 2 t : Vec Ideal S1x1x1024 .f32) = V m c main_arg1 := by
  have e := (index t).2.2.1
  funext z
  unfold iblk
  rw [View.read_apply]
  show V m c main_arg1 _ = _
  congr 1
  funext a
  apply Fin.ext
  match a with
  | ⟨0, _⟩ => show win0_2.index t 0 * 1 + 1 * (z 0).val = (z 0).val; rw [e 0]; omega
  | ⟨1, _⟩ => show win0_2.index t 1 * 1 + 1 * (z 1).val = (z 1).val; rw [e 1]; omega
  | ⟨2, _⟩ => show win0_2.index t 2 * 1024 + 1 * (z 2).val = (z 2).val; rw [e 2]; omega

theorem block_w (c : Dev nD) (t : Fin cfg0.N) : (iblk m c 3 t : Vec Ideal S1024x1280 .bf16) = V m c main_v18 := by
  have e := (index t).2.2.2.1
  funext z
  unfold iblk
  rw [View.read_apply]
  show V m c main_v18 _ = _
  congr 1
  funext a
  apply Fin.ext
  match a with
  | ⟨0, _⟩ => show win0_3.index t 0 * 1024 + 1 * (z 0).val = (z 0).val; rw [e 0]; omega
  | ⟨1, _⟩ => show win0_3.index t 1 * 1280 + 1 * (z 1).val = (z 1).val; rw [e 1]; omega

theorem block_bd (c : Dev nD) (t : Fin cfg0.N) : (iblk m c 4 t : Vec Ideal S128x128 .bf16) = V m c main_v12 := by
  have e := (index t).2.2.2.2.1
  funext z
  unfold iblk
  rw [View.read_apply]
  show V m c main_v12 _ = _
  congr 1
  funext a
  apply Fin.ext
  match a with
  | ⟨0, _⟩ => show win0_4.index t 0 * 128 + 1 * (z 0).val = (z 0).val; rw [e 0]; omega
  | ⟨1, _⟩ => show win0_4.index t 1 * 128 + 1 * (z 1).val = (z 1).val; rw [e 1]; omega

theorem block_kw (c : Dev nD) (t : Fin cfg0.N) : (iblk m c 5 t : Vec Ideal S1x128 .f32) = V m c main_v16 := by
  have e := (index t).2.2.2.2.2.1
  funext z
  unfold iblk
  rw [View.read_apply]
  show V m c main_v16 _ = _
  congr 1
  funext a
  apply Fin.ext
  match a with
  | ⟨0, _⟩ => show win0_5.index t 0 * 1 + 1 * (z 0).val = (z 0).val; rw [e 0]; omega
  | ⟨1, _⟩ => show win0_5.index t 1 * 128 + 1 * (z 1).val = (z 1).val; rw [e 1]; omega

/-- The projected row by the block of its point. -/
theorem zrow_blk (c : Dev nD) (t : Fin cfg0.N) (r : Fin 256) (b : Fin 8) (hb : b.val = t.val) (k : Fin 1280) :
    zrow (iblk m c 0 t) (iblk m c 1 t) (iblk m c 2 t) (iblk m c 3 t) r k
      = row (m ((c : Thread nD τ).loc main_arg0)) (m ((c : Thread nD τ).loc main_arg1)) (m ((c : Thread nD τ).loc main_arg2))
          (m ((c : Thread nD τ).loc main_arg3)) (m ((c : Thread nD τ).loc main_arg4)) b r k := by
  have e0 : ∀ d : Fin 1024, (iblk m c 0 t : Vec Ideal S1x256x1024 .f32) (ix3 0 r d) = _ := fun d => block_x m c t r d b hb
  have e1 : (fun d : Fin 1024 => V m c main_v3 (ix3 0 0 d)) = _ := funext fun d => Host.scale m c d
  have e3 : (fun d : Fin 1024 => V m c main_v18 (ix2 d k)) = _ := funext fun d => Host.w m c d k
  unfold zrow row
  rw [block_scale, block_shift, block_w, V_main_arg1]
  simp only [e0]
  refine congrArg₂ product ?_ e3
  exact congrArg (fun s => modulated _ s _) e1

theorem lanes_blk {n : ℕ} (c : Dev nD) (t : Fin cfg0.N) (r : Fin 256) (b : Fin 8) (hb : b.val = t.val) (off : ℕ)
    (ho : off + n ≤ 1280) :
    lanes (n := n) (iblk m c 0 t) (iblk m c 1 t) (iblk m c 2 t) (iblk m c 3 t) off ho r
      = cols (m ((c : Thread nD τ).loc main_arg0)) (m ((c : Thread nD τ).loc main_arg1)) (m ((c : Thread nD τ).loc main_arg2))
          (m ((c : Thread nD τ).loc main_arg3)) (m ((c : Thread nD τ).loc main_arg4)) off ho b r :=
  funext fun _ => zrow_blk m c t r b hb _

theorem heads_blk (c : Dev nD) (t : Fin cfg0.N) (r : Fin 256) (b : Fin 8) (hb : b.val = t.val) :
    headNormK (lanes (n := 128) (iblk m c 0 t) (iblk m c 1 t) (iblk m c 2 t) (iblk m c 3 t) 0 (by omega) r)
        (fun i j => (iblk m c 4 t : Vec Ideal S128x128 .bf16) (ix2 i j)) (fun i => (iblk m c 5 t : Vec Ideal S1x128 .f32) (ix2 0 i))
      = headNorm (cols (m ((c : Thread nD τ).loc main_arg0)) (m ((c : Thread nD τ).loc main_arg1))
          (m ((c : Thread nD τ).loc main_arg2)) (m ((c : Thread nD τ).loc main_arg3)) (m ((c : Thread nD τ).loc main_arg4)) 0
          (by omega) b r) (fun e => m ((c : Thread nD τ).loc main_arg5) (ix1 e)) := by
  rw [lanes_blk m c t r b hb, block_bd, block_kw]
  refine Eq.trans ?_ (headNormK_eq _ _)
  congr 1
  · funext i j
    exact Host.bd m c i j
  · funext i
    exact Host.kw m c i

theorem flushed_keys (c : Dev nD) (t : Fin cfg0.N) (_ : (cfg0.win 6).flush t = true) :
    (dats m 0 c).flushed 6 t = ((cfg0.win 6).blk t).view.read (Elt Ideal)
      (keys (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed6]
  funext y
  obtain ⟨d0, d1, d2⟩ := (index t).2.2.2.2.2.2.1
  have hy0 : (y 0).val < 1 := (y 0).isLt
  rw [View.read_apply]
  refine (keys_apply _ _ _ _ _ _ y).trans ?_
  rw [cast_eq]
  have e0 : (((cfg0.win 6).blk t).view.emb y 0).val = t.val := by
    show win0_6.index t 0 * 1 + 1 * (y 0).val = _
    rw [d0]; omega
  have e1 : ((cfg0.win 6).blk t).view.emb y 1 = y 1 := Fin.ext (by
    show win0_6.index t 1 * 256 + 1 * (y 1).val = _
    rw [d1]; omega)
  have e2 : ((cfg0.win 6).blk t).view.emb y 2 = y 2 := Fin.ext (by
    show win0_6.index t 2 * 128 + 1 * (y 2).val = _
    rw [d2]; omega)
  unfold keys
  rw [e1, e2]
  exact congrFun (heads_blk m c t _ _ e0) _

theorem result_keys (c : Dev nD) :
    (dats m 0 c).arrAt 6 cfg0.N
      = keys (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (flushed_keys m c) fun i => by
    have h0 : (i 0 : Nat) < 8 := (i 0).isLt
    have h1 : (i 1 : Nat) < 256 := (i 1).isLt
    have h2 : (i 2 : Nat) < 128 := (i 2).isLt
    let t : Fin cfg0.N := ⟨(i 0).val, h0⟩
    have ht : t.val = (i 0).val := rfl
    obtain ⟨d0, d1, d2⟩ := (index t).2.2.2.2.2.2.1
    refine ⟨t, flush0_6 t, ?_⟩
    show i ∈ ((View.whole main_v19_0).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [d0]; omega
    | ⟨1, _⟩ =>
      show win0_6.index t 1 * 256 ≤ (i 1 : Nat) ∧ (i 1 : Nat) < win0_6.index t 1 * 256 + 256
      rw [d1]; omega
    | ⟨2, _⟩ =>
      show win0_6.index t 2 * 128 ≤ (i 2 : Nat) ∧ (i 2 : Nat) < win0_6.index t 2 * 128 + 128
      rw [d2]; omega

theorem flushed_values (c : Dev nD) (t : Fin cfg0.N) (_ : (cfg0.win 7).flush t = true) :
    (dats m 0 c).flushed 7 t = ((cfg0.win 7).blk t).view.read (Elt Ideal)
      (values (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed7]
  funext y
  obtain ⟨d0, d1, d2⟩ := (index t).2.2.2.2.2.2.2.1
  have hy0 : (y 0).val < 1 := (y 0).isLt
  rw [View.read_apply]
  refine (values_apply _ _ _ _ _ _ y).trans ?_
  rw [cast_eq]
  have e0 : (((cfg0.win 7).blk t).view.emb y 0).val = t.val := by
    show win0_7.index t 0 * 1 + 1 * (y 0).val = _
    rw [d0]; omega
  have e1 : ((cfg0.win 7).blk t).view.emb y 1 = y 1 := Fin.ext (by
    show win0_7.index t 1 * 256 + 1 * (y 1).val = _
    rw [d1]; omega)
  have e2 : ((cfg0.win 7).blk t).view.emb y 2 = y 2 := Fin.ext (by
    show win0_7.index t 2 * 128 + 1 * (y 2).val = _
    rw [d2]; omega)
  unfold values
  rw [e1, e2]
  exact congrFun (lanes_blk m c t _ _ e0 _ _) _

theorem result_values (c : Dev nD) :
    (dats m 0 c).arrAt 7 cfg0.N
      = values (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 7 _ (flushed_values m c) fun i => by
    have h0 : (i 0 : Nat) < 8 := (i 0).isLt
    have h1 : (i 1 : Nat) < 256 := (i 1).isLt
    have h2 : (i 2 : Nat) < 128 := (i 2).isLt
    let t : Fin cfg0.N := ⟨(i 0).val, h0⟩
    have ht : t.val = (i 0).val := rfl
    obtain ⟨d0, d1, d2⟩ := (index t).2.2.2.2.2.2.2.1
    refine ⟨t, flush0_7 t, ?_⟩
    show i ∈ ((View.whole main_v19_1).slice (win0_7.rect t)).set
    rw [View.set_slice_whole, Rect.mem_set_unit]
    intro a
    match a with
    | ⟨0, _⟩ =>
      show win0_7.index t 0 * 1 ≤ (i 0 : Nat) ∧ (i 0 : Nat) < win0_7.index t 0 * 1 + 1
      rw [d0]; omega
    | ⟨1, _⟩ =>
      show win0_7.index t 1 * 256 ≤ (i 1 : Nat) ∧ (i 1 : Nat) < win0_7.index t 1 * 256 + 256
      rw [d1]; omega
    | ⟨2, _⟩ =>
      show win0_7.index t 2 * 128 ≤ (i 2 : Nat) ∧ (i 2 : Nat) < win0_7.index t 2 * 128 + 128
      rw [d2]; omega

theorem flushed_retKeys (c : Dev nD) (t : Fin cfg0.N) (_ : (cfg0.win 8).flush t = true) :
    (dats m 0 c).flushed 8 t = ((cfg0.win 8).blk t).view.read (Elt Ideal)
      (retKeys (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed8]
  funext y
  obtain ⟨d0, d1, d2⟩ := (index t).2.2.2.2.2.2.2.2.1
  have hy0 : (y 0).val < 1 := (y 0).isLt
  rw [View.read_apply]
  refine (retKeys_apply _ _ _ _ _ _ y).trans ?_
  rw [cast_eq]
  have e0 : (((cfg0.win 8).blk t).view.emb y 0).val = t.val := by
    show win0_8.index t 0 * 1 + 1 * (y 0).val = _
    rw [d0]; omega
  have e1 : ((cfg0.win 8).blk t).view.emb y 1 = y 1 := Fin.ext (by
    show win0_8.index t 1 * 256 + 1 * (y 1).val = _
    rw [d1]; omega)
  have e2 : ((cfg0.win 8).blk t).view.emb y 2 = y 2 := Fin.ext (by
    show win0_8.index t 2 * 512 + 1 * (y 2).val = _
    rw [d2]; omega)
  unfold retKeys
  rw [e1, e2]
  exact congrArg (· * _) (congrFun (lanes_blk m c t _ _ e0 _ _) _)

theorem result_retKeys (c : Dev nD) :
    (dats m 0 c).arrAt 8 cfg0.N
      = retKeys (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 8 _ (flushed_retKeys m c) fun i => by
    have h0 : (i 0 : Nat) < 8 := (i 0).isLt
    have h1 : (i 1 : Nat) < 256 := (i 1).isLt
    have h2 : (i 2 : Nat) < 512 := (i 2).isLt
    let t : Fin cfg0.N := ⟨(i 0).val, h0⟩
    have ht : t.val = (i 0).val := rfl
    obtain ⟨d0, d1, d2⟩ := (index t).2.2.2.2.2.2.2.2.1
    refine ⟨t, flush0_8 t, ?_⟩
    show i ∈ ((View.whole main_v19_2).slice (win0_8.rect t)).set
    rw [View.set_slice_whole, Rect.mem_set_unit]
    intro a
    match a with
    | ⟨0, _⟩ =>
      show win0_8.index t 0 * 1 ≤ (i 0 : Nat) ∧ (i 0 : Nat) < win0_8.index t 0 * 1 + 1
      rw [d0]; omega
    | ⟨1, _⟩ =>
      show win0_8.index t 1 * 256 ≤ (i 1 : Nat) ∧ (i 1 : Nat) < win0_8.index t 1 * 256 + 256
      rw [d1]; omega
    | ⟨2, _⟩ =>
      show win0_8.index t 2 * 512 ≤ (i 2 : Nat) ∧ (i 2 : Nat) < win0_8.index t 2 * 512 + 512
      rw [d2]; omega

theorem flushed_retValues (c : Dev nD) (t : Fin cfg0.N) (_ : (cfg0.win 9).flush t = true) :
    (dats m 0 c).flushed 9 t = ((cfg0.win 9).blk t).view.read (Elt Ideal)
      (retValues (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed9]
  funext y
  obtain ⟨d0, d1, d2⟩ := (index t).2.2.2.2.2.2.2.2.2
  have hy0 : (y 0).val < 1 := (y 0).isLt
  rw [View.read_apply]
  refine (retValues_apply _ _ _ _ _ _ y).trans ?_
  rw [cast_eq]
  have e0 : (((cfg0.win 9).blk t).view.emb y 0).val = t.val := by
    show win0_9.index t 0 * 1 + 1 * (y 0).val = _
    rw [d0]; omega
  have e1 : ((cfg0.win 9).blk t).view.emb y 1 = y 1 := Fin.ext (by
    show win0_9.index t 1 * 256 + 1 * (y 1).val = _
    rw [d1]; omega)
  have e2 : ((cfg0.win 9).blk t).view.emb y 2 = y 2 := Fin.ext (by
    show win0_9.index t 2 * 512 + 1 * (y 2).val = _
    rw [d2]; omega)
  unfold retValues
  rw [e1, e2]
  exact congrFun (lanes_blk m c t _ _ e0 _ _) _

theorem result_retValues (c : Dev nD) :
    (dats m 0 c).arrAt 9 cfg0.N
      = retValues (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 9 _ (flushed_retValues m c) fun i => by
    have h0 : (i 0 : Nat) < 8 := (i 0).isLt
    have h1 : (i 1 : Nat) < 256 := (i 1).isLt
    have h2 : (i 2 : Nat) < 512 := (i 2).isLt
    let t : Fin cfg0.N := ⟨(i 0).val, h0⟩
    have ht : t.val = (i 0).val := rfl
    obtain ⟨d0, d1, d2⟩ := (index t).2.2.2.2.2.2.2.2.2
    refine ⟨t, flush0_9 t, ?_⟩
    show i ∈ ((View.whole main_v19_3).slice (win0_9.rect t)).set
    rw [View.set_slice_whole, Rect.mem_set_unit]
    intro a
    match a with
    | ⟨0, _⟩ =>
      show win0_9.index t 0 * 1 ≤ (i 0 : Nat) ∧ (i 0 : Nat) < win0_9.index t 0 * 1 + 1
      rw [d0]; omega
    | ⟨1, _⟩ =>
      show win0_9.index t 1 * 256 ≤ (i 1 : Nat) ∧ (i 1 : Nat) < win0_9.index t 1 * 256 + 256
      rw [d1]; omega
    | ⟨2, _⟩ =>
      show win0_9.index t 2 * 512 ≤ (i 2 : Nat) ∧ (i 2 : Nat) < win0_9.index t 2 * 512 + 512
      rw [d2]; omega

/-- The kernel's run: the results are the projections, the arguments are kept. -/
theorem run (ρ : Dev nD → PrngReg) :
    θ_run defs (onTc (τ := τ) (main (F := Ideal))) ⟨m, fun _ => 0, ρ⟩ fun r => ∀ c : Dev nD,
      r.2.mem ((c : Thread nD τ).loc main_v19_0) = keys (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v19_1) = values (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v19_2) = retKeys (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v19_3) = retValues (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (result_keys m c), (h c).2.1.trans (result_values m c),
    (h c).2.2.1.trans (result_retKeys m c), (h c).2.2.2.1.trans (result_retValues m c), (h c).2.2.2.2⟩) (Value.run_blocks m ρ)

end Cert.CtxIdeal.Array
end
-- ==== Proof.CtxReference.lean ====
/-
  The reference projection of the context, read at an element: the modulated norm of a row times the weights, the norm of
  each key head.
-/
module

public import proofs.«01_k».proof.Proof.CtxKernel
public import proofs.«01_k».proof.Proof.ProjReference
public import proofs.«01_k».proof.Proof.Gen.CtxRefIdeal.Read
public import Idealize.ShloMosaic.Lib.Pointwise

@[expose] public section

set_option maxRecDepth 16384

noncomputable section

namespace Cert.CtxRefIdeal.Element

open Cert.CtxRefIdeal Cert.CtxRefIdeal.Gen Cert.CtxRefIdeal.Read Idealize.ShloMosaic
open Cert.Projection Cert.CtxIdeal.Array
open Cert.CtxIdeal.Host (scaled)
open Cert.ProjRefIdeal.Element (head headNorm_head)
open scoped BigOperators

variable (x : FVec Ideal S8x256x1024 .f32) (sh sc : FVec Ideal S1x1x1024 .f32) (nw : FVec Ideal S1024 .f32)
  (w : FVec Ideal S1024x2816 .f32) (kw : FVec Ideal S64 .f32)

theorem root_apply (b : Fin 8) (l : Fin 256) :
    val_main_v7 (F := Ideal) x (ix3 b l 0)
      = Ideal.rsqrt (Ideal.div (∑ e, x (ix3 b l e) * x (ix3 b l e)) (Ideal.ofBits FTy.f32 1149239296#32) + eps) := by
  pointwise [val_main_v7, val_main_v6, val_main_v5, val_main_v4, val_main_v3, val_main_v2, val_main_v1, val_main_v0, val_main_cst, val_main_cst_0, val_main_cst_1]

theorem modulated_apply (b : Fin 8) (l : Fin 256) (d : Fin 1024) :
    val_main_v18 (F := Ideal) x sh sc nw (ix3 b l d)
      = modulated (fun d => x (ix3 b l d)) (scaled nw sc) (fun d => sh (ix3 0 0 d)) d := by
  pointwise [val_main_v18, val_main_v17, val_main_v16, val_main_v15, val_main_v14, val_main_v13, val_main_cst_2, val_main_v12, val_main_v11, val_main_v10, val_main_v9, val_main_v8, root_apply]
  unfold modulated unit scaled
  rw [mul_assoc]

theorem row_apply (b : Fin 8) (l : Fin 256) (c : Fin 1280) :
    val_main_v20 (F := Ideal) x sh sc nw w (ix3 b l c) = row x sh sc nw w b l c := by
  pointwise [val_main_v20, val_main_v19, modulated_apply]
  rfl

/-- Key head `h` of a row. -/
def lane (b : Fin 8) (l : Fin 256) (h : Fin 2) (e : Fin 64) : EReal := row x sh sc nw w b l ⟨h.val * 64 + e.val, by omega⟩

theorem kroot_apply (b : Fin 8) (l : Fin 256) (h : Fin 2) :
    val_main_v30 (F := Ideal) x sh sc nw w (ix4 b l h 0)
      = Ideal.rsqrt (Ideal.div (∑ i : Fin 64, lane x sh sc nw w b l h i * lane x sh sc nw w b l h i)
          (Ideal.ofBits FTy.f32 1115684864#32) + eps) := by
  pointwise [val_main_v30, val_main_v29, val_main_v28, val_main_v27, val_main_v26, val_main_v25, val_main_v24, val_main_v23, val_main_v22, val_main_v21, val_main_cst_3, val_main_cst_4, val_main_cst_5, row_apply]
  rfl

theorem knorm_apply (b : Fin 8) (l : Fin 256) (h : Fin 2) (e : Fin 64) :
    val_main_v35 (F := Ideal) x sh sc nw w kw (ix4 b l h e)
      = head (lane x sh sc nw w b l h) (fun i => kw (ix1 i)) e := by
  pointwise [val_main_v35, val_main_v34, val_main_v33, val_main_v32, val_main_v31, val_main_v22, val_main_v21, row_apply, kroot_apply]
  rfl

theorem keys_apply (b : Fin 8) (l : Fin 256) (c : Fin 128) :
    val_main_v45 (F := Ideal) x sh sc nw w kw (ix3 b l c) = keys x sh sc nw w kw (ix3 b l c) := by
  pointwise [val_main_v45, val_main_v44, knorm_apply]
  refine Eq.trans ?_ (headNorm_head _ _ _).symm
  refine congrArg (fun u => head u _ _) (funext fun i => congrArg (row x sh sc nw w b l) (Fin.ext ?_))
  show c.val / 64 * 64 + i.val = 0 + (64 * (c.val / 64) + i.val)
  omega

theorem values_apply (b : Fin 8) (l : Fin 256) (c : Fin 128) :
    val_main_v47 (F := Ideal) x sh sc nw w (ix3 b l c) = values x sh sc nw w (ix3 b l c) := by
  pointwise [val_main_v47, val_main_v46, val_main_v37, val_main_v36, row_apply]
  rfl

theorem retKeys_apply (b : Fin 8) (l : Fin 256) (c : Fin 512) :
    val_main_v49 (F := Ideal) x sh sc nw w (ix3 b l c) = retKeys x sh sc nw w (ix3 b l c) := by
  pointwise [val_main_v49, val_main_v48, val_main_v41, val_main_v40, val_main_v39, val_main_v38, val_main_cst_6, row_apply]
  rfl

theorem retValues_apply (b : Fin 8) (l : Fin 256) (c : Fin 512) :
    val_main_v51 (F := Ideal) x sh sc nw w (ix3 b l c) = retValues x sh sc nw w (ix3 b l c) := by
  pointwise [val_main_v51, val_main_v50, val_main_v43, val_main_v42, row_apply]
  rfl

theorem split_idx {n : ℕ} (i : (⟨3, ![8, 256, n]⟩ : Shape).Idx) :
    ∃ (b : Fin 8) (l : Fin 256) (c : Fin n), i = ix3 b l c := ⟨i 0, i 1, i 2, by
  funext a
  match a with
  | 0 => rfl
  | 1 => rfl
  | 2 => rfl⟩

theorem keys_whole : val_main_v45 (F := Ideal) x sh sc nw w kw = keys x sh sc nw w kw := by
  funext i
  obtain ⟨b, l, c, rfl⟩ := split_idx i
  exact keys_apply x sh sc nw w kw b l c

theorem values_whole : val_main_v47 (F := Ideal) x sh sc nw w = values x sh sc nw w := by
  funext i
  obtain ⟨b, l, c, rfl⟩ := split_idx i
  exact values_apply x sh sc nw w b l c

theorem retKeys_whole : val_main_v49 (F := Ideal) x sh sc nw w = retKeys x sh sc nw w := by
  funext i
  obtain ⟨b, l, c, rfl⟩ := split_idx i
  exact retKeys_apply x sh sc nw w b l c

theorem retValues_whole : val_main_v51 (F := Ideal) x sh sc nw w = retValues x sh sc nw w := by
  funext i
  obtain ⟨b, l, c, rfl⟩ := split_idx i
  exact retValues_apply x sh sc nw w b l c

end Cert.CtxRefIdeal.Element
end
-- ==== Proof.Modulation.lean ====
/-
  The modulation of one conditioning row, on plain functions: the row through SiLU, times the weights, plus the bias; the
  kernel's product from the two parts of each factor, and that it is the product where the factors are real numbers.
-/
module

public import proofs.«01_k».proof.Proof.Output

@[expose] public section

noncomputable section

namespace Cert.Modulation

open Idealize.ShloMosaic Cert.Output
open scoped BigOperators

/-- The activation of the conditioning. -/
def silu (x : EReal) : EReal := x * Ideal.logistic x

/-- One column of a modulated row. -/
def column (a w : Fin 1024 → EReal) (b : EReal) : EReal := ∑ d, silu (a d) * w d + b

/-- The same column, from each factor and what its rounding leaves of it. -/
def columnK (a w : Fin 1024 → EReal) (b : EReal) : EReal :=
  ∑ d, silu (a d) * w d + ∑ d, silu (a d) * (w d - w d) + ∑ d, (silu (a d) - silu (a d)) * w d + b

theorem silu_real {x : EReal} : Real' x → Real' (silu x) := by
  rintro ⟨r, rfl⟩
  exact Real'.mul ⟨r, rfl⟩ ⟨_, Ideal.logistic_coe r⟩

theorem columnK_eq {a w : Fin 1024 → EReal} (b : EReal) (ha : ∀ d, Real' (a d)) (hw : ∀ d, Real' (w d)) :
    columnK a w b = column a w b := by
  have e1 : ∑ d, silu (a d) * (w d - w d) = 0 := Finset.sum_eq_zero fun d _ => by rw [(hw d).sub_self, mul_zero]
  have e2 : ∑ d, (silu (a d) - silu (a d)) * w d = 0 :=
    Finset.sum_eq_zero fun d _ => by rw [(silu_real (ha d)).sub_self, zero_mul]
  unfold columnK column
  rw [e1, e2, add_zero, add_zero]

end Cert.Modulation
end
-- ==== Proof.ModBlock.lean ====
/-
  What one grid point of the modulation leaves in its output block, element by element.
-/
module

public import proofs.«01_k».proof.Proof.Modulation
public import proofs.«01_k».proof.Proof.Gen.ModIdeal.Frame

@[expose] public section

set_option maxRecDepth 16384

noncomputable section

namespace Cert.ModIdeal.Block

open Cert.ModIdeal Cert.ModIdeal.Gen Idealize.ShloMosaic Cert.Modulation
open scoped BigOperators

variable (x0 : Vec Ideal S16x1024 .f32) (x1 : Vec Ideal S1024x1536 .f32) (x2 : Vec Ideal S1x1536 .f32)

theorem split_idx (x : S16x1536.Idx) : ∃ (r : Fin 16) (k : Fin 1536), x = ix2 r k := ⟨x 0, x 1, by
  funext a
  match a with
  | 0 => rfl
  | 1 => rfl⟩

theorem out_apply (y : S16x1536.Idx) :
    out0_3 x0 x1 x2 y
      = columnK (fun d => x0 (ix2 (y 0) d)) (fun d => x1 (ix2 d (y 1))) (x2 (ix2 0 (y 1))) := by
  unfold out0_3
  canon_tiles x h using cover0_3 ..
  obtain ⟨r, k, rfl⟩ := split_idx x
  rw [show y 0 = r from Fin.ext h0, show y 1 = k from Fin.ext h1]
  pointwise [k0_pay1]
  rfl

end Cert.ModIdeal.Block
end
-- ==== Proof.ModHost.lean ====
/-
  The arrays that the host prepares for the modulation, from the arguments: the conditioning's rows, the context's
  conditioning below them, the bias as a row.
-/
module

public import proofs.«01_k».proof.Proof.Modulation
public import proofs.«01_k».proof.Proof.Gen.ModIdeal.Frame
public import Idealize.ShloMosaic.Lib.StableHlo.ReadAt

@[expose] public section

set_option maxRecDepth 16384

noncomputable section

namespace Cert.ModIdeal.Host

open Cert.ModIdeal Cert.ModIdeal.Gen Idealize.ShloMosaic Idealize.ShloMosaic.TcCoe Idealize.SL.Sem

/-- Conditioning row `r`: one of the eight, or the context's. -/
def conditioning (x : S8x1024.Idx → EReal) (xc : S1024.Idx → EReal) (r : Fin 16) (d : Fin 1024) : EReal :=
  if h : r.val < 8 then x (ix2 ⟨r.val, h⟩ d) else xc (ix1 d)

variable (m : (ℓ : Loc nD τ sig) → Buf (Elt Ideal) ℓ) (c : Dev nD)

theorem bias (k : Fin 6144) : V m c main_v3 (ix2 0 k) = m ((c : Thread nD τ).loc main_arg3) (ix1 k) := by
  unfold V
  after_reads_at

theorem rows (r : Fin 16) (hr : r.val < 9) (d : Fin 1024) :
    V m c main_v2 (ix2 r d)
      = conditioning (m ((c : Thread nD τ).loc main_arg0)) (m ((c : Thread nD τ).loc main_arg1)) r d := by
  unfold V
  after_reads_at
  unfold conditioning
  by_cases h : r.val < 8
  · rw [dif_pos h, dif_pos h]
  · rw [dif_neg h, dif_neg h, dif_pos (by omega)]
    refine (congrFun (StableHlo.unary_result main_arg1 main_v0 _ _ _ _) _).trans ?_
    show broadcastInDim S1x1024 ![1] bcast_S1024_S1x1024_1 (m ((c : Thread nD τ).loc main_arg1)) (ix2 _ d) = _
    pointwise

end Cert.ModIdeal.Host
end
-- ==== Proof.ModKernel.lean ====
/-
  The modulation's result array: its first nine rows, from the arguments, where the conditioning and the weights are real
  numbers.
-/
module

public import proofs.«01_k».proof.Proof.ModBlock
public import proofs.«01_k».proof.Proof.ModHost
public import proofs.«01_k».proof.Proof.Gen.ModIdeal.Value

@[expose] public section

set_option maxRecDepth 16384

noncomputable section

namespace Cert.ModIdeal.Array

open Cert.ModIdeal Cert.ModIdeal.Gen Cert.ModIdeal.Block Idealize.ShloMosaic Idealize.ShloMosaic.TcCoe Idealize.SL.Sem
open Cert.ModIdeal.Host (conditioning)
open Idealize.ShloMosaic.Pipeline (Dat)
open Cert.Modulation Cert.Output
open scoped BigOperators

/-- A row of the result: that row of the conditioning, modulated. -/
def modulation (x : S8x1024.Idx → EReal) (xc : S1024.Idx → EReal) (w : S1024x6144.Idx → EReal) (b : S6144.Idx → EReal)
    (i : S16x6144.Idx) : EReal :=
  column (conditioning x xc (i 0)) (fun d => w (ix2 d (i 1))) (b (ix1 (i 1)))

variable (m : (ℓ : Loc nD τ sig) → Buf (Elt Ideal) ℓ)

/-- The block indices at point `t`: the rows whole, columns `t` of the weights, of the bias and of the result. -/
theorem index : ∀ t : Fin cfg0.N,
    (∀ a, win0_0.index t a = 0) ∧ (win0_1.index t 0 = 0 ∧ win0_1.index t 1 = t.val)
    ∧ (win0_2.index t 0 = 0 ∧ win0_2.index t 1 = t.val) ∧ (win0_3.index t 0 = 0 ∧ win0_3.index t 1 = t.val) :=
  (by decide +kernel : ∀ t : Fin grid0.N,
    (∀ a, win0_0.index t a = 0) ∧ (win0_1.index t 0 = 0 ∧ win0_1.index t 1 = t.val)
    ∧ (win0_2.index t 0 = 0 ∧ win0_2.index t 1 = t.val) ∧ (win0_3.index t 0 = 0 ∧ win0_3.index t 1 = t.val))

theorem block_rows (c : Dev nD) (t : Fin cfg0.N) : (iblk m c 0 t : Vec Ideal S16x1024 .f32) = V m c main_v2 := by
  have e := (index t).1
  funext z
  unfold iblk
  rw [View.read_apply]
  show V m c main_v2 _ = _
  congr 1
  funext a
  apply Fin.ext
  match a with
  | ⟨0, _⟩ => show win0_0.index t 0 * 16 + 1 * (z 0).val = (z 0).val; rw [e 0]; omega
  | ⟨1, _⟩ => show win0_0.index t 1 * 1024 + 1 * (z 1).val = (z 1).val; rw [e 1]; omega

theorem block_w (c : Dev nD) (t : Fin cfg0.N) (d : Fin 1024) (k : Fin 1536) (n : Fin 6144) (hn : n.val = t.val * 1536 + k.val) :
    (iblk m c 1 t : Vec Ideal S1024x1536 .f32) (ix2 d k) = m ((c : Thread nD τ).loc main_arg2) (ix2 d n) := by
  obtain ⟨-, ⟨a0, a1⟩, -⟩ := index t
  unfold iblk
  rw [View.read_apply]
  show V m c main_arg2 _ = _
  rw [V_main_arg2]
  congr 1
  funext a
  apply Fin.ext
  match a with
  | ⟨0, _⟩ => show win0_1.index t 0 * 1024 + 1 * d.val = d.val; rw [a0]; omega
  | ⟨1, _⟩ => show win0_1.index t 1 * 1536 + 1 * k.val = n.val; rw [a1]; omega

theorem block_b (c : Dev nD) (t : Fin cfg0.N) (k : Fin 1536) (n : Fin 6144) (hn : n.val = t.val * 1536 + k.val) :
    (iblk m c 2 t : Vec Ideal S1x1536 .f32) (ix2 0 k) = m ((c : Thread nD τ).loc main_arg3) (ix1 n) := by
  obtain ⟨-, -, ⟨a0, a1⟩, -⟩ := index t
  refine Eq.trans ?_ (Host.bias m c n)
  unfold iblk
  rw [View.read_apply]
  show V m c main_v3 _ = _
  congr 1
  funext a
  apply Fin.ext
  match a with
  | ⟨0, _⟩ => show win0_2.index t 0 * 1 + 1 * 0 = 0; rw [a0]
  | ⟨1, _⟩ => show win0_2.index t 1 * 1536 + 1 * k.val = n.val; rw [a1]; omega

/-- The array that the kernel leaves, from the rows that the host prepares. -/
def left (c : Dev nD) (i : S16x6144.Idx) : EReal :=
  columnK (fun d => V m c main_v2 (ix2 (i 0) d)) (fun d => m ((c : Thread nD τ).loc main_arg2) (ix2 d (i 1)))
    (m ((c : Thread nD τ).loc main_arg3) (ix1 (i 1)))

theorem flushed (c : Dev nD) (t : Fin cfg0.N) (_ : (cfg0.win 3).flush t = true) :
    (dats m 0 c).flushed 3 t = ((cfg0.win 3).blk t).view.read (Elt Ideal) (left m c) := by
  rw [Value.flushed3]
  funext y
  obtain ⟨-, -, -, d0, d1⟩ := index t
  rw [View.read_apply]
  refine (out_apply _ _ _ y).trans ?_
  rw [cast_eq]
  have e0 : ((cfg0.win 3).blk t).view.emb y 0 = y 0 := Fin.ext (by
    show win0_3.index t 0 * 16 + 1 * (y 0).val = _
    rw [d0]; omega)
  have e1 : (((cfg0.win 3).blk t).view.emb y 1).val = t.val * 1536 + (y 1).val := by
    show win0_3.index t 1 * 1536 + 1 * (y 1).val = _
    rw [d1]; omega
  have ew : (fun d : Fin 1024 => (iblk m c 1 t : Vec Ideal S1024x1536 .f32) (ix2 d (y 1))) = _ :=
    funext fun d => block_w m c t d (y 1) _ e1
  unfold left
  rw [e0, block_rows, ew, block_b m c t (y 1) _ e1]

theorem result (c : Dev nD) : (dats m 0 c).arrAt 3 cfg0.N = left m c :=
  (dats m 0 c).arrAt_eq_of_cover 3 _ (flushed m c) fun i => by
    have h0 : (i 0 : Nat) < 16 := (i 0).isLt
    have h1 : (i 1 : Nat) < 6144 := (i 1).isLt
    let t : Fin cfg0.N := ⟨(i 1).val / 1536, show (i 1).val / 1536 < 4 by omega⟩
    have ht : t.val = (i 1).val / 1536 := rfl
    obtain ⟨-, -, -, d0, d1⟩ := index t
    refine ⟨t, flush0_3 t, ?_⟩
    show i ∈ ((View.whole main_v4).slice (win0_3.rect t)).set
    rw [View.set_slice_whole, Rect.mem_set_unit]
    intro a
    match a with
    | ⟨0, _⟩ =>
      show win0_3.index t 0 * 16 ≤ (i 0 : Nat) ∧ (i 0 : Nat) < win0_3.index t 0 * 16 + 16
      rw [d0]; omega
    | ⟨1, _⟩ =>
      show win0_3.index t 1 * 1536 ≤ (i 1 : Nat) ∧ (i 1 : Nat) < win0_3.index t 1 * 1536 + 1536
      rw [d1]; omega

/-- A row of the conditioning, where the conditioning and the weights are real numbers. -/
theorem left_apply (c : Dev nD) (i : S16x6144.Idx) (hi : (i 0).val < 9)
    (hx : ∀ j, Real' (m ((c : Thread nD τ).loc main_arg0) j)) (hc : ∀ j, Real' (m ((c : Thread nD τ).loc main_arg1) j))
    (hw : ∀ j, Real' (m ((c : Thread nD τ).loc main_arg2) j)) :
    left m c i = modulation (m ((c : Thread nD τ).loc main_arg0)) (m ((c : Thread nD τ).loc main_arg1))
      (m ((c : Thread nD τ).loc main_arg2)) (m ((c : Thread nD τ).loc main_arg3)) i := by
  have e : (fun d : Fin 1024 => V m c main_v2 (ix2 (i 0) d)) = _ := funext fun d => Host.rows m c (i 0) hi d
  unfold left modulation
  rw [e]
  refine columnK_eq _ (fun d => ?_) fun d => hw _
  unfold conditioning
  split
  · exact hx _
  · exact hc _

/-- The kernel's run: the result is the array left, the arguments are kept. -/
theorem run (ρ : Dev nD → PrngReg) :
    θ_run defs (onTc (τ := τ) (main (F := Ideal))) ⟨m, fun _ => 0, ρ⟩ fun r => ∀ c : Dev nD,
      r.2.mem ((c : Thread nD τ).loc main_v4) = left m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (result m c), (h c).2⟩) (Value.run_blocks m ρ)

end Cert.ModIdeal.Array
end
-- ==== Proof.ModReference.lean ====
/-
  The reference modulation, read at an element of its first nine rows.
-/
module

public import proofs.«01_k».proof.Proof.ModKernel
public import proofs.«01_k».proof.Proof.Gen.ModRefIdeal.Read
public import Idealize.ShloMosaic.Lib.Pointwise

@[expose] public section

set_option maxRecDepth 16384

noncomputable section

namespace Cert.ModRefIdeal.Element

open Cert.ModRefIdeal Cert.ModRefIdeal.Gen Cert.ModRefIdeal.Read Idealize.ShloMosaic
open Cert.Modulation
open Cert.ModIdeal.Host (conditioning)
open scoped BigOperators

variable (x : FVec Ideal S8x1024 .f32) (xc : FVec Ideal S1024 .f32) (w : FVec Ideal S1024x6144 .f32) (b : FVec Ideal S6144 .f32)

theorem silu_rows (r : Fin 8) (d : Fin 1024) : val_main_v0 (F := Ideal) x (ix2 r d) = silu (x (ix2 r d)) := by
  pointwise [val_main_v0, val_main_call0_v5, val_main_call0_v4, val_main_call0_cst_0, val_main_call0_v3, val_main_call0_v2, val_main_call0_cst, val_main_call0_v1, val_main_call0_v0]
  rfl

theorem silu_row (d : Fin 1024) : val_main_v5 (F := Ideal) xc (ix1 d) = silu (xc (ix1 d)) := by
  pointwise [val_main_v5, val_main_call1_v5, val_main_call1_v4, val_main_call1_cst_0, val_main_call1_v3, val_main_call1_v2, val_main_call1_cst, val_main_call1_v1, val_main_call1_v0]
  rfl

theorem rows_apply (r : Fin 8) (k : Fin 6144) :
    val_main_v4 (F := Ideal) x w b (ix2 r k) = column (fun d => x (ix2 r d)) (fun d => w (ix2 d k)) (b (ix1 k)) := by
  pointwise [val_main_v4, val_main_v3, val_main_v2, val_main_v1, silu_rows]
  rfl

theorem row_apply (k : Fin 6144) :
    val_main_v8 (F := Ideal) xc w b (ix2 0 k) = column (fun d => xc (ix1 d)) (fun d => w (ix2 d k)) (b (ix1 k)) := by
  pointwise [val_main_v8, val_main_v7, val_main_v6, silu_row]
  rfl

theorem apply (r : Fin 16) (k : Fin 6144) (hr : r.val < 9) :
    val_main_v10 (F := Ideal) x xc w b (ix2 r k)
      = column (conditioning x xc r) (fun d => w (ix2 d k)) (b (ix1 k)) := by
  pointwise [val_main_v10, val_main_v9, rows_apply, row_apply]
  rw [dif_pos hr]
  by_cases h : r.val < 8
  · rw [dif_pos h]
    refine congrArg (fun v => column v _ _) (funext fun d => ?_)
    unfold conditioning
    rw [dif_pos h]
  · rw [dif_neg h, show (⟨r.val - 8, by omega⟩ : Fin 1) = 0 from Subsingleton.elim _ _, row_apply]
    refine congrArg (fun v => column v _ _) (funext fun d => ?_)
    unfold conditioning
    rw [dif_neg h]

/-- A row of the conditioning is modulated as the kernel's is. -/
theorem apply_row (i : S16x6144.Idx) (hi : (i 0).val < 9) :
    val_main_v10 (F := Ideal) x xc w b i = Cert.ModIdeal.Array.modulation x xc w b i := by
  obtain ⟨r, k, rfl⟩ : ∃ (r : Fin 16) (k : Fin 6144), i = ix2 r k := ⟨i 0, i 1, by
    funext a
    match a with
    | 0 => rfl
    | 1 => rfl⟩
  exact apply x xc w b r k hi

end Cert.ModRefIdeal.Element
end
-- ==== Proof.ModFinite.lean ====
/-
  What the precondition `finite_mod` gives, that the conditioning and the weights are real numbers; and what the mask
  `rows_conditioned` selects, the first nine rows.
-/
module

public import proofs.«01_k».proof.Pre_finite_mod
public import proofs.«01_k».proof.On_rows_conditioned
public import proofs.«01_k».proof.Proof.Gen.Pre_finite_mod
public import proofs.«01_k».proof.Proof.Gen.On_rows_conditioned
public import proofs.«01_k».proof.Proof.AttnFinite
public import proofs.«01_k».proof.Proof.Output

@[expose] public section

noncomputable section

namespace Cert.FiniteMod

open Idealize.ShloMosaic Cert.Finite Cert.Output

/-- The precondition, unpacked. -/
theorem finite_of_pre (x : FVec Ideal Pre_finite_mod.S8x1024 .f32) (xc : FVec Ideal Pre_finite_mod.S1024 .f32)
    (w : FVec Ideal Pre_finite_mod.S1024x6144 .f32) (b : FVec Ideal Pre_finite_mod.S6144 .f32)
    (h : Pre_finite_mod.fn (F := Ideal) x xc w b = fun _ => 1#1) :
    (∀ i, Real' (x i)) ∧ (∀ i, Real' (xc i)) ∧ ∀ i, Real' (w i) := by
  have e := congrFun h (fun a => a.elim0)
  have one : ∀ j : Pre_finite_mod.S_.Idx, j = fun a => a.elim0 := fun j => funext fun a => a.elim0
  unfold Pre_finite_mod.fn at e
  obtain ⟨e, e2⟩ := and_one e
  obtain ⟨e0, e1⟩ := and_one e
  exact ⟨fun i => real_of_lt (reduce_and _ _ _ _ _ one e0 i), fun i => real_of_lt (reduce_and _ _ _ _ _ one e1 i),
    fun i => real_of_lt (reduce_and _ _ _ _ _ one e2 i)⟩

theorem below_nine : ∀ r : Fin 16, IntOp.cmpi .slt (BitVec.ofNat 32 r.val) 9#32 = 1#1 → r.val < 9 := by
  decide +kernel

/-- The mask selects rows of the conditioning only. -/
theorem row_of_on (x : FVec Ideal On_rows_conditioned.S8x1024 .f32) (xc : FVec Ideal On_rows_conditioned.S1024 .f32)
    (w : FVec Ideal On_rows_conditioned.S1024x6144 .f32) (b : FVec Ideal On_rows_conditioned.S6144 .f32)
    (i : On_rows_conditioned.S16x6144.Idx) (h : On_rows_conditioned.fn (F := Ideal) x xc w b i = 1#1) : (i 0).val < 9 :=
  below_nine (i 0) h

end Cert.FiniteMod
end
-- ==== Proof.ExpertsTables.lean ====
/-
  The experts' two tables: what their precondition says of them, and the arithmetic of the words read off them.
  `block_e n` is the expert of block `n`; `n_used` counts the blocks in use, which come first.
-/
module

public import proofs.«01_k».proof.Pre_valid
public import proofs.«01_k».proof.Proof.Gen.Pre_valid
public import proofs.«01_k».proof.Proof.AttnFinite
public import Idealize.ShloMosaic.Lib.WordCmp

@[expose] public section

noncomputable section

namespace Cert.Experts

open Idealize.ShloMosaic Cert.Finite

/-- The number a count's word stands for. -/
def used (w : BitVec 32) : ℕ := w.toInt.toNat

/-- A truth value's word is one exactly when it is true. -/
theorem ofBool_one {b : Bool} : BitVec.ofBool b = 1#1 ↔ b = true := by cases b <;> decide

/-- A word that is signed at least 0 and below 256 is below 256. -/
theorem word_lt {w : BitVec 32} (h0 : IntOp.cmpi .sge w 0#32 = 1#1) (h1 : IntOp.cmpi .slt w 256#32 = 1#1) : w.toNat < 256 := by
  simp only [IntOp.cmpi, ofBool_one, BitVec.slt, BitVec.sle, decide_eq_true_eq] at h0 h1
  have e0 : (0#32 : BitVec 32).toInt = 0 := by decide
  have e1 : (256#32 : BitVec 32).toInt = 256 := by decide
  rw [e0] at h0
  rw [e1] at h1
  rw [BitVec.toInt_eq_toNat_cond] at h0 h1
  split at h0 <;> omega

/-- A word that is signed at least 1 counts at least one block. -/
theorem used_pos {w : BitVec 32} (h : IntOp.cmpi .sge w 1#32 = 1#1) : 1 ≤ used w := by
  simp only [IntOp.cmpi, ofBool_one, BitVec.sle, decide_eq_true_eq] at h
  have e : (1#32 : BitVec 32).toInt = 1 := by decide
  rw [e] at h
  unfold used
  omega

/-- The precondition, unpacked: every block's expert is one of the 256, and some block is in use. -/
theorem tables_of_pre {F : FTy → Type} [FloatOps F] (x : FVec F Pre_valid.S163840x1x1024 .f32)
    (wg wu : FVec F Pre_valid.S256x1024x256 .f32) (wd : FVec F Pre_valid.S256x256x1024 .f32)
    (be : IVec Pre_valid.S1280 32) (nu : IVec Pre_valid.S1 32)
    (h : Pre_valid.fn (F := F) x wg wu wd be nu = fun _ => 1#1) :
    (∀ j, (be j).toNat < 256) ∧ ∀ j, 1 ≤ used (nu j) := by
  have e := congrFun h (fun a => a.elim0)
  have one : ∀ j : Pre_valid.S_.Idx, j = fun a => a.elim0 := fun j => funext fun a => a.elim0
  unfold Pre_valid.fn at e
  obtain ⟨e0, e1⟩ := and_one e
  refine ⟨fun j => ?_, fun j => ?_⟩
  · obtain ⟨a, b⟩ := and_one (reduce_and _ _ _ _ _ one e0 j)
    exact word_lt a b
  · have hj : ∀ k : Pre_valid.S1.Idx, k = j := fun k => funext fun a => Fin.ext (by
      have hk : (k a).val < 1 := by match a with | ⟨0, _⟩ => exact (k 0).isLt
      have hj : (j a).val < 1 := by match a with | ⟨0, _⟩ => exact (j 0).isLt
      omega)
    have e2 : IntOp.cmpi .sge (nu _) 1#32 = 1#1 := e1
    exact used_pos ((congrArg (fun k => IntOp.cmpi .sge (nu k) 1#32) (hj _)).symm.trans e2)

/-- The block of rows at point `i`: the `i`-th, or the last in use. -/
theorem block_word {i : ℕ} (hi : i < 1280) {w : BitVec 32} (hw : 1 ≤ used w) :
    (Scalar.minsi (BitVec.ofNat 32 i) (Scalar.subi w 1#32)).toNat = min i (used w - 1) := by
  have hi' : (BitVec.ofNat 32 i).toInt = i := by
    rw [BitVec.toInt_eq_toNat_cond, BitVec.toNat_ofNat]
    have : i % 2 ^ 32 = i := Nat.mod_eq_of_lt (by omega)
    rw [this, if_pos (by omega)]
  have hn : (BitVec.ofNat 32 i).toNat = i := by
    rw [BitVec.toNat_ofNat]; exact Nat.mod_eq_of_lt (by omega)
  unfold used at hw ⊢
  have hlt := BitVec.toInt_lt (x := w)
  have hs : (w - 1#32).toInt = w.toInt - 1 := by
    rw [BitVec.toInt_sub]
    have e : (1#32 : BitVec 32).toInt = 1 := by decide
    rw [e]
    apply Int.bmod_eq_of_le <;> omega
  have hsn : ((w - 1#32).toNat : ℤ) = w.toInt - 1 := by
    rw [BitVec.toInt_eq_toNat_cond (x := w - 1#32)] at hs
    have := (w - 1#32).isLt
    split at hs <;> omega
  show (IntOp.minsi _ (w - 1#32)).toNat = _
  unfold IntOp.minsi
  split <;> rename_i h
  all_goals simp only [BitVec.slt, BitVec.sle, decide_eq_true_eq, Bool.not_eq_true, decide_eq_false_iff_not] at h
  all_goals rw [hi', hs] at h
  all_goals omega

/-- The test a grid point makes: its block is in use. -/
theorem test_word {i : ℕ} (hi : i < 1280) (w : BitVec 32) :
    Scalar.cmpi .ne (Scalar.extui (Scalar.cmpi .slt (BitVec.ofNat 32 i) w) : BitVec 32) 0#32 = 1#1 ↔ i < used w := by
  have hi' : (BitVec.ofNat 32 i).toInt = i := by
    rw [BitVec.toInt_eq_toNat_cond, BitVec.toNat_ofNat]
    have : i % 2 ^ 32 = i := Nat.mod_eq_of_lt (by omega)
    rw [this, if_pos (by omega)]
  have key : (BitVec.ofNat 32 i).slt w = decide (i < used w) := by
    unfold BitVec.slt used
    rw [hi']
    congr 1
    exact propext (by omega)
  simp only [Scalar.cmpi, IntOp.cmpi, Scalar.extui, key]
  by_cases h : i < used w <;> simp [h] <;> decide

end Cert.Experts
end
-- ==== Proof.ExpBody.lean ====
/-
  What one grid point of the experts' kernel does: with its block in use it stores the block's expert's output, from the
  rows' block and the expert's three weights; else it stores nothing.
-/
module

public import proofs.«01_k».proof.Proof.ExpertsTables
public import proofs.«01_k».proof.Proof.Gen.Exp.Skeleton
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal

@[expose] public section

set_option maxRecDepth 16384

noncomputable section

namespace Cert.Exp.Experts

open Cert.Exp Cert.Exp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The program's resources. -/
abbrev Res := MT nD τ sig Unit (Elt Bits) ℕ (UR sig nD τ) ℕ

/-- The table of the blocks' experts, and the count of the blocks in use. -/
abbrev blockTable : Memref sig .tc .smem S1280 .i32 := Memref.whole main_arg4
abbrev countTable : Memref sig .tc .smem S1 .i32 := Memref.whole main_arg5

/-- The rectangles the body reads and stores: each a whole staging buffer. -/
abbrev rowsRect : Rect S128x1x1024 := Rect.unit (s := S128x1x1024) ![0, 0, 0] S128x1x1024.size inb_S128x1x1024_S128x1x1024_0_0_0
abbrev inRect : Rect S1x1024x256 := Rect.unit (s := S1x1024x256) ![0, 0, 0] S1x1024x256.size inb_S1x1024x256_S1x1024x256_0_0_0
abbrev outRect : Rect S1x256x1024 := Rect.unit (s := S1x256x1024) ![0, 0, 0] S1x256x1024.size inb_S1x256x1024_S1x256x1024_0_0_0

/-- The block of results, from the block of rows and the expert's three weights. -/
def result (x : S128x1x1024.Idx → Elt Bits .f32) (g u : S1x1024x256.Idx → Elt Bits .f32) (d : S1x256x1024.Idx → Elt Bits .f32) :
    S128x1x1024.Idx → Elt Bits .f32 :=
  View.canon [(⟨rowsRect, k0_pay1 (View.ld x rowsRect) (View.ld g inRect) (View.ld u inRect) (View.ld d outRect)⟩ :
    View.Piece (Elt Bits) S128x1x1024 .f32)]

/-- The one store covers the block. -/
theorem result_cover (p : rowsRect.shape.Idx → Elt Bits .f32) (y : S128x1x1024.Idx) :
    ∃ pc ∈ [(⟨rowsRect, p⟩ : View.Piece (Elt Bits) S128x1x1024 .f32)], y ∈ pc.1.set :=
  View.cover_of_tiled [⟨rowsRect, p⟩] S128x1x1024.size (by rfl) y

/-- The count the body reads. -/
abbrev count (T : S1.Idx → Elt Bits .i32) : BitVec 32 :=
  View.readAt (Elt Bits) countTable.view (Rect.unit (s := S1) ![0] S1.size inb_S1_S1_0).toLoadRect T
    (Shape.Idx.first (numel1_S1.symm ▸ Nat.one_pos))

section
variable (c : Dev nD) (i : grid0.Coords) (a3 : Memref sig .tc .vmem S128x1x1024 .f32) (w3 : a3.IsWhole)
  (a4 : Memref sig .tc .vmem S1x1024x256 .f32) (w4 : a4.IsWhole) (a5 : Memref sig .tc .vmem S1x1024x256 .f32) (w5 : a5.IsWhole)
  (a6 : Memref sig .tc .vmem S1x256x1024 .f32) (w6 : a6.IsWhole) (a7 : Memref sig .tc .vmem S128x1x1024 .f32) (w7 : a7.IsWhole)
  (T0 : S1280.Idx → Elt Bits .i32) (T1 : S1.Idx → Elt Bits .i32)
  (x0 : S128x1x1024.Idx → Elt Bits .f32) (x1 x2 : S1x1024x256.Idx → Elt Bits .f32) (x3 : S1x256x1024.Idx → Elt Bits .f32)

set_option maxHeartbeats 4000000 in
/-- A point whose block is in use leaves the block's results, all else as it was. -/
theorem run_used (h : k0_cond1 i (count T1) = 1#1) (K : PUnit → sProp Res) :
    iprop(owns (c : Thread nD τ) a3 fullShare x0 ∗ owns (c : Thread nD τ) a4 fullShare x1
        ∗ owns (c : Thread nD τ) a5 fullShare x2 ∗ owns (c : Thread nD τ) a6 fullShare x3
        ∗ (blockTable.view.loc (c : Thread nD τ) ↦{fullShare.right} T0)
        ∗ (countTable.view.loc (c : Thread nD τ) ↦{fullShare.right} T1)
        ∗ (∃ d, owns (c : Thread nD τ) a7 fullShare d)
        ∗ (iprop(owns (c : Thread nD τ) a3 fullShare x0 ∗ owns (c : Thread nD τ) a4 fullShare x1
            ∗ owns (c : Thread nD τ) a5 fullShare x2 ∗ owns (c : Thread nD τ) a6 fullShare x3
            ∗ (blockTable.view.loc (c : Thread nD τ) ↦{fullShare.right} T0)
            ∗ (countTable.view.loc (c : Thread nD τ) ↦{fullShare.right} T1)
            ∗ owns (c : Thread nD τ) a7 fullShare (result x0 x1 x2 x3)) -∗ K ⟨⟩))
      ⊢ wp frame (wpE (defs₀ (F := Bits)) Variants.none c none) Set.univ
          (cc0_experts i blockTable (Memref.isWhole_whole _) countTable (Memref.isWhole_whole _) a3 w3 a4 w4 a5 w5 a6 w6 a7 w7) K := by
  rw [cc0_experts_eq_skeleton]; unfold cc0_experts_skel owns
  iintro ⟨⟨%f0, %e0, H0⟩, ⟨%f1, %e1, H1⟩, ⟨%f2, %e2, H2⟩, ⟨%f3, %e3, H3⟩, HT0, HT1, ⟨%d4, %f4, -, H4⟩, Hk⟩
  subst e0; subst e1; subst e2; subst e3
  have hT0 : blockTable.IsWhole := Memref.isWhole_whole _
  have hT1 : countTable.IsWhole := Memref.isWhole_whole _
  sl_exec! (disch := first | (guard_target = k0_cond1 _ _ = _; exact h))
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [HT0]; · iexact HT0
  isplitl [HT1]; · iexact HT1
  iexists _; isplitr; swap
  · iexact H4
  ipureintro
  refine (View.read_writes_eq_canon _ _ _ (result_cover _)).trans ?_
  rfl

set_option maxHeartbeats 4000000 in
/-- A point whose block is not in use changes nothing. -/
theorem run_unused (h : k0_cond1 i (count T1) ≠ 1#1) (K : PUnit → sProp Res) :
    iprop((countTable.view.loc (c : Thread nD τ) ↦{fullShare.right} T1)
        ∗ ((countTable.view.loc (c : Thread nD τ) ↦{fullShare.right} T1) -∗ K ⟨⟩))
      ⊢ wp frame (wpE (defs₀ (F := Bits)) Variants.none c none) Set.univ
          (cc0_experts i blockTable (Memref.isWhole_whole _) countTable (Memref.isWhole_whole _) a3 w3 a4 w4 a5 w5 a6 w6 a7 w7) K := by
  rw [cc0_experts_eq_skeleton]; unfold cc0_experts_skel
  iintro ⟨HT1, Hk⟩
  have hT1 : countTable.IsWhole := Memref.isWhole_whole _
  sl_exec! (disch := first | (guard_target = ¬ k0_cond1 _ _ = _; exact h))
  sl_step
  iapply Hk
  iexact HT1
end

end Cert.Exp.Experts
end
-- ==== Proof.ExpFrame.lean ====
/-
  The experts' kernel run from any tables the precondition admits: every execution terminates, the arguments end
  unchanged, and the results' array ends at what the points' write-backs leave.
-/
module

public import proofs.«01_k».proof.Proof.ExpSchedule
public import Idealize.ShloMosaic.Lib.Pipeline.Quiescent
public import Idealize.ShloMosaic.Lib.Claim
public import Idealize.ShloMosaic.Lib.Pipeline.Kit
public import Idealize.ShloMosaic.Adequacy
public import Idealize.ShloMosaic.Init

@[expose] public section

set_option maxRecDepth 16384

noncomputable section

namespace Cert.Exp.Experts

open Cert.Exp Cert.Exp.Gen Cert.Experts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {be : S1280.Idx → BitVec 32} {nu : S1.Idx → BitVec 32} (v : Valid be nu)
variable (m : (ℓ : Loc nD τ sig) → Buf (Elt Bits) ℓ) (ρ : Dev nD → PrngReg)

/-- The launch memory's tables are these. -/
def Pinned (be : S1280.Idx → BitVec 32) (nu : S1.Idx → BitVec 32) (m : (ℓ : Loc nD τ sig) → Buf (Elt Bits) ℓ) : Prop :=
  ∀ c : Dev nD, m ((c : Thread nD τ).loc main_arg4) = be ∧ m ((c : Thread nD τ).loc main_arg5) = nu

/-! ## What the windows hold -/

/-- Window `w`'s block at point `t`, read off its array at launch. -/
def block (c : Dev nD) (w : Fin (cfg v).W) (t : Fin (cfg v).N) :
    (((cfg v).win w).xblock ((cfg v).grid.coords t)).Idx → Elt Bits ((cfg v).win w).elt :=
  (((cfg v).win w).blk t).view.read (Elt Bits) ((s₀ m ρ).mem (((cfg v).win w).arr.view.loc (c : Thread nD τ)))

/-- The results of point `t`'s blocks. -/
def resultAt (c : Dev nD) (t : Fin (cfg v).N) : S128x1x1024.Idx → Elt Bits .f32 :=
  result (block v m ρ c (0 : Fin 5) t) (block v m ρ c (1 : Fin 5) t) (block v m ρ c (2 : Fin 5) t) (block v m ρ c (3 : Fin 5) t)

/-- The point that stored what the results' buffer holds after point `t`: `t`, or the last whose block is in use. -/
def source (t : Fin (cfg v).N) : Fin (cfg v).N := ⟨min t.val (blocks nu - 1), by have := t.isLt; omega⟩

/-- What the results' buffer holds after point `t`. -/
@[irreducible] def stored (c : Dev nD) (t : Fin (cfg v).N) : S128x1x1024.Idx → Elt Bits .f32 := resultAt v m ρ c (source v t)

theorem stored_eq {t u : Fin (cfg v).N} (h : source v t = source v u) (c : Dev nD) : stored v m ρ c t = stored v m ρ c u := by
  unfold stored; rw [h]

/-- Past the last block in use, the buffer's source stays. -/
theorem source_idle (t : Fin (cfg v).N) (ht : t.val ≠ 0) (h : blocks nu ≤ t.val) :
    source v t = source v ⟨t.val - 1, by have := t.isLt; omega⟩ := by
  unfold source
  apply Fin.ext
  show min t.val (blocks nu - 1) = min (t.val - 1) (blocks nu - 1)
  omega

/-- What the body keeps between points: its halves of the tables. -/
def Phi (_ : Valid be nu) (c : Dev nD) : sProp Res :=
  iprop((blockTable.view.loc (c : Thread nD τ) ↦{fullShare.right} be) ∗ (countTable.view.loc (c : Thread nD τ) ↦{fullShare.right} nu))

/-- The pipeline's proof data on core `c`. -/
def dats (_ : Fin 1) (c : Dev nD) : Dat τ (Elt Bits) Unit ℕ (UR sig nD τ) ℕ (cfg v) c where
  A w := (s₀ m ρ).mem (((cfg v).win w).arr.view.loc (c : Thread nD τ))
  after w t := match w with
    | ⟨0, _⟩ => block v m ρ c (0 : Fin 5) t
    | ⟨1, _⟩ => block v m ρ c (1 : Fin 5) t
    | ⟨2, _⟩ => block v m ρ c (2 : Fin 5) t
    | ⟨3, _⟩ => block v m ρ c (3 : Fin 5) t
    | ⟨4, _⟩ => stored v m ρ c t
  Φ _ := Phi v c
  q _ := fullShare
  owed _ := 0

theorem after_0 (c : Dev nD) (t : Fin (cfg v).N) : (dats v m ρ 0 c).after (0 : Fin 5) t = block v m ρ c (0 : Fin 5) t := rfl
theorem after_1 (c : Dev nD) (t : Fin (cfg v).N) : (dats v m ρ 0 c).after (1 : Fin 5) t = block v m ρ c (1 : Fin 5) t := rfl
theorem after_2 (c : Dev nD) (t : Fin (cfg v).N) : (dats v m ρ 0 c).after (2 : Fin 5) t = block v m ρ c (2 : Fin 5) t := rfl
theorem after_3 (c : Dev nD) (t : Fin (cfg v).N) : (dats v m ρ 0 c).after (3 : Fin 5) t = block v m ρ c (3 : Fin 5) t := rfl
theorem after_4 (c : Dev nD) (t : Fin (cfg v).N) : (dats v m ρ 0 c).after (4 : Fin 5) t = stored v m ρ c t := rfl

theorem before_0 (c : Dev nD) (t : Fin (cfg v).N) (d) : (dats v m ρ 0 c).before (0 : Fin 5) t d = block v m ρ c (0 : Fin 5) t :=
  ((dats v m ρ 0 c).before_in_eq_fetched (0 : Fin 5) rfl (fun _ => rfl) (fun _ _ _ => rfl) (fun t => by rw [after_0]; unfold Dat.blockOf block; rfl) t d).trans
    (by unfold Dat.fetched Dat.blockOf block; rfl)
theorem before_1 (c : Dev nD) (t : Fin (cfg v).N) (d) : (dats v m ρ 0 c).before (1 : Fin 5) t d = block v m ρ c (1 : Fin 5) t :=
  ((dats v m ρ 0 c).before_in_eq_fetched (1 : Fin 5) rfl (fun _ => rfl) (fun _ _ _ => rfl) (fun t => by rw [after_1]; unfold Dat.blockOf block; rfl) t d).trans
    (by unfold Dat.fetched Dat.blockOf block; rfl)
theorem before_2 (c : Dev nD) (t : Fin (cfg v).N) (d) : (dats v m ρ 0 c).before (2 : Fin 5) t d = block v m ρ c (2 : Fin 5) t :=
  ((dats v m ρ 0 c).before_in_eq_fetched (2 : Fin 5) rfl (fun _ => rfl) (fun _ _ _ => rfl) (fun t => by rw [after_2]; unfold Dat.blockOf block; rfl) t d).trans
    (by unfold Dat.fetched Dat.blockOf block; rfl)
theorem before_3 (c : Dev nD) (t : Fin (cfg v).N) (d) : (dats v m ρ 0 c).before (3 : Fin 5) t d = block v m ρ c (3 : Fin 5) t :=
  ((dats v m ρ 0 c).before_in_eq_fetched (3 : Fin 5) rfl (fun _ => rfl) (fun _ _ _ => rfl) (fun t => by rw [after_3]; unfold Dat.blockOf block; rfl) t d).trans
    (by unfold Dat.fetched Dat.blockOf block; rfl)

theorem carry_4 (c : Dev nD) : ∀ (t : Fin (cfg v).N) (ht : t.val ≠ 0), (cfg v).idle (4 : Fin 5) ((cfg v).grid.coords t) = true → (cfg v).fresh (4 : Fin 5) t.val = false →
    (dats v m ρ 0 c).after (4 : Fin 5) t = (dats v m ρ 0 c).after (4 : Fin 5) ⟨t.val - 1, by omega⟩ := by
  intro t ht hi _
  rw [out_idle] at hi
  exact stored_eq v m ρ (source_idle v t ht (of_decide_eq_true hi)) c

/-- Before a point past the last block in use, the results' buffer holds what it holds after it. -/
theorem before_4 (c : Dev nD) (t : Fin (cfg v).N) (h : blocks nu ≤ t.val) (d) :
    (dats v m ρ 0 c).before (4 : Fin 5) t d = stored v m ρ c t := by
  have hp := blocks_pos v
  have h0 : t.val ≠ 0 := by omega
  rw [(dats v m ρ 0 c).before_out_traj (4 : Fin 5) rfl (fun _ _ => rfl) (carry_4 v m ρ c) t.val t rfl d, out_fresh,
    decide_eq_false (by omega), if_neg Bool.false_ne_true]
  exact (stored_eq v m ρ (source_idle v t h0 h) c).symm

/-! ## The body at a point -/

abbrev st_0 (t : Fin (cfg v).N) : Memref sig .tc .vmem S128x1x1024 .f32 := spec0_0.stage ((cfg v).slots t (0 : Fin 5))
abbrev st_1 (t : Fin (cfg v).N) : Memref sig .tc .vmem S1x1024x256 .f32 := spec0_1.stage ((cfg v).slots t (1 : Fin 5))
abbrev st_2 (t : Fin (cfg v).N) : Memref sig .tc .vmem S1x1024x256 .f32 := spec0_2.stage ((cfg v).slots t (2 : Fin 5))
abbrev st_3 (t : Fin (cfg v).N) : Memref sig .tc .vmem S1x256x1024 .f32 := spec0_3.stage ((cfg v).slots t (3 : Fin 5))
abbrev st_4 (t : Fin (cfg v).N) : Memref sig .tc .vmem S128x1x1024 .f32 := spec0_4.stage ((cfg v).slots t (4 : Fin 5))

/-- The body at point `t`, as the pipeline calls it. -/
abbrev bodyAt (t : Fin (cfg v).N) : Prog (TpuEff nD τ sig (Elt Bits) Λ₀ .tc) PUnit :=
  cc0_experts ((cfg v).grid.coords t) blockTable (Memref.isWhole_whole _) countTable (Memref.isWhole_whole _)
    (st_0 v t) (hstage0_0 (((cfg v).slots t (0 : Fin 5)).cast nbuf0_0)) (st_1 v t) (hstage0_1 (((cfg v).slots t (1 : Fin 5)).cast nbuf0_1))
    (st_2 v t) (hstage0_2 (((cfg v).slots t (2 : Fin 5)).cast nbuf0_2)) (st_3 v t) (hstage0_3 (((cfg v).slots t (3 : Fin 5)).cast nbuf0_3))
    (st_4 v t) (hstage0_4 (((cfg v).slots t (4 : Fin 5)).cast nbuf0_4))

theorem test_at (t : Fin (cfg v).N) : k0_cond1 ((cfg v).grid.coords t) (count nu) = 1#1 ↔ t.val < blocks nu := by
  have h := cond_iff (nu := nu) (grid0.coords t) sole
  rw [coord t] at h
  have e : count nu = nu sole := congrArg nu (one_entry _ _)
  rw [e]
  exact h

set_option maxHeartbeats 4000000 in
/-- The body's obligation at point `t`. -/
theorem sound_body (c : Dev nD) (t : Fin (cfg v).N) :
    iprop((dats v m ρ 0 c).Φ t.castSucc ∗ (dats v m ρ 0 c).owesAt () t.castSucc
        ∗ (∃ d, owns (c : Thread nD τ) (st_0 v t) fullShare ((dats v m ρ 0 c).before (0 : Fin 5) t d))
        ∗ (∃ d, owns (c : Thread nD τ) (st_1 v t) fullShare ((dats v m ρ 0 c).before (1 : Fin 5) t d))
        ∗ (∃ d, owns (c : Thread nD τ) (st_2 v t) fullShare ((dats v m ρ 0 c).before (2 : Fin 5) t d))
        ∗ (∃ d, owns (c : Thread nD τ) (st_3 v t) fullShare ((dats v m ρ 0 c).before (3 : Fin 5) t d))
        ∗ (∃ d, owns (c : Thread nD τ) (st_4 v t) fullShare ((dats v m ρ 0 c).before (4 : Fin 5) t d)))
      ⊢ wp frame (wpE (defs₀ (F := Bits)) Variants.none c none) Set.univ (bodyAt v t) fun _ =>
          iprop((dats v m ρ 0 c).Φ t.succ ∗ (dats v m ρ 0 c).owesAt () t.succ
            ∗ bigSep Finset.univ fun w : Fin (cfg v).W =>
                match (cfg v).idle w ((cfg v).grid.coords t) with
                | true =>
                  match ((cfg v).win w).flush t with
                  | false => iprop(∃ d, owns (c : Thread nD τ) (((cfg v).win w).stage ((cfg v).slots t w)) fullShare ((dats v m ρ 0 c).before w t d))
                  | true => owns (c : Thread nD τ) (((cfg v).win w).stage ((cfg v).slots t w)) fullShare ((dats v m ρ 0 c).after w t)
                | false => owns (c : Thread nD τ) (((cfg v).win w).stage ((cfg v).slots t w)) fullShare ((dats v m ρ 0 c).after w t)) := by
  rw [bigSep_W0]
  have hi := out_idle v t
  rewrite [show (dats v m ρ 0 c).Φ t.succ = Phi v c from rfl, show (dats v m ρ 0 c).Φ t.castSucc = Phi v c from rfl,
    show (dats v m ρ 0 c).owesAt () t.succ = (dats v m ρ 0 c).owesAt () t.castSucc from rfl]
  unfold Phi
  by_cases ht : t.val < blocks nu
  · rw [decide_eq_false (by omega)] at hi
    rewrite [hi]
    have hs : source v t = t := Fin.ext (by show min t.val (blocks nu - 1) = t.val; omega)
    have hr : stored v m ρ c t = resultAt v m ρ c t := by unfold stored; rw [hs]
    simp only [before_0, before_1, before_2, before_3, after_0, after_1, after_2, after_3, after_4, hr]
    unfold resultAt
    iintro ⟨⟨HT0, HT1⟩, Ho, ⟨%d0, H0⟩, ⟨%d1, H1⟩, ⟨%d2, H2⟩, ⟨%d3, H3⟩, ⟨%d4, H4⟩⟩
    iapply (run_used c ((cfg v).grid.coords t) (st_0 v t) _ (st_1 v t) _ (st_2 v t) _ (st_3 v t) _ (st_4 v t) _ be nu
      (block v m ρ c (0 : Fin 5) t) (block v m ρ c (1 : Fin 5) t) (block v m ρ c (2 : Fin 5) t) (block v m ρ c (3 : Fin 5) t) ((test_at v t).2 ht) _)
    isplitl [H0]; · iexact H0
    isplitl [H1]; · iexact H1
    isplitl [H2]; · iexact H2
    isplitl [H3]; · iexact H3
    isplitl [HT0]; · iexact HT0
    isplitl [HT1]; · iexact HT1
    isplitl [H4]; · iexists _; iexact H4
    iintro ⟨H0, H1, H2, H3, HT0, HT1, H4⟩
    isplitl [HT0 HT1]
    · isplitl [HT0]
      · iexact HT0
      iexact HT1
    isplitl [Ho]; · iexact Ho
    isplitl [H0]; · iexact H0
    isplitl [H1]; · iexact H1
    isplitl [H2]; · iexact H2
    isplitl [H3]; · iexact H3
    iexact H4
  · rw [decide_eq_true (by omega)] at hi
    rewrite [hi]
    simp only [before_0, before_1, before_2, before_3, after_0, after_1, after_2, after_3, after_4, before_4 v m ρ c t (Nat.le_of_not_lt ht)]
    iintro ⟨⟨HT0, HT1⟩, Ho, ⟨%d0, H0⟩, ⟨%d1, H1⟩, ⟨%d2, H2⟩, ⟨%d3, H3⟩, ⟨%d4, H4⟩⟩
    iapply (run_unused c ((cfg v).grid.coords t) (st_0 v t) _ (st_1 v t) _ (st_2 v t) _ (st_3 v t) _ (st_4 v t) _ nu
      (fun h => ht ((test_at v t).1 h)) _)
    isplitl [HT1]; · iexact HT1
    iintro HT1
    isplitl [HT0 HT1]
    · isplitl [HT0]
      · iexact HT0
      iexact HT1
    isplitl [Ho]; · iexact Ho
    isplitl [H0]; · iexact H0
    isplitl [H1]; · iexact H1
    isplitl [H2]; · iexact H2
    isplitl [H3]; · iexact H3
    cases hf : ((cfg v).win (4 : Fin 5)).flush t with
    | true => iexact H4
    | false => iexists d4; iexact H4

/-- The obligation at every point. -/
theorem body_obligation (c : Dev nD) : BodyObligation (dats v m ρ 0 c) (defs₀ (F := Bits)) Variants.none () Set.univ := fun t => by
  rw [bigSep_W0]
  exact sound_body v m ρ c t

/-! ## The launch -/

/-- The launch's resources. -/
def u₀ : UR sig nD τ :=
  initOf (Pipeline.cells (pcs v) ((launch0 (F := Bits)).cellOf_inj fun _ => adm v))
    (Pipeline.launchToks (pcs v) ((launch0 (F := Bits)).cellOf_inj fun _ => adm v))

theorem share_eq (c : Dev nD) (w : Fin (cfg v).W) : (dats v m ρ 0 c).share w = fullShare := by unfold Dat.share; split <;> rfl

/-- The tables as the launch hands them over, one by one. -/
theorem held_eq (c : Dev nD) (q : Fin 2 → PosShare TreeShare) (V : pre0.Contents (Elt Bits)) :
    (Pipeline.prefHeld (Ix := Unit) (Name := ℕ) (U := UR sig nD τ) (Lvl := ℕ) pre0 c q V : sProp Res)
      = iprop((((c : Thread nD τ).loc main_arg4) ↦{q 0} V 0) ∗ (((c : Thread nD τ).loc main_arg5) ↦{q 1} V 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) (adm v).1 ∗ Pipeline.scopedRest spec0 c) ⊢ (dats v m ρ 0 c).Φ 0 := by
  rw [held_eq, scopedRest0_eq, show (dats v m ρ 0 c).Φ 0 = Phi v c from rfl]
  unfold Phi
  iintro ⟨-, ⟨HT0, HT1⟩, -⟩
  isplitl [HT0]
  · iexact HT0
  iexact HT1

theorem leave (c : Dev nD) : (dats v m ρ 0 c).Φ (Fin.last (cfg v).N) ⊢ iprop(BI.emp ∗ Pipeline.scopedRest spec0 c) := by
  rw [scopedRest0_eq, show (dats v m ρ 0 c).Φ (Fin.last (cfg v).N) = Phi v c from rfl]
  unfold Phi
  iintro ⟨-, -⟩
  isplitr; · iempintro
  iempintro

/-- The final states: each array at what the write-backs leave, each table as it was. -/
def Final : PUnit × MemSt nD τ sig (Elt Bits) → Prop := fun r =>
  ∀ c : Dev nD, (∀ w : Fin (cfg v).W, r.2.mem (((cfg v).win w).arr.view.loc (c : Thread nD τ)) = (dats v m ρ 0 c).arrAt w (cfg v).N)
    ∧ ∀ j, r.2.mem ((c : Thread nD τ).loc (pre0.ref j)) = (adm v).1 j

variable {m}

theorem pinned_at (hp : Pinned be nu m) (c : Dev nD) (j : Fin 2) : m ((c : Thread nD τ).loc (pre0.ref j)) = (adm v).1 j := by
  fin_cases j
  · exact (hp c).1
  · exact (hp c).2

set_option backward.isDefEq.respectTransparency.types false in
set_option maxHeartbeats 4000000 in
/-- Every execution terminates, at such a state, its semaphores at zero. -/
theorem run_quiescent (hp : Pinned be nu m) :
    θ_run (defs (F := Bits)) (onTc (τ := τ) (main (F := Bits))) (s₀ m ρ) (fun r => Final v m ρ r ∧ r.2.sem = fun _ => 0) :=
  Pipeline.θ_run_region_noSem_pf_quiescent pcfgs (fun _ => adm v) (dats v m ρ) () ((launch0 (F := Bits)).cellOf_inj fun _ => adm v) (0 : Fin 1)
    (launch0 (F := Bits)).win.to₀ (launch0 (F := Bits)).pre emb₁ defs₀ Variants.none m ρ main
    (hbody := fun c => (body_obligation v m ρ c).loose) (hne := (launch0 (F := Bits)).block_pos)
    (harr := (launch0 (F := Bits)).arr_whole) (hstage := (launch0 (F := Bits)).stage_whole) (howed := fun _ _ => rfl)
    (u₀ := u₀ v) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs v) (dats v m ρ) 0 (launch0 (F := Bits)).win.arr_inj c (launch0 (F := Bits)).arr_whole
      (share_eq v m ρ c) _ _ fun _ => rfl)
    (hpf := pinned_at v hp)
    (X := fun _ => iprop(emp)) (Y := fun _ => iprop(emp)) (Z := fun _ => iprop(emp))
    (hX := fun c => by rw [unscopedRestP0_eq]; iintro -; isplitr <;> iempintro)
    (hin := enter v m ρ)
    (hout := leave v m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every final state has the results' array at what the write-backs leave, and the arguments unchanged. -/
theorem run_result (hp : Pinned be nu m) :
    θ_run (defs (F := Bits)) (onTc (τ := τ) (main (F := Bits))) ⟨m, fun _ => 0, ρ⟩ (fun r => (∀ c : Dev nD,
      r.2.mem ((c.tc : Thread nD τ).loc main_v0) = (dats v m ρ 0 c).arrAt (4 : Fin 5) (cfg v).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5),
    ((h.1 c).1 (0 : Fin 5)).trans ((dats v m ρ 0 c).arrAt_in (0 : Fin 5) rfl _),
    ((h.1 c).1 (1 : Fin 5)).trans ((dats v m ρ 0 c).arrAt_in (1 : Fin 5) rfl _),
    ((h.1 c).1 (2 : Fin 5)).trans ((dats v m ρ 0 c).arrAt_in (2 : Fin 5) rfl _),
    ((h.1 c).1 (3 : Fin 5)).trans ((dats v m ρ 0 c).arrAt_in (3 : Fin 5) rfl _),
    ((h.1 c).2 0).trans (hp c).1.symm, ((h.1 c).2 1).trans (hp c).2.symm⟩, h.2⟩) (run_quiescent v ρ hp)

end Cert.Exp.Experts
end
-- ==== Proof.ExpIdealBody.lean ====
/-
  What one grid point of the experts' kernel does: with its block in use it stores the block's expert's output, from the
  rows' block and the expert's three weights; else it stores nothing.
-/
module

public import proofs.«01_k».proof.Proof.ExpertsTables
public import proofs.«01_k».proof.Proof.Gen.ExpIdeal.Skeleton
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal

@[expose] public section

set_option maxRecDepth 16384

noncomputable section

namespace Cert.ExpIdeal.Experts

open Cert.ExpIdeal Cert.ExpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The program's resources. -/
abbrev Res := MT nD τ sig Unit (Elt Ideal) ℕ (UR sig nD τ) ℕ

/-- The table of the blocks' experts, and the count of the blocks in use. -/
abbrev blockTable : Memref sig .tc .smem S1280 .i32 := Memref.whole main_arg4
abbrev countTable : Memref sig .tc .smem S1 .i32 := Memref.whole main_arg5

/-- The rectangles the body reads and stores: each a whole staging buffer. -/
abbrev rowsRect : Rect S128x1x1024 := Rect.unit (s := S128x1x1024) ![0, 0, 0] S128x1x1024.size inb_S128x1x1024_S128x1x1024_0_0_0
abbrev inRect : Rect S1x1024x256 := Rect.unit (s := S1x1024x256) ![0, 0, 0] S1x1024x256.size inb_S1x1024x256_S1x1024x256_0_0_0
abbrev outRect : Rect S1x256x1024 := Rect.unit (s := S1x256x1024) ![0, 0, 0] S1x256x1024.size inb_S1x256x1024_S1x256x1024_0_0_0

/-- The block of results, from the block of rows and the expert's three weights. -/
def result (x : S128x1x1024.Idx → Elt Ideal .f32) (g u : S1x1024x256.Idx → Elt Ideal .f32) (d : S1x256x1024.Idx → Elt Ideal .f32) :
    S128x1x1024.Idx → Elt Ideal .f32 :=
  View.canon [(⟨rowsRect, k0_pay1 (View.ld x rowsRect) (View.ld g inRect) (View.ld u inRect) (View.ld d outRect)⟩ :
    View.Piece (Elt Ideal) S128x1x1024 .f32)]

/-- The one store covers the block. -/
theorem result_cover (p : rowsRect.shape.Idx → Elt Ideal .f32) (y : S128x1x1024.Idx) :
    ∃ pc ∈ [(⟨rowsRect, p⟩ : View.Piece (Elt Ideal) S128x1x1024 .f32)], y ∈ pc.1.set :=
  View.cover_of_tiled [⟨rowsRect, p⟩] S128x1x1024.size (by rfl) y

/-- The count the body reads. -/
abbrev count (T : S1.Idx → Elt Ideal .i32) : BitVec 32 :=
  View.readAt (Elt Ideal) countTable.view (Rect.unit (s := S1) ![0] S1.size inb_S1_S1_0).toLoadRect T
    (Shape.Idx.first (numel1_S1.symm ▸ Nat.one_pos))

section
variable (c : Dev nD) (i : grid0.Coords) (a3 : Memref sig .tc .vmem S128x1x1024 .f32) (w3 : a3.IsWhole)
  (a4 : Memref sig .tc .vmem S1x1024x256 .f32) (w4 : a4.IsWhole) (a5 : Memref sig .tc .vmem S1x1024x256 .f32) (w5 : a5.IsWhole)
  (a6 : Memref sig .tc .vmem S1x256x1024 .f32) (w6 : a6.IsWhole) (a7 : Memref sig .tc .vmem S128x1x1024 .f32) (w7 : a7.IsWhole)
  (T0 : S1280.Idx → Elt Ideal .i32) (T1 : S1.Idx → Elt Ideal .i32)
  (x0 : S128x1x1024.Idx → Elt Ideal .f32) (x1 x2 : S1x1024x256.Idx → Elt Ideal .f32) (x3 : S1x256x1024.Idx → Elt Ideal .f32)

set_option maxHeartbeats 4000000 in
/-- A point whose block is in use leaves the block's results, all else as it was. -/
theorem run_used (h : k0_cond1 i (count T1) = 1#1) (K : PUnit → sProp Res) :
    iprop(owns (c : Thread nD τ) a3 fullShare x0 ∗ owns (c : Thread nD τ) a4 fullShare x1
        ∗ owns (c : Thread nD τ) a5 fullShare x2 ∗ owns (c : Thread nD τ) a6 fullShare x3
        ∗ (blockTable.view.loc (c : Thread nD τ) ↦{fullShare.right} T0)
        ∗ (countTable.view.loc (c : Thread nD τ) ↦{fullShare.right} T1)
        ∗ (∃ d, owns (c : Thread nD τ) a7 fullShare d)
        ∗ (iprop(owns (c : Thread nD τ) a3 fullShare x0 ∗ owns (c : Thread nD τ) a4 fullShare x1
            ∗ owns (c : Thread nD τ) a5 fullShare x2 ∗ owns (c : Thread nD τ) a6 fullShare x3
            ∗ (blockTable.view.loc (c : Thread nD τ) ↦{fullShare.right} T0)
            ∗ (countTable.view.loc (c : Thread nD τ) ↦{fullShare.right} T1)
            ∗ owns (c : Thread nD τ) a7 fullShare (result x0 x1 x2 x3)) -∗ K ⟨⟩))
      ⊢ wp frame (wpE (defs₀ (F := Ideal)) Variants.none c none) Set.univ
          (cc0_experts i blockTable (Memref.isWhole_whole _) countTable (Memref.isWhole_whole _) a3 w3 a4 w4 a5 w5 a6 w6 a7 w7) K := by
  rw [cc0_experts_eq_skeleton]; unfold cc0_experts_skel owns
  iintro ⟨⟨%f0, %e0, H0⟩, ⟨%f1, %e1, H1⟩, ⟨%f2, %e2, H2⟩, ⟨%f3, %e3, H3⟩, HT0, HT1, ⟨%d4, %f4, -, H4⟩, Hk⟩
  subst e0; subst e1; subst e2; subst e3
  have hT0 : blockTable.IsWhole := Memref.isWhole_whole _
  have hT1 : countTable.IsWhole := Memref.isWhole_whole _
  sl_exec! (disch := first | (guard_target = k0_cond1 _ _ = _; exact h))
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [HT0]; · iexact HT0
  isplitl [HT1]; · iexact HT1
  iexists _; isplitr; swap
  · iexact H4
  ipureintro
  refine (View.read_writes_eq_canon _ _ _ (result_cover _)).trans ?_
  rfl

set_option maxHeartbeats 4000000 in
/-- A point whose block is not in use changes nothing. -/
theorem run_unused (h : k0_cond1 i (count T1) ≠ 1#1) (K : PUnit → sProp Res) :
    iprop((countTable.view.loc (c : Thread nD τ) ↦{fullShare.right} T1)
        ∗ ((countTable.view.loc (c : Thread nD τ) ↦{fullShare.right} T1) -∗ K ⟨⟩))
      ⊢ wp frame (wpE (defs₀ (F := Ideal)) Variants.none c none) Set.univ
          (cc0_experts i blockTable (Memref.isWhole_whole _) countTable (Memref.isWhole_whole _) a3 w3 a4 w4 a5 w5 a6 w6 a7 w7) K := by
  rw [cc0_experts_eq_skeleton]; unfold cc0_experts_skel
  iintro ⟨HT1, Hk⟩
  have hT1 : countTable.IsWhole := Memref.isWhole_whole _
  sl_exec! (disch := first | (guard_target = ¬ k0_cond1 _ _ = _; exact h))
  sl_step
  iapply Hk
  iexact HT1
end

end Cert.ExpIdeal.Experts
end
-- ==== Proof.ExpIdealSchedule.lean ====
/-
  The experts' grid at any tables the precondition admits: which blocks each point reads and writes, when the results'
  block is written back, and when its staging buffer holds nothing of the kernel's. With `n` blocks in use, point `i`
  works on rows' block `min i (n - 1)`, so the points past the last block in use stay on it and store nothing.
-/
module

public import proofs.«01_k».proof.Proof.ExpIdealBody
public import proofs.«01_k».proof.Proof.Gen.ExpIdeal.Launch

@[expose] public section

set_option maxRecDepth 16384

noncomputable section

namespace Cert.ExpIdeal.Experts

open Cert.ExpIdeal Cert.ExpIdeal.Gen Cert.Experts
open Idealize.ShloMosaic Idealize.ShloMosaic.TcCoe Idealize.ShloMosaic.Tactic
open Idealize.ShloMosaic.Pipeline (Dat Cfg Window)

/-- Point `t`'s coordinate is `t`. -/
theorem coord : ∀ t : Fin grid0.N, (grid0.coords t 0).val = t.val := by decide +kernel

/-- The count's table has one entry. -/
theorem one_entry (j k : S1.Idx) : j = k := funext fun a => Fin.ext (by
  have hj : (j a).val < 1 := by match a with | ⟨0, _⟩ => exact (j 0).isLt
  have hk : (k a).val < 1 := by match a with | ⟨0, _⟩ => exact (k 0).isLt
  omega)

/-- That entry. -/
abbrev sole : S1.Idx := Shape.Idx.first (by decide)

/-- Entry `i` of the blocks' table. -/
abbrev entry (i : ℕ) (h : i < 1280) : S1280.Idx := fun | ⟨0, _⟩ => ⟨i, h⟩

variable (be : S1280.Idx → BitVec 32) (nu : S1.Idx → BitVec 32)

/-- The two tables. -/
def tables : pre0.Contents (Elt Ideal) := fun | 0 => be | 1 => nu | ⟨_ + 2, h⟩ => absurd h (Nat.not_lt.2 (Nat.le_add_left _ _))

/-- The count of the blocks in use. -/
def blocks : ℕ := used (nu sole)

/-- What the precondition says of the tables. -/
abbrev Valid : Prop := (∀ j, (be j).toNat < 256) ∧ ∀ j, 1 ≤ used (nu j)

variable {be nu}

theorem used_eq (j : S1.Idx) : used (nu j) = blocks nu := congrArg (fun k => used (nu k)) (one_entry _ _)

theorem blocks_pos (v : Valid be nu) : 1 ≤ blocks nu := v.2 _

/-- A grid point's number, below 1280. -/
theorem point_lt (i : grid0.Coords) : (i 0).val < 1280 := (i 0).isLt

theorem rows_index (v : Valid be nu) (i : grid0.Coords) :
    cc0_transform_0 inb_S1_S1_0 numel1_S1 (tables be nu) i = ![min (i 0).val (blocks nu - 1), 0, 0] := by
  unfold cc0_transform_0
  have e : ∀ j : S1.Idx, (Scalar.minsi (BitVec.ofNat 32 (i 0).val) (Scalar.subi (nu j) 1#32)).toNat = min (i 0).val (blocks nu - 1) := fun j => by
    rw [block_word (point_lt i) (v.2 j), used_eq]
  exact congrArg (fun k : ℕ => (![k, 0, 0] : Fin 3 → ℕ)) (e _)

theorem out_index (v : Valid be nu) (i : grid0.Coords) :
    cc0_transform_4 inb_S1_S1_0 numel1_S1 (tables be nu) i = ![min (i 0).val (blocks nu - 1), 0, 0] := rows_index v i

theorem expert_index (i : grid0.Coords) :
    cc0_transform_1 k0_off1_inb numel1_S1 (tables be nu) i = ![(be (entry (i 0).val (point_lt i))).toNat, 0, 0] := by
  unfold cc0_transform_1
  have e : ∀ j : S1280.Idx, (j 0).val = (i 0).val → be j = be (entry (i 0).val (point_lt i)) := fun j h =>
    congrArg be (funext fun a => match a with | ⟨0, _⟩ => Fin.ext h)
  refine congrArg (fun k : BitVec 32 => (![k.toNat, 0, 0] : Fin 3 → ℕ)) (e _ ?_)
  show (BitVec.setWidth 32 (BitVec.ofNat 32 (i 0).val)).toNat + 1 * 0 = (i 0).val
  have := point_lt i
  rw [BitVec.toNat_setWidth, BitVec.toNat_ofNat]
  omega

/-- Every point's blocks lie inside their arrays. -/
theorem ok (v : Valid be nu) : ok0 (F := Ideal) (tables be nu) := by
  have rows : ∀ (i : grid0.Coords) (a), (cc0_transform_0 inb_S1_S1_0 numel1_S1 (tables be nu) i a + 1) * S128x1x1024.size a ≤ S163840x1x1024.size a := fun i a => by
    rw [rows_index v]
    have := point_lt i
    match a with
    | ⟨0, _⟩ => show (min (i 0).val (blocks nu - 1) + 1) * 128 ≤ 163840; omega
    | ⟨1, _⟩ => show (0 + 1) * 1 ≤ 1; omega
    | ⟨2, _⟩ => show (0 + 1) * 1024 ≤ 1024; omega
  have weights : ∀ (i : grid0.Coords) (a), (cc0_transform_1 k0_off1_inb numel1_S1 (tables be nu) i a + 1) * S1x1024x256.size a ≤ S256x1024x256.size a := fun i a => by
    rw [expert_index]
    have := v.1 (entry (i 0).val (point_lt i))
    match a with
    | ⟨0, _⟩ => show ((be _).toNat + 1) * 1 ≤ 256; omega
    | ⟨1, _⟩ => show (0 + 1) * 1024 ≤ 1024; omega
    | ⟨2, _⟩ => show (0 + 1) * 256 ≤ 256; omega
  have down : ∀ (i : grid0.Coords) (a), (cc0_transform_3 k0_off1_inb numel1_S1 (tables be nu) i a + 1) * S1x256x1024.size a ≤ S256x256x1024.size a := fun i a => by
    rw [show cc0_transform_3 k0_off1_inb numel1_S1 (tables be nu) i = _ from expert_index i]
    have := v.1 (entry (i 0).val (point_lt i))
    match a with
    | ⟨0, _⟩ => show ((be _).toNat + 1) * 1 ≤ 256; omega
    | ⟨1, _⟩ => show (0 + 1) * 256 ≤ 256; omega
    | ⟨2, _⟩ => show (0 + 1) * 1024 ≤ 1024; omega
  exact ⟨fun i => ⟨rows i, .inl rfl⟩, fun i => ⟨weights i, .inl rfl⟩, fun i => ⟨weights i, .inl rfl⟩, fun i => ⟨down i, .inl rfl⟩, fun i => ⟨rows i, .inl rfl⟩⟩

/-- The tables, admissible; the pipeline at them. -/
def adm (v : Valid be nu) : (pcfg0 (F := Ideal)).Adm := ⟨tables be nu, ok v⟩
abbrev cfg (v : Valid be nu) : Pipeline.Cfg sig Λ₀ := cfg0 (F := Ideal) (adm v)
abbrev pcs (v : Valid be nu) : Fin 1 → Pipeline.Cfg sig Λ₀ := Pipeline.pin (pcfgs (F := Ideal)) fun _ => adm v

variable (v : Valid be nu)

theorem points : (cfg v).N = 1280 := N_0

/-- The results' block of point `t`. -/
theorem out_block (t : Fin (cfg v).N) : ((cfg v).win (4 : Fin 5)).index t = ![min t.val (blocks nu - 1), 0, 0] := by
  show cc0_transform_4 inb_S1_S1_0 numel1_S1 (tables be nu) (grid0.coords t) = _
  rw [out_index v, coord t]

theorem rows_block (t : Fin (cfg v).N) : ((cfg v).win (0 : Fin 5)).index t = ![min t.val (blocks nu - 1), 0, 0] := out_block v t

theorem gate_block (t : Fin (cfg v).N) :
    ((cfg v).win (1 : Fin 5)).index t = ![(be (entry t.val (by have := points v; omega))).toNat, 0, 0] := by
  show cc0_transform_1 k0_off1_inb numel1_S1 (tables be nu) (grid0.coords t) = _
  rw [expert_index]
  exact congrArg (fun k => (![(be k).toNat, 0, 0] : Fin 3 → ℕ)) (funext fun a => match a with | ⟨0, _⟩ => Fin.ext (coord t))

theorem up_block (t : Fin (cfg v).N) :
    ((cfg v).win (2 : Fin 5)).index t = ![(be (entry t.val (by have := points v; omega))).toNat, 0, 0] := gate_block v t

theorem down_block (t : Fin (cfg v).N) :
    ((cfg v).win (3 : Fin 5)).index t = ![(be (entry t.val (by have := points v; omega))).toNat, 0, 0] := gate_block v t

/-- The results' block is written back at the last point and where the next point's is another. -/
theorem out_flush (t : Fin (cfg v).N) :
    ((cfg v).win (4 : Fin 5)).flush t = decide (t.val + 1 = 1280 ∨ t.val + 1 < blocks nu) := by
  rw [Window.flush_eq_flushF]
  unfold Window.flushF
  have hN : (cfg v).N = 1280 := N_0
  have hp := blocks_pos v
  have h : ∀ h : t.val + 1 < (cfg v).N, (∃ a, ((cfg v).win (4 : Fin 5)).index ⟨t.val + 1, h⟩ a ≠ ((cfg v).win (4 : Fin 5)).index t a) ↔ t.val + 1 < blocks nu := fun h => by
    rw [out_block, out_block]
    constructor
    · rintro ⟨a, ha⟩
      by_contra hc
      apply ha
      show ![min (t.val + 1) (blocks nu - 1), 0, 0] a = _
      rw [show min (t.val + 1) (blocks nu - 1) = min t.val (blocks nu - 1) by omega]
    · intro hc
      refine ⟨(0 : Fin 3), ?_⟩
      show min (t.val + 1) (blocks nu - 1) ≠ min t.val (blocks nu - 1)
      omega
  show (true && (decide (t.val + 1 = (cfg v).N) || decide _)) = _
  rw [Bool.true_and, ← Bool.decide_or, decide_eq_decide]
  constructor
  · rintro (h1 | ⟨h1, h2⟩)
    · exact .inl (h1.trans hN)
    · exact .inr ((h h1).1 h2)
  · rintro (h1 | h1)
    · exact .inl (h1.trans hN.symm)
    · by_cases h2 : t.val + 1 < (cfg v).N
      · exact .inr ⟨h2, (h h2).2 h1⟩
      · exact .inl (by have := t.isLt; omega)

/-- A point's test is that its block is in use. -/
theorem cond_iff (i : grid0.Coords) (j : S1.Idx) : k0_cond1 i (nu j) = 1#1 ↔ (i 0).val < blocks nu := by
  rw [← used_eq (nu := nu) j]
  exact test_word (point_lt i) (nu j)

/-- A point leaves the results' buffer idle exactly where its block is not in use. -/
theorem out_idle (t : Fin (cfg v).N) : (cfg v).idle (4 : Fin 5) ((cfg v).grid.coords t) = decide (blocks nu ≤ t.val) := by
  show (!(k0_cond1 (grid0.coords t) ((tables be nu).atD 1 ![0]) == 1#1)) = _
  have e : k0_cond1 (grid0.coords t) ((tables be nu).atD 1 ![0]) = 1#1 ↔ t.val < blocks nu := by
    have w : (tables be nu).atD 1 ![0] = nu sole := by
      unfold Pipeline.Prefetch.Contents.atD
      rw [dif_pos (by intro a; match a with | ⟨0, _⟩ => exact Nat.le_refl 1)]
      exact congrArg nu (one_entry _ _)
    rw [w, cond_iff, coord t]
  rw [Bool.not_eq_eq_eq_not]
  by_cases h : t.val < blocks nu
  · simp [e.2 h, h]
  · have hn : ¬ k0_cond1 (grid0.coords t) ((tables be nu).atD 1 ![0]) = 1#1 := fun c => h (e.1 c)
    have : (k0_cond1 (grid0.coords t) ((tables be nu).atD 1 ![0]) == 1#1) = false := by simpa using hn
    rw [this]; simp; omega

/-- The results' buffer holds nothing of the kernel's before a point whose block is in use, and after the last point. -/
theorem out_fresh (t : Fin (cfg v).N) : (cfg v).fresh (4 : Fin 5) t.val = decide (t.val < blocks nu) := by
  have hN : (cfg v).N = 1280 := N_0
  have hp := blocks_pos v
  have key := Pipeline.Cfg.fresh_tab (cfg v) (4 : Fin 5) (fun k => decide (k < blocks nu ∨ k = 1280)) (by simp; omega)
    (fun t => by
      have ht := t.isLt
      show decide (t.val + 1 < blocks nu ∨ t.val + 1 = 1280) = (_ || (_ && decide (t.val < blocks nu ∨ t.val = 1280)))
      rw [out_flush, out_idle, ← Bool.decide_and, ← Bool.decide_or, decide_eq_decide]
      omega) t.val (Nat.le_of_lt t.isLt)
  rw [key, decide_eq_decide]
  have := t.isLt
  omega

end Cert.ExpIdeal.Experts
end
-- ==== Proof.ExpIdealFrame.lean ====
/-
  The experts' kernel run from any tables the precondition admits: every execution terminates, the arguments end
  unchanged, and the results' array ends at what the points' write-backs leave.
-/
module

public import proofs.«01_k».proof.Proof.ExpIdealSchedule
public import Idealize.ShloMosaic.Lib.Pipeline.Quiescent
public import Idealize.ShloMosaic.Lib.Claim
public import Idealize.ShloMosaic.Lib.Pipeline.Kit
public import Idealize.ShloMosaic.Adequacy
public import Idealize.ShloMosaic.Init

@[expose] public section

set_option maxRecDepth 16384

noncomputable section

namespace Cert.ExpIdeal.Experts

open Cert.ExpIdeal Cert.ExpIdeal.Gen Cert.Experts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {be : S1280.Idx → BitVec 32} {nu : S1.Idx → BitVec 32} (v : Valid be nu)
variable (m : (ℓ : Loc nD τ sig) → Buf (Elt Ideal) ℓ) (ρ : Dev nD → PrngReg)

/-- The launch memory's tables are these. -/
def Pinned (be : S1280.Idx → BitVec 32) (nu : S1.Idx → BitVec 32) (m : (ℓ : Loc nD τ sig) → Buf (Elt Ideal) ℓ) : Prop :=
  ∀ c : Dev nD, m ((c : Thread nD τ).loc main_arg4) = be ∧ m ((c : Thread nD τ).loc main_arg5) = nu

/-! ## What the windows hold -/

/-- Window `w`'s block at point `t`, read off its array at launch. -/
def block (c : Dev nD) (w : Fin (cfg v).W) (t : Fin (cfg v).N) :
    (((cfg v).win w).xblock ((cfg v).grid.coords t)).Idx → Elt Ideal ((cfg v).win w).elt :=
  (((cfg v).win w).blk t).view.read (Elt Ideal) ((s₀ m ρ).mem (((cfg v).win w).arr.view.loc (c : Thread nD τ)))

/-- The results of point `t`'s blocks. -/
def resultAt (c : Dev nD) (t : Fin (cfg v).N) : S128x1x1024.Idx → Elt Ideal .f32 :=
  result (block v m ρ c (0 : Fin 5) t) (block v m ρ c (1 : Fin 5) t) (block v m ρ c (2 : Fin 5) t) (block v m ρ c (3 : Fin 5) t)

/-- The point that stored what the results' buffer holds after point `t`: `t`, or the last whose block is in use. -/
def source (t : Fin (cfg v).N) : Fin (cfg v).N := ⟨min t.val (blocks nu - 1), by have := t.isLt; omega⟩

/-- What the results' buffer holds after point `t`. -/
@[irreducible] def stored (c : Dev nD) (t : Fin (cfg v).N) : S128x1x1024.Idx → Elt Ideal .f32 := resultAt v m ρ c (source v t)

theorem stored_eq {t u : Fin (cfg v).N} (h : source v t = source v u) (c : Dev nD) : stored v m ρ c t = stored v m ρ c u := by
  unfold stored; rw [h]

/-- Past the last block in use, the buffer's source stays. -/
theorem source_idle (t : Fin (cfg v).N) (ht : t.val ≠ 0) (h : blocks nu ≤ t.val) :
    source v t = source v ⟨t.val - 1, by have := t.isLt; omega⟩ := by
  unfold source
  apply Fin.ext
  show min t.val (blocks nu - 1) = min (t.val - 1) (blocks nu - 1)
  omega

/-- What the body keeps between points: its halves of the tables. -/
def Phi (_ : Valid be nu) (c : Dev nD) : sProp Res :=
  iprop((blockTable.view.loc (c : Thread nD τ) ↦{fullShare.right} be) ∗ (countTable.view.loc (c : Thread nD τ) ↦{fullShare.right} nu))

/-- The pipeline's proof data on core `c`. -/
def dats (_ : Fin 1) (c : Dev nD) : Dat τ (Elt Ideal) Unit ℕ (UR sig nD τ) ℕ (cfg v) c where
  A w := (s₀ m ρ).mem (((cfg v).win w).arr.view.loc (c : Thread nD τ))
  after w t := match w with
    | ⟨0, _⟩ => block v m ρ c (0 : Fin 5) t
    | ⟨1, _⟩ => block v m ρ c (1 : Fin 5) t
    | ⟨2, _⟩ => block v m ρ c (2 : Fin 5) t
    | ⟨3, _⟩ => block v m ρ c (3 : Fin 5) t
    | ⟨4, _⟩ => stored v m ρ c t
  Φ _ := Phi v c
  q _ := fullShare
  owed _ := 0

theorem after_0 (c : Dev nD) (t : Fin (cfg v).N) : (dats v m ρ 0 c).after (0 : Fin 5) t = block v m ρ c (0 : Fin 5) t := rfl
theorem after_1 (c : Dev nD) (t : Fin (cfg v).N) : (dats v m ρ 0 c).after (1 : Fin 5) t = block v m ρ c (1 : Fin 5) t := rfl
theorem after_2 (c : Dev nD) (t : Fin (cfg v).N) : (dats v m ρ 0 c).after (2 : Fin 5) t = block v m ρ c (2 : Fin 5) t := rfl
theorem after_3 (c : Dev nD) (t : Fin (cfg v).N) : (dats v m ρ 0 c).after (3 : Fin 5) t = block v m ρ c (3 : Fin 5) t := rfl
theorem after_4 (c : Dev nD) (t : Fin (cfg v).N) : (dats v m ρ 0 c).after (4 : Fin 5) t = stored v m ρ c t := rfl

theorem before_0 (c : Dev nD) (t : Fin (cfg v).N) (d) : (dats v m ρ 0 c).before (0 : Fin 5) t d = block v m ρ c (0 : Fin 5) t :=
  ((dats v m ρ 0 c).before_in_eq_fetched (0 : Fin 5) rfl (fun _ => rfl) (fun _ _ _ => rfl) (fun t => by rw [after_0]; unfold Dat.blockOf block; rfl) t d).trans
    (by unfold Dat.fetched Dat.blockOf block; rfl)
theorem before_1 (c : Dev nD) (t : Fin (cfg v).N) (d) : (dats v m ρ 0 c).before (1 : Fin 5) t d = block v m ρ c (1 : Fin 5) t :=
  ((dats v m ρ 0 c).before_in_eq_fetched (1 : Fin 5) rfl (fun _ => rfl) (fun _ _ _ => rfl) (fun t => by rw [after_1]; unfold Dat.blockOf block; rfl) t d).trans
    (by unfold Dat.fetched Dat.blockOf block; rfl)
theorem before_2 (c : Dev nD) (t : Fin (cfg v).N) (d) : (dats v m ρ 0 c).before (2 : Fin 5) t d = block v m ρ c (2 : Fin 5) t :=
  ((dats v m ρ 0 c).before_in_eq_fetched (2 : Fin 5) rfl (fun _ => rfl) (fun _ _ _ => rfl) (fun t => by rw [after_2]; unfold Dat.blockOf block; rfl) t d).trans
    (by unfold Dat.fetched Dat.blockOf block; rfl)
theorem before_3 (c : Dev nD) (t : Fin (cfg v).N) (d) : (dats v m ρ 0 c).before (3 : Fin 5) t d = block v m ρ c (3 : Fin 5) t :=
  ((dats v m ρ 0 c).before_in_eq_fetched (3 : Fin 5) rfl (fun _ => rfl) (fun _ _ _ => rfl) (fun t => by rw [after_3]; unfold Dat.blockOf block; rfl) t d).trans
    (by unfold Dat.fetched Dat.blockOf block; rfl)

theorem carry_4 (c : Dev nD) : ∀ (t : Fin (cfg v).N) (ht : t.val ≠ 0), (cfg v).idle (4 : Fin 5) ((cfg v).grid.coords t) = true → (cfg v).fresh (4 : Fin 5) t.val = false →
    (dats v m ρ 0 c).after (4 : Fin 5) t = (dats v m ρ 0 c).after (4 : Fin 5) ⟨t.val - 1, by omega⟩ := by
  intro t ht hi _
  rw [out_idle] at hi
  exact stored_eq v m ρ (source_idle v t ht (of_decide_eq_true hi)) c

/-- Before a point past the last block in use, the results' buffer holds what it holds after it. -/
theorem before_4 (c : Dev nD) (t : Fin (cfg v).N) (h : blocks nu ≤ t.val) (d) :
    (dats v m ρ 0 c).before (4 : Fin 5) t d = stored v m ρ c t := by
  have hp := blocks_pos v
  have h0 : t.val ≠ 0 := by omega
  rw [(dats v m ρ 0 c).before_out_traj (4 : Fin 5) rfl (fun _ _ => rfl) (carry_4 v m ρ c) t.val t rfl d, out_fresh,
    decide_eq_false (by omega), if_neg Bool.false_ne_true]
  exact (stored_eq v m ρ (source_idle v t h0 h) c).symm

/-! ## The body at a point -/

abbrev st_0 (t : Fin (cfg v).N) : Memref sig .tc .vmem S128x1x1024 .f32 := spec0_0.stage ((cfg v).slots t (0 : Fin 5))
abbrev st_1 (t : Fin (cfg v).N) : Memref sig .tc .vmem S1x1024x256 .f32 := spec0_1.stage ((cfg v).slots t (1 : Fin 5))
abbrev st_2 (t : Fin (cfg v).N) : Memref sig .tc .vmem S1x1024x256 .f32 := spec0_2.stage ((cfg v).slots t (2 : Fin 5))
abbrev st_3 (t : Fin (cfg v).N) : Memref sig .tc .vmem S1x256x1024 .f32 := spec0_3.stage ((cfg v).slots t (3 : Fin 5))
abbrev st_4 (t : Fin (cfg v).N) : Memref sig .tc .vmem S128x1x1024 .f32 := spec0_4.stage ((cfg v).slots t (4 : Fin 5))

/-- The body at point `t`, as the pipeline calls it. -/
abbrev bodyAt (t : Fin (cfg v).N) : Prog (TpuEff nD τ sig (Elt Ideal) Λ₀ .tc) PUnit :=
  cc0_experts ((cfg v).grid.coords t) blockTable (Memref.isWhole_whole _) countTable (Memref.isWhole_whole _)
    (st_0 v t) (hstage0_0 (((cfg v).slots t (0 : Fin 5)).cast nbuf0_0)) (st_1 v t) (hstage0_1 (((cfg v).slots t (1 : Fin 5)).cast nbuf0_1))
    (st_2 v t) (hstage0_2 (((cfg v).slots t (2 : Fin 5)).cast nbuf0_2)) (st_3 v t) (hstage0_3 (((cfg v).slots t (3 : Fin 5)).cast nbuf0_3))
    (st_4 v t) (hstage0_4 (((cfg v).slots t (4 : Fin 5)).cast nbuf0_4))

theorem test_at (t : Fin (cfg v).N) : k0_cond1 ((cfg v).grid.coords t) (count nu) = 1#1 ↔ t.val < blocks nu := by
  have h := cond_iff (nu := nu) (grid0.coords t) sole
  rw [coord t] at h
  have e : count nu = nu sole := congrArg nu (one_entry _ _)
  rw [e]
  exact h

set_option maxHeartbeats 4000000 in
/-- The body's obligation at point `t`. -/
theorem sound_body (c : Dev nD) (t : Fin (cfg v).N) :
    iprop((dats v m ρ 0 c).Φ t.castSucc ∗ (dats v m ρ 0 c).owesAt () t.castSucc
        ∗ (∃ d, owns (c : Thread nD τ) (st_0 v t) fullShare ((dats v m ρ 0 c).before (0 : Fin 5) t d))
        ∗ (∃ d, owns (c : Thread nD τ) (st_1 v t) fullShare ((dats v m ρ 0 c).before (1 : Fin 5) t d))
        ∗ (∃ d, owns (c : Thread nD τ) (st_2 v t) fullShare ((dats v m ρ 0 c).before (2 : Fin 5) t d))
        ∗ (∃ d, owns (c : Thread nD τ) (st_3 v t) fullShare ((dats v m ρ 0 c).before (3 : Fin 5) t d))
        ∗ (∃ d, owns (c : Thread nD τ) (st_4 v t) fullShare ((dats v m ρ 0 c).before (4 : Fin 5) t d)))
      ⊢ wp frame (wpE (defs₀ (F := Ideal)) Variants.none c none) Set.univ (bodyAt v t) fun _ =>
          iprop((dats v m ρ 0 c).Φ t.succ ∗ (dats v m ρ 0 c).owesAt () t.succ
            ∗ bigSep Finset.univ fun w : Fin (cfg v).W =>
                match (cfg v).idle w ((cfg v).grid.coords t) with
                | true =>
                  match ((cfg v).win w).flush t with
                  | false => iprop(∃ d, owns (c : Thread nD τ) (((cfg v).win w).stage ((cfg v).slots t w)) fullShare ((dats v m ρ 0 c).before w t d))
                  | true => owns (c : Thread nD τ) (((cfg v).win w).stage ((cfg v).slots t w)) fullShare ((dats v m ρ 0 c).after w t)
                | false => owns (c : Thread nD τ) (((cfg v).win w).stage ((cfg v).slots t w)) fullShare ((dats v m ρ 0 c).after w t)) := by
  rw [bigSep_W0]
  have hi := out_idle v t
  rewrite [show (dats v m ρ 0 c).Φ t.succ = Phi v c from rfl, show (dats v m ρ 0 c).Φ t.castSucc = Phi v c from rfl,
    show (dats v m ρ 0 c).owesAt () t.succ = (dats v m ρ 0 c).owesAt () t.castSucc from rfl]
  unfold Phi
  by_cases ht : t.val < blocks nu
  · rw [decide_eq_false (by omega)] at hi
    rewrite [hi]
    have hs : source v t = t := Fin.ext (by show min t.val (blocks nu - 1) = t.val; omega)
    have hr : stored v m ρ c t = resultAt v m ρ c t := by unfold stored; rw [hs]
    simp only [before_0, before_1, before_2, before_3, after_0, after_1, after_2, after_3, after_4, hr]
    unfold resultAt
    iintro ⟨⟨HT0, HT1⟩, Ho, ⟨%d0, H0⟩, ⟨%d1, H1⟩, ⟨%d2, H2⟩, ⟨%d3, H3⟩, ⟨%d4, H4⟩⟩
    iapply (run_used c ((cfg v).grid.coords t) (st_0 v t) _ (st_1 v t) _ (st_2 v t) _ (st_3 v t) _ (st_4 v t) _ be nu
      (block v m ρ c (0 : Fin 5) t) (block v m ρ c (1 : Fin 5) t) (block v m ρ c (2 : Fin 5) t) (block v m ρ c (3 : Fin 5) t) ((test_at v t).2 ht) _)
    isplitl [H0]; · iexact H0
    isplitl [H1]; · iexact H1
    isplitl [H2]; · iexact H2
    isplitl [H3]; · iexact H3
    isplitl [HT0]; · iexact HT0
    isplitl [HT1]; · iexact HT1
    isplitl [H4]; · iexists _; iexact H4
    iintro ⟨H0, H1, H2, H3, HT0, HT1, H4⟩
    isplitl [HT0 HT1]
    · isplitl [HT0]
      · iexact HT0
      iexact HT1
    isplitl [Ho]; · iexact Ho
    isplitl [H0]; · iexact H0
    isplitl [H1]; · iexact H1
    isplitl [H2]; · iexact H2
    isplitl [H3]; · iexact H3
    iexact H4
  · rw [decide_eq_true (by omega)] at hi
    rewrite [hi]
    simp only [before_0, before_1, before_2, before_3, after_0, after_1, after_2, after_3, after_4, before_4 v m ρ c t (Nat.le_of_not_lt ht)]
    iintro ⟨⟨HT0, HT1⟩, Ho, ⟨%d0, H0⟩, ⟨%d1, H1⟩, ⟨%d2, H2⟩, ⟨%d3, H3⟩, ⟨%d4, H4⟩⟩
    iapply (run_unused c ((cfg v).grid.coords t) (st_0 v t) _ (st_1 v t) _ (st_2 v t) _ (st_3 v t) _ (st_4 v t) _ nu
      (fun h => ht ((test_at v t).1 h)) _)
    isplitl [HT1]; · iexact HT1
    iintro HT1
    isplitl [HT0 HT1]
    · isplitl [HT0]
      · iexact HT0
      iexact HT1
    isplitl [Ho]; · iexact Ho
    isplitl [H0]; · iexact H0
    isplitl [H1]; · iexact H1
    isplitl [H2]; · iexact H2
    isplitl [H3]; · iexact H3
    cases hf : ((cfg v).win (4 : Fin 5)).flush t with
    | true => iexact H4
    | false => iexists d4; iexact H4

/-- The obligation at every point. -/
theorem body_obligation (c : Dev nD) : BodyObligation (dats v m ρ 0 c) (defs₀ (F := Ideal)) Variants.none () Set.univ := fun t => by
  rw [bigSep_W0]
  exact sound_body v m ρ c t

/-! ## The launch -/

/-- The launch's resources. -/
def u₀ : UR sig nD τ :=
  initOf (Pipeline.cells (pcs v) ((launch0 (F := Ideal)).cellOf_inj fun _ => adm v))
    (Pipeline.launchToks (pcs v) ((launch0 (F := Ideal)).cellOf_inj fun _ => adm v))

theorem share_eq (c : Dev nD) (w : Fin (cfg v).W) : (dats v m ρ 0 c).share w = fullShare := by unfold Dat.share; split <;> rfl

/-- The tables as the launch hands them over, one by one. -/
theorem held_eq (c : Dev nD) (q : Fin 2 → PosShare TreeShare) (V : pre0.Contents (Elt Ideal)) :
    (Pipeline.prefHeld (Ix := Unit) (Name := ℕ) (U := UR sig nD τ) (Lvl := ℕ) pre0 c q V : sProp Res)
      = iprop((((c : Thread nD τ).loc main_arg4) ↦{q 0} V 0) ∗ (((c : Thread nD τ).loc main_arg5) ↦{q 1} V 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) (adm v).1 ∗ Pipeline.scopedRest spec0 c) ⊢ (dats v m ρ 0 c).Φ 0 := by
  rw [held_eq, scopedRest0_eq, show (dats v m ρ 0 c).Φ 0 = Phi v c from rfl]
  unfold Phi
  iintro ⟨-, ⟨HT0, HT1⟩, -⟩
  isplitl [HT0]
  · iexact HT0
  iexact HT1

theorem leave (c : Dev nD) : (dats v m ρ 0 c).Φ (Fin.last (cfg v).N) ⊢ iprop(BI.emp ∗ Pipeline.scopedRest spec0 c) := by
  rw [scopedRest0_eq, show (dats v m ρ 0 c).Φ (Fin.last (cfg v).N) = Phi v c from rfl]
  unfold Phi
  iintro ⟨-, -⟩
  isplitr; · iempintro
  iempintro

/-- The final states: each array at what the write-backs leave, each table as it was. -/
def Final : PUnit × MemSt nD τ sig (Elt Ideal) → Prop := fun r =>
  ∀ c : Dev nD, (∀ w : Fin (cfg v).W, r.2.mem (((cfg v).win w).arr.view.loc (c : Thread nD τ)) = (dats v m ρ 0 c).arrAt w (cfg v).N)
    ∧ ∀ j, r.2.mem ((c : Thread nD τ).loc (pre0.ref j)) = (adm v).1 j

variable {m}

theorem pinned_at (hp : Pinned be nu m) (c : Dev nD) (j : Fin 2) : m ((c : Thread nD τ).loc (pre0.ref j)) = (adm v).1 j := by
  fin_cases j
  · exact (hp c).1
  · exact (hp c).2

set_option backward.isDefEq.respectTransparency.types false in
set_option maxHeartbeats 4000000 in
/-- Every execution terminates, at such a state, its semaphores at zero. -/
theorem run_quiescent (hp : Pinned be nu m) :
    θ_run (defs (F := Ideal)) (onTc (τ := τ) (main (F := Ideal))) (s₀ m ρ) (fun r => Final v m ρ r ∧ r.2.sem = fun _ => 0) :=
  Pipeline.θ_run_region_noSem_pf_quiescent pcfgs (fun _ => adm v) (dats v m ρ) () ((launch0 (F := Ideal)).cellOf_inj fun _ => adm v) (0 : Fin 1)
    (launch0 (F := Ideal)).win.to₀ (launch0 (F := Ideal)).pre emb₁ defs₀ Variants.none m ρ main
    (hbody := fun c => (body_obligation v m ρ c).loose) (hne := (launch0 (F := Ideal)).block_pos)
    (harr := (launch0 (F := Ideal)).arr_whole) (hstage := (launch0 (F := Ideal)).stage_whole) (howed := fun _ _ => rfl)
    (u₀ := u₀ v) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs v) (dats v m ρ) 0 (launch0 (F := Ideal)).win.arr_inj c (launch0 (F := Ideal)).arr_whole
      (share_eq v m ρ c) _ _ fun _ => rfl)
    (hpf := pinned_at v hp)
    (X := fun _ => iprop(emp)) (Y := fun _ => iprop(emp)) (Z := fun _ => iprop(emp))
    (hX := fun c => by rw [unscopedRestP0_eq]; iintro -; isplitr <;> iempintro)
    (hin := enter v m ρ)
    (hout := leave v m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every final state has the results' array at what the write-backs leave, and the arguments unchanged. -/
theorem run_result (hp : Pinned be nu m) :
    θ_run (defs (F := Ideal)) (onTc (τ := τ) (main (F := Ideal))) ⟨m, fun _ => 0, ρ⟩ (fun r => (∀ c : Dev nD,
      r.2.mem ((c.tc : Thread nD τ).loc main_v0) = (dats v m ρ 0 c).arrAt (4 : Fin 5) (cfg v).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5),
    ((h.1 c).1 (0 : Fin 5)).trans ((dats v m ρ 0 c).arrAt_in (0 : Fin 5) rfl _),
    ((h.1 c).1 (1 : Fin 5)).trans ((dats v m ρ 0 c).arrAt_in (1 : Fin 5) rfl _),
    ((h.1 c).1 (2 : Fin 5)).trans ((dats v m ρ 0 c).arrAt_in (2 : Fin 5) rfl _),
    ((h.1 c).1 (3 : Fin 5)).trans ((dats v m ρ 0 c).arrAt_in (3 : Fin 5) rfl _),
    ((h.1 c).2 0).trans (hp c).1.symm, ((h.1 c).2 1).trans (hp c).2.symm⟩, h.2⟩) (run_quiescent v ρ hp)

end Cert.ExpIdeal.Experts
end
-- ==== Proof.Experts.lean ====
/-
  The routed experts' output of one row, on plain functions: the row's block names its expert, and the expert's output is
  that of the shared expert (Proof/Output.lean) at the expert's weights. And the rows claimed: those of the blocks in use.
-/
module

public import proofs.«01_k».proof.Proof.Output
public import proofs.«01_k».proof.Proof.ExpertsTables
public import proofs.«01_k».proof.On_rows_used
public import proofs.«01_k».proof.Proof.Gen.On_rows_used
public import Idealize.ShloMosaic.Lib.Pointwise
public import Idealize.ShloMosaic.Lib.Pipeline.Value

@[expose] public section

set_option maxRecDepth 16384

noncomputable section

namespace Cert.Experts

open Idealize.ShloMosaic Cert.Projection Cert.Output
open scoped BigOperators

/-- Row `n`'s expert: that of its block of 128 rows. -/
def expert (be : IVec ⟨1, ![1280]⟩ 32) (n : Fin 163840) : Fin 256 :=
  ⟨min (be (ix1 ⟨n.val / 128, by omega⟩)).toNat 255, by omega⟩

/-- Entry `k` of row `n`'s output. -/
def rowOutput (x : FVec Ideal ⟨3, ![163840, 1, 1024]⟩ .f32) (wg wu : FVec Ideal ⟨3, ![256, 1024, 256]⟩ .f32)
    (wd : FVec Ideal ⟨3, ![256, 256, 1024]⟩ .f32) (be : IVec ⟨1, ![1280]⟩ 32) (n : Fin 163840) (k : Fin 1024) : EReal :=
  shared (fun d => x (ix3 n 0 d)) (fun d f => wg (ix3 (expert be n) d f)) (fun d f => wu (ix3 (expert be n) d f))
    (fun f d => wd (ix3 (expert be n) f d)) k

/-- Every row's output. -/
def output (x : FVec Ideal ⟨3, ![163840, 1, 1024]⟩ .f32) (wg wu : FVec Ideal ⟨3, ![256, 1024, 256]⟩ .f32)
    (wd : FVec Ideal ⟨3, ![256, 256, 1024]⟩ .f32) (be : IVec ⟨1, ![1280]⟩ 32) : FVec Ideal ⟨3, ![163840, 1, 1024]⟩ .f32 :=
  fun i => rowOutput x wg wu wd be (i 0) (i 2)

/-- A row claimed lies in a block in use. -/
theorem used_of_on (x : FVec Ideal On_rows_used.S163840x1x1024 .f32) (wg wu : FVec Ideal On_rows_used.S256x1024x256 .f32)
    (wd : FVec Ideal On_rows_used.S256x256x1024 .f32) (be : IVec On_rows_used.S1280 32) (nu : IVec On_rows_used.S1 32)
    (i : On_rows_used.S163840x1x1024.Idx) (h : On_rows_used.fn (F := Ideal) x wg wu wd be nu i = 1#1) :
    ∃ j, (i 0).val / 128 < used (nu j) := by
  have h0 : (i 0).val < 163840 := (i 0).isLt
  have h1 : (i 1).val < 1 := (i 1).isLt
  have h2 : (i 2).val < 1024 := (i 2).isLt
  unfold On_rows_used.fn at h
  rw [shapeCast_apply _ _ i (ix3 ⟨(i 0).val / 128, by omega⟩ ⟨(i 0).val % 128, by omega⟩ ⟨(i 2).val, h2⟩)
    (by rewrite [Shape.rowMajor_val_three, Shape.rowMajor_val_three]
        show (((i 0).val / 128) * 128 + (i 0).val % 128) * 1024 + (i 2).val = ((i 0).val * 1 + (i 1).val) * 1024 + (i 2).val
        omega)] at h
  obtain ⟨j, e⟩ : ∃ j, IntOp.cmpi .slt (BitVec.ofNat 32 ((i 0).val / 128)) (nu j) = 1#1 := ⟨_, h⟩
  refine ⟨j, ?_⟩
  · rw [IntOp.cmpi, ofBool_one, BitVec.slt, decide_eq_true_eq] at e
    have hi : (BitVec.ofNat 32 ((i 0).val / 128)).toInt = ((i 0).val / 128 : ℕ) := by
      rw [BitVec.toInt_eq_toNat_cond, BitVec.toNat_ofNat]
      have : ((i 0).val / 128) % 2 ^ 32 = (i 0).val / 128 := Nat.mod_eq_of_lt (by omega)
      rw [this, if_pos (by omega)]
    rw [hi] at e
    unfold used
    exact (Int.lt_toNat).2 e

end Cert.Experts
end
-- ==== Proof.ExpIdealValue.lean ====
/-
  The experts' results' array: every row of a block in use ends at its expert's output (Proof/Experts.lean).
-/
module

public import proofs.«01_k».proof.Proof.ExpIdealFrame
public import proofs.«01_k».proof.Proof.Experts
public import Idealize.ShloMosaic.Lib.Pipeline.ValueKit.Tiles

@[expose] public section

set_option maxRecDepth 16384

noncomputable section

namespace Cert.ExpIdeal.Experts

open Cert.ExpIdeal Cert.ExpIdeal.Gen Cert.Experts Cert.Output
open Idealize.ShloMosaic Idealize.ShloMosaic.TcCoe Idealize.SL.Sem
open Idealize.ShloMosaic.Pipeline (Dat Cfg Window)
open scoped BigOperators

theorem split_rows (x : S128x1x1024.Idx) : ∃ (r : Fin 128) (l : Fin 1024), x = ix3 r 0 l := ⟨x 0, x 2, by
  funext a
  match a with
  | 0 => rfl
  | 1 => exact Subsingleton.elim (α := Fin 1) _ _
  | 2 => rfl⟩

/-- The block of results, element by element. -/
theorem result_apply (x : Vec Ideal S128x1x1024 .f32) (g u : Vec Ideal S1x1024x256 .f32) (w : Vec Ideal S1x256x1024 .f32)
    (y : S128x1x1024.Idx) :
    result x g u w y = shared (fun d => x (ix3 (y 0) 0 d)) (fun d f => g (ix3 0 d f)) (fun d f => u (ix3 0 d f))
      (fun f d => w (ix3 0 f d)) (y 2) := by
  unfold result
  canon_tiles x h using result_cover ..
  obtain ⟨r, l, rfl⟩ := split_rows x
  rw [show y 0 = r from Fin.ext h0, show y 2 = l from Fin.ext h2]
  pointwise [k0_pay1]
  rfl

variable {be : S1280.Idx → BitVec 32} {nu : S1.Idx → BitVec 32} (v : Valid be nu)
variable (m : (ℓ : Loc nD τ sig) → Buf (Elt Ideal) ℓ) (ρ : Dev nD → PrngReg)

/-- An argument's array at launch. -/
abbrev at0 (c : Dev nD) (b : Ref sig .tc) : Buf (Elt Ideal) ((c : Thread nD τ).loc b) := m ((c : Thread nD τ).loc b)

/-- A row of point `t`'s block of rows. -/
theorem block_rows (c : Dev nD) (t : Fin (cfg v).N) (z : S128x1x1024.Idx) (i : S163840x1x1024.Idx)
    (h0 : (i 0).val = 128 * min t.val (blocks nu - 1) + (z 0).val) (h2 : (i 2).val = (z 2).val) :
    (block v m ρ c (0 : Fin 5) t : Vec Ideal S128x1x1024 .f32) z = at0 m c main_arg0 i := by
  have a := rows_block v t
  have hz1 : (z 1).val < 1 := (z 1).isLt
  have hi1 : (i 1).val < 1 := (i 1).isLt
  unfold block
  rw [View.read_apply]
  show at0 m c main_arg0 _ = _
  congr 1
  funext k
  apply Fin.ext
  match k with
  | ⟨0, _⟩ => show ((cfg v).win (0 : Fin 5)).index t (0 : Fin 3) * 128 + 1 * (z 0).val = (i 0).val; rw [a]; show min t.val (blocks nu - 1) * 128 + _ = _; omega
  | ⟨1, _⟩ => show ((cfg v).win (0 : Fin 5)).index t (1 : Fin 3) * 1 + 1 * (z 1).val = (i 1).val; rw [a]; show 0 * 1 + _ = _; omega
  | ⟨2, _⟩ => show ((cfg v).win (0 : Fin 5)).index t (2 : Fin 3) * 1024 + 1 * (z 2).val = (i 2).val; rw [a]; show 0 * 1024 + _ = _; omega

theorem block_gate (c : Dev nD) (t : Fin (cfg v).N) (z : S1x1024x256.Idx) (i : S256x1024x256.Idx)
    (h0 : (i 0).val = (be (entry t.val (by have := points v; omega))).toNat) (h1 : (i 1).val = (z 1).val) (h2 : (i 2).val = (z 2).val) :
    (block v m ρ c (1 : Fin 5) t : Vec Ideal S1x1024x256 .f32) z = at0 m c main_arg1 i := by
  have a := gate_block v t
  have hz0 : (z 0).val < 1 := (z 0).isLt
  unfold block
  rw [View.read_apply]
  show at0 m c main_arg1 _ = _
  congr 1
  funext k
  apply Fin.ext
  match k with
  | ⟨0, _⟩ => show ((cfg v).win (1 : Fin 5)).index t (0 : Fin 3) * 1 + 1 * (z 0).val = (i 0).val; rw [a]; show (be _).toNat * 1 + _ = _; omega
  | ⟨1, _⟩ => show ((cfg v).win (1 : Fin 5)).index t (1 : Fin 3) * 1024 + 1 * (z 1).val = (i 1).val; rw [a]; show 0 * 1024 + _ = _; omega
  | ⟨2, _⟩ => show ((cfg v).win (1 : Fin 5)).index t (2 : Fin 3) * 256 + 1 * (z 2).val = (i 2).val; rw [a]; show 0 * 256 + _ = _; omega

theorem block_up (c : Dev nD) (t : Fin (cfg v).N) (z : S1x1024x256.Idx) (i : S256x1024x256.Idx)
    (h0 : (i 0).val = (be (entry t.val (by have := points v; omega))).toNat) (h1 : (i 1).val = (z 1).val) (h2 : (i 2).val = (z 2).val) :
    (block v m ρ c (2 : Fin 5) t : Vec Ideal S1x1024x256 .f32) z = at0 m c main_arg2 i := by
  have a := up_block v t
  have hz0 : (z 0).val < 1 := (z 0).isLt
  unfold block
  rw [View.read_apply]
  show at0 m c main_arg2 _ = _
  congr 1
  funext k
  apply Fin.ext
  match k with
  | ⟨0, _⟩ => show ((cfg v).win (2 : Fin 5)).index t (0 : Fin 3) * 1 + 1 * (z 0).val = (i 0).val; rw [a]; show (be _).toNat * 1 + _ = _; omega
  | ⟨1, _⟩ => show ((cfg v).win (2 : Fin 5)).index t (1 : Fin 3) * 1024 + 1 * (z 1).val = (i 1).val; rw [a]; show 0 * 1024 + _ = _; omega
  | ⟨2, _⟩ => show ((cfg v).win (2 : Fin 5)).index t (2 : Fin 3) * 256 + 1 * (z 2).val = (i 2).val; rw [a]; show 0 * 256 + _ = _; omega

theorem block_down (c : Dev nD) (t : Fin (cfg v).N) (z : S1x256x1024.Idx) (i : S256x256x1024.Idx)
    (h0 : (i 0).val = (be (entry t.val (by have := points v; omega))).toNat) (h1 : (i 1).val = (z 1).val) (h2 : (i 2).val = (z 2).val) :
    (block v m ρ c (3 : Fin 5) t : Vec Ideal S1x256x1024 .f32) z = at0 m c main_arg3 i := by
  have a := down_block v t
  have hz0 : (z 0).val < 1 := (z 0).isLt
  unfold block
  rw [View.read_apply]
  show at0 m c main_arg3 _ = _
  congr 1
  funext k
  apply Fin.ext
  match k with
  | ⟨0, _⟩ => show ((cfg v).win (3 : Fin 5)).index t (0 : Fin 3) * 1 + 1 * (z 0).val = (i 0).val; rw [a]; show (be _).toNat * 1 + _ = _; omega
  | ⟨1, _⟩ => show ((cfg v).win (3 : Fin 5)).index t (1 : Fin 3) * 256 + 1 * (z 1).val = (i 1).val; rw [a]; show 0 * 256 + _ = _; omega
  | ⟨2, _⟩ => show ((cfg v).win (3 : Fin 5)).index t (2 : Fin 3) * 1024 + 1 * (z 2).val = (i 2).val; rw [a]; show 0 * 1024 + _ = _; omega

/-- What the results' array should hold. -/
abbrev want (be : S1280.Idx → BitVec 32) (c : Dev nD) : FVec Ideal S163840x1x1024 .f32 :=
  output (at0 m c main_arg0) (at0 m c main_arg1) (at0 m c main_arg2) (at0 m c main_arg3) be

include v in
/-- The expert of row `n`, from its block's word. -/
theorem expert_val (n : Fin 163840) (b : ℕ) (hb : b < 1280) (h : n.val / 128 = b) : (expert be n).val = (be (entry b hb)).toNat := by
  subst h
  have hv := v.1 (entry (n.val / 128) hb)
  have e : (be (ix1 ⟨n.val / 128, hb⟩)).toNat = (be (entry (n.val / 128) hb)).toNat :=
    congrArg (fun k => (be k).toNat) (funext fun a => match a with | ⟨0, _⟩ => rfl)
  show min (be (ix1 ⟨n.val / 128, _⟩)).toNat 255 = _
  rw [e]; omega

/-- An element of point `t`'s results, the rows of a point whose block is in use. -/
theorem resultAt_apply (c : Dev nD) (t : Fin (cfg v).N) (ht : t.val < blocks nu) (y : S128x1x1024.Idx) (n : Fin 163840)
    (hn : n.val = 128 * t.val + (y 0).val) :
    resultAt v m ρ c t y = want m be c (ix3 n 0 (y 2)) := by
  have hy0 : (y 0).val < 128 := (y 0).isLt
  have hN := points v
  have hx := expert_val v n t.val (by omega) (by omega)
  unfold resultAt
  refine (result_apply _ _ _ _ y).trans ?_
  have e0 : ∀ d : Fin 1024, (block v m ρ c (0 : Fin 5) t : Vec Ideal S128x1x1024 .f32) (ix3 (y 0) 0 d) = at0 m c main_arg0 (ix3 n 0 d) :=
    fun d => block_rows v m ρ c t _ _ (by show n.val = 128 * min t.val (blocks nu - 1) + (y 0).val; omega) rfl
  have e1 : ∀ (d : Fin 1024) (f : Fin 256), (block v m ρ c (1 : Fin 5) t : Vec Ideal S1x1024x256 .f32) (ix3 0 d f) = at0 m c main_arg1 (ix3 (expert be n) d f) :=
    fun d f => block_gate v m ρ c t _ _ hx rfl rfl
  have e2 : ∀ (d : Fin 1024) (f : Fin 256), (block v m ρ c (2 : Fin 5) t : Vec Ideal S1x1024x256 .f32) (ix3 0 d f) = at0 m c main_arg2 (ix3 (expert be n) d f) :=
    fun d f => block_up v m ρ c t _ _ hx rfl rfl
  have e3 : ∀ (f : Fin 256) (d : Fin 1024), (block v m ρ c (3 : Fin 5) t : Vec Ideal S1x256x1024 .f32) (ix3 0 f d) = at0 m c main_arg3 (ix3 (expert be n) f d) :=
    fun f d => block_down v m ρ c t _ _ hx rfl rfl
  simp only [e0, e1, e2, e3]
  rfl

/-- What a point writes back is the part of the wanted array its block covers. -/
theorem flushed_apply (c : Dev nD) (t : Fin (cfg v).N) (y : S128x1x1024.Idx) (e : S163840x1x1024.Idx)
    (he0 : (e 0).val = 128 * min t.val (blocks nu - 1) + (y 0).val) (he2 : (e 2).val = (y 2).val) :
    stored v m ρ c t y = want m be c e := by
  have hp := blocks_pos v
  have ht := t.isLt
  unfold stored
  refine (resultAt_apply v m ρ c (source v t) (by show min t.val (blocks nu - 1) < _; omega) y (e 0) he0).trans ?_
  show rowOutput _ _ _ _ be (e 0) (y 2) = rowOutput _ _ _ _ be (e 0) (e 2)
  rw [show y 2 = e 2 from Fin.ext he2.symm]

/-- A row of a block in use ends at its expert's output. -/
theorem array_apply (c : Dev nD) (i : S163840x1x1024.Idx) (hi : (i 0).val / 128 < blocks nu) :
    ((dats v m ρ 0 c).arrAt (4 : Fin 5) (cfg v).N : FVec Ideal S163840x1x1024 .f32) i = want m be c i := by
  have hN := points v
  have hp := blocks_pos v
  have h0 : (i 0).val < 163840 := (i 0).isLt
  have h1 : (i 1).val < 1 := (i 1).isLt
  have h2 : (i 2).val < 1024 := (i 2).isLt
  obtain ⟨t, ht, hf⟩ : ∃ t : Fin (cfg v).N, min t.val (blocks nu - 1) = (i 0).val / 128 ∧ ((cfg v).win (4 : Fin 5)).flush t = true := by
    by_cases h : (i 0).val / 128 + 1 < blocks nu
    · refine ⟨⟨(i 0).val / 128, by omega⟩, by show min ((i 0).val / 128) _ = _; omega, ?_⟩
      rw [out_flush]; exact decide_eq_true (.inr h)
    · refine ⟨⟨1279, by omega⟩, by show min 1279 _ = _; omega, ?_⟩
      rw [out_flush]; exact decide_eq_true (.inl rfl)
  refine (dats v m ρ 0 c).arrAt_forall_of_flushed (4 : Fin 5) (fun i x => x = want m be c i) (fun t _ y => ?_) (cfg v).N t i t.isLt hf ?_
  · have a := out_block v t
    refine flushed_apply v m ρ c t y _ ?_ ?_
    · show ((cfg v).win (4 : Fin 5)).index t (0 : Fin 3) * 128 + 1 * (y (0 : Fin 3)).val = _
      rw [a]; show min t.val (blocks nu - 1) * 128 + _ = _; omega
    · show ((cfg v).win (4 : Fin 5)).index t (2 : Fin 3) * 1024 + 1 * (y (2 : Fin 3)).val = _
      rw [a]; show 0 * 1024 + _ = _; omega
  · have a := out_block v t
    show i ∈ ((View.whole main_v0).slice (((cfg v).win (4 : Fin 5)).rect t)).set
    rw [View.set_slice_whole, Rect.mem_set_unit]
    intro k
    match k with
    | ⟨0, _⟩ =>
      show ((cfg v).win (4 : Fin 5)).index t (0 : Fin 3) * 128 ≤ (i 0 : Nat) ∧ (i 0 : Nat) < ((cfg v).win (4 : Fin 5)).index t (0 : Fin 3) * 128 + 128
      rw [a]; show min t.val (blocks nu - 1) * 128 ≤ _ ∧ _ < min t.val (blocks nu - 1) * 128 + 128; omega
    | ⟨1, _⟩ =>
      show ((cfg v).win (4 : Fin 5)).index t (1 : Fin 3) * 1 ≤ (i 1 : Nat) ∧ (i 1 : Nat) < ((cfg v).win (4 : Fin 5)).index t (1 : Fin 3) * 1 + 1
      rw [a]; show 0 * 1 ≤ _ ∧ _ < 0 * 1 + 1; omega
    | ⟨2, _⟩ =>
      show ((cfg v).win (4 : Fin 5)).index t (2 : Fin 3) * 1024 ≤ (i 2 : Nat) ∧ (i 2 : Nat) < ((cfg v).win (4 : Fin 5)).index t (2 : Fin 3) * 1024 + 1024
      rw [a]; show 0 * 1024 ≤ _ ∧ _ < 0 * 1024 + 1024; omega

end Cert.ExpIdeal.Experts
end
-- ==== Proof.ExpReference.lean ====
/-
  The reference experts, read at an element: each row gathers its expert's three weights.
-/
module

public import proofs.«01_k».proof.Proof.Experts
public import proofs.«01_k».proof.Proof.Gen.ExpRefIdeal.Read

@[expose] public section

set_option maxRecDepth 16384

noncomputable section

namespace Cert.ExpRefIdeal.Element

open Cert.ExpRefIdeal Cert.ExpRefIdeal.Gen Cert.ExpRefIdeal.Read Idealize.ShloMosaic
open Cert.Output Cert.Experts
open scoped BigOperators

/-- The dimension numbers of `table[rows]` for a table of 256 matrices and one row number per result matrix. -/
abbrev tableDims (A B : ℕ) (wf : GatherDims.WF ⟨3, ![256, A, B]⟩ ⟨2, ![163840, 1]⟩ ⟨3, ![163840, A, B]⟩ [1, 2] [0] [] [0] [] 1 ![1, A, B]) :
    GatherDims ⟨3, ![256, A, B]⟩ ⟨2, ![163840, 1]⟩ ⟨3, ![163840, A, B]⟩ where
  offsetDims := [1, 2]
  collapsedSliceDims := [0]
  operandBatchingDims := []
  startIndicesBatchingDims := []
  startIndexMap := [0]
  indexVectorDim := 1
  sliceSizes := ![1, A, B]
  wf := wf

/-- Matrix `n` of the gathered is matrix `e` of the table, where the word at `n` is `e`. -/
theorem table_apply {α : Type} {A B : ℕ}
    (wf : GatherDims.WF ⟨3, ![256, A, B]⟩ ⟨2, ![163840, 1]⟩ ⟨3, ![163840, A, B]⟩ [1, 2] [0] [] [0] [] 1 ![1, A, B])
    (x : (⟨3, ![256, A, B]⟩ : Shape).Idx → α) (w : IVec ⟨2, ![163840, 1]⟩ 32) (n : Fin 163840) (a : Fin A) (b : Fin B) (e : Fin 256)
    (h : w (ix2 n 0) = BitVec.ofNat 32 e.val) :
    Host.gather (tableDims A B wf) x w (ix3 n a b) = x (ix3 e a b) := by
  unfold Host.gather
  refine congrArg x (funext fun k => Fin.ext ?_)
  show (tableDims A B wf).start (ix3 n a b) w k + (tableDims A B wf).batchCoord (ix3 n a b) k
      + (tableDims A B wf).offCoord (ix3 n a b) k = _
  rw [GatherDims.batchCoord_eq_zero _ _ _ (fun h => by simp at h), Nat.add_zero]
  have hk : k = 0 ∨ k = 1 ∨ k = 2 := by
    match k with
    | ⟨0, _⟩ => exact .inl rfl
    | ⟨1, _⟩ => exact .inr (.inl rfl)
    | ⟨2, _⟩ => exact .inr (.inr rfl)
  rcases hk with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (tableDims A B wf).startIndexMap from List.mem_singleton.mpr rfl)]
    have hs : (tableDims A B wf).siIdx (ix3 n a b) ⟨List.idxOf (0 : Fin 3) (tableDims A B wf).startIndexMap,
        List.idxOf_lt_length_iff.2 (List.mem_singleton.mpr rfl)⟩ = ix2 n 0 := by
      funext c; refine Fin.ext ?_
      match c with
      | ⟨0, _⟩ => rfl
      | ⟨1, _⟩ => rfl
    rw [hs, h]
    have he := e.isLt
    have : (BitVec.ofNat 32 e.val).toInt = e.val := by
      rw [BitVec.toInt_eq_toNat_cond, BitVec.toNat_ofNat]
      have : e.val % 2 ^ 32 = e.val := Nat.mod_eq_of_lt (by omega)
      rw [this, if_pos (by omega)]
    rw [this]
    show min e.val (256 - 1) = e.val
    omega
  · unfold GatherDims.start
    rw [dif_neg (show ¬ (1 : Fin 3) ∈ [(0 : Fin 3)] by decide), Nat.zero_add]
    rfl
  · unfold GatherDims.start
    rw [dif_neg (show ¬ (2 : Fin 3) ∈ [(0 : Fin 3)] by decide), Nat.zero_add]
    rfl

/-- A word below 256 is not negative. -/
theorem keep {w : BitVec 32} (h : w.toNat < 256) (y : BitVec 32) : Scalar.select (IntOp.cmpi .slt w 0#32) y w = w := by
  have : IntOp.cmpi .slt w 0#32 = 0#1 := by
    have e0 : (0#32 : BitVec 32).toInt = 0 := by decide
    have : BitVec.slt w 0#32 = false := by
      rw [BitVec.slt, e0, BitVec.toInt_eq_toNat_cond, if_pos (by omega)]
      simp
    simp only [IntOp.cmpi, this]; rfl
  rw [this]; rfl

variable (x : FVec Ideal S163840x1x1024 .f32) (wg wu : FVec Ideal S256x1024x256 .f32) (wd : FVec Ideal S256x256x1024 .f32)
  (be : IVec S1280 32) (hb : ∀ j, (be j).toNat < 256)

include hb in
/-- The word each row gathers at is its expert. -/
theorem word_apply (n : Fin 163840) : val_main_v8 (F := Ideal) be (ix2 n 0) = BitVec.ofNat 32 (expert be n).val := by
  rw [val_main_v8_apply, val_main_v7_apply, val_main_v4_apply, val_main_v3_apply, val_main_c_apply, val_main_v2_apply, val_main_v1_apply]
  refine (keep (hb _) _).trans ?_
  have hk := hb (ix1 ⟨n.val / 128, by omega⟩)
  have e : be (ix1 ⟨n.val / 128, by omega⟩) = BitVec.ofNat 32 (expert be n).val := by
    unfold expert
    apply BitVec.eq_of_toNat_eq
    rw [BitVec.toNat_ofNat]
    show _ = min _ 255 % _
    omega
  refine Eq.trans (congrArg be (funext fun a => ?_)) e
  match a with
  | ⟨0, _⟩ => rfl

include hb in
theorem gateTable_apply (n : Fin 163840) (d : Fin 1024) (f : Fin 256) :
    val_main_v9 (F := Ideal) wg be (ix3 n d f) = wg (ix3 (expert be n) d f) :=
  table_apply _ wg _ n d f _ (word_apply be hb n)

include hb in
theorem upTable_apply (n : Fin 163840) (d : Fin 1024) (f : Fin 256) :
    val_main_v17 (F := Ideal) wu be (ix3 n d f) = wu (ix3 (expert be n) d f) :=
  table_apply _ wu _ n d f _ (word_apply be hb n)

include hb in
theorem downTable_apply (n : Fin 163840) (f : Fin 256) (d : Fin 1024) :
    val_main_v27 (F := Ideal) wd be (ix3 n f d) = wd (ix3 (expert be n) f d) :=
  table_apply _ wd _ n f d _ (word_apply be hb n)

include hb in
theorem gate_apply (n : Fin 163840) (f : Fin 256) :
    val_main_v10 (F := Ideal) x wg be (ix2 n f) = ∑ d, x (ix3 n 0 d) * wg (ix3 (expert be n) d f) := by
  pointwise [val_main_v10, val_main_v0, gateTable_apply wg be hb]

include hb in
theorem up_apply (n : Fin 163840) (f : Fin 256) :
    val_main_v18 (F := Ideal) x wu be (ix2 n f) = ∑ d, x (ix3 n 0 d) * wu (ix3 (expert be n) d f) := by
  pointwise [val_main_v18, val_main_v0, upTable_apply wu be hb]

include hb in
theorem silu_apply (n : Fin 163840) (f : Fin 256) :
    val_main_v19 (F := Ideal) x wg be (ix2 n f)
      = (∑ d, x (ix3 n 0 d) * wg (ix3 (expert be n) d f)) * Ideal.logistic (∑ d, x (ix3 n 0 d) * wg (ix3 (expert be n) d f)) := by
  pointwise [val_main_v19, val_main_call0_v5, val_main_call0_v4, val_main_call0_v3, val_main_call0_v2, val_main_call0_v1, val_main_call0_v0, val_main_call0_cst, val_main_call0_cst_0, gate_apply x wg be hb]
  rfl

include hb in
theorem row_apply (n : Fin 163840) (k : Fin 1024) :
    val_main_v29 (F := Ideal) x wg wu wd be (ix3 n 0 k) = rowOutput x wg wu wd be n k := by
  pointwise [val_main_v29, val_main_v28, val_main_v20, silu_apply x wg be hb, up_apply x wu be hb, downTable_apply wd be hb]
  rfl

include hb in
/-- The reference's result is every row's output. -/
theorem whole : val_main_v29 (F := Ideal) x wg wu wd be = output x wg wu wd be := by
  funext i
  obtain ⟨n, k, rfl⟩ : ∃ (n : Fin 163840) (k : Fin 1024), i = ix3 n 0 k := ⟨i 0, i 2, by
    funext a
    match a with
    | 0 => rfl
    | 1 => exact Subsingleton.elim (α := Fin 1) _ _
    | 2 => rfl⟩
  exact row_apply x wg wu wd be hb n k

end Cert.ExpRefIdeal.Element
end
-- ==== Proof.CombIdealGather.lean ====
/-
  The combination's first loop and its wait: one grid point copies, for each of its 1024 words, the row of the experts'
  outputs that the word names into its own row of a scratch buffer, all the copies signalling one semaphore, and then
  waits once for all of them. Two words may name one row, so each copy reads the array under a share of its own.
-/
module

public import proofs.«01_k».proof.Proof.Gen.CombIdeal.Skeleton
public import Idealize.ShloMosaic.Lib.Pipeline.Routed
public import Idealize.ShloMosaic.Lib.Pipeline.FrameBody
public import Idealize.ShloMosaic.Lib.Writes
public import Idealize.ShloMosaic.Lib.Batch
public import Idealize.ShloMosaic.Lib.Ring
public import Idealize.ShloMosaic.Lib.Exec
public import Idealize.ShloMosaic.Lib.Affine
public import Idealize.ShloMosaic.Lib.Tactic
public import Idealize.ShloMosaic.PureOps.Ideal

@[expose] public section

set_option maxRecDepth 16384

noncomputable section

namespace Cert.CombIdeal.Combine

open Cert.CombIdeal Cert.CombIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.RefSig (tileCredit)
open Idealize.ShloMosaic.Pipeline (UC)

variable {F : FTy → Type} [FloatOps F]

/-- The program's resources: the pipeline's, and the counters the copies draw on. -/
abbrev Res (F : FTy → Type) := MT nD τ sig Unit (Elt F) ℕ (UC sig nD τ) ℕ

/-- The experts' outputs, and the scratch buffers: the rows copied, the tokens' totals, and the totals again. -/
abbrev outputs : Memref sig .tc .hbm S163840x1x1024 .f32 := Memref.whole main_arg0
abbrev copied : Memref sig .tc .vmem S1024x1x1024 .f32 := Memref.whole cc0_scratch0
abbrev totals : Memref sig .tc .vmem S128x1x1024 .f32 := Memref.whole cc0_scratch1
abbrev block : Memref sig .tc .vmem S128x1024 .f32 := Memref.whole cc0_scratch2

/-- The copies' semaphore. -/
abbrev done : DmaSem sig := ((cc0_scratch3.slice (Rect.unit (s := S1) ![0] S1.size inb_S1_S1_0)).squeeze S_ squeezes_S1_S_).sem

/-- The copies of one grid point. -/
theorem trips1 : k0_t1_loop.trips = 1024 := by decide

/-- The sole index of a single word. -/
abbrev sole : S1.Idx := Shape.Idx.first (numel1_S1.symm ▸ Nat.one_pos)

/-- Word `t` of the words `f`. -/
abbrev word (M : Memref sig .tc .smem S1024 .i32) (f : M.view.ty.Contents (Elt F)) (t : Fin k0_t1_loop.trips) : BitVec 32 :=
  M.view.readAt (Elt F) (Rect.unit (s := S1024) (k0_off1 t) S1.size (k0_off1_inb t)).toLoadRect f sole

/-- A word below the number of rows names a row. -/
theorem row_inb (w : BitVec 32) (h : w.toNat < 163840) : ∀ a, k0_off3 w a + S1x1x1024.size a ≤ S163840x1x1024.size a := by
  intro a
  match a with
  | ⟨0, _⟩ => show w.toNat + 1 ≤ 163840; omega
  | ⟨1, _⟩ => show 0 + 1 ≤ 1; omega
  | ⟨2, _⟩ => show 0 + 1024 ≤ 1024; omega

/-- Copy `t`'s destination, a row of the scratch buffer; -/
def dstRow (t : Fin k0_t1_loop.trips) : Memref sig .tc .vmem S1x1024 .f32 :=
  (copied.slice (Rect.unit (s := S1024x1x1024) (k0_off2 t) S1x1x1024.size (k0_off2_inb t)) (fun _ => rfl)).squeeze S1x1024 squeezes_S1x1x1024_S1x1024
/-- its source, the row of the outputs that word `w` names. -/
def srcRow (w : BitVec 32) (h : ∀ a, k0_off3 w a + S1x1x1024.size a ≤ S163840x1x1024.size a) : Memref sig .tc .hbm S1x1024 .f32 :=
  (outputs.slice (Rect.unit (s := S163840x1x1024) (k0_off3 w) S1x1x1024.size h) (fun _ => rfl)).squeeze S1x1024 squeezes_S1x1x1024_S1x1024

/-- What one copy signals. -/
abbrev credit : ℕ := 128

theorem credit_row (t : Fin k0_t1_loop.trips) : (dstRow t).view.amount (.dma done) = credit := by
  show tileCredit S1x1024 .f32 = 128; decide
theorem credit_all : copied.view.dmaCredit = 131072 := by
  show tileCredit S1024x1x1024 .f32 = 131072; rfl

section Copies
variable (c : Dev nD) (w : Fin k0_t1_loop.trips → BitVec 32) (hw : ∀ t, (w t).toNat < 163840)
  (fd : Buf (Elt F) (copied.view.loc (c : Thread nD τ))) (fs : Buf (Elt F) (outputs.view.loc (c : Thread nD τ)))

abbrev fdAt (t : Fin k0_t1_loop.trips) : Buf (Elt F) ((dstRow t).view.loc (c : Thread nD τ)) := fd
abbrev fsAt (t : Fin k0_t1_loop.trips) : Buf (Elt F) ((srcRow (w t) (row_inb _ (hw t))).view.loc (c : Thread nD τ)) := fs

/-- The destination row once its copy has landed. -/
abbrev landed (t : Fin k0_t1_loop.trips) : Buf (Elt F) ((dstRow t).view.loc (c : Thread nD τ)) :=
  (dstRow t).view.writes (Elt F) (fdAt c fd t)
    [⟨Rect.whole S1x1024, ReadAs.same.apply ((srcRow (w t) (row_inb _ (hw t))).view.read (Elt F) (fsAt c w hw fs t))⟩]

/-- The source row of copy `t`, at the copy's share. -/
abbrev lent (t : Fin k0_t1_loop.trips) : sProp (Res F) :=
  (srcRow (w t) (row_inb _ (hw t))).view.loc (c : Thread nD τ)
    ↦[(srcRow (w t) (row_inb _ (hw t))).view.set]{Transfers.shareTokN fullShare t.val} fsAt c w hw fs t

/-- The destination row of copy `t` before the copy, -/
abbrev room (t : Fin k0_t1_loop.trips) : sProp (Res F) :=
  (dstRow t).view.loc (c : Thread nD τ) ↦[(dstRow t).view.set]{fullShare} fdAt c fd t

/-- and what copy `t` delivers. -/
abbrev delivery (t : Fin k0_t1_loop.trips) : sProp (Res F) :=
  iprop(((dstRow t).view.loc (c : Thread nD τ) ↦[(dstRow t).view.set]{fullShare} landed c w hw fd fs t) ∗ lent c w hw fs t)

instance delivery_storable (t : Fin k0_t1_loop.trips) : BI.Storable (upEmb : UEmb _ (Res F)) (delivery c w hw fd fs t) := by
  unfold delivery; infer_instance

/-- The copies: `j` begun, `u` of their signals waited for. -/
abbrev copies (j u : ℕ) : sProp (Res F) :=
  Transfers.Batch countersEmb (c : Thread nD τ) (.dma done) () credit (fun t : Fin k0_t1_loop.trips => delivery c w hw fd fs t) j u

end Copies

section Issue
variable (c : Dev nD) (i : grid0.Coords) (a2 : Memref sig .tc .smem S1024 .i32) (w2 : a2.IsWhole)
  (a3 : Memref sig .tc .smem S1024 .f32) (w3 : a3.IsWhole) (a5 : Memref sig .tc .vmem S1x128x1024 .f32) (w5 : a5.IsWhole)
  (a6 : Memref sig .tc .vmem S1x1x1024 .f32) (w6 : a6.IsWhole) (a7 : Memref sig .tc .vmem S1x128x1024 .f32) (w7 : a7.IsWhole)
  (f2 : Buf (Elt F) (a2.view.loc (c : Thread nD τ))) (hw : ∀ t, (word (F := F) a2 f2 t).toNat < 163840)
  (fd : Buf (Elt F) (copied.view.loc (c : Thread nD τ))) (fs : Buf (Elt F) (outputs.view.loc (c : Thread nD τ)))

/-- Before copy `k`: the copies before it begun, the rows from `k` on in hand. -/
def issueAt (k : ℕ) (_ : Unit) : sProp (Res F) :=
  iprop(copies c (word (F := F) a2 f2) hw fd fs k 0
    ∗ bigSep (Ring.rangeSet k0_t1_loop.trips k k0_t1_loop.trips) (room c fd)
    ∗ bigSep (Ring.rangeSet k0_t1_loop.trips k k0_t1_loop.trips) (lent c (word (F := F) a2 f2) hw fs)
    ∗ (a2.view.loc (c : Thread nD τ) ↦[a2.view.set]{fullShare} f2))

set_option maxHeartbeats 4000000 in
theorem issue_step [∀ e, Nonempty (Elt F e)] (k : Fin k0_t1_loop.trips) (acc : Unit) :
    issueAt c a2 f2 hw fd fs k acc
      ⊢ wp frame (wpE (defs₀ (F := F)) Variants.none c none) Set.univ
          (k0_t1_body i a2 w2 a3 w3 outputs (Memref.isWhole_whole _) a5 w5 a6 w6 a7 w7 copied (Memref.isWhole_whole _)
            totals (Memref.isWhole_whole _) block (Memref.isWhole_whole _) cc0_scratch3 k acc)
          (issueAt c a2 f2 hw fd fs (k.val + 1)) := by
  have hk := k.isLt
  have hchk : k0_chk1 (word (F := F) a2 f2 k) := row_inb _ (hw k)
  unfold issueAt
  rw [Ring.bigSep_rangeSet_head (Φ := room c fd) hk hk, Ring.bigSep_rangeSet_head (Φ := lent c (word (F := F) a2 f2) hw fs) hk hk]
  iintro ⟨HB, ⟨HP, HPs⟩, ⟨HS, HSs⟩, H2⟩
  dsimp only [k0_t1_body]
  sl_exec (disch := first | exact hchk)
  sl_step
  isplitl [HB]; · iexact HB
  isplitl [HPs]; · iexact HPs
  isplitl [HSs]; · iexact HSs
  iexact H2

end Issue

end Cert.CombIdeal.Combine
end
-- ==== Proof.CombIdealBody.lean ====
/-
  What one grid point of the combination does: its 1024 rows copied, each token's eight rows summed with the token's
  weights, and the sum scaled by the gate and added to the residual.
-/
module

public import proofs.«01_k».proof.Proof.CombIdealGather

@[expose] public section

set_option maxRecDepth 16384

noncomputable section

namespace Cert.CombIdeal.Combine

open Cert.CombIdeal Cert.CombIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

/-! ## The copies' rows -/

omit [FloatOps F] in
theorem row_of_copy : ∀ t : Fin k0_t1_loop.trips, k0_off2 t = ![t.val, 0, 0] := by decide +kernel

/-- The places of copy `t`'s destination in the scratch buffer. -/
def rowSet (t : Fin k0_t1_loop.trips) : Finset S1024x1x1024.Idx := (dstRow t).view.set

theorem rowSet_eq (t : Fin k0_t1_loop.trips) :
    rowSet t = (Rect.unit (s := S1024x1x1024) (k0_off2 t) S1x1x1024.size (k0_off2_inb t)).set :=
  (View.set_reshape _ _).trans (View.set_slice_whole _ _)

theorem mem_rowSet (t : Fin k0_t1_loop.trips) (y : S1024x1x1024.Idx) : y ∈ rowSet t ↔ (y 0).val = t.val := by
  rw [rowSet_eq, Rect.mem_set_unit]
  have h1 : (y 1).val < 1 := (y 1).isLt
  have h2 : (y 2).val < 1024 := (y 2).isLt
  constructor
  · intro h
    have := h 0
    rw [row_of_copy] at this
    have a : t.val ≤ (y 0).val ∧ (y 0).val < t.val + 1 := this
    omega
  · intro h a
    rw [row_of_copy]
    match a with
    | ⟨0, _⟩ => exact (show t.val ≤ (y 0).val ∧ (y 0).val < t.val + 1 by omega)
    | ⟨1, _⟩ => exact (show 0 ≤ (y 1).val ∧ (y 1).val < 0 + 1 by omega)
    | ⟨2, _⟩ => exact (show 0 ≤ (y 2).val ∧ (y 2).val < 0 + 1024 by omega)

/-- The copy that fills row `y 0`. -/
abbrev copyOf (y : S1024x1x1024.Idx) : Fin k0_t1_loop.trips := ⟨(y 0).val, lt_of_lt_of_eq (y 0).isLt trips1.symm⟩

theorem dst_disjoint (t t' : Fin k0_t1_loop.trips) (h : t ≠ t') : Disjoint (rowSet t) (rowSet t') := by
  rw [Finset.disjoint_left]
  intro y hy hy'
  exact h (Fin.ext (((mem_rowSet t y).mp hy).symm.trans ((mem_rowSet t' y).mp hy')))

theorem dst_cover : Finset.univ.biUnion rowSet = (Finset.univ : Finset S1024x1x1024.Idx) :=
  Finset.eq_univ_of_forall fun y => Finset.mem_biUnion.mpr ⟨copyOf y, Finset.mem_univ _, (mem_rowSet _ y).mpr rfl⟩

/-- The place in the outputs that place `y` of the scratch buffer is copied from. -/
def source (w : Fin k0_t1_loop.trips → BitVec 32) (hw : ∀ t, (w t).toNat < 163840) (y : S1024x1x1024.Idx) : S163840x1x1024.Idx := fun
  | ⟨0, _⟩ => ⟨(w (copyOf y)).toNat, hw _⟩
  | ⟨1, _⟩ => ⟨(y 1).val, (y 1).isLt⟩
  | ⟨2, _⟩ => ⟨(y 2).val, (y 2).isLt⟩

section
variable (c : Dev nD) (w : Fin k0_t1_loop.trips → BitVec 32) (hw : ∀ t, (w t).toNat < 163840)
  (fd : Buf (Elt F) (copied.view.loc (c : Thread nD τ))) (fs : Buf (Elt F) (outputs.view.loc (c : Thread nD τ)))

/-- The scratch buffer once all the copies have landed. -/
def gathered : Buf (Elt F) (copied.view.loc (c : Thread nD τ)) := fun y : S1024x1x1024.Idx => (fs (source w hw y) : Elt F .f32)

/-- Where element `x` of copy `t` lands, -/
def dstAt (t : Fin k0_t1_loop.trips) (x : S1x1024.Idx) : S1024x1x1024.Idx := (dstRow t).view.emb x
/-- and where it comes from. -/
def srcAt (t : Fin k0_t1_loop.trips) (x : S1x1024.Idx) : S163840x1x1024.Idx := (srcRow (w t) (row_inb _ (hw t))).view.emb x

theorem dstAt_eq (t : Fin k0_t1_loop.trips) (x : S1x1024.Idx) : dstAt t x
    = (Rect.unit (s := S1024x1x1024) (k0_off2 t) S1x1x1024.size (k0_off2_inb t)).emb
        (Shape.reshapeEquiv squeezes_S1x1x1024_S1x1024.numel_eq x) := rfl

theorem srcAt_eq (t : Fin k0_t1_loop.trips) (x : S1x1024.Idx) : srcAt w hw t x
    = (Rect.unit (s := S163840x1x1024) (k0_off3 (w t)) S1x1x1024.size (row_inb _ (hw t))).emb
        (Shape.reshapeEquiv squeezes_S1x1x1024_S1x1024.numel_eq x) := rfl

theorem dst_read (t : Fin k0_t1_loop.trips) (f : S1024x1x1024.Idx → Elt F .f32) (x : S1x1024.Idx) :
    View.read (Elt F) (dstRow t).view f x = f (dstAt t x) := rfl
theorem src_read (t : Fin k0_t1_loop.trips) (f : S163840x1x1024.Idx → Elt F .f32) (x : S1x1024.Idx) :
    View.read (Elt F) (srcRow (w t) (row_inb _ (hw t))).view f x = f (srcAt w hw t x) := rfl
theorem same_read (u : S1x1024.Idx → Elt F .f32) : ReadAs.same.apply u = u := rfl

theorem landed_at (t : Fin k0_t1_loop.trips) (x : S1x1024.Idx) :
    (landed c w hw fd fs t : S1024x1x1024.Idx → Elt F .f32) (dstAt t x)
      = (fs : S163840x1x1024.Idx → Elt F .f32) (srcAt w hw t x) := by
  refine (dst_read t (landed c w hw fd fs t) x).symm.trans ?_
  have e := congrFun (View.read_writes_whole (Val := Elt F) (dstRow t).view (fdAt c fd t)
    (ReadAs.same.apply ((srcRow (w t) (row_inb _ (hw t))).view.read (Elt F) (fsAt c w hw fs t)))) x
  exact e.trans ((congrFun (same_read _) x).trans (src_read w hw t fs x))

theorem srcAt_source (t : Fin k0_t1_loop.trips) (x : S1x1024.Idx) (et : copyOf (dstAt t x) = t) :
    srcAt w hw t x = source w hw (dstAt t x) := by
  rw [srcAt_eq]
  have e1 := congrFun (dstAt_eq t x) 1
  have e2 := congrFun (dstAt_eq t x) 2
  generalize Shape.reshapeEquiv squeezes_S1x1x1024_S1x1024.numel_eq x = r at e1 e2 ⊢
  have r0 : (r 0).val < 1 := (r 0).isLt
  refine funext fun a => Fin.ext ?_
  match a with
  | ⟨0, _⟩ =>
    show (w t).toNat + 1 * (r 0).val = (w (copyOf (dstAt t x))).toNat
    rw [et]; omega
  | ⟨1, _⟩ => exact (congrArg Fin.val e1).symm
  | ⟨2, _⟩ => exact (congrArg Fin.val e2).symm

theorem landed_eq (t : Fin k0_t1_loop.trips) (y : S1024x1x1024.Idx) (hy : y ∈ rowSet t) :
    (landed c w hw fd fs t : S1024x1x1024.Idx → Elt F .f32) y = (gathered c w hw fs : S1024x1x1024.Idx → Elt F .f32) y := by
  have h0 := (mem_rowSet t y).mp hy
  have et : copyOf y = t := Fin.ext h0
  obtain ⟨x, hx⟩ : ∃ x, dstAt t x = y := by
    obtain ⟨x, -, hx⟩ := Finset.mem_map.mp (show y ∈ Finset.univ.map (dstRow t).view.emb from hy)
    exact ⟨x, hx⟩
  subst hx
  exact (landed_at c w hw fd fs t x).trans (congrArg (fs : S163840x1x1024.Idx → Elt F .f32) (srcAt_source w hw t x et))

theorem room_split (g : Buf (Elt F) (copied.view.loc (c : Thread nD τ))) :
    (copied.view.loc (c : Thread nD τ) ↦{fullShare} g : sProp (Res F)) = bigSep Finset.univ (fun t => room c g t) :=
  Ring.pointsTo_blocks (ℓ := copied.view.loc (c : Thread nD τ)) rowSet dst_disjoint dst_cover g

/-- The places of copy `t`'s source in the outputs. -/
def srcSet (t : Fin k0_t1_loop.trips) : Finset S163840x1x1024.Idx := (srcRow (w t) (row_inb _ (hw t))).view.set

/-- What is left of copy `t`'s share of the outputs beside its row. -/
abbrev spare (t : Fin k0_t1_loop.trips) : sProp (Res F) :=
  outputs.view.loc (c : Thread nD τ) ↦[Finset.univ \ srcSet w hw t]{Transfers.shareTokN fullShare t.val} fs

theorem lent_split : (outputs.view.loc (c : Thread nD τ) ↦{fullShare} fs : sProp (Res F))
    = iprop((outputs.view.loc (c : Thread nD τ) ↦[Finset.univ]{Transfers.shareDrop fullShare k0_t1_loop.trips} fs)
      ∗ bigSep Finset.univ (fun t => lent c w hw fs t) ∗ bigSep Finset.univ (fun t => spare c w hw fs t)) := by
  have h1 : (outputs.view.loc (c : Thread nD τ) ↦{fullShare} fs : sProp (Res F))
      = iprop((outputs.view.loc (c : Thread nD τ) ↦[Finset.univ]{Transfers.shareDrop fullShare k0_t1_loop.trips} fs)
        ∗ bigSep Finset.univ (fun t : Fin k0_t1_loop.trips => outputs.view.loc (c : Thread nD τ) ↦[Finset.univ]{Transfers.shareTok fullShare _ t} fs)) :=
    BI.Entails.antisymm (Transfers.pointsTo_toks fullShare k0_t1_loop.trips).1 (Transfers.pointsTo_toks fullShare k0_t1_loop.trips).2
  have h2 : ∀ t ∈ (Finset.univ : Finset (Fin k0_t1_loop.trips)),
      (outputs.view.loc (c : Thread nD τ) ↦[Finset.univ]{Transfers.shareTok fullShare _ t} fs : sProp (Res F))
        = iprop(lent c w hw fs t ∗ spare c w hw fs t) := fun t _ =>
    BI.Entails.antisymm
      (pointsTo_split_subset (ℓ := outputs.view.loc (c : Thread nD τ)) (S := Finset.univ) (Finset.subset_univ (srcSet w hw t))).1
      (pointsTo_split_subset (ℓ := outputs.view.loc (c : Thread nD τ)) (S := Finset.univ) (Finset.subset_univ (srcSet w hw t))).2
  rw [h1, BI.bigSep_congr h2]
  congr 1
  exact BI.bigSep_sep _ _ _

theorem delivered : (bigSep Finset.univ (fun t => delivery c w hw fd fs t) : sProp (Res F))
    = iprop((copied.view.loc (c : Thread nD τ) ↦{fullShare} gathered c w hw fs) ∗ bigSep Finset.univ (fun t => lent c w hw fs t)) := by
  refine (BI.bigSep_sep Finset.univ
    (fun t => (dstRow t).view.loc (c : Thread nD τ) ↦[(dstRow t).view.set]{fullShare} landed c w hw fd fs t)
    (fun t => lent c w hw fs t)).trans ?_
  refine congrArg (fun P : sProp (Res F) => iprop(P ∗ bigSep Finset.univ (fun t => lent c w hw fs t))) ?_
  refine Eq.trans ?_ (room_split c (gathered c w hw fs)).symm
  exact BI.bigSep_congr fun t _ => pointsTo_congr (ℓ := copied.view.loc (c : Thread nD τ)) fun i hi => landed_eq c w hw fd fs t i hi
end

end Cert.CombIdeal.Combine
end
-- ==== Proof.CombIdealRun.lean ====
/-
  What one grid point of the combination does: its 1024 rows copied, each token's eight rows summed with the token's
  weights, and the sum scaled by the gate and added to the residual.
-/
module

public import proofs.«01_k».proof.Proof.CombIdealBody
public import Idealize.ShloMosaic.Lib.WritesUnit
public import Idealize.ShloMosaic.Lib.VecWindow

@[expose] public section

set_option maxRecDepth 16384

noncomputable section

namespace Cert.CombIdeal.Combine

open Cert.CombIdeal Cert.CombIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

/-! ## The tokens' totals -/

/-- Token `k`'s first weight, and its weight `r + 1`; -/
abbrev weight0 (w : S1024.Idx → Elt F .f32) (k : Fin k0_t2_loop.trips) : Elt F .f32 :=
  View.ld w (Rect.unit (s := S1024) (k0_off4 k) S1.size (k0_off4_inb k)) sole
abbrev weight (w : S1024.Idx → Elt F .f32) (k : Fin k0_t2_loop.trips) (r : Fin 7) : Elt F .f32 :=
  View.ld w (Rect.unit (s := S1024) (k0_off6 k (BitVec.ofNat 32 (1 + r.val))) S1.size (k0_off6_inb k r)) sole
/-- its first row, and its row `r + 1`, among the rows copied. -/
abbrev row0 (g : S1024x1x1024.Idx → Elt F .f32) (k : Fin k0_t2_loop.trips) : Vec F S1x1x1024 .f32 :=
  View.ld g (Rect.unit (s := S1024x1x1024) (k0_off5 k) S1x1x1024.size (k0_off5_inb k))
abbrev row (g : S1024x1x1024.Idx → Elt F .f32) (k : Fin k0_t2_loop.trips) (r : Fin 7) : Vec F S1x1x1024 .f32 :=
  View.ld g (Rect.unit (s := S1024x1x1024) (k0_off7 k (BitVec.ofNat 32 (1 + r.val))) S1x1x1024.size (k0_off7_inb k r))

/-- Token `k`'s total. -/
def total (w : S1024.Idx → Elt F .f32) (g : S1024x1x1024.Idx → Elt F .f32) (k : Fin k0_t2_loop.trips) : FVec F S1x1x1024 .f32 :=
  k0_pay1 (k0_pay5 (k0_pay4 (weight0 w k) (row0 g k) (weight w k 0) (row g k 0) (weight w k 1) (row g k 1))
      (weight w k 2) (row g k 2) (weight w k 3) (row g k 3) (weight w k 4) (row g k 4))
    (k0_pay6 (row g k 5)) (k0_pay7 (weight w k 5)) (weight w k 6) (row g k 6)

theorem trips2 : k0_t2_loop.trips = 128 := by decide

/-- The column of place `y` of the totals. -/
def column (y : S128x1x1024.Idx) : S1x1x1024.Idx := fun
  | ⟨0, _⟩ => ⟨0, Nat.one_pos⟩
  | ⟨1, _⟩ => ⟨(y 1).val, (y 1).isLt⟩
  | ⟨2, _⟩ => ⟨(y 2).val, (y 2).isLt⟩

/-- The token of place `y` of the totals. -/
abbrev tokenOf (y : S128x1x1024.Idx) : Fin k0_t2_loop.trips := ⟨(y 0).val, lt_of_lt_of_eq (y 0).isLt trips2.symm⟩

/-- All the totals. -/
def allTotals (w : S1024.Idx → Elt F .f32) (g : S1024x1x1024.Idx → Elt F .f32) : S128x1x1024.Idx → Elt F .f32 :=
  fun y => total w g (tokenOf y) (column y)

/-- The buffer of totals after token `k`: the tokens before it stay, token `k` has its total. -/
theorem totals_step (w : S1024.Idx → Elt F .f32) (g : S1024x1x1024.Idx → Elt F .f32) (k : Fin k0_t2_loop.trips)
    (f : totals.view.ty.Contents (Elt F)) (hf : ∀ y : S128x1x1024.Idx, (y 0).val < k.val → totals.view.read (Elt F) f y = allTotals w g y)
    (y : S128x1x1024.Idx) (hy : (y 0).val < k.val + 1) :
    totals.view.read (Elt F) (totals.view.writes (Elt F) f
      [(⟨Rect.unit (s := S128x1x1024) (k0_off8 k) S1x1x1024.size (k0_off8_inb k), total w g k⟩ : View.Piece (Elt F) S128x1x1024 .f32)]) y
      = allTotals w g y := by
  have h1 : (y 1).val < 1 := (y 1).isLt
  have h2 : (y 2).val < 1024 := (y 2).isLt
  by_cases h : (y 0).val = k.val
  · refine (View.read_writes_cons_unit_of_mem totals.view f (k0_off8_inb k) (total w g k) [] y (column y) (k0_off8_eq k) fun a => ?_).trans ?_
    · match a with
      | ⟨0, _⟩ => exact (show (y 0).val = k.val + 0 by omega)
      | ⟨1, _⟩ => exact (show (y 1).val = 0 + (y 1).val by omega)
      | ⟨2, _⟩ => exact (show (y 2).val = 0 + (y 2).val by omega)
    · show total w g k (column y) = total w g (tokenOf y) (column y)
      rw [show tokenOf y = k from Fin.ext h]
  · refine (View.read_writes_cons_unit_of_not_mem totals.view f (k0_off8_inb k) (total w g k) [] y (k0_off8_eq k) 0 (Or.inl ?_)).trans ?_
    · exact (show (y 0).val < k.val by omega)
    · exact hf y (by omega)

section
variable (c : Dev nD) (i : grid0.Coords) (a2 : Memref sig .tc .smem S1024 .i32) (w2 : a2.IsWhole)
  (a3 : Memref sig .tc .smem S1024 .f32) (w3 : a3.IsWhole) (a5 : Memref sig .tc .vmem S1x128x1024 .f32) (w5 : a5.IsWhole)
  (a6 : Memref sig .tc .vmem S1x1x1024 .f32) (w6 : a6.IsWhole) (a7 : Memref sig .tc .vmem S1x128x1024 .f32) (w7 : a7.IsWhole)
  (f3 : Buf (Elt F) (a3.view.loc (c : Thread nD τ))) (g : Buf (Elt F) (copied.view.loc (c : Thread nD τ)))

/-- Before token `k`: the totals of the tokens before it in place. -/
def summedAt (k : ℕ) (_ : Unit) : sProp (Res F) :=
  iprop((a3.view.loc (c : Thread nD τ) ↦[a3.view.set]{fullShare} f3)
    ∗ (copied.view.loc (c : Thread nD τ) ↦{fullShare} g)
    ∗ ∃ f : totals.view.ty.Contents (Elt F), (totals.view.loc (c : Thread nD τ) ↦{fullShare} f)
      ∗ ⌜∀ y : S128x1x1024.Idx, (y 0).val < k → totals.view.read (Elt F) f y = allTotals (a3.view.read (Elt F) f3) g y⌝)

set_option maxHeartbeats 4000000 in
theorem summed_step [∀ e, Nonempty (Elt F e)] (k : Fin k0_t2_loop.trips) (acc : Unit) :
    summedAt c a3 f3 g k acc
      ⊢ wp frame (wpE (defs₀ (F := F)) Variants.none c none) Set.univ
          (k0_t2_body i a2 w2 a3 w3 outputs (Memref.isWhole_whole _) a5 w5 a6 w6 a7 w7 copied (Memref.isWhole_whole _)
            totals (Memref.isWhole_whole _) block (Memref.isWhole_whole _) cc0_scratch3 k acc)
          (summedAt c a3 f3 g (k.val + 1)) := by
  have hk : k.val < 128 := Nat.lt_of_lt_of_le k.isLt k0_t2_abs.2.1
  unfold summedAt k0_t2_body
  iintro ⟨H3, H8, ⟨%f, H9, %hf⟩⟩
  sl_exec
  sl_step
  isplitl [H3]; · iexact H3
  isplitl [H8]; · iexact H8
  iexists _; isplitl [H9]; · iexact H9
  ipureintro
  exact fun y hy => totals_step (a3.view.read (Elt F) f3) g k f hf y hy
end

/-! ## One grid point -/

abbrev totalsRect : Rect S128x1x1024 := Rect.unit (s := S128x1x1024) ![0, 0, 0] S128x1x1024.size inb_S128x1x1024_S128x1x1024_0_0_0
abbrev blockRect : Rect S128x1024 := Rect.unit (s := S128x1024) ![0, 0] S128x1024.size inb_S128x1024_S128x1024_0_0
abbrev outRect : Rect S1x128x1024 := Rect.unit (s := S1x128x1024) ![0, 0, 0] S1x128x1024.size inb_S1x128x1024_S1x128x1024_0_0_0
abbrev gateRect : Rect S1x1x1024 := Rect.unit (s := S1x1x1024) ![0, 0, 0] S1x1x1024.size inb_S1x1x1024_S1x1x1024_0_0_0

/-- The words of a grid point, in the order of its copies. -/
abbrev words (x0 : S1024.Idx → BitVec 32) (t : Fin k0_t1_loop.trips) : BitVec 32 :=
  View.ld (Val := Elt F) (e' := .i32) x0 (Rect.unit (s := S1024) (k0_off1 t) S1.size (k0_off1_inb t)) sole

/-- The block of results, from the words, the weights, the residual's block, the gate's row and the experts' outputs. -/
def result (x0 : S1024.Idx → BitVec 32) (hx : ∀ j, (x0 j).toNat < 163840) (x1 : S1024.Idx → Elt F .f32)
    (x2 : S1x128x1024.Idx → Elt F .f32) (x3 : S1x1x1024.Idx → Elt F .f32) (fs : S163840x1x1024.Idx → Elt F .f32) :
    S1x128x1024.Idx → Elt F .f32 :=
  View.canon [(⟨outRect, k0_pay3 (View.ld x2 outRect) (View.ld x3 gateRect)
    (k0_pay2 (View.ld (allTotals x1 (fun y => fs (source (words (F := F) x0) (fun _ => hx _) y))) totalsRect))⟩ : View.Piece (Elt F) S1x128x1024 .f32)]

theorem result_cover (p : outRect.shape.Idx → Elt F .f32) (y : S1x128x1024.Idx) :
    ∃ pc ∈ [(⟨outRect, p⟩ : View.Piece (Elt F) S1x128x1024 .f32)], y ∈ pc.1.set :=
  View.cover_of_tiled [⟨outRect, p⟩] S1x128x1024.size (by rfl) y

section
variable (c : Dev nD) (i : grid0.Coords) (a2 : Memref sig .tc .smem S1024 .i32) (w2 : a2.IsWhole)
  (a3 : Memref sig .tc .smem S1024 .f32) (w3 : a3.IsWhole) (a5 : Memref sig .tc .vmem S1x128x1024 .f32) (w5 : a5.IsWhole)
  (a6 : Memref sig .tc .vmem S1x1x1024 .f32) (w6 : a6.IsWhole) (a7 : Memref sig .tc .vmem S1x128x1024 .f32) (w7 : a7.IsWhole)
  (x0 : S1024.Idx → BitVec 32) (hx : ∀ j, (x0 j).toNat < 163840) (x1 : S1024.Idx → Elt F .f32)
  (x2 : S1x128x1024.Idx → Elt F .f32) (x3 : S1x1x1024.Idx → Elt F .f32) (fs : S163840x1x1024.Idx → Elt F .f32)

set_option maxHeartbeats 1000000 in
/-- One grid point leaves its block's results; the scratch buffers end at some contents, all else as it was. -/
theorem run [∀ e, Nonempty (Elt F e)] (W : Waits sig Unit) (K : PUnit → sProp (Res F)) :
    iprop(owns (c : Thread nD τ) a2 fullShare (x0 : S1024.Idx → Elt F .i32) ∗ owns (c : Thread nD τ) a3 fullShare x1
        ∗ owns (c : Thread nD τ) a5 fullShare x2 ∗ owns (c : Thread nD τ) a6 fullShare x3
        ∗ (∃ d, owns (c : Thread nD τ) a7 fullShare d)
        ∗ (outputs.view.loc (c : Thread nD τ) ↦{fullShare} fs)
        ∗ (∃ f, copied.view.loc (c : Thread nD τ) ↦{fullShare} f)
        ∗ (∃ f, totals.view.loc (c : Thread nD τ) ↦{fullShare} f)
        ∗ (∃ f, block.view.loc (c : Thread nD τ) ↦{fullShare} f)
        ∗ semVal ((c : Thread nD τ), (SemLoc.dma done : SemLoc sig)) 0
        ∗ owes (c : Thread nD τ) 0 W
        ∗ (iprop(owns (c : Thread nD τ) a2 fullShare (x0 : S1024.Idx → Elt F .i32) ∗ owns (c : Thread nD τ) a3 fullShare x1
            ∗ owns (c : Thread nD τ) a5 fullShare x2 ∗ owns (c : Thread nD τ) a6 fullShare x3
            ∗ owns (c : Thread nD τ) a7 fullShare (result x0 hx x1 x2 x3 fs)
            ∗ (outputs.view.loc (c : Thread nD τ) ↦{fullShare} fs)
            ∗ (∃ f, copied.view.loc (c : Thread nD τ) ↦{fullShare} f)
            ∗ (∃ f, totals.view.loc (c : Thread nD τ) ↦{fullShare} f)
            ∗ (∃ f, block.view.loc (c : Thread nD τ) ↦{fullShare} f)
            ∗ semVal ((c : Thread nD τ), (SemLoc.dma done : SemLoc sig)) 0
            ∗ (∃ W', owes (c : Thread nD τ) 0 W')) -∗ K ⟨⟩))
      ⊢ wp frame (wpE (defs₀ (F := F)) Variants.none c none) Set.univ
          (cc0_combine i a2 w2 a3 w3 outputs (Memref.isWhole_whole _) a5 w5 a6 w6 a7 w7 copied (Memref.isWhole_whole _)
            totals (Memref.isWhole_whole _) block (Memref.isWhole_whole _) cc0_scratch3) K := by
  rw [cc0_combine_eq_skeleton]; unfold cc0_combine_skel owns
  iintro ⟨⟨%f2, %e2, H2⟩, ⟨%f3, %e3, H3⟩, ⟨%f5, %e5, H5⟩, ⟨%f6, %e6, H6⟩, ⟨%d7, %f7, -, H7⟩, HA, ⟨%f8, H8⟩, ⟨%f9, H9⟩, ⟨%f10, H10⟩, Hc, HO, Hk⟩
  subst e2; subst e3; subst e5; subst e6
  have hw : ∀ t, (word (F := F) a2 f2 t).toNat < 163840 := fun t => hx _
  imod (Transfers.batch_alloc' (Lvl := ℕ) countersEmb (c : Thread nD τ) () credit
    (fun t : Fin k0_t1_loop.trips => delivery c (word (F := F) a2 f2) hw f8 fs t) (sm := .dma done) (E := Set.univ)) $$ Hc with HB
  ihave HR := (Entails.of_eq (room_split c f8)) $$ H8
  ihave HA' := (Entails.of_eq (lent_split c (word (F := F) a2 f2) hw fs)) $$ HA
  icases HA' with ⟨HAd, HL, HS⟩
  sl_for (issueAt c a2 f2 hw f8 fs) $$ [HB HR HL H2]
  case region => exact issue_step c i a2 w2 a3 w3 a5 w5 a6 w6 a7 w7 f2 hw f8 fs
  · unfold issueAt
    rw [Ring.rangeSet_univ]
    isplitl [HB]; · iexact HB
    isplitl [HR]; · iexact HR
    isplitl [HL]; · iexact HL
    iexact H2
  iintro %a HI
  unfold issueAt
  icases HI with ⟨HB, -, -, H2⟩
  ihave HB := (Entails.of_eq (show copies c (word (F := F) a2 f2) hw f8 fs (Scf.trips 0#32 (Scalar.addi 0#32 1024#32) 1#32) 0
    = copies c (word (F := F) a2 f2) hw f8 fs k0_t1_loop.trips 0 from rfl)) $$ HB
  simp only [Prog.lift, Prog.bind_op, Prog.bind_ret]
  iapply (Transfers.wp_waitBatchAll countersEmb Variants.none (c : Thread nD τ) none (dstw := copied) () (N := credit) credit_all (by decide)
    (D := fun t : Fin k0_t1_loop.trips => delivery c (word (F := F) a2 f2) hw f8 fs t) (u := 0) (by rw [trips1]; rfl)) $$ [HB HO]
  · isplitl [HB]; · iexact HB
    iexact HO
  iintro ⟨HD, Hc, HO⟩
  simp only [Prog.bind]
  ihave HD' := (Entails.of_eq (delivered c (word (F := F) a2 f2) hw f8 fs)) $$ HD
  icases HD' with ⟨H8, HL⟩
  ihave HA := (Entails.of_eq (lent_split c (word (F := F) a2 f2) hw fs).symm) $$ [HAd HL HS]
  · isplitl [HAd]; · iexact HAd
    isplitl [HL]; · iexact HL
    iexact HS
  sl_for (summedAt c a3 f3 (gathered c (word (F := F) a2 f2) hw fs)) $$ [H3 H8 H9]
  case region => exact summed_step c i a2 w2 a3 w3 a5 w5 a6 w6 a7 w7 f3 (gathered c (word (F := F) a2 f2) hw fs)
  · unfold summedAt
    isplitl [H3]; · iexact H3
    isplitl [H8]; · iexact H8
    iexists f9; isplitl [H9]; · iexact H9
    ipureintro
    exact fun y hy => absurd hy (Nat.not_lt_zero _)
  iintro %a' HI
  unfold summedAt
  icases HI with ⟨H3, H8, ⟨%ft, H9, %hft⟩⟩
  have et : ft = allTotals (a3.view.read (Elt F) f3) (gathered c (word (F := F) a2 f2) hw fs) :=
    funext fun y => hft y (lt_of_lt_of_eq (show (y 0).val < 128 from (y 0).isLt) (show 128 = Scf.trips k0_t2_loop.lb k0_t2_loop.ub k0_t2_loop.st by decide))
  subst et
  sl_exec!
  sl_step
  sl_exec!
  sl_step
  iapply Hk
  isplitl [H2]; · iexists f2; isplitr; · ipureintro; rfl
                  iexact H2
  isplitl [H3]; · iexists f3; isplitr; · ipureintro; rfl
                  iexact H3
  isplitl [H5]; · iexists f5; isplitr; · ipureintro; rfl
                  iexact H5
  isplitl [H6]; · iexists f6; isplitr; · ipureintro; rfl
                  iexact H6
  isplitl [H7]
  · iexists _; isplitr; swap
    · iexact H7
    ipureintro
    refine (View.read_writes_eq_canon _ _ _ (result_cover _)).trans ?_
    refine congrArg (fun p => View.canon [(⟨outRect, k0_pay3 (View.ld (a5.view.read (Elt F) f5) outRect)
      (View.ld (a6.view.read (Elt F) f6) gateRect) p⟩ : View.Piece (Elt F) S1x128x1024 .f32)]) ?_
    unfold run.sl.v14 run.sl.H10_1
    refine (View.readCov_full block.view inb_S128x1024_S128x1024_0_0 inb_S128x1024_S128x1024_0_0 _ []).trans (congrArg k0_pay2 ?_)
    rfl
  isplitl [HA]; · iexact HA
  isplitl [H8]; · iexists _; iexact H8
  isplitl [H9]; · iexists _; iexact H9
  isplitl [H10]; · iexists _; iexact H10
  isplitl [Hc]; · iexact Hc
  iexists _; iexact HO
end

end Cert.CombIdeal.Combine
end
-- ==== Proof.CombIdealFrame.lean ====
/-
  The combination run with every word naming a row of the outputs: every execution terminates, the arguments end
  unchanged, and the results' array ends at what the points' write-backs leave.
-/
module

public import proofs.«01_k».proof.Proof.CombIdealRun
public import proofs.«01_k».proof.Proof.Gen.CombIdeal.Launch
public import Idealize.ShloMosaic.Lib.Pipeline.Routed
public import Idealize.ShloMosaic.Lib.Claim
public import Idealize.ShloMosaic.Lib.Pipeline.Kit
public import Idealize.ShloMosaic.Adequacy
public import Idealize.ShloMosaic.Init

@[expose] public section

set_option maxRecDepth 16384

noncomputable section

namespace Cert.CombIdeal.Combine

open Cert.CombIdeal Cert.CombIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose UC)

variable {F : FTy → Type} [FloatOps F]
variable (m : (ℓ : Loc nD τ sig) → Buf (Elt F) ℓ) (ρ : Dev nD → PrngReg)

abbrev cfg : Cfg sig Λ₀ := cfgs 0

/-- Every word names a row of the outputs. -/
def Bounded (m : (ℓ : Loc nD τ sig) → Buf (Elt F) ℓ) : Prop :=
  ∀ (c : Dev nD) (j : S131072.Idx), (m ((c : Thread nD τ).loc main_arg1) j : BitVec 32).toNat < 163840

variable {m} (hb : Bounded m)

/-- Window `w`'s block at point `t`, read off its array at launch. -/
def staged (_ : Bounded m) (c : Dev nD) (w : Fin cfg.W) (t : Fin cfg.N) :
    ((cfg.win w).xblock (cfg.grid.coords t)).Idx → Elt F (cfg.win w).elt :=
  ((cfg.win w).blk t).view.read (Elt F) (m ((cfg.win w).arr.view.loc (c : Thread nD τ)))

theorem staged_bound (c : Dev nD) (t : Fin cfg.N) (j : S1024.Idx) : (staged hb c (0 : Fin 5) t j : BitVec 32).toNat < 163840 :=
  hb c _

/-- The experts' outputs at launch. -/
abbrev experts (m : (ℓ : Loc nD τ sig) → Buf (Elt F) ℓ) (c : Dev nD) : S163840x1x1024.Idx → Elt F .f32 := m ((c : Thread nD τ).loc main_arg0)

/-- The results of point `t`. -/
def resultAt (c : Dev nD) (t : Fin cfg.N) : S1x128x1024.Idx → Elt F .f32 :=
  result (staged hb c (0 : Fin 5) t) (staged_bound hb c t) (staged hb c (1 : Fin 5) t) (staged hb c (2 : Fin 5) t) (staged hb c (3 : Fin 5) t)
    (experts m c)

/-- The copies' semaphore, the kernel's own. -/
abbrev osem : Unit → SemLoc sig := fun _ => .dma done

/-- What the body keeps between points: the outputs, the scratch buffers, and the semaphore at zero. -/
def Phi (m : (ℓ : Loc nD τ sig) → Buf (Elt F) ℓ) (c : Dev nD) : sProp (Res F) :=
  Pipeline.Ends spec0 osem {main_arg0} c fun b => m ((c : Thread nD τ).loc b)

/-- The pipeline's proof data on core `c`. -/
def dats (_ : Fin 1) (c : Dev nD) : Dat τ (Elt F) Unit ℕ (UC sig nD τ) ℕ cfg c where
  A w := m ((cfg.win w).arr.view.loc (c : Thread nD τ))
  after w t := match w with
    | ⟨0, _⟩ => staged hb c (0 : Fin 5) t
    | ⟨1, _⟩ => staged hb c (1 : Fin 5) t
    | ⟨2, _⟩ => staged hb c (2 : Fin 5) t
    | ⟨3, _⟩ => staged hb c (3 : Fin 5) t
    | ⟨4, _⟩ => resultAt hb c t
  Φ _ := Phi m c
  q _ := fullShare
  owed _ := 0

theorem after_0 (c : Dev nD) (t : Fin cfg.N) : (dats hb 0 c).after (0 : Fin 5) t = staged hb c (0 : Fin 5) t := rfl
theorem after_1 (c : Dev nD) (t : Fin cfg.N) : (dats hb 0 c).after (1 : Fin 5) t = staged hb c (1 : Fin 5) t := rfl
theorem after_2 (c : Dev nD) (t : Fin cfg.N) : (dats hb 0 c).after (2 : Fin 5) t = staged hb c (2 : Fin 5) t := rfl
theorem after_3 (c : Dev nD) (t : Fin cfg.N) : (dats hb 0 c).after (3 : Fin 5) t = staged hb c (3 : Fin 5) t := rfl
theorem after_4 (c : Dev nD) (t : Fin cfg.N) : (dats hb 0 c).after (4 : Fin 5) t = resultAt hb c t := by dsimp only [dats]

theorem before_0 (c : Dev nD) (t : Fin cfg.N) (d) : (dats hb 0 c).before (0 : Fin 5) t d = staged hb c (0 : Fin 5) t :=
  ((dats hb 0 c).before_in_eq_fetched (0 : Fin 5) rfl (fun _ => rfl) (fun _ _ _ => rfl) (fun t => by rw [after_0]; unfold Dat.blockOf staged; rfl) t d).trans
    (by unfold Dat.fetched Dat.blockOf staged; rfl)
theorem before_1 (c : Dev nD) (t : Fin cfg.N) (d) : (dats hb 0 c).before (1 : Fin 5) t d = staged hb c (1 : Fin 5) t :=
  ((dats hb 0 c).before_in_eq_fetched (1 : Fin 5) rfl (fun _ => rfl) (fun _ _ _ => rfl) (fun t => by rw [after_1]; unfold Dat.blockOf staged; rfl) t d).trans
    (by unfold Dat.fetched Dat.blockOf staged; rfl)
theorem before_2 (c : Dev nD) (t : Fin cfg.N) (d) : (dats hb 0 c).before (2 : Fin 5) t d = staged hb c (2 : Fin 5) t :=
  ((dats hb 0 c).before_in_eq_fetched (2 : Fin 5) rfl (fun _ => rfl) (fun _ _ _ => rfl) (fun t => by rw [after_2]; unfold Dat.blockOf staged; rfl) t d).trans
    (by unfold Dat.fetched Dat.blockOf staged; rfl)
theorem before_3 (c : Dev nD) (t : Fin cfg.N) (d) : (dats hb 0 c).before (3 : Fin 5) t d = staged hb c (3 : Fin 5) t :=
  ((dats hb 0 c).before_in_eq_fetched (3 : Fin 5) rfl (fun _ => rfl) (fun _ _ _ => rfl) (fun t => by rw [after_3]; unfold Dat.blockOf staged; rfl) t d).trans
    (by unfold Dat.fetched Dat.blockOf staged; rfl)

/-- What the body keeps, one by one. -/
theorem Phi_eq (c : Dev nD) : (Phi m c : sProp (Res F))
    = iprop((outputs.view.loc (c : Thread nD τ) ↦{fullShare} experts m c)
      ∗ semVal ((c : Thread nD τ), (SemLoc.dma done : SemLoc sig)) 0
      ∗ ((∃ f, copied.view.loc (c : Thread nD τ) ↦{fullShare} f)
        ∗ (∃ f, totals.view.loc (c : Thread nD τ) ↦{fullShare} f)
        ∗ (∃ f, block.view.loc (c : Thread nD τ) ↦{fullShare} f))
      ∗ ∃ r, prngReg c r) := by
  unfold Phi Pipeline.Ends
  rw [Pipeline.routed_singleton, Pipeline.ownSems0_eq_of_list c osem [()] (by decide) (by decide), scopedRest0_eq]
  rfl

set_option maxHeartbeats 2000000 in
/-- The obligation at every point. -/
theorem body_obligation [∀ e, Nonempty (Elt F e)] (c : Dev nD) :
    BodyObligation (dats hb 0 c) (defs₀ (F := F)) Variants.none () Set.univ := fun t => by
  rw [bigSep_W0, bigSep_W0]
  rewrite [show (dats hb 0 c).Φ t.succ = Phi m c from rfl, show (dats hb 0 c).Φ t.castSucc = Phi m c from rfl, Phi_eq]
  simp only [before_0, before_1, before_2, before_3, after_0, after_1, after_2, after_3, after_4, resultAt]
  unfold Dat.owesAt Pipeline.owesWithin
  iintro ⟨⟨HA, Hc, ⟨H8, H9, H10⟩, Hg⟩, ⟨%W, %hW, HO⟩, ⟨%d0, H0⟩, ⟨%d1, H1⟩, ⟨%d2, H2⟩, ⟨%d3, H3⟩, ⟨%d4, H4⟩⟩
  iapply (run c (cfg.grid.coords t) _ _ _ _ _ _ _ _ _ _ (staged hb c (0 : Fin 5) t) (staged_bound hb c t) (staged hb c (1 : Fin 5) t)
    (staged hb c (2 : Fin 5) t) (staged hb c (3 : Fin 5) t) (experts m c) W _)
  isplitl [H0]; · iexact H0
  isplitl [H1]; · iexact H1
  isplitl [H2]; · iexact H2
  isplitl [H3]; · iexact H3
  isplitl [H4]; · iexists _; iexact H4
  isplitl [HA]; · iexact HA
  isplitl [H8]; · iexact H8
  isplitl [H9]; · iexact H9
  isplitl [H10]; · iexact H10
  isplitl [Hc]; · iexact Hc
  isplitl [HO]; · iexact HO
  iintro ⟨H0, H1, H2, H3, H4, HA, H8, H9, H10, Hc, ⟨%W', HO⟩⟩
  isplitl [HA Hc H8 H9 H10 Hg]
  · isplitl [HA]; · iexact HA
    isplitl [Hc]; · iexact Hc
    isplitl [H8 H9 H10]
    · isplitl [H8]; · iexact H8
      isplitl [H9]; · iexact H9
      iexact H10
    iexact Hg
  isplitl [HO]
  · iexists W'; isplitr
    · ipureintro; exact fun _ _ => Or.inl trivial
    iexact HO
  isplitl [H0]; · iexact H0
  isplitl [H1]; · iexact H1
  isplitl [H2]; · iexact H2
  isplitl [H3]; · iexact H3
  iexact H4

theorem own_sems : Pipeline.OwnSemFacts spec0 osem := by decide

theorem main_prefix (c : Dev nD) : main (F := F) c = Pipeline.chain [StableHlo.seq [], Prog.lift (.customCall (Pipeline.entry 0) ())] :=
  (main_chain c).trans rfl

set_option maxHeartbeats 2000000 in
/-- Every final state has the results' array at what the write-backs leave, and the arguments unchanged. -/
theorem run_result [∀ e, Nonempty (Elt F e)] :
    θ_run (defs (F := F)) (onTc (τ := τ) (main (F := F))) ⟨m, fun _ => 0, ρ⟩ (fun r => (∀ c : Dev nD,
      r.2.mem ((c.tc : Thread nD τ).loc main_v0) = (dats hb 0 c).arrAt (4 : Fin 5) cfg.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_routed cfgs (fun p c => dats hb p c) (0 : Fin 1) launch0 own_sems defs₀ Variants.none m ρ main
    (hbody := fun c => (body_obligation hb c).loose) (hshare := fun c => (dats hb 0 c).share_full fun _ => rfl) (howed := fun _ _ => rfl)
    (V := fun c b => m ((c : Thread nD τ).loc b))
    (hmain := Pipeline.hmain_prefix cfgs 0 defs₀ Variants.none m main [] (by trivial) (by trivial) main_prefix)
    (hA := fun _ w => by fin_cases w <;> rfl) (R := {main_arg0}) (hR := by decide) (Y := fun c b => m ((c : Thread nD τ).loc b))
    (hin := fun _ => .rfl) (hout := fun _ => .rfl) (Q' := _)
    (hQ' := fun r h => ⟨fun c => ⟨(h.1 c).1 (4 : Fin 5), (h.1 c).2.1 main_arg0 (by decide),
      ((h.1 c).1 (0 : Fin 5)).trans ((dats hb 0 c).arrAt_in (0 : Fin 5) rfl _),
      ((h.1 c).1 (1 : Fin 5)).trans ((dats hb 0 c).arrAt_in (1 : Fin 5) rfl _),
      ((h.1 c).1 (2 : Fin 5)).trans ((dats hb 0 c).arrAt_in (2 : Fin 5) rfl _),
      ((h.1 c).1 (3 : Fin 5)).trans ((dats hb 0 c).arrAt_in (3 : Fin 5) rfl _)⟩, h.2⟩)

end Cert.CombIdeal.Combine
end
-- ==== Proof.Combined.lean ====
/-
  The combination, element by element: each token's residual, plus its gate times the weighted sum of the eight rows the
  token names.
-/
module

public import proofs.«01_k».proof.Proof.Experts
public import proofs.«01_k».proof.Proof.ExpertsTables
public import proofs.«01_k».proof.Proof.Gen.Pre_in_rows

@[expose] public section

set_option maxRecDepth 16384

noncomputable section

namespace Cert.Combined

open Idealize.ShloMosaic Cert.Output Cert.Finite Cert.Experts
open scoped BigOperators

/-- The place of choice `k` of token `(b, l)` among the flattened choices. -/
abbrev place (b : Fin 8) (l : Fin 2048) (k : Fin 8) : (⟨1, ![131072]⟩ : Shape).Idx := ix1 ⟨(b.val * 2048 + l.val) * 8 + k.val, by omega⟩

/-- The row a word names. -/
def rowOf (w : BitVec 32) : Fin 163840 := ⟨min w.toNat 163839, by omega⟩

/-- The weighted sum of the rows token `(b, l)` names, at feature `d`. -/
def mixed (ys : FVec Ideal ⟨3, ![163840, 1, 1024]⟩ .f32) (dest : IVec ⟨1, ![131072]⟩ 32) (w : FVec Ideal ⟨1, ![131072]⟩ .f32)
    (b : Fin 8) (l : Fin 2048) (d : Fin 1024) : Ideal .f32 :=
  ∑ k : Fin 8, w (place b l k) * ys (ix3 (rowOf (dest (place b l k))) 0 d)

/-- The combination at `(b, l, d)`. -/
def combined (ys : FVec Ideal ⟨3, ![163840, 1, 1024]⟩ .f32) (dest : IVec ⟨1, ![131072]⟩ 32) (w : FVec Ideal ⟨1, ![131072]⟩ .f32)
    (xs : FVec Ideal ⟨3, ![8, 2048, 1024]⟩ .f32) (g : FVec Ideal ⟨3, ![8, 1, 1024]⟩ .f32) : FVec Ideal ⟨3, ![8, 2048, 1024]⟩ .f32 :=
  fun i => xs i + g (ix3 (i 0) 0 (i 2)) * mixed ys dest w (i 0) (i 1) (i 2)

/-- A word that is signed at least 0 and below 163840 is below 163840. -/
theorem word_lt {w : BitVec 32} (h0 : IntOp.cmpi .sge w 0#32 = 1#1) (h1 : IntOp.cmpi .slt w 163840#32 = 1#1) : w.toNat < 163840 := by
  simp only [IntOp.cmpi, ofBool_one, BitVec.slt, BitVec.sle, decide_eq_true_eq] at h0 h1
  have e0 : (0#32 : BitVec 32).toInt = 0 := by decide
  have e1 : (163840#32 : BitVec 32).toInt = 163840 := by decide
  rw [e0] at h0
  rw [e1] at h1
  rw [BitVec.toInt_eq_toNat_cond] at h0 h1
  split at h0 <;> omega

/-- The precondition, unpacked: every word names a row. -/
theorem words_of_pre {F : FTy → Type} [FloatOps F] (ys : FVec F Pre_in_rows.S163840x1x1024 .f32) (dest : IVec Pre_in_rows.S131072 32)
    (w : FVec F Pre_in_rows.S131072 .f32) (xs : FVec F Pre_in_rows.S8x2048x1024 .f32) (g : FVec F Pre_in_rows.S8x1x1024 .f32)
    (h : Pre_in_rows.fn (F := F) ys dest w xs g = fun _ => 1#1) (j : Pre_in_rows.S131072.Idx) : (dest j).toNat < 163840 := by
  have e := congrFun h (fun a => a.elim0)
  have one : ∀ j : Pre_in_rows.S_.Idx, j = fun a => a.elim0 := fun j => funext fun a => a.elim0
  unfold Pre_in_rows.fn at e
  obtain ⟨a, b⟩ := and_one (reduce_and _ _ _ _ _ one e j)
  exact word_lt a b

end Cert.Combined
end
-- ==== Proof.CombIdealValue.lean ====
/-
  The results of one grid point of the combination, element by element.
-/
module

public import proofs.«01_k».proof.Proof.CombIdealFrame
public import proofs.«01_k».proof.Proof.Combined
public import Idealize.ShloMosaic.Lib.Pipeline.ValueKit.Tiles

@[expose] public section

set_option maxRecDepth 16384

noncomputable section

namespace Cert.CombIdeal.Combine

open Cert.CombIdeal Cert.CombIdeal.Gen Cert.Combined Cert.Output
open Idealize.ShloMosaic Idealize.ShloMosaic.TcCoe Idealize.SL.Sem
open Idealize.ShloMosaic.Pipeline (Dat Cfg Window)
open scoped BigOperators

/-- Choice `k` of token `r` of a block, among the block's choices. -/
abbrev choice (r : Fin 128) (k : Fin 8) : S1024.Idx := ix1 ⟨8 * r.val + k.val, by omega⟩

abbrev trip (r : Fin 128) : Fin k0_t2_loop.trips := ⟨r.val, lt_of_lt_of_eq r.isLt trips2.symm⟩

theorem weight0_apply (w : S1024.Idx → Elt Ideal .f32) (r : Fin 128) : weight0 w (trip r) = w (choice r 0) := by
  refine congrArg w (funext fun a => Fin.ext ?_)
  match a with
  | ⟨0, _⟩ =>
    show k0_off4 (trip r) 0 + 1 * 0 = 8 * r.val + 0
    rw [k0_off4_eq]; rfl

theorem weight_apply (w : S1024.Idx → Elt Ideal .f32) (r : Fin 128) (k : Fin 7) : weight w (trip r) k = w (choice r k.succ) := by
  refine congrArg w (funext fun a => Fin.ext ?_)
  match a with
  | ⟨0, _⟩ =>
    show k0_off6 (trip r) (BitVec.ofNat 32 (1 + k.val)) 0 + 1 * 0 = 8 * r.val + (k.val + 1)
    rw [k0_off6_eq]; rfl

theorem row0_apply (g : S1024x1x1024.Idx → Elt Ideal .f32) (r : Fin 128) (l : Fin 1024) :
    row0 g (trip r) (ix3 0 0 l) = g (ix3 ⟨8 * r.val + 0, by omega⟩ 0 l) := by
  refine congrArg g (funext fun a => Fin.ext ?_)
  match a with
  | ⟨0, _⟩ => show k0_off5 (trip r) 0 + 1 * 0 = 8 * r.val + 0; rw [k0_off5_eq]; rfl
  | ⟨1, _⟩ => show k0_off5 (trip r) 1 + 1 * 0 = 0; rw [k0_off5_eq]; rfl
  | ⟨2, _⟩ => show k0_off5 (trip r) 2 + 1 * l.val = l.val; rw [k0_off5_eq]; show 0 + 1 * l.val = l.val; omega

theorem row_apply (g : S1024x1x1024.Idx → Elt Ideal .f32) (r : Fin 128) (k : Fin 7) (l : Fin 1024) :
    row g (trip r) k (ix3 0 0 l) = g (ix3 ⟨8 * r.val + (k.val + 1), by omega⟩ 0 l) := by
  refine congrArg g (funext fun a => Fin.ext ?_)
  match a with
  | ⟨0, _⟩ => show k0_off7 (trip r) (BitVec.ofNat 32 (1 + k.val)) 0 + 1 * 0 = 8 * r.val + (k.val + 1); rw [k0_off7_eq]; rfl
  | ⟨1, _⟩ => show k0_off7 (trip r) (BitVec.ofNat 32 (1 + k.val)) 1 + 1 * 0 = 0; rw [k0_off7_eq]; rfl
  | ⟨2, _⟩ =>
    show k0_off7 (trip r) (BitVec.ofNat 32 (1 + k.val)) 2 + 1 * l.val = l.val
    rw [k0_off7_eq]; show 0 + 1 * l.val = l.val; omega

/-- The running sum's first three terms, and the next three. -/
theorem first_apply (a b c : Elt Ideal .f32) (x y z : Vec Ideal S1x1x1024 .f32) (l : Fin 1024) :
    k0_pay4 (F := Ideal) a x b y c z (ix2 0 l) = a * x (ix3 0 0 l) + b * y (ix3 0 0 l) + c * z (ix3 0 0 l) := by
  pointwise [k0_pay4]

theorem next_apply (s : FVec Ideal S1x1024 .f32) (a b c : Elt Ideal .f32) (x y z : Vec Ideal S1x1x1024 .f32) (l : Fin 1024) :
    k0_pay5 (F := Ideal) s a x b y c z (ix2 0 l) = s (ix2 0 l) + a * x (ix3 0 0 l) + b * y (ix3 0 0 l) + c * z (ix3 0 0 l) := by
  pointwise [k0_pay5]

theorem last_apply (s : FVec Ideal S1x1024 .f32) (a b : Elt Ideal .f32) (x y : Vec Ideal S1x1x1024 .f32) (l : Fin 1024) :
    k0_pay1 (F := Ideal) s (k0_pay6 x) (k0_pay7 a) b y (ix3 0 0 l) = s (ix2 0 l) + a * x (ix3 0 0 l) + b * y (ix3 0 0 l) := by
  pointwise [k0_pay1, k0_pay6, k0_pay7]

theorem total_apply (w : S1024.Idx → Elt Ideal .f32) (g : S1024x1x1024.Idx → Elt Ideal .f32) (r : Fin 128) (l : Fin 1024) :
    total w g (trip r) (ix3 0 0 l) = ∑ k : Fin 8, w (choice r k) * g (ix3 ⟨8 * r.val + k.val, by omega⟩ 0 l) := by
  unfold total
  rw [last_apply, next_apply, first_apply, weight0_apply, row0_apply]
  rw [weight_apply w r 0, weight_apply w r 1, weight_apply w r 2, weight_apply w r 3, weight_apply w r 4, weight_apply w r 5, weight_apply w r 6,
    row_apply g r 0 l, row_apply g r 1 l, row_apply g r 2 l, row_apply g r 3 l, row_apply g r 4 l, row_apply g r 5 l, row_apply g r 6 l,
    Fin.sum_univ_eight]
  rfl

theorem words_apply (x0 : S1024.Idx → BitVec 32) (t : Fin k0_t1_loop.trips) (j : S1024.Idx) (h : (j 0).val = t.val) :
    words (F := Ideal) x0 t = x0 j := by
  refine congrArg x0 (funext fun a => Fin.ext ?_)
  match a with
  | ⟨0, _⟩ =>
    show k0_off1 t 0 + 1 * 0 = (j 0).val
    rw [k0_off1_eq, h]; rfl

/-- The rows a block's words name, in the order of its choices. -/
theorem copied_apply (x0 : S1024.Idx → BitVec 32) (hx : ∀ j, (x0 j).toNat < 163840) (fs : S163840x1x1024.Idx → Elt Ideal .f32)
    (r : Fin 128) (k : Fin 8) (l : Fin 1024) :
    fs (source (words (F := Ideal) x0) (fun _ => hx _) (ix3 ⟨8 * r.val + k.val, by omega⟩ 0 l)) = fs (ix3 (rowOf (x0 (choice r k))) 0 l) := by
  refine congrArg fs (funext fun a => Fin.ext ?_)
  match a with
  | ⟨0, _⟩ =>
    show (words (F := Ideal) x0 _).toNat = min (x0 (choice r k)).toNat 163839
    refine (congrArg BitVec.toNat (words_apply x0 _ (choice r k) rfl)).trans ?_
    have := hx (choice r k)
    omega
  | ⟨1, _⟩ => rfl
  | ⟨2, _⟩ => rfl

theorem split_out (x : S1x128x1024.Idx) : ∃ (r : Fin 128) (l : Fin 1024), x = ix3 0 r l := ⟨x 1, x 2, by
  funext a
  match a with
  | 0 => exact Subsingleton.elim (α := Fin 1) _ _
  | 1 => rfl
  | 2 => rfl⟩

theorem out_apply (x2 : Vec Ideal S1x128x1024 .f32) (x3 : Vec Ideal S1x1x1024 .f32) (s : Vec Ideal S128x1x1024 .f32) (r : Fin 128) (l : Fin 1024) :
    k0_pay3 (F := Ideal) x2 x3 (k0_pay2 s) (ix3 0 r l) = x2 (ix3 0 r l) + x3 (ix3 0 0 l) * s (ix3 r 0 l) := by
  pointwise [k0_pay3, k0_pay2]

/-- The block of results, element by element. -/
theorem result_apply (x0 : S1024.Idx → BitVec 32) (hx : ∀ j, (x0 j).toNat < 163840) (x1 : S1024.Idx → Elt Ideal .f32)
    (x2 : S1x128x1024.Idx → Elt Ideal .f32) (x3 : S1x1x1024.Idx → Elt Ideal .f32) (fs : S163840x1x1024.Idx → Elt Ideal .f32)
    (r : Fin 128) (l : Fin 1024) :
    result x0 hx x1 x2 x3 fs (ix3 0 r l)
      = x2 (ix3 0 r l) + x3 (ix3 0 0 l) * ∑ k : Fin 8, x1 (choice r k) * fs (ix3 (rowOf (x0 (choice r k))) 0 l) := by
  have key : allTotals x1 (fun y => fs (source (words (F := Ideal) x0) (fun _ => hx _) y)) (ix3 r 0 l)
      = ∑ k : Fin 8, x1 (choice r k) * fs (ix3 (rowOf (x0 (choice r k))) 0 l) := by
    refine Eq.trans (congrArg (total x1 _ (trip r)) ?_) ((total_apply x1 _ r l).trans (Finset.sum_congr rfl fun k _ => ?_))
    · funext a
      match a with
      | ⟨0, _⟩ => rfl
      | ⟨1, _⟩ => rfl
      | ⟨2, _⟩ => rfl
    · exact congrArg (x1 (choice r k) * ·) (copied_apply x0 hx fs r k l)
  generalize hy : (ix3 0 r l : S1x128x1024.Idx) = y
  unfold result
  canon_tiles x h using result_cover ..
  obtain ⟨r', l', rfl⟩ := split_out x
  subst hy
  obtain rfl : r = r' := Fin.ext h1
  obtain rfl : l = l' := Fin.ext h2
  rw [out_apply, ← key]
  have e2 : View.ld (Val := Elt Ideal) (e' := .f32) x2 outRect (ix3 0 r l) = x2 (ix3 0 r l) := congrArg x2 (funext fun a => Fin.ext (by
    match a with
    | ⟨0, _⟩ => rfl
    | ⟨1, _⟩ => show 0 + 1 * r.val = r.val; omega
    | ⟨2, _⟩ => show 0 + 1 * l.val = l.val; omega))
  have e3 : View.ld (Val := Elt Ideal) (e' := .f32) x3 gateRect (ix3 0 0 l) = x3 (ix3 0 0 l) := congrArg x3 (funext fun a => Fin.ext (by
    match a with
    | ⟨0, _⟩ => rfl
    | ⟨1, _⟩ => rfl
    | ⟨2, _⟩ => show 0 + 1 * l.val = l.val; omega))
  have es (f : S128x1x1024.Idx → Elt Ideal .f32) : View.ld (Val := Elt Ideal) (e' := .f32) f totalsRect (ix3 r 0 l) = f (ix3 r 0 l) :=
    congrArg f (funext fun a => Fin.ext (by
      match a with
      | ⟨0, _⟩ => show 0 + 1 * r.val = r.val; omega
      | ⟨1, _⟩ => rfl
      | ⟨2, _⟩ => show 0 + 1 * l.val = l.val; omega))
  rw [e2, e3, es]

end Cert.CombIdeal.Combine
end
-- ==== Proof.CombIdealArray.lean ====
/-
  The combination's results' array: every element ends at the combination of the tokens' rows (Proof/Combined.lean).
-/
module

public import proofs.«01_k».proof.Proof.CombIdealValue

@[expose] public section

set_option maxRecDepth 16384

noncomputable section

namespace Cert.CombIdeal.Combine

open Cert.CombIdeal Cert.CombIdeal.Gen Cert.Combined Cert.Output
open Idealize.ShloMosaic Idealize.ShloMosaic.TcCoe Idealize.SL.Sem
open Idealize.ShloMosaic.Pipeline (Dat Cfg Window)
open scoped BigOperators

/-- The block indices at point `t`: the point's own words and weights; batch `t / 16`, tokens `128 (t % 16) …`. -/
theorem index_eq : ∀ t : Fin cfg.N,
    win0_0.index t 0 = t.val ∧ win0_1.index t 0 = t.val
    ∧ (win0_2.index t 0 = t.val / 16 ∧ win0_2.index t 1 = t.val % 16 ∧ win0_2.index t 2 = 0)
    ∧ (win0_3.index t 0 = t.val / 16 ∧ win0_3.index t 1 = 0 ∧ win0_3.index t 2 = 0)
    ∧ (win0_4.index t 0 = t.val / 16 ∧ win0_4.index t 1 = t.val % 16 ∧ win0_4.index t 2 = 0) :=
  (by decide +kernel : ∀ t : Fin grid0.N,
    win0_0.index t 0 = t.val ∧ win0_1.index t 0 = t.val
    ∧ (win0_2.index t 0 = t.val / 16 ∧ win0_2.index t 1 = t.val % 16 ∧ win0_2.index t 2 = 0)
    ∧ (win0_3.index t 0 = t.val / 16 ∧ win0_3.index t 1 = 0 ∧ win0_3.index t 2 = 0)
    ∧ (win0_4.index t 0 = t.val / 16 ∧ win0_4.index t 1 = t.val % 16 ∧ win0_4.index t 2 = 0))

/-- Every point writes its results back. -/
theorem flush_all : ∀ t : Fin cfg.N, (cfg.win (4 : Fin 5)).flush t = true :=
  (by decide +kernel : ∀ t : Fin grid0.N, win0_4.flush t = true)

variable {m : (ℓ : Loc nD τ sig) → Buf (Elt Ideal) ℓ} (hb : Bounded m)

/-- An argument's array at launch. -/
abbrev at0 (m : (ℓ : Loc nD τ sig) → Buf (Elt Ideal) ℓ) (c : Dev nD) (b : Ref sig .tc) : Buf (Elt Ideal) ((c : Thread nD τ).loc b) :=
  m ((c : Thread nD τ).loc b)

theorem staged_words (c : Dev nD) (t : Fin cfg.N) (z : S1024.Idx) (i : S131072.Idx) (h0 : (i 0).val = 1024 * t.val + (z 0).val) :
    (staged hb c (0 : Fin 5) t : S1024.Idx → BitVec 32) z = at0 m c main_arg1 i := by
  obtain ⟨a, -⟩ := index_eq t
  unfold staged
  rw [View.read_apply]
  show at0 m c main_arg1 _ = _
  congr 1
  funext k
  apply Fin.ext
  match k with
  | ⟨0, _⟩ => show win0_0.index t 0 * 1024 + 1 * (z 0).val = (i 0).val; rw [a]; omega

theorem staged_weights (c : Dev nD) (t : Fin cfg.N) (z : S1024.Idx) (i : S131072.Idx) (h0 : (i 0).val = 1024 * t.val + (z 0).val) :
    (staged hb c (1 : Fin 5) t : S1024.Idx → Elt Ideal .f32) z = at0 m c main_arg2 i := by
  obtain ⟨-, a, -⟩ := index_eq t
  unfold staged
  rw [View.read_apply]
  show at0 m c main_arg2 _ = _
  congr 1
  funext k
  apply Fin.ext
  match k with
  | ⟨0, _⟩ => show win0_1.index t 0 * 1024 + 1 * (z 0).val = (i 0).val; rw [a]; omega

theorem staged_residual (c : Dev nD) (t : Fin cfg.N) (z : S1x128x1024.Idx) (i : S8x2048x1024.Idx) (h0 : (i 0).val = t.val / 16)
    (h1 : (i 1).val = 128 * (t.val % 16) + (z 1).val) (h2 : (i 2).val = (z 2).val) :
    (staged hb c (2 : Fin 5) t : S1x128x1024.Idx → Elt Ideal .f32) z = at0 m c main_arg3 i := by
  obtain ⟨-, -, ⟨a0, a1, a2⟩, -⟩ := index_eq t
  have hz : (z 0).val < 1 := (z 0).isLt
  unfold staged
  rw [View.read_apply]
  show at0 m c main_arg3 _ = _
  congr 1
  funext k
  apply Fin.ext
  match k with
  | ⟨0, _⟩ => show win0_2.index t 0 * 1 + 1 * (z 0).val = (i 0).val; rw [a0]; omega
  | ⟨1, _⟩ => show win0_2.index t 1 * 128 + 1 * (z 1).val = (i 1).val; rw [a1]; omega
  | ⟨2, _⟩ => show win0_2.index t 2 * 1024 + 1 * (z 2).val = (i 2).val; rw [a2]; omega

theorem staged_gate (c : Dev nD) (t : Fin cfg.N) (z : S1x1x1024.Idx) (i : S8x1x1024.Idx) (h0 : (i 0).val = t.val / 16)
    (h2 : (i 2).val = (z 2).val) :
    (staged hb c (3 : Fin 5) t : S1x1x1024.Idx → Elt Ideal .f32) z = at0 m c main_arg4 i := by
  obtain ⟨-, -, -, ⟨a0, a1, a2⟩, -⟩ := index_eq t
  have hz0 : (z 0).val < 1 := (z 0).isLt
  have hz1 : (z 1).val < 1 := (z 1).isLt
  have hi1 : (i 1).val < 1 := (i 1).isLt
  unfold staged
  rw [View.read_apply]
  show at0 m c main_arg4 _ = _
  congr 1
  funext k
  apply Fin.ext
  match k with
  | ⟨0, _⟩ => show win0_3.index t 0 * 1 + 1 * (z 0).val = (i 0).val; rw [a0]; omega
  | ⟨1, _⟩ => show win0_3.index t 1 * 1 + 1 * (z 1).val = (i 1).val; rw [a1]; omega
  | ⟨2, _⟩ => show win0_3.index t 2 * 1024 + 1 * (z 2).val = (i 2).val; rw [a2]; omega

/-- What the results' array should hold. -/
abbrev want (m : (ℓ : Loc nD τ sig) → Buf (Elt Ideal) ℓ) (c : Dev nD) : FVec Ideal S8x2048x1024 .f32 :=
  combined (at0 m c main_arg0) (at0 m c main_arg1) (at0 m c main_arg2) (at0 m c main_arg3) (at0 m c main_arg4)

theorem same_mix (a b : EReal) {s s' : EReal} (h : s = s') : a + b * s = a + b * s' := by rw [h]

/-- What a point writes back is the part of the wanted array its block covers. -/
theorem resultAt_apply (c : Dev nD) (t : Fin cfg.N) (y : S1x128x1024.Idx) (e : S8x2048x1024.Idx) (h0 : (e 0).val = t.val / 16)
    (h1 : (e 1).val = 128 * (t.val % 16) + (y 1).val) (h2 : (e 2).val = (y 2).val) :
    resultAt hb c t y = want m c e := by
  obtain ⟨r, l, rfl⟩ := split_out y
  have hr : (e 1).val = 128 * (t.val % 16) + r.val := h1
  have hl : e 2 = l := Fin.ext h2
  have hp : ∀ k : Fin 8, ((place (e 0) (e 1) k) 0).val = 1024 * t.val + ((choice r k) 0).val := fun k => by
    show ((e 0).val * 2048 + (e 1).val) * 8 + k.val = 1024 * t.val + (8 * r.val + k.val)
    omega
  unfold resultAt
  refine (result_apply _ _ _ _ _ _ r l).trans ?_
  rw [staged_residual hb c t (ix3 0 r l) e h0 h1 h2, staged_gate hb c t (ix3 0 0 l) (ix3 (e 0) 0 (e 2)) h0 h2]
  refine same_mix _ _ (Finset.sum_congr rfl fun k _ => ?_)
  rw [staged_words hb c t (choice r k) _ (hp k), staged_weights hb c t (choice r k) _ (hp k), hl]

/-- The results' array. -/
theorem array_eq (c : Dev nD) : ((dats hb 0 c).arrAt (4 : Fin 5) cfg.N : FVec Ideal S8x2048x1024 .f32) = want m c := by
  funext i
  have h0 : (i 0).val < 8 := (i 0).isLt
  have h1 : (i 1).val < 2048 := (i 1).isLt
  have h2 : (i 2).val < 1024 := (i 2).isLt
  let t : Fin cfg.N := ⟨16 * (i 0).val + (i 1).val / 128, by show _ < 128; omega⟩
  have ht : t.val = 16 * (i 0).val + (i 1).val / 128 := rfl
  refine (dats hb 0 c).arrAt_forall_of_flushed (4 : Fin 5) (fun i x => x = want m c i) (fun t _ y => ?_) cfg.N t i t.isLt (flush_all t) ?_
  · obtain ⟨-, -, -, -, ⟨a0, a1, a2⟩⟩ := index_eq t
    have hy : (y (0 : Fin 3)).val < 1 := (y (0 : Fin 3)).isLt
    refine (congrFun (after_4 hb c t) y).trans (resultAt_apply hb c t y _ ?_ ?_ ?_)
    · show win0_4.index t 0 * 1 + 1 * (y (0 : Fin 3)).val = _
      rw [a0]; omega
    · show win0_4.index t 1 * 128 + 1 * (y (1 : Fin 3)).val = _
      rw [a1]; omega
    · show win0_4.index t 2 * 1024 + 1 * (y (2 : Fin 3)).val = _
      rw [a2]; omega
  · obtain ⟨-, -, -, -, ⟨a0, a1, a2⟩⟩ := index_eq t
    show i ∈ ((View.whole main_v0).slice (win0_4.rect t)).set
    rw [View.set_slice_whole, Rect.mem_set_unit]
    intro k
    match k with
    | ⟨0, _⟩ =>
      show win0_4.index t 0 * 1 ≤ (i 0 : Nat) ∧ (i 0 : Nat) < win0_4.index t 0 * 1 + 1
      rw [a0]; omega
    | ⟨1, _⟩ =>
      show win0_4.index t 1 * 128 ≤ (i 1 : Nat) ∧ (i 1 : Nat) < win0_4.index t 1 * 128 + 128
      rw [a1]; omega
    | ⟨2, _⟩ =>
      show win0_4.index t 2 * 1024 ≤ (i 2 : Nat) ∧ (i 2 : Nat) < win0_4.index t 2 * 1024 + 1024
      rw [a2]; omega

end Cert.CombIdeal.Combine
end
-- ==== Proof.CombReference.lean ====
/-
  The reference combination, read at an element: each choice gathers the row its word names.
-/
module

public import proofs.«01_k».proof.Proof.Combined
public import proofs.«01_k».proof.Proof.Gen.CombRefIdeal.Read

@[expose] public section

set_option maxRecDepth 16384

noncomputable section

namespace Cert.CombRefIdeal.Element

open Cert.CombRefIdeal Cert.CombRefIdeal.Gen Cert.CombRefIdeal.Read Idealize.ShloMosaic
open Cert.Output Cert.Combined
open scoped BigOperators

abbrev rowDims := gather_S163840x1x1024_S131072x2_S131072x1024_1_01_n_n_01_1_111024

/-- Choice `n`'s row is row `e` of the outputs, where the pair at `n` is `e` and zero. -/
theorem gathered_apply (x : FVec Ideal S163840x1x1024 .f32) (w : IVec S131072x2 32) (n : Fin 131072) (d : Fin 1024) (e : Fin 163840)
    (h : w (ix2 n 0) = BitVec.ofNat 32 e.val) (h' : w (ix2 n 1) = 0#32) :
    Host.gather rowDims x w (ix2 n d) = x (ix3 e 0 d) := by
  unfold Host.gather
  refine congrArg x (funext fun k => Fin.ext ?_)
  show rowDims.start (ix2 n d) w k + rowDims.batchCoord (ix2 n d) k + rowDims.offCoord (ix2 n d) k = _
  rw [GatherDims.batchCoord_eq_zero _ _ _ (fun h => by simp [rowDims, gather_S163840x1x1024_S131072x2_S131072x1024_1_01_n_n_01_1_111024] at h), Nat.add_zero]
  have hk : k = 0 ∨ k = 1 ∨ k = 2 := by
    match k with
    | ⟨0, _⟩ => exact .inl rfl
    | ⟨1, _⟩ => exact .inr (.inl rfl)
    | ⟨2, _⟩ => exact .inr (.inr rfl)
  rcases hk with rfl | rfl | rfl
  · rw [GatherDims.offCoord_eq_zero _ _ _ (fun h => ((GatherDims.mem_sKept _ _).mp h).1 (show (0 : Fin 3) ∈ [(0 : Fin 3), 1] by decide)), Nat.add_zero]
    unfold GatherDims.start
    rw [dif_pos (show (0 : Fin 3) ∈ rowDims.startIndexMap from (by decide : (0 : Fin 3) ∈ [(0 : Fin 3), 1]))]
    have hs : rowDims.siIdx (ix2 n d) ⟨List.idxOf (0 : Fin 3) rowDims.startIndexMap,
        List.idxOf_lt_length_iff.2 (by decide : (0 : Fin 3) ∈ [(0 : Fin 3), 1])⟩ = ix2 n 0 := by
      funext c; refine Fin.ext ?_
      match c with
      | ⟨0, _⟩ => rfl
      | ⟨1, _⟩ => rfl
    rw [hs, h]
    have he := e.isLt
    have : (BitVec.ofNat 32 e.val).toInt = e.val := by
      rw [BitVec.toInt_eq_toNat_cond, BitVec.toNat_ofNat]
      have : e.val % 2 ^ 32 = e.val := Nat.mod_eq_of_lt (by omega)
      rw [this, if_pos (by omega)]
    rw [this]
    show min e.val (163840 - 1) = e.val
    omega
  · rw [GatherDims.offCoord_eq_zero _ _ _ (fun h => ((GatherDims.mem_sKept _ _).mp h).1 (show (1 : Fin 3) ∈ [(0 : Fin 3), 1] by decide)), Nat.add_zero]
    unfold GatherDims.start
    rw [dif_pos (show (1 : Fin 3) ∈ rowDims.startIndexMap from (by decide : (1 : Fin 3) ∈ [(0 : Fin 3), 1]))]
    show min _ (1 - 1) = 0
    omega
  · unfold GatherDims.start
    rw [dif_neg (show ¬ (2 : Fin 3) ∈ rowDims.startIndexMap from (by decide : ¬ (2 : Fin 3) ∈ [(0 : Fin 3), 1])), Nat.zero_add]
    rfl

/-- A word below 163840 is not negative. -/
theorem keep {w : BitVec 32} (h : w.toNat < 163840) (y : BitVec 32) : Scalar.select (IntOp.cmpi .slt w 0#32) y w = w := by
  have : IntOp.cmpi .slt w 0#32 = 0#1 := by
    have e0 : (0#32 : BitVec 32).toInt = 0 := by decide
    have : BitVec.slt w 0#32 = false := by
      rw [BitVec.slt, e0, BitVec.toInt_eq_toNat_cond, if_pos (by omega)]
      simp
    simp only [IntOp.cmpi, this]; rfl
  rw [this]; rfl

variable (ys : FVec Ideal S163840x1x1024 .f32) (dest : IVec S131072 32) (w : FVec Ideal S131072 .f32)
  (xs : FVec Ideal S8x2048x1024 .f32) (g : FVec Ideal S8x1x1024 .f32) (hd : ∀ j, (dest j).toNat < 163840)

include hd in
/-- The pair each choice gathers at: its word's row, -/
theorem pair_row (n : Fin 131072) : val_main_v9 (F := Ideal) dest (ix2 n 0) = BitVec.ofNat 32 (rowOf (dest (ix1 n))).val := by
  unfold val_main_v9
  refine (concatenate_pair_apply_left (t := S131072x2) (s₁ := S131072x1) (s₂ := S131072x1) (1 : Fin 2) _ _ _ (ix2 n (0 : Fin 2)) rfl (ix2 n (0 : Fin 1)) (fun b => ?_)).trans ?_
  · match b with
    | ⟨0, _⟩ => rfl
    | ⟨1, _⟩ => rfl
  rw [val_main_v7_apply, val_main_v4_apply, val_main_v1_apply, val_main_v0_apply, val_main_c_apply]
  refine (keep (hd _) _).trans ?_
  have e : idx_main_v7 (ix2 n 0) = ix1 n := funext fun a => match a with | ⟨0, _⟩ => rfl
  rw [e]
  have hk := hd (ix1 n)
  apply BitVec.eq_of_toNat_eq
  rw [BitVec.toNat_ofNat]
  show _ = min _ 163839 % _
  omega

/-- and zero. -/
theorem pair_zero (n : Fin 131072) : val_main_v9 (F := Ideal) dest (ix2 n 1) = 0#32 := by
  unfold val_main_v9
  refine (concatenate_pair_apply_right (t := S131072x2) (s₁ := S131072x1) (s₂ := S131072x1) (1 : Fin 2) _ _ _ (ix2 n (1 : Fin 2)) rfl rfl (ix2 n (0 : Fin 1)) (fun b hb => ?_) rfl).trans ?_
  · match b with
    | ⟨0, _⟩ => rfl
    | ⟨1, _⟩ => exact absurd rfl hb
  rw [val_main_v8_apply, val_main_v6_apply, val_main_v5_apply, val_main_c_1_apply]

include hd in
theorem row_apply (b : Fin 8) (l : Fin 2048) (k : Fin 8) (d : Fin 1024) :
    val_main_v11 (F := Ideal) ys dest (ix4 b l k d) = ys (ix3 (rowOf (dest (place b l k))) 0 d) := by
  rw [val_main_v11_apply]
  have e : idx_main_v11 (ix4 b l k d) = ix2 ⟨(b.val * 2048 + l.val) * 8 + k.val, by omega⟩ d := by
    funext a
    apply Fin.ext
    match a with
    | ⟨0, _⟩ => show (((b.val * 2048 + l.val) * 8 + k.val) * 1024 + d.val) / 1024 = (b.val * 2048 + l.val) * 8 + k.val; omega
    | ⟨1, _⟩ => show (((b.val * 2048 + l.val) * 8 + k.val) * 1024 + d.val) % 1024 = d.val; omega
  rw [e]
  unfold val_main_v10
  exact gathered_apply ys _ _ d _ (pair_row dest hd _) (pair_zero dest _)

theorem weight_apply (b : Fin 8) (l : Fin 2048) (k : Fin 8) (d : Fin 1024) :
    val_main_v13 (F := Ideal) w (ix4 b l k d) = w (place b l k) := by
  rw [val_main_v13_apply, val_main_v12_apply]
  refine congrArg w (funext fun a => Fin.ext ?_)
  match a with
  | ⟨0, _⟩ => show ((b.val * 2048 + l.val) * 8 + k.val) * 1 + 0 = (b.val * 2048 + l.val) * 8 + k.val; omega

include hd in
theorem mixed_apply (b : Fin 8) (l : Fin 2048) (d : Fin 1024) :
    val_main_v15 (F := Ideal) ys dest w (ix3 b l d) = mixed ys dest w b l d := by
  rw [val_main_v15_apply, val_main_cst_apply]
  have z : (FloatOps.ofBits (F := Ideal) .f32 0x00000000#32 : Ideal .f32) = (0 : EReal) := Ideal.ofBits_zero_f32
  rw [z]
  refine (zero_add _).trans (Finset.sum_congr rfl fun k _ => ?_)
  have e : idx_main_v15 (ix3 b l d) k = ix4 b l k d := by
    funext a
    match a with
    | ⟨0, _⟩ => rfl
    | ⟨1, _⟩ => rfl
    | ⟨2, _⟩ => rfl
    | ⟨3, _⟩ => rfl
  rw [e, val_main_v14_apply, weight_apply, row_apply ys dest hd]
  rfl

include hd in
/-- The reference's result is the combination. -/
theorem whole : val_main_v18 (F := Ideal) ys dest w xs g = combined ys dest w xs g := by
  funext i
  obtain ⟨b, l, d, rfl⟩ : ∃ (b : Fin 8) (l : Fin 2048) (d : Fin 1024), i = ix3 b l d := ⟨i 0, i 1, i 2, by
    funext a
    match a with
    | 0 => rfl
    | 1 => rfl
    | 2 => rfl⟩
  rw [val_main_v18_apply, val_main_v17_apply, val_main_v16_apply, mixed_apply ys dest w hd]
  have e : idx_main_v16 (ix3 b l d) = ix3 b 0 d := by
    funext a
    match a with
    | ⟨0, _⟩ => rfl
    | ⟨1, _⟩ => rfl
    | ⟨2, _⟩ => rfl
  rw [e]
  rfl

end Cert.CombRefIdeal.Element
end
-- ==== Proof.lean ====
/-
  The proof of `Cert.Claim`: the frames and the values of six of the layer's kernels.
  Attention: the kernel's result array is read element by element in Proof/AttnKernel.lean (one block in
  Proof/AttnBlock.lean), the reference's in Proof/AttnReference.lean; both are the attention
  `Cert.AttnIdeal.Array.attention`, where the scores are finite (Proof/AttnFinite.lean).
  Projections of the latents and of the context, output projection: likewise, in the modules named Proj…, Ctx… and Out….
  Modulation: likewise, in the modules named Mod…, on the rows that hold conditioning.
  Routed experts: Proof/ExpFrame.lean and Proof/ExpIdealFrame.lean run the kernel from tables that the precondition admits,
  Proof/ExpIdealValue.lean reads its result on the rows in use, Proof/ExpReference.lean the reference's on every row.
  Combination: Proof/CombFrame.lean and Proof/CombIdealFrame.lean run the kernel, whose body copies the named rows itself, from
  words the precondition admits; Proof/CombIdealArray.lean reads its result, Proof/CombReference.lean the reference's.
-/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite
public import proofs.«01_k».proof.Proof.Gen.Pre_finite_out
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Ctx
public import proofs.«01_k».proof.Proof.Gen.Ctx.Frame
public import proofs.«01_k».proof.Proof.Gen.CtxIdeal
public import proofs.«01_k».proof.Proof.Gen.CtxIdeal.Frame
public import proofs.«01_k».proof.Proof.Gen.CtxIdeal.Value
public import proofs.«01_k».proof.Proof.Gen.CtxRefIdeal
public import proofs.«01_k».proof.Proof.Gen.CtxRefIdeal.Run
public import proofs.«01_k».proof.Proof.Gen.CtxRefIdeal.Read
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.ModRefIdeal.Read
public import proofs.«01_k».proof.Proof.Gen.Pre_finite_mod
public import proofs.«01_k».proof.Proof.Gen.Comb
public import proofs.«01_k».proof.Proof.Gen.Comb.Skeleton
public import proofs.«01_k».proof.Proof.Gen.Comb.Launch
public import proofs.«01_k».proof.Proof.Gen.Comb.Loops
public import proofs.«01_k».proof.Proof.Gen.CombIdeal
public import proofs.«01_k».proof.Proof.Gen.CombIdeal.Skeleton
public import proofs.«01_k».proof.Proof.Gen.CombIdeal.Launch
public import proofs.«01_k».proof.Proof.Gen.CombIdeal.Loops
public import proofs.«01_k».proof.Proof.Gen.CombRefIdeal
public import proofs.«01_k».proof.Proof.Gen.CombRefIdeal.Run
public import proofs.«01_k».proof.Proof.Gen.CombRefIdeal.Read
public import proofs.«01_k».proof.Proof.Gen.Pre_in_rows
public import proofs.«01_k».proof.Proof.Gen.Route
public import proofs.«01_k».proof.Proof.Gen.Route.Frame
public import proofs.«01_k».proof.Proof.Gen.RouteIdeal
public import proofs.«01_k».proof.Proof.Gen.RouteIdeal.Frame
public import proofs.«01_k».proof.Proof.Gen.RouteIdeal.Value
public import proofs.«01_k».proof.Proof.Gen.On_rows_conditioned
public import proofs.«01_k».proof.Proof.AttnReference
public import proofs.«01_k».proof.Proof.AttnFinite
public import proofs.«01_k».proof.Proof.ProjRun
public import proofs.«01_k».proof.Proof.ProjReference
public import proofs.«01_k».proof.Proof.OutReference
public import proofs.«01_k».proof.Proof.OutFinite
public import proofs.«01_k».proof.Proof.CtxReference
public import proofs.«01_k».proof.Proof.ModKernel
public import proofs.«01_k».proof.Proof.ModReference
public import proofs.«01_k».proof.Proof.ModFinite
public import proofs.«01_k».proof.Proof.Gen.Exp
public import proofs.«01_k».proof.Proof.Gen.Exp.Skeleton
public import proofs.«01_k».proof.Proof.Gen.Exp.Launch
public import proofs.«01_k».proof.Proof.Gen.ExpIdeal
public import proofs.«01_k».proof.Proof.Gen.ExpIdeal.Skeleton
public import proofs.«01_k».proof.Proof.Gen.ExpIdeal.Launch
public import proofs.«01_k».proof.Proof.Gen.ExpRefIdeal
public import proofs.«01_k».proof.Proof.Gen.ExpRefIdeal.Run
public import proofs.«01_k».proof.Proof.Gen.ExpRefIdeal.Read
public import proofs.«01_k».proof.Proof.Gen.Pre_valid
public import proofs.«01_k».proof.Proof.Gen.On_rows_used
public import proofs.«01_k».proof.Proof.ExpFrame
public import proofs.«01_k».proof.Proof.ExpIdealValue
public import proofs.«01_k».proof.Proof.ExpReference
public import proofs.«01_k».proof.Proof.CombFrame
public import proofs.«01_k».proof.Proof.CombIdealArray
public import proofs.«01_k».proof.Proof.CombReference
public import Idealize.ShloMosaic.Lib.Quiescent
public import Idealize.ShloMosaic.Adequacy
public import Idealize.ShloMosaic.Init

@[expose] public section

noncomputable section

namespace Cert.Proof

open Idealize.ShloMosaic Idealize.SL.Sem

/-- The reference's run keeps its arguments and ends quiescent. -/
theorem attn_reference_frame : Cert.quiescent_AttnRefIdeal (hAttnRefIdeal := Cert.AttnRefIdeal.Gen.facts) := by
  intro m g _
  exact (θ_run Cert.AttnRefIdeal.defs _ _).mono (fun r h => ⟨fun c => (h c).2, sem_eq_zero_of_no_sems (by decide) r.2⟩)
    (Cert.AttnRefIdeal.Value.run (F := Ideal) m g)

/-- The kernel and the reference end with the same attention. -/
theorem attn_algebraic : Cert.algebraic_AttnIdeal_AttnRefIdeal_pre_finite (hAttnIdeal := Cert.AttnIdeal.Gen.facts)
    (hAttnRefIdeal := Cert.AttnRefIdeal.Gen.facts) (hPre_finite := Cert.Pre_finite.Gen.facts) := by
  intro m g m' g' hpre hm
  refine ⟨_, Cert.AttnIdeal.Array.run m g, (θ_run Cert.AttnRefIdeal.defs _ _).mono (fun r h c => ⟨(h c).1.trans ?_, (h c).2⟩)
    (Cert.AttnRefIdeal.Value.run m' g')⟩
  obtain ⟨h0, h1, h2, h3, h4⟩ := hm c
  obtain ⟨f0, f1, f3⟩ := Cert.Finite.finite_of_pre _ _ _ _ _ (hpre c)
  rw [Cert.AttnRefIdeal.Read.val_main_v34_eq, h0, h1, h2, h3, h4]
  exact Cert.AttnRefIdeal.Element.result _ _ _ _ _ f0 f1 f3

/-- The reference projection's run keeps its arguments and ends quiescent. -/
theorem proj_reference_frame : Cert.quiescent_ProjRefIdeal (hProjRefIdeal := Cert.ProjRefIdeal.Gen.facts) := by
  intro m g _
  exact (θ_run Cert.ProjRefIdeal.defs _ _).mono
    (fun r h => ⟨fun c => (((((((h c).2).2).2).2).2).2).2, sem_eq_zero_of_no_sems (by decide) r.2⟩)
    (Cert.ProjRefIdeal.Value.run (F := Ideal) m g)

/-- The projection kernel and its reference end with the same seven arrays. -/
theorem proj_algebraic : Cert.algebraic_ProjIdeal_ProjRefIdeal (hProjIdeal := Cert.ProjIdeal.Gen.facts)
    (hProjRefIdeal := Cert.ProjRefIdeal.Gen.facts) := by
  intro m g m' g' _ hm
  refine ⟨_, _, _, _, _, _, _, Cert.ProjIdeal.Array.run m g, (θ_run Cert.ProjRefIdeal.defs _ _).mono
    (fun r h c => ⟨(h c).1.trans ?_, ((h c).2).1.trans ?_, (((h c).2).2).1.trans ?_, ((((h c).2).2).2).1.trans ?_, (((((h c).2).2).2).2).1.trans ?_, ((((((h c).2).2).2).2).2).1.trans ?_, (((((((h c).2).2).2).2).2).2).1.trans ?_,
      (((((((h c).2).2).2).2).2).2).2⟩)
    (Cert.ProjRefIdeal.Value.run m' g')⟩
  all_goals obtain ⟨h0, h1, h2, h3, h4, h5, h6, h7, h8⟩ := hm c
  · rw [Cert.ProjRefIdeal.Read.val_main_v99_eq, h0, h1, h2, h3, h4, h5, h7, h8]
    exact Cert.ProjRefIdeal.Element.keys_whole ..
  · rw [Cert.ProjRefIdeal.Read.val_main_v101_eq, h0, h1, h2, h3, h4]
    exact Cert.ProjRefIdeal.Element.values_whole ..
  · rw [Cert.ProjRefIdeal.Read.val_main_v103_eq, h0, h1, h2, h3, h4]
    exact Cert.ProjRefIdeal.Element.retKeys_whole ..
  · rw [Cert.ProjRefIdeal.Read.val_main_v105_eq, h0, h1, h2, h3, h4]
    exact Cert.ProjRefIdeal.Element.retValues_whole ..
  · rw [Cert.ProjRefIdeal.Read.val_main_v107_eq, h0, h1, h2, h3, h4, h6, h7, h8]
    exact Cert.ProjRefIdeal.Element.queries_whole ..
  · rw [Cert.ProjRefIdeal.Read.val_main_v109_eq, h0, h1, h2, h3, h4]
    exact Cert.ProjRefIdeal.Element.retQueries_whole ..
  · rw [Cert.ProjRefIdeal.Read.val_main_v110_eq, h0, h1, h2, h3, h4]
    exact Cert.ProjRefIdeal.Element.gate_whole ..

/-- The reference output projection's run keeps its arguments and ends quiescent. -/
theorem out_reference_frame : Cert.quiescent_OutRefIdeal (hOutRefIdeal := Cert.OutRefIdeal.Gen.facts) := by
  intro m g _
  exact (θ_run Cert.OutRefIdeal.defs _ _).mono
    (fun r h => ⟨fun c => (h c).2.2.2, sem_eq_zero_of_no_sems (by decide) r.2⟩)
    (Cert.OutRefIdeal.Value.run (F := Ideal) m g)

/-- The output projection kernel and its reference end with the same three arrays. -/
theorem out_algebraic : Cert.algebraic_OutIdeal_OutRefIdeal_pre_finite_out (hOutIdeal := Cert.OutIdeal.Gen.facts)
    (hOutRefIdeal := Cert.OutRefIdeal.Gen.facts) (hPre_finite_out := Cert.Pre_finite_out.Gen.facts) := by
  intro m g m' g' hpre hm
  refine ⟨_, _, _, Cert.OutIdeal.Array.run m g, (θ_run Cert.OutRefIdeal.defs _ _).mono
    (fun r h c => ⟨(h c).1.trans ?_, (h c).2.1.trans ?_, (h c).2.2.1.trans ?_, (h c).2.2.2⟩)
    (Cert.OutRefIdeal.Value.run m' g')⟩
  all_goals obtain ⟨h0, h1, h2, h3, h4, h5, h6, h7, h8, h9, h10, h11, h12⟩ := hm c
  · rw [Cert.OutRefIdeal.Read.val_main_v33_eq, h0, h1, h2, h3, h4, h5, h6, h7, h8, h9, h10, h11]
    exact Cert.OutRefIdeal.Element.xs_whole ..
  · rw [Cert.OutRefIdeal.Read.val_main_v35_eq, h0, h1, h2, h3, h4, h5, h6, h7]
    exact Cert.OutRefIdeal.Element.rows_whole ..
  · obtain ⟨f0, f1, f2, f3, f4, f5, f6, f7, f12⟩ := Cert.FiniteOut.finite_of_pre _ _ _ _ _ _ _ _ _ _ _ _ _ (hpre c)
    rw [Cert.OutRefIdeal.Read.val_main_v37_eq, h0, h1, h2, h3, h4, h5, h6, h7, h12]
    exact Cert.OutRefIdeal.Element.routed_whole _ _ _ _ _ _ _ _ _ f0 f1 f2 f3 f4 f5 f6 f7 f12

/-- The experts' kernel, on floats: from the tables the precondition admits it runs, keeps its arguments, ends quiescent. -/
theorem exp_frame : Cert.quiescent_Exp (hExp := Cert.Exp.Gen.facts) (hPre_valid := Cert.Pre_valid.Gen.facts) := by
  intro m g hpre
  have v := Cert.Experts.tables_of_pre _ _ _ _ _ _ (hpre 0)
  have hp : Cert.Exp.Experts.Pinned _ _ m := fun c => by
    obtain rfl : c = 0 := Subsingleton.elim (α := Fin 1) _ _
    exact ⟨rfl, rfl⟩
  exact (θ_run Cert.Exp.defs _ _).mono (fun r h => ⟨fun c => (h.1 c).2, h.2⟩) (Cert.Exp.Experts.run_result v g hp)

/-- The same of the idealized kernel. -/
theorem exp_ideal_frame : Cert.quiescent_ExpIdeal (hExpIdeal := Cert.ExpIdeal.Gen.facts) (hPre_valid := Cert.Pre_valid.Gen.facts) := by
  intro m g hpre
  have v := Cert.Experts.tables_of_pre _ _ _ _ _ _ (hpre 0)
  have hp : Cert.ExpIdeal.Experts.Pinned _ _ m := fun c => by
    obtain rfl : c = 0 := Subsingleton.elim (α := Fin 1) _ _
    exact ⟨rfl, rfl⟩
  exact (θ_run Cert.ExpIdeal.defs _ _).mono (fun r h => ⟨fun c => (h.1 c).2, h.2⟩) (Cert.ExpIdeal.Experts.run_result v g hp)

/-- The reference experts' run keeps its arguments and ends quiescent. -/
theorem exp_reference_frame : Cert.quiescent_ExpRefIdeal (hExpRefIdeal := Cert.ExpRefIdeal.Gen.facts) := by
  intro m g _
  exact (θ_run Cert.ExpRefIdeal.defs _ _).mono (fun r h => ⟨fun c => (h c).2, sem_eq_zero_of_no_sems (by decide) r.2⟩)
    (Cert.ExpRefIdeal.Value.run (F := Ideal) m g)

/-- The experts' kernel and its reference end with the same rows, those of the blocks in use. -/
theorem exp_algebraic : Cert.algebraic_ExpIdeal_ExpRefIdeal_on_rows_used (hExpIdeal := Cert.ExpIdeal.Gen.facts)
    (hExpRefIdeal := Cert.ExpRefIdeal.Gen.facts) (hPre_valid := Cert.Pre_valid.Gen.facts)
    (hOn_rows_used := Cert.On_rows_used.Gen.facts) := by
  intro m g m' g' hpre hm
  have v := Cert.Experts.tables_of_pre _ _ _ _ _ _ (hpre 0)
  have hp : Cert.ExpIdeal.Experts.Pinned _ _ m := fun c => by
    obtain rfl : c = 0 := Subsingleton.elim (α := Fin 1) _ _
    exact ⟨rfl, rfl⟩
  refine ⟨fun c => Cert.ExpIdeal.Experts.want m (m (((0 : Dev Cert.ExpIdeal.nD).tc : Thread Cert.ExpIdeal.nD Cert.ExpIdeal.τ).loc Cert.ExpIdeal.main_arg4)) c,
    (θ_run Cert.ExpIdeal.defs _ _).mono (fun r h c => ⟨fun i hi => ?_, (h.1 c).2⟩) (Cert.ExpIdeal.Experts.run_result v g hp),
    (θ_run Cert.ExpRefIdeal.defs _ _).mono (fun r h c => ⟨fun i _ => ?_, (h c).2⟩) (Cert.ExpRefIdeal.Value.run m' g')⟩
  · obtain ⟨j, hj⟩ := Cert.Experts.used_of_on _ _ _ _ _ _ i hi
    rw [(hp c).2, Cert.ExpIdeal.Experts.used_eq] at hj
    exact (congrFun (h.1 c).1 i).trans (Cert.ExpIdeal.Experts.array_apply v m g c i hj)
  · obtain ⟨h0, h1, h2, h3, h4, h5⟩ := hm c
    refine congrFun ((h c).1.trans ?_) i
    rw [Cert.ExpRefIdeal.Read.val_main_v29_eq, h0, h1, h2, h3, h4, (hp c).1]
    exact Cert.ExpRefIdeal.Element.whole _ _ _ _ _ v.1

/-- The reference projection of the context keeps its arguments and ends quiescent. -/
theorem ctx_reference_frame : Cert.quiescent_CtxRefIdeal (hCtxRefIdeal := Cert.CtxRefIdeal.Gen.facts) := by
  intro m g _
  exact (θ_run Cert.CtxRefIdeal.defs _ _).mono
    (fun r h => ⟨fun c => (h c).2.2.2.2, sem_eq_zero_of_no_sems (by decide) r.2⟩)
    (Cert.CtxRefIdeal.Value.run (F := Ideal) m g)

/-- The context's projection kernel and its reference end with the same four arrays. -/
theorem ctx_algebraic : Cert.algebraic_CtxIdeal_CtxRefIdeal (hCtxIdeal := Cert.CtxIdeal.Gen.facts)
    (hCtxRefIdeal := Cert.CtxRefIdeal.Gen.facts) := by
  intro m g m' g' _ hm
  refine ⟨_, _, _, _, Cert.CtxIdeal.Array.run m g, (θ_run Cert.CtxRefIdeal.defs _ _).mono
    (fun r h c => ⟨(h c).1.trans ?_, (h c).2.1.trans ?_, (h c).2.2.1.trans ?_, (h c).2.2.2.1.trans ?_, (h c).2.2.2.2⟩)
    (Cert.CtxRefIdeal.Value.run m' g')⟩
  all_goals obtain ⟨h0, h1, h2, h3, h4, h5⟩ := hm c
  · rw [Cert.CtxRefIdeal.Read.val_main_v45_eq, h0, h1, h2, h3, h4, h5]
    exact Cert.CtxRefIdeal.Element.keys_whole ..
  · rw [Cert.CtxRefIdeal.Read.val_main_v47_eq, h0, h1, h2, h3, h4]
    exact Cert.CtxRefIdeal.Element.values_whole ..
  · rw [Cert.CtxRefIdeal.Read.val_main_v49_eq, h0, h1, h2, h3, h4]
    exact Cert.CtxRefIdeal.Element.retKeys_whole ..
  · rw [Cert.CtxRefIdeal.Read.val_main_v51_eq, h0, h1, h2, h3, h4]
    exact Cert.CtxRefIdeal.Element.retValues_whole ..

/-- The reference modulation keeps its arguments and ends quiescent. -/
theorem mod_reference_frame : Cert.quiescent_ModRefIdeal (hModRefIdeal := Cert.ModRefIdeal.Gen.facts) := by
  intro m g _
  exact (θ_run Cert.ModRefIdeal.defs _ _).mono (fun r h => ⟨fun c => (h c).2, sem_eq_zero_of_no_sems (by decide) r.2⟩)
    (Cert.ModRefIdeal.Value.run (F := Ideal) m g)

/-- The modulation kernel and its reference end with the same rows, those that hold conditioning. -/
theorem mod_algebraic : Cert.algebraic_ModIdeal_ModRefIdeal_on_rows_conditioned_pre_finite_mod
    (hModIdeal := Cert.ModIdeal.Gen.facts) (hModRefIdeal := Cert.ModRefIdeal.Gen.facts)
    (hPre_finite_mod := Cert.Pre_finite_mod.Gen.facts) (hOn_rows_conditioned := Cert.On_rows_conditioned.Gen.facts) := by
  intro m g m' g' hpre hm
  refine ⟨fun c => Cert.ModIdeal.Array.left m c,
    (θ_run Cert.ModIdeal.defs _ _).mono (fun r h c => ⟨fun i _ => congrFun (h c).1 i, (h c).2⟩) (Cert.ModIdeal.Array.run m g),
    (θ_run Cert.ModRefIdeal.defs _ _).mono (fun r h c => ⟨fun i hi => ?_, (h c).2⟩) (Cert.ModRefIdeal.Value.run m' g')⟩
  obtain ⟨h0, h1, h2, h3⟩ := hm c
  obtain ⟨f0, f1, f2⟩ := Cert.FiniteMod.finite_of_pre _ _ _ _ (hpre c)
  have hr := Cert.FiniteMod.row_of_on _ _ _ _ i hi
  refine Eq.trans ?_ (Cert.ModIdeal.Array.left_apply m c i hr f0 f1 f2).symm
  refine (congrFun (h c).1 i).trans ?_
  rw [Cert.ModRefIdeal.Read.val_main_v10_eq, h0, h1, h2, h3]
  exact Cert.ModRefIdeal.Element.apply_row _ _ _ _ i hr

/-- The combination's kernel, on floats: from words that name rows it runs, keeps its arguments, ends quiescent. -/
theorem comb_frame : Cert.quiescent_Comb (hComb := Cert.Comb.Gen.facts) (hPre_in_rows := Cert.Pre_in_rows.Gen.facts) := by
  intro m g hpre
  have hb : Cert.Comb.Combine.Bounded m := fun c j => Cert.Combined.words_of_pre _ _ _ _ _ (hpre c) j
  exact (θ_run Cert.Comb.defs _ _).mono (fun r h => ⟨fun c => (h.1 c).2, h.2⟩) (Cert.Comb.Combine.run_result g hb)

/-- The same of the idealized kernel. -/
theorem comb_ideal_frame : Cert.quiescent_CombIdeal (hCombIdeal := Cert.CombIdeal.Gen.facts) (hPre_in_rows := Cert.Pre_in_rows.Gen.facts) := by
  intro m g hpre
  have hb : Cert.CombIdeal.Combine.Bounded m := fun c j => Cert.Combined.words_of_pre _ _ _ _ _ (hpre c) j
  exact (θ_run Cert.CombIdeal.defs _ _).mono (fun r h => ⟨fun c => (h.1 c).2, h.2⟩) (Cert.CombIdeal.Combine.run_result g hb)

/-- The reference combination keeps its arguments and ends quiescent. -/
theorem comb_reference_frame : Cert.quiescent_CombRefIdeal (hCombRefIdeal := Cert.CombRefIdeal.Gen.facts) := by
  intro m g _
  exact (θ_run Cert.CombRefIdeal.defs _ _).mono (fun r h => ⟨fun c => (h c).2, sem_eq_zero_of_no_sems (by decide) r.2⟩)
    (Cert.CombRefIdeal.Value.run (F := Ideal) m g)

/-- The combination's kernel and its reference end with the same array. -/
theorem comb_algebraic : Cert.algebraic_CombIdeal_CombRefIdeal (hCombIdeal := Cert.CombIdeal.Gen.facts)
    (hCombRefIdeal := Cert.CombRefIdeal.Gen.facts) (hPre_in_rows := Cert.Pre_in_rows.Gen.facts) := by
  intro m g m' g' hpre hm
  have hb : Cert.CombIdeal.Combine.Bounded m := fun c j => Cert.Combined.words_of_pre _ _ _ _ _ (hpre c) j
  refine ⟨fun c => Cert.CombIdeal.Combine.want m c,
    (θ_run Cert.CombIdeal.defs _ _).mono
      (fun r h c => ⟨(h.1 c).1.trans (Cert.CombIdeal.Combine.array_eq hb c), (h.1 c).2⟩) (Cert.CombIdeal.Combine.run_result g hb),
    (θ_run Cert.CombRefIdeal.defs _ _).mono (fun r h c => ⟨(h c).1.trans ?_, (h c).2⟩) (Cert.CombRefIdeal.Value.run m' g')⟩
  obtain ⟨h0, h1, h2, h3, h4⟩ := hm c
  rw [Cert.CombRefIdeal.Read.val_main_v18_eq, h0, h1, h2, h3, h4]
  exact Cert.CombRefIdeal.Element.whole _ _ _ _ _ (hb c)

theorem claim : Cert.Claim :=
  ⟨Cert.Attn.Gen.facts, Cert.AttnIdeal.Gen.facts, Cert.AttnRefIdeal.Gen.facts,
    Cert.Proj.Gen.facts, Cert.ProjIdeal.Gen.facts, Cert.ProjRefIdeal.Gen.facts,
    Cert.Out.Gen.facts, Cert.OutIdeal.Gen.facts, Cert.OutRefIdeal.Gen.facts,
    Cert.Exp.Gen.facts, Cert.ExpIdeal.Gen.facts, Cert.ExpRefIdeal.Gen.facts,
    Cert.Ctx.Gen.facts, Cert.CtxIdeal.Gen.facts, Cert.CtxRefIdeal.Gen.facts,
    Cert.Mod.Gen.facts, Cert.ModIdeal.Gen.facts, Cert.ModRefIdeal.Gen.facts,
    Cert.Route.Gen.facts, Cert.RouteIdeal.Gen.facts,
    Cert.Comb.Gen.facts, Cert.CombIdeal.Gen.facts, Cert.CombRefIdeal.Gen.facts, Cert.Pre_finite.Gen.facts,
    Cert.Pre_finite_out.Gen.facts, Cert.Pre_valid.Gen.facts, Cert.Pre_finite_mod.Gen.facts, Cert.Pre_in_rows.Gen.facts, Cert.On_rows_used.Gen.facts,
    Cert.On_rows_conditioned.Gen.facts,
    fun m ρ _ => Cert.Attn.Gen.frame m ρ,
    fun m ρ _ => Cert.AttnIdeal.Gen.frame m ρ,
    fun m ρ _ => Cert.AttnIdeal.Gen.frame m ρ,
    attn_reference_frame,
    fun m ρ _ => attn_reference_frame m ρ trivial,
    fun m ρ _ => Cert.Proj.Gen.frame m ρ,
    fun m ρ _ => Cert.ProjIdeal.Gen.frame m ρ,
    proj_reference_frame,
    fun m ρ _ => Cert.Out.Gen.frame m ρ,
    fun m ρ _ => Cert.OutIdeal.Gen.frame m ρ,
    fun m ρ _ => Cert.OutIdeal.Gen.frame m ρ,
    out_reference_frame,
    fun m ρ _ => out_reference_frame m ρ trivial,
    exp_frame,
    exp_ideal_frame,
    exp_reference_frame,
    fun m ρ _ => exp_reference_frame m ρ trivial,
    fun m ρ _ => Cert.Ctx.Gen.frame m ρ,
    fun m ρ _ => Cert.CtxIdeal.Gen.frame m ρ,
    ctx_reference_frame,
    fun m ρ _ => Cert.Mod.Gen.frame m ρ,
    fun m ρ _ => Cert.ModIdeal.Gen.frame m ρ,
    fun m ρ _ => Cert.ModIdeal.Gen.frame m ρ,
    mod_reference_frame,
    fun m ρ _ => mod_reference_frame m ρ trivial,
    fun m ρ _ => Cert.Route.Gen.frame m ρ,
    fun m ρ _ => Cert.RouteIdeal.Gen.frame m ρ,
    comb_frame,
    comb_ideal_frame,
    comb_reference_frame,
    fun m ρ _ => comb_reference_frame m ρ trivial,
    trivial,
    attn_algebraic,
    trivial,
    proj_algebraic,
    trivial,
    out_algebraic,
    trivial,
    exp_algebraic,
    trivial,
    ctx_algebraic,
    trivial,
    mod_algebraic,
    trivial,
    trivial,
    comb_algebraic⟩

end Cert.Proof

end
